-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v62_0)) (v1 : (c : Dev Cert.Kernel4Ideal.nD) → Buf (Elt Ideal) ((c.tc : Thread Cert.Kernel4Ideal.nD Cert.Kernel4Ideal.τ).loc Cert.Kernel4Ideal.main_v63)) (v2 : (c : Dev Cert.Kernel4Ideal.nD) → Buf (Elt Ideal) ((c.tc : Thread Cert.Kernel4Ideal.nD Cert.Kernel4Ideal.τ).loc Cert.Kernel4Ideal.main_v64)) (v3 : (c : Dev Cert.Kernel4Ideal.nD) → Buf (Elt Ideal) ((c.tc : Thread Cert.Kernel4Ideal.nD Cert.Kernel4Ideal.τ).loc Cert.Kernel4Ideal.main_v62_3)) (v4 : (c : Dev Cert.Kernel4Ideal.nD) → Buf (Elt Ideal) ((c.tc : Thread Cert.Kernel4Ideal.nD Cert.Kernel4Ideal.τ).loc Cert.Kernel4Ideal.main_v62_4)) (v5 : (c : Dev Cert.Kernel4Ideal.nD) → Buf (Elt Ideal) ((c.tc : Thread Cert.Kernel4Ideal.nD Cert.Kernel4Ideal.τ).loc Cert.Kernel4Ideal.main_v62_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62_0) = v0 c
          ∧ r.2.mem ((c.tc : Thread Cert.Kernel4Ideal.nD Cert.Kernel4Ideal.τ).loc Cert.Kernel4Ideal.main_v63) = v1 c
          ∧ r.2.mem ((c.tc : Thread Cert.Kernel4Ideal.nD Cert.Kernel4Ideal.τ).loc Cert.Kernel4Ideal.main_v64) = v2 c
          ∧ r.2.mem ((c.tc : Thread Cert.Kernel4Ideal.nD Cert.Kernel4Ideal.τ).loc Cert.Kernel4Ideal.main_v62_3) = v3 c
          ∧ r.2.mem ((c.tc : Thread Cert.Kernel4Ideal.nD Cert.Kernel4Ideal.τ).loc Cert.Kernel4Ideal.main_v62_4) = v4 c
          ∧ r.2.mem ((c.tc : Thread Cert.Kernel4Ideal.nD Cert.Kernel4Ideal.τ).loc Cert.Kernel4Ideal.main_v62_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v177) = v0 c
          ∧ r.2.mem ((c.tc : Thread Cert.Reference4Ideal.nD Cert.Reference4Ideal.τ).loc Cert.Reference4Ideal.main_v178) = v1 c
          ∧ r.2.mem ((c.tc : Thread Cert.Reference4Ideal.nD Cert.Reference4Ideal.τ).loc Cert.Reference4Ideal.main_v179) = v2 c
          ∧ r.2.mem ((c.tc : Thread Cert.Reference4Ideal.nD Cert.Reference4Ideal.τ).loc Cert.Reference4Ideal.main_v180) = v3 c
          ∧ r.2.mem ((c.tc : Thread Cert.Reference4Ideal.nD Cert.Reference4Ideal.τ).loc Cert.Reference4Ideal.main_v181) = v4 c
          ∧ r.2.mem ((c.tc : Thread Cert.Reference4Ideal.nD Cert.Reference4Ideal.τ).loc Cert.Reference4Ideal.main_v182) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x4096x1024 : Shape := ⟨3, ![8, 4096, 1024]⟩
abbrev S8x4352x1024 : Shape := ⟨3, ![8, 4352, 1024]⟩
abbrev S8x4352x512 : Shape := ⟨3, ![8, 4352, 512]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_

variable [Facts]

def fn {F : FTy → Type} [FloatOps F] (main_arg0 : FVec F S8x4096x1024 .bf16) (main_arg1 : FVec F S8x4352x1024 .bf16) (main_arg2 : FVec F S8x4352x512 .bf16) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4352x1024 .f32 := (extf .f32 · bitsLt_bf16_f32) main_arg1
  let main_v6 : FVec F S8x4352x1024 .f32 := Host.absf main_v5
  let main_cst_0 : FVec F S_ .f32 := constant S_ .f32 0x7F800000#32
  let main_v7 : FVec F S8x4352x1024 .f32 := broadcastInDim S8x4352x1024 ![] bcast_S_S8x4352x1024 main_cst_0
  let main_v8 : IVec S8x4352x1024 1 := cmpf .olt main_v6 main_v7
  let main_c_1 : IVec S_ 1 := constantI S_ 1 1#1
  let main_v9 : IVec S_ 1 := (fun x v => Host.reduce IntOp.andi x v reducesTo_S8x4352x1024_S_d0_1_2 h_S_) main_v8 main_c_1
  let main_v10 : IVec S_ 1 := andi main_v4 main_v9
  main_v10
-- ==== Kernel.lean ====
abbrev S8x4096x1024 : Shape := ⟨3, ![8, 4096, 1024]⟩
abbrev S8x4352x1024 : Shape := ⟨3, ![8, 4352, 1024]⟩
abbrev S8x4352x512 : Shape := ⟨3, ![8, 4352, 512]⟩
abbrev S8x4096x512 : Shape := ⟨3, ![8, 4096, 512]⟩
abbrev S1x2048x256 : Shape := ⟨3, ![1, 2048, 256]⟩
abbrev S1x4352x256 : Shape := ⟨3, ![1, 4352, 256]⟩
abbrev S1x4352x128 : Shape := ⟨3, ![1, 4352, 128]⟩
abbrev S1x2048x128 : Shape := ⟨3, ![1, 2048, 128]⟩
abbrev S1024x4352 : Shape := ⟨2, ![1024, 4352]⟩
abbrev S1024x128 : Shape := ⟨2, ![1024, 128]⟩
abbrev S1024x256 : Shape := ⟨2, ![1024, 256]⟩
abbrev S1x1024x128 : Shape := ⟨3, ![1, 1024, 128]⟩
abbrev S1x512x128 : Shape := ⟨3, ![1, 512, 128]⟩
abbrev S512x128 : Shape := ⟨2, ![512, 128]⟩
abbrev S1024x512 : Shape := ⟨2, ![1024, 512]⟩
abbrev S1x256x128 : Shape := ⟨3, ![1, 256, 128]⟩
abbrev S256x128 : Shape := ⟨2, ![256, 128]⟩
abbrev S1024 : Shape := ⟨1, ![1024]⟩
abbrev S1024x1 : Shape := ⟨2, ![1024, 1]⟩
abbrev S512x256 : Shape := ⟨2, ![512, 256]⟩
abbrev S256x256 : Shape := ⟨2, ![256, 256]⟩

abbrev nBuf : Space → Nat
  | .hbm => 4
  | .vmem => 15
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x1024, .bf16⟩
  | .hbm, ⟨2, _⟩ => ⟨S8x4352x512, .bf16⟩
  | .hbm, ⟨3, _⟩ => ⟨S8x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1024x4352, .f32⟩
  | .local _ .vmem, ⟨11, _⟩ => ⟨S1024x4352, .f32⟩
  | .local _ .vmem, ⟨12, _⟩ => ⟨S1024x128, .f32⟩
  | .local _ .vmem, ⟨13, _⟩ => ⟨S1024x256, .f32⟩
  | .local _ .vmem, ⟨14, _⟩ => ⟨S1024x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c63_i32_21 : BitVec 32 := 63#32
  let v55 : BitVec 32 := Scalar.minsi arg0 c63_i32_21
  let c8_i32_22 : BitVec 32 := 8#32
  let v56 : BitVec 32 := Scalar.divsi v55 c8_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c8_i32_22 c0_i32_25
  let v63 : BitVec 32 := Scalar.extui v62
  let c0_i32_26 : BitVec 32 := 0#32
  let v64 : BitVec 1 := Scalar.cmpi .slt c8_i32_22 c0_i32_26
  let v65 : BitVec 32 := Scalar.extui v64
  let v66 : BitVec 32 := Scalar.subi v63 v65
  let v67 : BitVec 1 := Scalar.cmpi .ne v61 v66
  let v68 : BitVec 32 := Scalar.remsi v55 c8_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c2_i32_29 : BitVec 32 := 2#32
  let v73 : BitVec 32 := Scalar.divsi v55 c2_i32_29
  let c0_i32_30 : BitVec 32 := 0#32
  let v74 : BitVec 1 := Scalar.cmpi .sgt v55 c0_i32_30
  let v75 : BitVec 32 := Scalar.extui v74
  let c0_i32_31 : BitVec 32 := 0#32
  let v76 : BitVec 1 := Scalar.cmpi .slt v55 c0_i32_31
  let v77 : BitVec 32 := Scalar.extui v76
  let v78 : BitVec 32 := Scalar.subi v75 v77
  let c0_i32_32 : BitVec 32 := 0#32
  let v79 : BitVec 1 := Scalar.cmpi .sgt c2_i32_29 c0_i32_32
  let v80 : BitVec 32 := Scalar.extui v79
  let c0_i32_33 : BitVec 32 := 0#32
  let v81 : BitVec 1 := Scalar.cmpi .slt c2_i32_29 c0_i32_33
  let v82 : BitVec 32 := Scalar.extui v81
  let v83 : BitVec 32 := Scalar.subi v80 v82
  let v84 : BitVec 1 := Scalar.cmpi .ne v78 v83
  let v85 : BitVec 32 := Scalar.remsi v55 c2_i32_29
  let c0_i32_34 : BitVec 32 := 0#32
  let v86 : BitVec 1 := Scalar.cmpi .ne v85 c0_i32_34
  let v87 : BitVec 1 := Scalar.andi v84 v86
  let c1_i32_35 : BitVec 32 := 1#32
  let v88 : BitVec 32 := Scalar.subi v73 c1_i32_35
  let v89 : BitVec 32 := Scalar.select v87 v88 v73
  let c4_i32_36 : BitVec 32 := 4#32
  let c0_i32_37 : BitVec 32 := 0#32
  let v90 : BitVec 1 := Scalar.cmpi .eq c4_i32_36 c0_i32_37
  let c1_i32_38 : BitVec 32 := 1#32
  let v91 : BitVec 32 := Scalar.select v90 c1_i32_38 c4_i32_36
  let v92 : BitVec 32 := Scalar.remsi v89 v91
  let c0_i32_39 : BitVec 32 := 0#32
  let v93 : BitVec 1 := Scalar.cmpi .ne v92 c0_i32_39
  let c0_i32_40 : BitVec 32 := 0#32
  let v94 : BitVec 1 := Scalar.cmpi .slt v92 c0_i32_40
  let c0_i32_41 : BitVec 32 := 0#32
  let v95 : BitVec 1 := Scalar.cmpi .slt v91 c0_i32_41
  let v96 : BitVec 1 := Scalar.xori v94 v95
  let v97 : BitVec 1 := Scalar.andi v96 v93
  let v98 : BitVec 32 := Scalar.addi v92 v91
  let v99 : BitVec 32 := Scalar.select v97 v98 v92
  let c2_i32_42 : BitVec 32 := 2#32
  let c0_i32_43 : BitVec 32 := 0#32
  let v100 : BitVec 1 := Scalar.cmpi .eq c2_i32_42 c0_i32_43
  let c1_i32_44 : BitVec 32 := 1#32
  let v101 : BitVec 32 := Scalar.select v100 c1_i32_44 c2_i32_42
  let v102 : BitVec 32 := Scalar.remsi v55 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c63_i32_48 : BitVec 32 := 63#32
  let v110 : BitVec 32 := Scalar.minsi arg0 c63_i32_48
  let c8_i32_49 : BitVec 32 := 8#32
  let v111 : BitVec 32 := Scalar.divsi v110 c8_i32_49
  let c0_i32_50 : BitVec 32 := 0#32
  let v112 : BitVec 1 := Scalar.cmpi .sgt v110 c0_i32_50
  let v113 : BitVec 32 := Scalar.extui v112
  let c0_i32_51 : BitVec 32 := 0#32
  let v114 : BitVec 1 := Scalar.cmpi .slt v110 c0_i32_51
  let v115 : BitVec 32 := Scalar.extui v114
  let v116 : BitVec 32 := Scalar.subi v113 v115
  let c0_i32_52 : BitVec 32 := 0#32
  let v117 : BitVec 1 := Scalar.cmpi .sgt c8_i32_49 c0_i32_52
  let v118 : BitVec 32 := Scalar.extui v117
  let c0_i32_53 : BitVec 32 := 0#32
  let v119 : BitVec 1 := Scalar.cmpi .slt c8_i32_49 c0_i32_53
  let v120 : BitVec 32 := Scalar.extui v119
  let v121 : BitVec 32 := Scalar.subi v118 v120
  let v122 : BitVec 1 := Scalar.cmpi .ne v116 v121
  let v123 : BitVec 32 := Scalar.remsi v110 c8_i32_49
  let c0_i32_54 : BitVec 32 := 0#32
  let v124 : BitVec 1 := Scalar.cmpi .ne v123 c0_i32_54
  let v125 : BitVec 1 := Scalar.andi v122 v124
  let c1_i32_55 : BitVec 32 := 1#32
  let v126 : BitVec 32 := Scalar.subi v111 c1_i32_55
  let v127 : BitVec 32 := Scalar.select v125 v126 v111
  let c2_i32_56 : BitVec 32 := 2#32
  let v128 : BitVec 32 := Scalar.divsi v110 c2_i32_56
  let c0_i32_57 : BitVec 32 := 0#32
  let v129 : BitVec 1 := Scalar.cmpi .sgt v110 c0_i32_57
  let v130 : BitVec 32 := Scalar.extui v129
  let c0_i32_58 : BitVec 32 := 0#32
  let v131 : BitVec 1 := Scalar.cmpi .slt v110 c0_i32_58
  let v132 : BitVec 32 := Scalar.extui v131
  let v133 : BitVec 32 := Scalar.subi v130 v132
  let c0_i32_59 : BitVec 32 := 0#32
  let v134 : BitVec 1 := Scalar.cmpi .sgt c2_i32_56 c0_i32_59
  let v135 : BitVec 32 := Scalar.extui v134
  let c0_i32_60 : BitVec 32 := 0#32
  let v136 : BitVec 1 := Scalar.cmpi .slt c2_i32_56 c0_i32_60
  let v137 : BitVec 32 := Scalar.extui v136
  let v138 : BitVec 32 := Scalar.subi v135 v137
  let v139 : BitVec 1 := Scalar.cmpi .ne v133 v138
  let v140 : BitVec 32 := Scalar.remsi v110 c2_i32_56
  let c0_i32_61 : BitVec 32 := 0#32
  let v141 : BitVec 1 := Scalar.cmpi .ne v140 c0_i32_61
  let v142 : BitVec 1 := Scalar.andi v139 v141
  let c1_i32_62 : BitVec 32 := 1#32
  let v143 : BitVec 32 := Scalar.subi v128 c1_i32_62
  let v144 : BitVec 32 := Scalar.select v142 v143 v128
  let c4_i32_63 : BitVec 32 := 4#32
  let c0_i32_64 : BitVec 32 := 0#32
  let v145 : BitVec 1 := Scalar.cmpi .eq c4_i32_63 c0_i32_64
  let c1_i32_65 : BitVec 32 := 1#32
  let v146 : BitVec 32 := Scalar.select v145 c1_i32_65 c4_i32_63
  let v147 : BitVec 32 := Scalar.remsi v144 v146
  let c0_i32_66 : BitVec 32 := 0#32
  let v148 : BitVec 1 := Scalar.cmpi .ne v147 c0_i32_66
  let c0_i32_67 : BitVec 32 := 0#32
  let v149 : BitVec 1 := Scalar.cmpi .slt v147 c0_i32_67
  let c0_i32_68 : BitVec 32 := 0#32
  let v150 : BitVec 1 := Scalar.cmpi .slt v146 c0_i32_68
  let v151 : BitVec 1 := Scalar.xori v149 v150
  let v152 : BitVec 1 := Scalar.andi v151 v148
  let v153 : BitVec 32 := Scalar.addi v147 v146
  let v154 : BitVec 32 := Scalar.select v152 v153 v147
  let c2_i32_69 : BitVec 32 := 2#32
  let c0_i32_70 : BitVec 32 := 0#32
  let v155 : BitVec 1 := Scalar.cmpi .eq c2_i32_69 c0_i32_70
  let c1_i32_71 : BitVec 32 := 1#32
  let v156 : BitVec 32 := Scalar.select v155 c1_i32_71 c2_i32_69
  let v157 : BitVec 32 := Scalar.remsi v110 v156
  let c0_i32_72 : BitVec 32 := 0#32
  let v158 : BitVec 1 := Scalar.cmpi .ne v157 c0_i32_72
  let c0_i32_73 : BitVec 32 := 0#32
  let v159 : BitVec 1 := Scalar.cmpi .slt v157 c0_i32_73
  let c0_i32_74 : BitVec 32 := 0#32
  let v160 : BitVec 1 := Scalar.cmpi .slt v156 c0_i32_74
  let v161 : BitVec 1 := Scalar.xori v159 v160
  let v162 : BitVec 1 := Scalar.andi v161 v158
  let v163 : BitVec 32 := Scalar.addi v157 v156
  let v164 : BitVec 32 := Scalar.select v162 v163 v157
  let c0_i32_75 : BitVec 32 := 0#32
  ![v17.toNat, v109.toNat, v154.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c63_i32_21 : BitVec 32 := 63#32
  let v55 : BitVec 32 := Scalar.minsi arg0 c63_i32_21
  let c8_i32_22 : BitVec 32 := 8#32
  let v56 : BitVec 32 := Scalar.divsi v55 c8_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c8_i32_22 c0_i32_25
  let v63 : BitVec 32 := Scalar.extui v62
  let c0_i32_26 : BitVec 32 := 0#32
  let v64 : BitVec 1 := Scalar.cmpi .slt c8_i32_22 c0_i32_26
  let v65 : BitVec 32 := Scalar.extui v64
  let v66 : BitVec 32 := Scalar.subi v63 v65
  let v67 : BitVec 1 := Scalar.cmpi .ne v61 v66
  let v68 : BitVec 32 := Scalar.remsi v55 c8_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c2_i32_29 : BitVec 32 := 2#32
  let v73 : BitVec 32 := Scalar.divsi v55 c2_i32_29
  let c0_i32_30 : BitVec 32 := 0#32
  let v74 : BitVec 1 := Scalar.cmpi .sgt v55 c0_i32_30
  let v75 : BitVec 32 := Scalar.extui v74
  let c0_i32_31 : BitVec 32 := 0#32
  let v76 : BitVec 1 := Scalar.cmpi .slt v55 c0_i32_31
  let v77 : BitVec 32 := Scalar.extui v76
  let v78 : BitVec 32 := Scalar.subi v75 v77
  let c0_i32_32 : BitVec 32 := 0#32
  let v79 : BitVec 1 := Scalar.cmpi .sgt c2_i32_29 c0_i32_32
  let v80 : BitVec 32 := Scalar.extui v79
  let c0_i32_33 : BitVec 32 := 0#32
  let v81 : BitVec 1 := Scalar.cmpi .slt c2_i32_29 c0_i32_33
  let v82 : BitVec 32 := Scalar.extui v81
  let v83 : BitVec 32 := Scalar.subi v80 v82
  let v84 : BitVec 1 := Scalar.cmpi .ne v78 v83
  let v85 : BitVec 32 := Scalar.remsi v55 c2_i32_29
  let c0_i32_34 : BitVec 32 := 0#32
  let v86 : BitVec 1 := Scalar.cmpi .ne v85 c0_i32_34
  let v87 : BitVec 1 := Scalar.andi v84 v86
  let c1_i32_35 : BitVec 32 := 1#32
  let v88 : BitVec 32 := Scalar.subi v73 c1_i32_35
  let v89 : BitVec 32 := Scalar.select v87 v88 v73
  let c4_i32_36 : BitVec 32 := 4#32
  let c0_i32_37 : BitVec 32 := 0#32
  let v90 : BitVec 1 := Scalar.cmpi .eq c4_i32_36 c0_i32_37
  let c1_i32_38 : BitVec 32 := 1#32
  let v91 : BitVec 32 := Scalar.select v90 c1_i32_38 c4_i32_36
  let v92 : BitVec 32 := Scalar.remsi v89 v91
  let c0_i32_39 : BitVec 32 := 0#32
  let v93 : BitVec 1 := Scalar.cmpi .ne v92 c0_i32_39
  let c0_i32_40 : BitVec 32 := 0#32
  let v94 : BitVec 1 := Scalar.cmpi .slt v92 c0_i32_40
  let c0_i32_41 : BitVec 32 := 0#32
  let v95 : BitVec 1 := Scalar.cmpi .slt v91 c0_i32_41
  let v96 : BitVec 1 := Scalar.xori v94 v95
  let v97 : BitVec 1 := Scalar.andi v96 v93
  let v98 : BitVec 32 := Scalar.addi v92 v91
  let v99 : BitVec 32 := Scalar.select v97 v98 v92
  let c2_i32_42 : BitVec 32 := 2#32
  let c0_i32_43 : BitVec 32 := 0#32
  let v100 : BitVec 1 := Scalar.cmpi .eq c2_i32_42 c0_i32_43
  let c1_i32_44 : BitVec 32 := 1#32
  let v101 : BitVec 32 := Scalar.select v100 c1_i32_44 c2_i32_42
  let v102 : BitVec 32 := Scalar.remsi v55 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c0_i32_48 : BitVec 32 := 0#32
  let c0_i32_49 : BitVec 32 := 0#32
  ![v17.toNat, c0_i32_48.toNat, v99.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.divsi v1 c2_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c2_i32 c0_i32_8
  let v26 : BitVec 32 := Scalar.extui v25
  let c0_i32_9 : BitVec 32 := 0#32
  let v27 : BitVec 1 := Scalar.cmpi .slt c2_i32 c0_i32_9
  let v28 : BitVec 32 := Scalar.extui v27
  let v29 : BitVec 32 := Scalar.subi v26 v28
  let v30 : BitVec 1 := Scalar.cmpi .ne v24 v29
  let v31 : BitVec 32 := Scalar.remsi v1 c2_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c1_i32_23 : BitVec 32 := 1#32
  let v56 : BitVec 32 := Scalar.subi arg0 c1_i32_23
  let c0_i32_24 : BitVec 32 := 0#32
  let v57 : BitVec 32 := Scalar.maxsi v56 c0_i32_24
  let c8_i32_25 : BitVec 32 := 8#32
  let v58 : BitVec 32 := Scalar.divsi v57 c8_i32_25
  let c0_i32_26 : BitVec 32 := 0#32
  let v59 : BitVec 1 := Scalar.cmpi .sgt v57 c0_i32_26
  let v60 : BitVec 32 := Scalar.extui v59
  let c0_i32_27 : BitVec 32 := 0#32
  let v61 : BitVec 1 := Scalar.cmpi .slt v57 c0_i32_27
  let v62 : BitVec 32 := Scalar.extui v61
  let v63 : BitVec 32 := Scalar.subi v60 v62
  let c0_i32_28 : BitVec 32 := 0#32
  let v64 : BitVec 1 := Scalar.cmpi .sgt c8_i32_25 c0_i32_28
  let v65 : BitVec 32 := Scalar.extui v64
  let c0_i32_29 : BitVec 32 := 0#32
  let v66 : BitVec 1 := Scalar.cmpi .slt c8_i32_25 c0_i32_29
  let v67 : BitVec 32 := Scalar.extui v66
  let v68 : BitVec 32 := Scalar.subi v65 v67
  let v69 : BitVec 1 := Scalar.cmpi .ne v63 v68
  let v70 : BitVec 32 := Scalar.remsi v57 c8_i32_25
  let c0_i32_30 : BitVec 32 := 0#32
  let v71 : BitVec 1 := Scalar.cmpi .ne v70 c0_i32_30
  let v72 : BitVec 1 := Scalar.andi v69 v71
  let c1_i32_31 : BitVec 32 := 1#32
  let v73 : BitVec 32 := Scalar.subi v58 c1_i32_31
  let v74 : BitVec 32 := Scalar.select v72 v73 v58
  let c2_i32_32 : BitVec 32 := 2#32
  let v75 : BitVec 32 := Scalar.divsi v57 c2_i32_32
  let c0_i32_33 : BitVec 32 := 0#32
  let v76 : BitVec 1 := Scalar.cmpi .sgt v57 c0_i32_33
  let v77 : BitVec 32 := Scalar.extui v76
  let c0_i32_34 : BitVec 32 := 0#32
  let v78 : BitVec 1 := Scalar.cmpi .slt v57 c0_i32_34
  let v79 : BitVec 32 := Scalar.extui v78
  let v80 : BitVec 32 := Scalar.subi v77 v79
  let c0_i32_35 : BitVec 32 := 0#32
  let v81 : BitVec 1 := Scalar.cmpi .sgt c2_i32_32 c0_i32_35
  let v82 : BitVec 32 := Scalar.extui v81
  let c0_i32_36 : BitVec 32 := 0#32
  let v83 : BitVec 1 := Scalar.cmpi .slt c2_i32_32 c0_i32_36
  let v84 : BitVec 32 := Scalar.extui v83
  let v85 : BitVec 32 := Scalar.subi v82 v84
  let v86 : BitVec 1 := Scalar.cmpi .ne v80 v85
  let v87 : BitVec 32 := Scalar.remsi v57 c2_i32_32
  let c0_i32_37 : BitVec 32 := 0#32
  let v88 : BitVec 1 := Scalar.cmpi .ne v87 c0_i32_37
  let v89 : BitVec 1 := Scalar.andi v86 v88
  let c1_i32_38 : BitVec 32 := 1#32
  let v90 : BitVec 32 := Scalar.subi v75 c1_i32_38
  let v91 : BitVec 32 := Scalar.select v89 v90 v75
  let c4_i32_39 : BitVec 32 := 4#32
  let c0_i32_40 : BitVec 32 := 0#32
  let v92 : BitVec 1 := Scalar.cmpi .eq c4_i32_39 c0_i32_40
  let c1_i32_41 : BitVec 32 := 1#32
  let v93 : BitVec 32 := Scalar.select v92 c1_i32_41 c4_i32_39
  let v94 : BitVec 32 := Scalar.remsi v91 v93
  let c0_i32_42 : BitVec 32 := 0#32
  let v95 : BitVec 1 := Scalar.cmpi .ne v94 c0_i32_42
  let c0_i32_43 : BitVec 32 := 0#32
  let v96 : BitVec 1 := Scalar.cmpi .slt v94 c0_i32_43
  let c0_i32_44 : BitVec 32 := 0#32
  let v97 : BitVec 1 := Scalar.cmpi .slt v93 c0_i32_44
  let v98 : BitVec 1 := Scalar.xori v96 v97
  let v99 : BitVec 1 := Scalar.andi v98 v95
  let v100 : BitVec 32 := Scalar.addi v94 v93
  let v101 : BitVec 32 := Scalar.select v99 v100 v94
  let c2_i32_45 : BitVec 32 := 2#32
  let c0_i32_46 : BitVec 32 := 0#32
  let v102 : BitVec 1 := Scalar.cmpi .eq c2_i32_45 c0_i32_46
  let c1_i32_47 : BitVec 32 := 1#32
  let v103 : BitVec 32 := Scalar.select v102 c1_i32_47 c2_i32_45
  let v104 : BitVec 32 := Scalar.remsi v57 v103
  let c0_i32_48 : BitVec 32 := 0#32
  let v105 : BitVec 1 := Scalar.cmpi .ne v104 c0_i32_48
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let v109 : BitVec 1 := Scalar.andi v108 v105
  let v110 : BitVec 32 := Scalar.addi v104 v103
  let v111 : BitVec 32 := Scalar.select v109 v110 v104
  let c0_i32_51 : BitVec 32 := 0#32
  let c0_i32_52 : BitVec 32 := 0#32
  ![v18.toNat, c0_i32_51.toNat, v101.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.divsi v0 c2_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c2_i32 c0_i32_6
  let v25 : BitVec 32 := Scalar.extui v24
  let c0_i32_7 : BitVec 32 := 0#32
  let v26 : BitVec 1 := Scalar.cmpi .slt c2_i32 c0_i32_7
  let v27 : BitVec 32 := Scalar.extui v26
  let v28 : BitVec 32 := Scalar.subi v25 v27
  let v29 : BitVec 1 := Scalar.cmpi .ne v23 v28
  let v30 : BitVec 32 := Scalar.remsi v0 c2_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c2_i32_15 : BitVec 32 := 2#32
  let c0_i32_16 : BitVec 32 := 0#32
  let v45 : BitVec 1 := Scalar.cmpi .eq c2_i32_15 c0_i32_16
  let c1_i32_17 : BitVec 32 := 1#32
  let v46 : BitVec 32 := Scalar.select v45 c1_i32_17 c2_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c63_i32_21 : BitVec 32 := 63#32
  let v55 : BitVec 32 := Scalar.minsi arg0 c63_i32_21
  let c8_i32_22 : BitVec 32 := 8#32
  let v56 : BitVec 32 := Scalar.divsi v55 c8_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c8_i32_22 c0_i32_25
  let v63 : BitVec 32 := Scalar.extui v62
  let c0_i32_26 : BitVec 32 := 0#32
  let v64 : BitVec 1 := Scalar.cmpi .slt c8_i32_22 c0_i32_26
  let v65 : BitVec 32 := Scalar.extui v64
  let v66 : BitVec 32 := Scalar.subi v63 v65
  let v67 : BitVec 1 := Scalar.cmpi .ne v61 v66
  let v68 : BitVec 32 := Scalar.remsi v55 c8_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c2_i32_29 : BitVec 32 := 2#32
  let v73 : BitVec 32 := Scalar.divsi v55 c2_i32_29
  let c0_i32_30 : BitVec 32 := 0#32
  let v74 : BitVec 1 := Scalar.cmpi .sgt v55 c0_i32_30
  let v75 : BitVec 32 := Scalar.extui v74
  let c0_i32_31 : BitVec 32 := 0#32
  let v76 : BitVec 1 := Scalar.cmpi .slt v55 c0_i32_31
  let v77 : BitVec 32 := Scalar.extui v76
  let v78 : BitVec 32 := Scalar.subi v75 v77
  let c0_i32_32 : BitVec 32 := 0#32
  let v79 : BitVec 1 := Scalar.cmpi .sgt c2_i32_29 c0_i32_32
  let v80 : BitVec 32 := Scalar.extui v79
  let c0_i32_33 : BitVec 32 := 0#32
  let v81 : BitVec 1 := Scalar.cmpi .slt c2_i32_29 c0_i32_33
  let v82 : BitVec 32 := Scalar.extui v81
  let v83 : BitVec 32 := Scalar.subi v80 v82
  let v84 : BitVec 1 := Scalar.cmpi .ne v78 v83
  let v85 : BitVec 32 := Scalar.remsi v55 c2_i32_29
  let c0_i32_34 : BitVec 32 := 0#32
  let v86 : BitVec 1 := Scalar.cmpi .ne v85 c0_i32_34
  let v87 : BitVec 1 := Scalar.andi v84 v86
  let c1_i32_35 : BitVec 32 := 1#32
  let v88 : BitVec 32 := Scalar.subi v73 c1_i32_35
  let v89 : BitVec 32 := Scalar.select v87 v88 v73
  let c4_i32_36 : BitVec 32 := 4#32
  let c0_i32_37 : BitVec 32 := 0#32
  let v90 : BitVec 1 := Scalar.cmpi .eq c4_i32_36 c0_i32_37
  let c1_i32_38 : BitVec 32 := 1#32
  let v91 : BitVec 32 := Scalar.select v90 c1_i32_38 c4_i32_36
  let v92 : BitVec 32 := Scalar.remsi v89 v91
  let c0_i32_39 : BitVec 32 := 0#32
  let v93 : BitVec 1 := Scalar.cmpi .ne v92 c0_i32_39
  let c0_i32_40 : BitVec 32 := 0#32
  let v94 : BitVec 1 := Scalar.cmpi .slt v92 c0_i32_40
  let c0_i32_41 : BitVec 32 := 0#32
  let v95 : BitVec 1 := Scalar.cmpi .slt v91 c0_i32_41
  let v96 : BitVec 1 := Scalar.xori v94 v95
  let v97 : BitVec 1 := Scalar.andi v96 v93
  let v98 : BitVec 32 := Scalar.addi v92 v91
  let v99 : BitVec 32 := Scalar.select v97 v98 v92
  let c2_i32_42 : BitVec 32 := 2#32
  let c0_i32_43 : BitVec 32 := 0#32
  let v100 : BitVec 1 := Scalar.cmpi .eq c2_i32_42 c0_i32_43
  let c1_i32_44 : BitVec 32 := 1#32
  let v101 : BitVec 32 := Scalar.select v100 c1_i32_44 c2_i32_42
  let v102 : BitVec 32 := Scalar.remsi v55 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c0_i32_48 : BitVec 32 := 0#32
  let c0_i32_49 : BitVec 32 := 0#32
  ![v17.toNat, c0_i32_48.toNat, v99.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.divsi v1 c2_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c2_i32 c0_i32_8
  let v26 : BitVec 32 := Scalar.extui v25
  let c0_i32_9 : BitVec 32 := 0#32
  let v27 : BitVec 1 := Scalar.cmpi .slt c2_i32 c0_i32_9
  let v28 : BitVec 32 := Scalar.extui v27
  let v29 : BitVec 32 := Scalar.subi v26 v28
  let v30 : BitVec 1 := Scalar.cmpi .ne v24 v29
  let v31 : BitVec 32 := Scalar.remsi v1 c2_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c1_i32_23 : BitVec 32 := 1#32
  let v56 : BitVec 32 := Scalar.subi arg0 c1_i32_23
  let c0_i32_24 : BitVec 32 := 0#32
  let v57 : BitVec 32 := Scalar.maxsi v56 c0_i32_24
  let c8_i32_25 : BitVec 32 := 8#32
  let v58 : BitVec 32 := Scalar.divsi v57 c8_i32_25
  let c0_i32_26 : BitVec 32 := 0#32
  let v59 : BitVec 1 := Scalar.cmpi .sgt v57 c0_i32_26
  let v60 : BitVec 32 := Scalar.extui v59
  let c0_i32_27 : BitVec 32 := 0#32
  let v61 : BitVec 1 := Scalar.cmpi .slt v57 c0_i32_27
  let v62 : BitVec 32 := Scalar.extui v61
  let v63 : BitVec 32 := Scalar.subi v60 v62
  let c0_i32_28 : BitVec 32 := 0#32
  let v64 : BitVec 1 := Scalar.cmpi .sgt c8_i32_25 c0_i32_28
  let v65 : BitVec 32 := Scalar.extui v64
  let c0_i32_29 : BitVec 32 := 0#32
  let v66 : BitVec 1 := Scalar.cmpi .slt c8_i32_25 c0_i32_29
  let v67 : BitVec 32 := Scalar.extui v66
  let v68 : BitVec 32 := Scalar.subi v65 v67
  let v69 : BitVec 1 := Scalar.cmpi .ne v63 v68
  let v70 : BitVec 32 := Scalar.remsi v57 c8_i32_25
  let c0_i32_30 : BitVec 32 := 0#32
  let v71 : BitVec 1 := Scalar.cmpi .ne v70 c0_i32_30
  let v72 : BitVec 1 := Scalar.andi v69 v71
  let c1_i32_31 : BitVec 32 := 1#32
  let v73 : BitVec 32 := Scalar.subi v58 c1_i32_31
  let v74 : BitVec 32 := Scalar.select v72 v73 v58
  let c2_i32_32 : BitVec 32 := 2#32
  let v75 : BitVec 32 := Scalar.divsi v57 c2_i32_32
  let c0_i32_33 : BitVec 32 := 0#32
  let v76 : BitVec 1 := Scalar.cmpi .sgt v57 c0_i32_33
  let v77 : BitVec 32 := Scalar.extui v76
  let c0_i32_34 : BitVec 32 := 0#32
  let v78 : BitVec 1 := Scalar.cmpi .slt v57 c0_i32_34
  let v79 : BitVec 32 := Scalar.extui v78
  let v80 : BitVec 32 := Scalar.subi v77 v79
  let c0_i32_35 : BitVec 32 := 0#32
  let v81 : BitVec 1 := Scalar.cmpi .sgt c2_i32_32 c0_i32_35
  let v82 : BitVec 32 := Scalar.extui v81
  let c0_i32_36 : BitVec 32 := 0#32
  let v83 : BitVec 1 := Scalar.cmpi .slt c2_i32_32 c0_i32_36
  let v84 : BitVec 32 := Scalar.extui v83
  let v85 : BitVec 32 := Scalar.subi v82 v84
  let v86 : BitVec 1 := Scalar.cmpi .ne v80 v85
  let v87 : BitVec 32 := Scalar.remsi v57 c2_i32_32
  let c0_i32_37 : BitVec 32 := 0#32
  let v88 : BitVec 1 := Scalar.cmpi .ne v87 c0_i32_37
  let v89 : BitVec 1 := Scalar.andi v86 v88
  let c1_i32_38 : BitVec 32 := 1#32
  let v90 : BitVec 32 := Scalar.subi v75 c1_i32_38
  let v91 : BitVec 32 := Scalar.select v89 v90 v75
  let c4_i32_39 : BitVec 32 := 4#32
  let c0_i32_40 : BitVec 32 := 0#32
  let v92 : BitVec 1 := Scalar.cmpi .eq c4_i32_39 c0_i32_40
  let c1_i32_41 : BitVec 32 := 1#32
  let v93 : BitVec 32 := Scalar.select v92 c1_i32_41 c4_i32_39
  let v94 : BitVec 32 := Scalar.remsi v91 v93
  let c0_i32_42 : BitVec 32 := 0#32
  let v95 : BitVec 1 := Scalar.cmpi .ne v94 c0_i32_42
  let c0_i32_43 : BitVec 32 := 0#32
  let v96 : BitVec 1 := Scalar.cmpi .slt v94 c0_i32_43
  let c0_i32_44 : BitVec 32 := 0#32
  let v97 : BitVec 1 := Scalar.cmpi .slt v93 c0_i32_44
  let v98 : BitVec 1 := Scalar.xori v96 v97
  let v99 : BitVec 1 := Scalar.andi v98 v95
  let v100 : BitVec 32 := Scalar.addi v94 v93
  let v101 : BitVec 32 := Scalar.select v99 v100 v94
  let c2_i32_45 : BitVec 32 := 2#32
  let c0_i32_46 : BitVec 32 := 0#32
  let v102 : BitVec 1 := Scalar.cmpi .eq c2_i32_45 c0_i32_46
  let c1_i32_47 : BitVec 32 := 1#32
  let v103 : BitVec 32 := Scalar.select v102 c1_i32_47 c2_i32_45
  let v104 : BitVec 32 := Scalar.remsi v57 v103
  let c0_i32_48 : BitVec 32 := 0#32
  let v105 : BitVec 1 := Scalar.cmpi .ne v104 c0_i32_48
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let v109 : BitVec 1 := Scalar.andi v108 v105
  let v110 : BitVec 32 := Scalar.addi v104 v103
  let v111 : BitVec 32 := Scalar.select v109 v110 v104
  let c1_i32_51 : BitVec 32 := 1#32
  let v112 : BitVec 32 := Scalar.subi arg0 c1_i32_51
  let c0_i32_52 : BitVec 32 := 0#32
  let v113 : BitVec 32 := Scalar.maxsi v112 c0_i32_52
  let c8_i32_53 : BitVec 32 := 8#32
  let v114 : BitVec 32 := Scalar.divsi v113 c8_i32_53
  let c0_i32_54 : BitVec 32 := 0#32
  let v115 : BitVec 1 := Scalar.cmpi .sgt v113 c0_i32_54
  let v116 : BitVec 32 := Scalar.extui v115
  let c0_i32_55 : BitVec 32 := 0#32
  let v117 : BitVec 1 := Scalar.cmpi .slt v113 c0_i32_55
  let v118 : BitVec 32 := Scalar.extui v117
  let v119 : BitVec 32 := Scalar.subi v116 v118
  let c0_i32_56 : BitVec 32 := 0#32
  let v120 : BitVec 1 := Scalar.cmpi .sgt c8_i32_53 c0_i32_56
  let v121 : BitVec 32 := Scalar.extui v120
  let c0_i32_57 : BitVec 32 := 0#32
  let v122 : BitVec 1 := Scalar.cmpi .slt c8_i32_53 c0_i32_57
  let v123 : BitVec 32 := Scalar.extui v122
  let v124 : BitVec 32 := Scalar.subi v121 v123
  let v125 : BitVec 1 := Scalar.cmpi .ne v119 v124
  let v126 : BitVec 32 := Scalar.remsi v113 c8_i32_53
  let c0_i32_58 : BitVec 32 := 0#32
  let v127 : BitVec 1 := Scalar.cmpi .ne v126 c0_i32_58
  let v128 : BitVec 1 := Scalar.andi v125 v127
  let c1_i32_59 : BitVec 32 := 1#32
  let v129 : BitVec 32 := Scalar.subi v114 c1_i32_59
  let v130 : BitVec 32 := Scalar.select v128 v129 v114
  let c2_i32_60 : BitVec 32 := 2#32
  let v131 : BitVec 32 := Scalar.divsi v113 c2_i32_60
  let c0_i32_61 : BitVec 32 := 0#32
  let v132 : BitVec 1 := Scalar.cmpi .sgt v113 c0_i32_61
  let v133 : BitVec 32 := Scalar.extui v132
  let c0_i32_62 : BitVec 32 := 0#32
  let v134 : BitVec 1 := Scalar.cmpi .slt v113 c0_i32_62
  let v135 : BitVec 32 := Scalar.extui v134
  let v136 : BitVec 32 := Scalar.subi v133 v135
  let c0_i32_63 : BitVec 32 := 0#32
  let v137 : BitVec 1 := Scalar.cmpi .sgt c2_i32_60 c0_i32_63
  let v138 : BitVec 32 := Scalar.extui v137
  let c0_i32_64 : BitVec 32 := 0#32
  let v139 : BitVec 1 := Scalar.cmpi .slt c2_i32_60 c0_i32_64
  let v140 : BitVec 32 := Scalar.extui v139
  let v141 : BitVec 32 := Scalar.subi v138 v140
  let v142 : BitVec 1 := Scalar.cmpi .ne v136 v141
  let v143 : BitVec 32 := Scalar.remsi v113 c2_i32_60
  let c0_i32_65 : BitVec 32 := 0#32
  let v144 : BitVec 1 := Scalar.cmpi .ne v143 c0_i32_65
  let v145 : BitVec 1 := Scalar.andi v142 v144
  let c1_i32_66 : BitVec 32 := 1#32
  let v146 : BitVec 32 := Scalar.subi v131 c1_i32_66
  let v147 : BitVec 32 := Scalar.select v145 v146 v131
  let c4_i32_67 : BitVec 32 := 4#32
  let c0_i32_68 : BitVec 32 := 0#32
  let v148 : BitVec 1 := Scalar.cmpi .eq c4_i32_67 c0_i32_68
  let c1_i32_69 : BitVec 32 := 1#32
  let v149 : BitVec 32 := Scalar.select v148 c1_i32_69 c4_i32_67
  let v150 : BitVec 32 := Scalar.remsi v147 v149
  let c0_i32_70 : BitVec 32 := 0#32
  let v151 : BitVec 1 := Scalar.cmpi .ne v150 c0_i32_70
  let c0_i32_71 : BitVec 32 := 0#32
  let v152 : BitVec 1 := Scalar.cmpi .slt v150 c0_i32_71
  let c0_i32_72 : BitVec 32 := 0#32
  let v153 : BitVec 1 := Scalar.cmpi .slt v149 c0_i32_72
  let v154 : BitVec 1 := Scalar.xori v152 v153
  let v155 : BitVec 1 := Scalar.andi v154 v151
  let v156 : BitVec 32 := Scalar.addi v150 v149
  let v157 : BitVec 32 := Scalar.select v155 v156 v150
  let c2_i32_73 : BitVec 32 := 2#32
  let c0_i32_74 : BitVec 32 := 0#32
  let v158 : BitVec 1 := Scalar.cmpi .eq c2_i32_73 c0_i32_74
  let c1_i32_75 : BitVec 32 := 1#32
  let v159 : BitVec 32 := Scalar.select v158 c1_i32_75 c2_i32_73
  let v160 : BitVec 32 := Scalar.remsi v113 v159
  let c0_i32_76 : BitVec 32 := 0#32
  let v161 : BitVec 1 := Scalar.cmpi .ne v160 c0_i32_76
  let c0_i32_77 : BitVec 32 := 0#32
  let v162 : BitVec 1 := Scalar.cmpi .slt v160 c0_i32_77
  let c0_i32_78 : BitVec 32 := 0#32
  let v163 : BitVec 1 := Scalar.cmpi .slt v159 c0_i32_78
  let v164 : BitVec 1 := Scalar.xori v162 v163
  let v165 : BitVec 1 := Scalar.andi v164 v161
  let v166 : BitVec 32 := Scalar.addi v160 v159
  let v167 : BitVec 32 := Scalar.select v165 v166 v160
  let c0_i32_79 : BitVec 32 := 0#32
  ![v18.toNat, v111.toNat, v157.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x4096x1024 : Shape := ⟨3, ![8, 4096, 1024]⟩
abbrev S8x4352x1024 : Shape := ⟨3, ![8, 4352, 1024]⟩
abbrev S8x4352x512 : Shape := ⟨3, ![8, 4352, 512]⟩
abbrev S8x4096x8x128 : Shape := ⟨4, ![8, 4096, 8, 128]⟩
abbrev S8x4352x8x128 : Shape := ⟨4, ![8, 4352, 8, 128]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x1024, .bf16⟩
  | .hbm, ⟨2, _⟩ => ⟨S8x4352x512, .bf16⟩
  | .hbm, ⟨3, _⟩ => ⟨S8x4096x1024, .f32⟩
  | .hbm, ⟨4, _⟩ => ⟨S8x4096x8x128, .f32⟩
  | .hbm, ⟨5, _⟩ => ⟨S8x4352x1024, .f32⟩
  | .hbm, ⟨6, _⟩ => ⟨S8x4352x8x128, .f32⟩
  | .hbm, ⟨7, _⟩ => ⟨S8x4352x512, .f32⟩
  | .hbm, ⟨8, _⟩ => ⟨S8x4352x8x64, .f32⟩
  | .hbm, ⟨9, _⟩ => ⟨S8x8x4096x4352, .f32⟩
  | .hbm, ⟨10, _⟩ => ⟨S_, .f32⟩
  | .hbm, ⟨11, _⟩ => ⟨S8x8x4096, .f32⟩
  | .hbm, ⟨12, _⟩ => ⟨S8x8x4096x1, .f32⟩
  | .hbm, ⟨13, _⟩ => ⟨S8x8x4096x4352, .f32⟩
  | .hbm, ⟨14, _⟩ => ⟨S8x8x4096x4352, .f32⟩
  | .hbm, ⟨15, _⟩ => ⟨S_, .f32⟩
  | .hbm, ⟨16, _⟩ => ⟨S8x8x4096x4352, .f32⟩
  | .hbm, ⟨17, _⟩ => ⟨S8x8x4096x4352, .f32⟩
  | .hbm, ⟨18, _⟩ => ⟨S_, .f32⟩
  | .hbm, ⟨19, _⟩ => ⟨S8x8x4096, .f32⟩
  | .hbm, ⟨20, _⟩ => ⟨S8x8x4096x1, .f32⟩
  | .hbm, ⟨21, _⟩ => ⟨S8x8x4096x4352, .f32⟩
  | .hbm, ⟨22, _⟩ => ⟨S8x8x4096x4352, .f32⟩
  | .hbm, ⟨23, _⟩ => ⟨S8x8x64x4096, .f32⟩
  | .hbm, ⟨24, _⟩ => ⟨S8x4096x8x64, .f32⟩
  | .hbm, ⟨25, _⟩ => ⟨S8x4096x512, .f32⟩
  | .hbm, ⟨26, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S16x6144 : Shape := ⟨2, ![16, 6144]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x6144 : Shape := ⟨2, ![1, 6144]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S16x6144, .f32⟩
  | .hbm, ⟨4, _⟩ => ⟨S1024x1024, .bf16⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S16x6144, .f32⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S16x6144 : Shape := ⟨2, ![16, 6144]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S1024 : Shape := ⟨1, ![1024]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S16x6144, .f32⟩
  | .hbm, ⟨4, _⟩ => ⟨S1024x1024, .bf16⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S8x6144, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x4096x512, .f32⟩
  | .hbm, ⟨22, _⟩ => ⟨S8x4096x512, .f32⟩
  | .hbm, ⟨23, _⟩ => ⟨S8x4096x1024, .f32⟩
  | .hbm, ⟨24, _⟩ => ⟨S1024x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S1024x4096, .f32⟩
  | .hbm, ⟨50, _⟩ => ⟨S8x4096x4096, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_cst : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel3.lean ====
abbrev S16x1024 : Shape := ⟨2, ![16, 1024]⟩
abbrev S1024x6144 : Shape := ⟨2, ![1024, 6144]⟩
abbrev S1x6144 : Shape := ⟨2, ![1, 6144]⟩
abbrev S16x6144 : Shape := ⟨2, ![16, 6144]⟩
abbrev S1024x3072 : Shape := ⟨2, ![1024, 3072]⟩
abbrev S1x3072 : Shape := ⟨2, ![1, 3072]⟩
abbrev S16x3072 : Shape := ⟨2, ![16, 3072]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S1x6144, .f32⟩
  | .hbm, ⟨3, _⟩ => ⟨S16x6144, .f32⟩
  | .local _ .vmem, ⟨0, _⟩ => ⟨S16x1024, .f32⟩
  | .local _ .vmem, ⟨1, _⟩ => ⟨S1024x3072, .f32⟩
  | .local _ .vmem, ⟨2, _⟩ => ⟨S1024x3072, .f32⟩
  | .local _ .vmem, ⟨3, _⟩ => ⟨S1x3072, .f32⟩
  | .local _ .vmem, ⟨4, _⟩ => ⟨S1x3072, .f32⟩
  | .local _ .vmem, ⟨5, _⟩ => ⟨S16x3072, .f32⟩
  | .local _ .vmem, ⟨6, _⟩ => ⟨S16x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x1024 : Shape := ⟨2, ![16, 1024]⟩
abbrev S1024x6144 : Shape := ⟨2, ![1024, 6144]⟩
abbrev S1x6144 : Shape := ⟨2, ![1, 6144]⟩
abbrev S_ : Shape := ⟨0, ![]⟩
abbrev S16x6144 : Shape := ⟨2, ![16, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S6144, .f32⟩
  | .hbm, ⟨14, _⟩ => ⟨S1x6144, .f32⟩
  | .hbm, ⟨15, _⟩ => ⟨S16x6144, .f32⟩
  | .hbm, ⟨16, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x6144 : Shape := ⟨2, ![16, 6144]⟩
abbrev S1024x1952 : Shape := ⟨2, ![1024, 1952]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S3x512 : Shape := ⟨2, ![3, 512]⟩
abbrev S4096x16 : Shape := ⟨2, ![4096, 16]⟩
abbrev S1024x4096 : Shape := ⟨2, ![1024, 4096]⟩
abbrev S4096x1024 : Shape := ⟨2, ![4096, 1024]⟩
abbrev S1952x1024 : Shape := ⟨2, ![1952, 1024]⟩
abbrev S32x1024 : Shape := ⟨2, ![32, 1024]⟩
abbrev S8x1024 : Shape := ⟨2, ![8, 1024]⟩
abbrev S64x1024 : Shape := ⟨2, ![64, 1024]⟩
abbrev S384x1024 : Shape := ⟨2, ![384, 1024]⟩
abbrev S512x1024 : Shape := ⟨2, ![512, 1024]⟩
abbrev S1536x1024 : Shape := ⟨2, ![1536, 1024]⟩
abbrev S256x8x96 : Shape := ⟨3, ![256, 8, 96]⟩
abbrev S256x8x64 : Shape := ⟨3, ![256, 8, 64]⟩
abbrev S256x8x32 : Shape := ⟨3, ![256, 8, 32]⟩
abbrev S256x8x8 : Shape := ⟨3, ![256, 8, 8]⟩
abbrev S256x4x64 : Shape := ⟨3, ![256, 4, 64]⟩
abbrev S256x4x128 : Shape := ⟨3, ![256, 4, 128]⟩
abbrev S256x4x1x128 : Shape := ⟨4, ![256, 4, 1, 128]⟩
abbrev S256x4x2x128 : Shape := ⟨4, ![256, 4, 2, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S_ : Shape := ⟨0, ![]⟩
abbrev S4096x32 : Shape := ⟨2, ![4096, 32]⟩
abbrev S4096x64 : Shape := ⟨2, ![4096, 64]⟩
abbrev S4096x256 : Shape := ⟨2, ![4096, 256]⟩
abbrev S4096x128 : Shape := ⟨2, ![4096, 128]⟩
abbrev S8x4352x1024 : Shape := ⟨3, ![8, 4352, 1024]⟩
abbrev S8x4352x512 : Shape := ⟨3, ![8, 4352, 512]⟩
abbrev S8x4096x512 : Shape := ⟨3, ![8, 4096, 512]⟩
abbrev S1x8x1024 : Shape := ⟨3, ![1, 8, 1024]⟩
abbrev S1x1024x1024 : Shape := ⟨3, ![1, 1024, 1024]⟩
abbrev S1024x256 : Shape := ⟨2, ![1024, 256]⟩
abbrev S1024x128 : Shape := ⟨2, ![1024, 128]⟩
abbrev S32x4096 : Shape := ⟨2, ![32, 4096]⟩
abbrev S1x1024x512 : Shape := ⟨3, ![1, 1024, 512]⟩
abbrev S2x528x512 : Shape := ⟨3, ![2, 528, 512]⟩
abbrev S1x6144 : Shape := ⟨2, ![1, 6144]⟩
abbrev S1x1024 : Shape := ⟨2, ![1, 1024]⟩
abbrev S1x512x1024 : Shape := ⟨3, ![1, 512, 1024]⟩
abbrev S528x1024 : Shape := ⟨2, ![528, 1024]⟩
abbrev S528 : Shape := ⟨1, ![528]⟩
abbrev S528x1 : Shape := ⟨2, ![528, 1]⟩
abbrev S528x512 : Shape := ⟨2, ![528, 512]⟩
abbrev S512x512 : Shape := ⟨2, ![512, 512]⟩
abbrev S1024x1024 : Shape := ⟨2, ![1024, 1024]⟩
abbrev S512x256 : Shape := ⟨2, ![512, 256]⟩
abbrev S512 : Shape := ⟨1, ![512]⟩
abbrev S512x1 : Shape := ⟨2, ![512, 1]⟩
abbrev S1x528x512 : Shape := ⟨3, ![1, 528, 512]⟩
abbrev S1x512 : Shape := ⟨2, ![1, 512]⟩
abbrev S1x512x512 : Shape := ⟨3, ![1, 512, 512]⟩
abbrev S512x128 : Shape := ⟨2, ![512, 128]⟩
abbrev S1x512x128 : Shape := ⟨3, ![1, 512, 128]⟩

abbrev nBuf : Space → Nat
  | .hbm => 89
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S16x6144, .f32⟩
  | .hbm, ⟨2, _⟩ => ⟨S1024x1952, .f32⟩
  | .hbm, ⟨3, _⟩ => ⟨S1x256, .f32⟩
  | .hbm, ⟨4, _⟩ => ⟨S256x768, .f32⟩
  | .hbm, ⟨5, _⟩ => ⟨S1x128, .f32⟩
  | .hbm, ⟨6, _⟩ => ⟨S128x1024, .f32⟩
  | .hbm, ⟨7, _⟩ => ⟨S3x512, .f32⟩
  | .hbm, ⟨8, _⟩ => ⟨S4096x16, .f32⟩
  | .hbm, ⟨9, _⟩ => ⟨S4096x16, .f32⟩
  | .hbm, ⟨10, _⟩ => ⟨S1024x4096, .f32⟩
  | .hbm, ⟨11, _⟩ => ⟨S4096x1024, .f32⟩
  | .hbm, ⟨12, _⟩ => ⟨S1952x1024, .f32⟩
  | .hbm, ⟨13, _⟩ => ⟨S32x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S64x1024, .f32⟩
  | .hbm, ⟨23, _⟩ => ⟨S384x1024, .f32⟩
  | .hbm, ⟨24, _⟩ => ⟨S512x1024, .f32⟩
  | .hbm, ⟨25, _⟩ => ⟨S512x1024, .bf16⟩
  | .hbm, ⟨26, _⟩ => ⟨S1536x1024, .f32⟩
  | .hbm, ⟨27, _⟩ => ⟨S1536x1024, .bf16⟩
  | .hbm, ⟨28, _⟩ => ⟨S256x8x96, .f32⟩
  | .hbm, ⟨29, _⟩ => ⟨S256x8x64, .f32⟩
  | .hbm, ⟨30, _⟩ => ⟨S256x8x32, .f32⟩
  | .hbm, ⟨31, _⟩ => ⟨S256x8x8, .f32⟩
  | .hbm, ⟨32, _⟩ => ⟨S256x8x8, .f32⟩
  | .hbm, ⟨33, _⟩ => ⟨S256x8x8, .f32⟩
  | .hbm, ⟨34, _⟩ => ⟨S256x8x8, .f32⟩
  | .hbm, ⟨35, _⟩ => ⟨S256x8x8, .f32⟩
  | .hbm, ⟨36, _⟩ => ⟨S256x8x8, .f32⟩
  | .hbm, ⟨37, _⟩ => ⟨S256x8x8, .f32⟩
  | .hbm, ⟨38, _⟩ => ⟨S256x8x8, .f32⟩
  | .hbm, ⟨39, _⟩ => ⟨S256x8x64, .f32⟩
  | .hbm, ⟨40, _⟩ => ⟨S256x4x64, .f32⟩
  | .hbm, ⟨41, _⟩ => ⟨S256x4x64, .f32⟩
  | .hbm, ⟨42, _⟩ => ⟨S256x4x128, .f32⟩
  | .hbm, ⟨43, _⟩ => ⟨S256x4x64, .f32⟩
  | .hbm, ⟨44, _⟩ => ⟨S256x4x64, .f32⟩
  | .hbm, ⟨45, _⟩ => ⟨S256x4x128, .f32⟩
  | .hbm, ⟨46, _⟩ => ⟨S256x4x1x128, .f32⟩
  | .hbm, ⟨47, _⟩ => ⟨S256x4x1x128, .f32⟩
  | .hbm, ⟨48, _⟩ => ⟨S256x4x2x128, .f32⟩
  | .hbm, ⟨49, _⟩ => ⟨S256x1024, .f32⟩
  | .hbm, ⟨50, _⟩ => ⟨S256x1024, .bf16⟩
  | .hbm, ⟨51, _⟩ => ⟨S128x8x128, .f32⟩
  | .hbm, ⟨52, _⟩ => ⟨S128x8x64, .f32⟩
  | .hbm, ⟨53, _⟩ => ⟨S128x512, .f32⟩
  | .hbm, ⟨54, _⟩ => ⟨S128x8x64, .f32⟩
  | .hbm, ⟨55, _⟩ => ⟨S128x512, .f32⟩
  | .hbm, ⟨56, _⟩ => ⟨S128x1024, .f32⟩
  | .hbm, ⟨57, _⟩ => ⟨S128x1024, .bf16⟩
  | .hbm, ⟨58, _⟩ => ⟨S_, .f32⟩
  | .hbm, ⟨59, _⟩ => ⟨S4096x32, .f32⟩
  | .hbm, ⟨60, _⟩ => ⟨S4096x64, .f32⟩
  | .hbm, ⟨61, _⟩ => ⟨S4096x16, .f32⟩
  | .hbm, ⟨62, _⟩ => ⟨S_, .f32⟩
  | .hbm, ⟨63, _⟩ => ⟨S4096x32, .f32⟩
  | .hbm, ⟨64, _⟩ => ⟨S4096x64, .f32⟩
  | .hbm, ⟨65, _⟩ => ⟨S_, .f32⟩
  | .hbm, ⟨66, _⟩ => ⟨S4096x64, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096x64, .f32⟩
  | .hbm, ⟨73, _⟩ => ⟨S_, .f32⟩
  | .hbm, ⟨74, _⟩ => ⟨S4096x64, .f32⟩
  | .hbm, ⟨75, _⟩ => ⟨S4096x256, .f32⟩
  | .hbm, ⟨76, _⟩ => ⟨S_, .f32⟩
  | .hbm, ⟨77, _⟩ => ⟨S4096x256, .f32⟩
  | .hbm, ⟨78, _⟩ => ⟨S4096x256, .f32⟩
  | .hbm, ⟨79, _⟩ => ⟨S4096x128, .f32⟩
  | .hbm, ⟨80, _⟩ => ⟨S4096x128, .f32⟩
  | .hbm, ⟨81, _⟩ => ⟨S8x4096x1024, .bf16⟩
  | .hbm, ⟨82, _⟩ => ⟨S8x4352x1024, .bf16⟩
  | .hbm, ⟨83, _⟩ => ⟨S8x4352x512, .bf16⟩
  | .hbm, ⟨84, _⟩ => ⟨S8x4096x512, .bf16⟩
  | .hbm, ⟨85, _⟩ => ⟨S1024x4096, .bf16⟩
  | .hbm, ⟨86, _⟩ => ⟨S4096x1024, .bf16⟩
  | .hbm, ⟨87, _⟩ => ⟨S8x4096x1024, .bf16⟩
  | .hbm, ⟨88, _⟩ => ⟨S8x4096x512, .bf16⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S16x6144, .f32⟩
  | .local _ .vmem, ⟨7, _⟩ => ⟨S512x1024, .bf16⟩
  | .local _ .vmem, ⟨8, _⟩ => ⟨S1536x1024, .bf16⟩
  | .local _ .vmem, ⟨9, _⟩ => ⟨S1x256, .f32⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S3x512, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S32x4096, .f32⟩
  | .local _ .vmem, ⟨23, _⟩ => ⟨S32x4096, .f32⟩
  | .local _ .vmem, ⟨24, _⟩ => ⟨S128x1024, .f32⟩
  | .local _ .vmem, ⟨25, _⟩ => ⟨S128x1024, .f32⟩
  | .local _ .vmem, ⟨26, _⟩ => ⟨S1x1024x1024, .bf16⟩
  | .local _ .vmem, ⟨27, _⟩ => ⟨S1x1024x1024, .bf16⟩
  | .local _ .vmem, ⟨28, _⟩ => ⟨S1x1024x1024, .bf16⟩
  | .local _ .vmem, ⟨29, _⟩ => ⟨S1x1024x1024, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S32x4096, .bf16⟩
  | .local _ .vmem, ⟨35, _⟩ => ⟨S32x4096, .bf16⟩
  | .local _ .vmem, ⟨36, _⟩ => ⟨S128x1024, .bf16⟩
  | .local _ .vmem, ⟨37, _⟩ => ⟨S128x1024, .bf16⟩
  | .local _ .vmem, ⟨38, _⟩ => ⟨S2x528x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_0 : Ref sig .tc := ⟨.hbm, 62, rfl⟩
abbrev main_v49 : Ref sig .tc := ⟨.hbm, 63, rfl⟩
abbrev main_v50 : Ref sig .tc := ⟨.hbm, 64, rfl⟩
abbrev main_cst_1 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_cst_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev main_v62_2 : Ref sig .tc := ⟨.hbm, 83, rfl⟩
abbrev main_v62_3 : Ref sig .tc := ⟨.hbm, 84, rfl⟩
abbrev main_v62_4 : Ref sig .tc := ⟨.hbm, 85, rfl⟩
abbrev main_v62_5 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c31_i32 : BitVec 32 := 31#32
  let v20 : BitVec 32 := Scalar.minsi v19 c31_i32
  let c0_i32_5 : BitVec 32 := 0#32
  let c0_i32_6 : BitVec 32 := 0#32
  ![v20.toNat, c0_i32_5.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c31_i32 : BitVec 32 := 31#32
  let v20 : BitVec 32 := Scalar.minsi v19 c31_i32
  let c0_i32_5 : BitVec 32 := 0#32
  let c0_i32_6 : BitVec 32 := 0#32
  ![v20.toNat, c0_i32_5.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c31_i32 : BitVec 32 := 31#32
  let v20 : BitVec 32 := Scalar.minsi v19 c31_i32
  let c0_i32_5 : BitVec 32 := 0#32
  let c0_i32_6 : BitVec 32 := 0#32
  ![v20.toNat, c0_i32_5.toNat]

def cc0_transform_22 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c31_i32 : BitVec 32 := 31#32
  let v20 : BitVec 32 := Scalar.minsi v19 c31_i32
  let c0_i32_5 : BitVec 32 := 0#32
  let c0_i32_6 : BitVec 32 := 0#32
  ![v20.toNat, c0_i32_5.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S32x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x4096 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference4Ideal.lean ====
abbrev S8x4096x1024 : Shape := ⟨3, ![8, 4096, 1024]⟩
abbrev S16x6144 : Shape := ⟨2, ![16, 6144]⟩
abbrev S1024x1952 : Shape := ⟨2, ![1024, 1952]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S3x512 : Shape := ⟨2, ![3, 512]⟩
abbrev S4096x16 : Shape := ⟨2, ![4096, 16]⟩
abbrev S1024x4096 : Shape := ⟨2, ![1024, 4096]⟩
abbrev S4096x1024 : Shape := ⟨2, ![4096, 1024]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x1952 : Shape := ⟨3, ![8, 4096, 1952]⟩
abbrev S8x4096x256 : Shape := ⟨3, ![8, 4096, 256]⟩
abbrev S256 : Shape := ⟨1, ![256]⟩
abbrev S1x1x256 : Shape := ⟨3, ![1, 1, 256]⟩
abbrev S8x4096x768 : Shape := ⟨3, ![8, 4096, 768]⟩
abbrev S8x4096x4x192 : Shape := ⟨4, ![8, 4096, 4, 192]⟩
abbrev S8x4096x4x64 : Shape := ⟨4, ![8, 4096, 4, 64]⟩
abbrev S8x4096x4x32 : Shape := ⟨4, ![8, 4096, 4, 32]⟩
abbrev S8x4096x4x8 : Shape := ⟨4, ![8, 4096, 4, 8]⟩
abbrev S8x4096x4x16 : Shape := ⟨4, ![8, 4096, 4, 16]⟩
abbrev S4096x1x16 : Shape := ⟨3, ![4096, 1, 16]⟩
abbrev S1x4096x1x16 : Shape := ⟨4, ![1, 4096, 1, 16]⟩
abbrev S8x4096x4x256 : Shape := ⟨4, ![8, 4096, 4, 256]⟩
abbrev S8x4096x128 : Shape := ⟨3, ![8, 4096, 128]⟩
abbrev S128 : Shape := ⟨1, ![128]⟩
abbrev S1x1x128 : Shape := ⟨3, ![1, 1, 128]⟩
abbrev S8x4096x32 : Shape := ⟨3, ![8, 4096, 32]⟩
abbrev S8x4096x1x32 : Shape := ⟨4, ![8, 4096, 1, 32]⟩
abbrev S8x4096x1x8 : Shape := ⟨4, ![8, 4096, 1, 8]⟩
abbrev S8x4096x1x16 : Shape := ⟨4, ![8, 4096, 1, 16]⟩
abbrev S8x4096x1x64 : Shape := ⟨4, ![8, 4096, 1, 64]⟩
abbrev S8x4096x8x128 : Shape := ⟨4, ![8, 4096, 8, 128]⟩
abbrev S8x4096x8x64 : Shape := ⟨4, ![8, 4096, 8, 64]⟩
abbrev S8x4096x512 : Shape := ⟨3, ![8, 4096, 512]⟩
abbrev S8x4096x1536 : Shape := ⟨3, ![8, 4096, 1536]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 211
  | .vmem => 0
  | .smem => 0
  | _ => 0

abbrev hbmTy0_0 (i : Nat) : BufTy := match i % 128 with
  | 0 => ⟨S8x4096x1024, .f32⟩
  | 1 => ⟨S16x6144, .f32⟩
  | 2 => ⟨S1024x1952, .f32⟩
  | 3 => ⟨S1x256, .f32⟩
  | 4 => ⟨S256x768, .f32⟩
  | 5 => ⟨S1x128, .f32⟩
  | 6 => ⟨S128x1024, .f32⟩
  | 7 => ⟨S3x512, .f32⟩
  | 8 => ⟨S4096x16, .f32⟩
  | 9 => ⟨S4096x16, .f32⟩
  | 10 => ⟨S1024x4096, .f32⟩
  | 11 => ⟨S4096x1024, .f32⟩
  | 12 => ⟨S8x6144, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1x1024, .f32⟩
  | 20 => ⟨S8x1x1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x1, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x1952, .f32⟩
  | 42 => ⟨S8x4096x256, .f32⟩
  | 43 => ⟨S8x4096x256, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S_, .f32⟩
  | 51 => ⟨S8x4096x1, .f32⟩
  | 52 => ⟨S8x4096x1, .f32⟩
  | 53 => ⟨S8x4096x1, .f32⟩
  | 54 => ⟨S8x4096x256, .f32⟩
  | 55 => ⟨S8x4096x256, .f32⟩
  | 56 => ⟨S256, .f32⟩
  | 57 => ⟨S1x1x256, .f32⟩
  | 58 => ⟨S8x4096x256, .f32⟩
  | 59 => ⟨S8x4096x256, .f32⟩
  | 60 => ⟨S8x4096x768, .f32⟩
  | 61 => ⟨S8x4096x4x192, .f32⟩
  | 62 => ⟨S8x4096x4x64, .f32⟩
  | 63 => ⟨S8x4096x4x32, .f32⟩
  | 64 => ⟨S8x4096x4x8, .f32⟩
  | 65 => ⟨S8x4096x4x8, .f32⟩
  | 66 => ⟨S8x4096x4x16, .f32⟩
  | 67 => ⟨S8x4096x4x8, .f32⟩
  | 68 => ⟨S8x4096x4x8, .f32⟩
  | 69 => ⟨S8x4096x4x16, .f32⟩
  | 70 => ⟨S4096x1x16, .f32⟩
  | 71 => ⟨S4096x1x16, .f32⟩
  | 72 => ⟨S1x4096x1x16, .f32⟩
  | 73 => ⟨S8x4096x4x16, .f32⟩
  | 74 => ⟨S8x4096x4x16, .f32⟩
  | 75 => ⟨S1x4096x1x16, .f32⟩
  | 76 => ⟨S8x4096x4x16, .f32⟩
  | 77 => ⟨S8x4096x4x16, .f32⟩
  | 78 => ⟨S8x4096x4x16, .f32⟩
  | 79 => ⟨S1x4096x1x16, .f32⟩
  | 80 => ⟨S8x4096x4x16, .f32⟩
  | 81 => ⟨S8x4096x4x16, .f32⟩
  | 82 => ⟨S1x4096x1x16, .f32⟩
  | 83 => ⟨S8x4096x4x16, .f32⟩
  | 84 => ⟨S8x4096x4x16, .f32⟩
  | 85 => ⟨S8x4096x4x16, .f32⟩
  | 86 => ⟨S_, .f32⟩
  | 87 => ⟨S8x4096x4x32, .f32⟩
  | 88 => ⟨S8x4096x4x64, .f32⟩
  | 89 => ⟨S8x4096x4x32, .f32⟩
  | 90 => ⟨S8x4096x4x8, .f32⟩
  | 91 => ⟨S8x4096x4x8, .f32⟩
  | 92 => ⟨S8x4096x4x16, .f32⟩
  | 93 => ⟨S8x4096x4x8, .f32⟩
  | 94 => ⟨S8x4096x4x8, .f32⟩
  | 95 => ⟨S8x4096x4x16, .f32⟩
  | 96 => ⟨S4096x1x16, .f32⟩
  | 97 => ⟨S4096x1x16, .f32⟩
  | 98 => ⟨S1x4096x1x16, .f32⟩
  | 99 => ⟨S8x4096x4x16, .f32⟩
  | 100 => ⟨S8x4096x4x16, .f32⟩
  | 101 => ⟨S1x4096x1x16, .f32⟩
  | 102 => ⟨S8x4096x4x16, .f32⟩
  | 103 => ⟨S8x4096x4x16, .f32⟩
  | 104 => ⟨S8x4096x4x16, .f32⟩
  | 105 => ⟨S1x4096x1x16, .f32⟩
  | 106 => ⟨S8x4096x4x16, .f32⟩
  | 107 => ⟨S8x4096x4x16, .f32⟩
  | 108 => ⟨S1x4096x1x16, .f32⟩
  | 109 => ⟨S8x4096x4x16, .f32⟩
  | 110 => ⟨S8x4096x4x16, .f32⟩
  | 111 => ⟨S8x4096x4x16, .f32⟩
  | 112 => ⟨S_, .f32⟩
  | 113 => ⟨S8x4096x4x32, .f32⟩
  | 114 => ⟨S8x4096x4x64, .f32⟩
  | 115 => ⟨S8x4096x4x64, .f32⟩
  | 116 => ⟨S8x4096x4x256, .f32⟩
  | 117 => ⟨S8x4096x1024, .f32⟩
  | 118 => ⟨S_, .f32⟩
  | 119 => ⟨S8x4096x1024, .f32⟩
  | 120 => ⟨S8x4096x1024, .f32⟩
  | 121 => ⟨S8x4096x128, .f32⟩
  | 122 => ⟨S8x4096x128, .f32⟩
  | 123 => ⟨S_, .f32⟩
  | 124 => ⟨S8x4096, .f32⟩
  | 125 => ⟨S8x4096x1, .f32⟩
  | 126 => ⟨S_, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S_, .f32⟩
  | 2 => ⟨S8x4096x1, .f32⟩
  | 3 => ⟨S8x4096x1, .f32⟩
  | 4 => ⟨S8x4096x1, .f32⟩
  | 5 => ⟨S8x4096x128, .f32⟩
  | 6 => ⟨S8x4096x128, .f32⟩
  | 7 => ⟨S128, .f32⟩
  | 8 => ⟨S1x1x128, .f32⟩
  | 9 => ⟨S8x4096x128, .f32⟩
  | 10 => ⟨S8x4096x128, .f32⟩
  | 11 => ⟨S8x4096x1024, .f32⟩
  | 12 => ⟨S8x4096x4x256, .f32⟩
  | 13 => ⟨S8x4096x32, .f32⟩
  | 14 => ⟨S8x4096x1x32, .f32⟩
  | 15 => ⟨S8x4096x1x8, .f32⟩
  | 16 => ⟨S8x4096x1x8, .f32⟩
  | 17 => ⟨S8x4096x1x16, .f32⟩
  | 18 => ⟨S8x4096x1x8, .f32⟩
  | 19 => ⟨S8x4096x1x8, .f32⟩
  | 20 => ⟨S8x4096x1x16, .f32⟩
  | 21 => ⟨S4096x1x16, .f32⟩
  | 22 => ⟨S4096x1x16, .f32⟩
  | 23 => ⟨S1x4096x1x16, .f32⟩
  | 24 => ⟨S8x4096x1x16, .f32⟩
  | 25 => ⟨S8x4096x1x16, .f32⟩
  | 26 => ⟨S1x4096x1x16, .f32⟩
  | 27 => ⟨S8x4096x1x16, .f32⟩
  | 28 => ⟨S8x4096x1x16, .f32⟩
  | 29 => ⟨S8x4096x1x16, .f32⟩
  | 30 => ⟨S1x4096x1x16, .f32⟩
  | 31 => ⟨S8x4096x1x16, .f32⟩
  | 32 => ⟨S8x4096x1x16, .f32⟩
  | 33 => ⟨S1x4096x1x16, .f32⟩
  | 34 => ⟨S8x4096x1x16, .f32⟩
  | 35 => ⟨S8x4096x1x16, .f32⟩
  | 36 => ⟨S8x4096x1x16, .f32⟩
  | 37 => ⟨S_, .f32⟩
  | 38 => ⟨S8x4096x1x32, .f32⟩
  | 39 => ⟨S8x4096x1x64, .f32⟩
  | 40 => ⟨S8x4096x4x64, .f32⟩
  | 41 => ⟨S8x4096x4x64, .f32⟩
  | 42 => ⟨S8x4096x4x64, .f32⟩
  | 43 => ⟨S8x4096x4x256, .f32⟩
  | 44 => ⟨S8x4096x1024, .f32⟩
  | 45 => ⟨S8x4096x8x128, .f32⟩
  | 46 => ⟨S8x4096x8x64, .f32⟩
  | 47 => ⟨S8x4096x512, .f32⟩
  | 48 => ⟨S8x4096x1536, .f32⟩
  | 49 => ⟨S8x4096x512, .f32⟩
  | 50 => ⟨S8x4096x512, .f32⟩
  | 51 => ⟨S8x4096x512, .f32⟩
  | 52 => ⟨S8x4096x512, .f32⟩
  | 53 => ⟨S_, .i32⟩
  | 54 => ⟨S_, .f32⟩
  | 55 => ⟨S8x4098x512, .f32⟩
  | 56 => ⟨S1x512, .f32⟩
  | 57 => ⟨S512, .f32⟩
  | 58 => ⟨S8x4096x512, .f32⟩
  | 59 => ⟨S1x1x512, .f32⟩
  | 60 => ⟨S8x4096x512, .f32⟩
  | 61 => ⟨S8x4096x512, .f32⟩
  | 62 => ⟨S1x512, .f32⟩
  | 63 => ⟨S512, .f32⟩
  | 64 => ⟨S8x4096x512, .f32⟩
  | 65 => ⟨S1x1x512, .f32⟩
  | 66 => ⟨S8x4096x512, .f32⟩
  | 67 => ⟨S8x4096x512, .f32⟩
  | 68 => ⟨S8x4096x512, .f32⟩
  | 69 => ⟨S1x512, .f32⟩
  | 70 => ⟨S512, .f32⟩
  | 71 => ⟨S8x4096x512, .f32⟩
  | 72 => ⟨S1x1x512, .f32⟩
  | 73 => ⟨S8x4096x512, .f32⟩
  | 74 => ⟨S8x4096x512, .f32⟩
  | 75 => ⟨S8x4096x512, .f32⟩
  | 76 => ⟨S8x4096x512, .f32⟩
  | 77 => ⟨S8x4096x1024, .bf16⟩
  | 78 => ⟨S8x4096x1024, .bf16⟩
  | 79 => ⟨S8x4096x512, .bf16⟩
  | 80 => ⟨S8x4096x512, .bf16⟩
  | 81 => ⟨S1024x4096, .bf16⟩
  | 82 => ⟨S4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_7 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_8 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_9 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_cst_11 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_12 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_c : Ref sig .tc := ⟨.hbm, 181, rfl⟩
abbrev main_call0_v0 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩

abbrev nD : Nat := 1
abbrev τ : Topo := Topo.v7x

variable {F : FTy → Type} [FloatOps F]
-- ==== Kernel5.lean ====
abbrev S8x256x1024 : Shape := ⟨3, ![8, 256, 1024]⟩
abbrev S16x6144 : Shape := ⟨2, ![16, 6144]⟩
abbrev S1024x1952 : Shape := ⟨2, ![1024, 1952]⟩
abbrev S1x128 : Shape := ⟨2, ![1, 128]⟩
abbrev S128x1024 : Shape := ⟨2, ![128, 1024]⟩
abbrev S8x4352x1024 : Shape := ⟨3, ![8, 4352, 1024]⟩
abbrev S8x4352x512 : Shape := ⟨3, ![8, 4352, 512]⟩
abbrev S128 : Shape := ⟨1, ![128]⟩
abbrev S256x128 : Shape := ⟨2, ![256, 128]⟩
abbrev S1952x1024 : Shape := ⟨2, ![1952, 1024]⟩
abbrev S32x1024 : Shape := ⟨2, ![32, 1024]⟩
abbrev S8x1024 : Shape := ⟨2, ![8, 1024]⟩
abbrev S64x1024 : Shape := ⟨2, ![64, 1024]⟩
abbrev S384x1024 : Shape := ⟨2, ![384, 1024]⟩
abbrev S512x1024 : Shape := ⟨2, ![512, 1024]⟩
abbrev S128x8x128 : Shape := ⟨3, ![128, 8, 128]⟩
abbrev S128x8x64 : Shape := ⟨3, ![128, 8, 64]⟩
abbrev S128x512 : Shape := ⟨2, ![128, 512]⟩
abbrev S4x256x1024 : Shape := ⟨3, ![4, 256, 1024]⟩
abbrev S256x1024 : Shape := ⟨2, ![256, 1024]⟩
abbrev S4x256x512 : Shape := ⟨3, ![4, 256, 512]⟩
abbrev S1x6144 : Shape := ⟨2, ![1, 6144]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1x256x128 : Shape := ⟨3, ![1, 256, 128]⟩
abbrev S256x512 : Shape := ⟨2, ![256, 512]⟩
abbrev S1x256x512 : Shape := ⟨3, ![1, 256, 512]⟩

abbrev nBuf : Space → Nat
  | .hbm => 33
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024x1952, .f32⟩
  | .hbm, ⟨3, _⟩ => ⟨S1x128, .f32⟩
  | .hbm, ⟨4, _⟩ => ⟨S128x1024, .f32⟩
  | .hbm, ⟨5, _⟩ => ⟨S8x4352x1024, .bf16⟩
  | .hbm, ⟨6, _⟩ => ⟨S8x4352x512, .bf16⟩
  | .hbm, ⟨7, _⟩ => ⟨S128, .f32⟩
  | .hbm, ⟨8, _⟩ => ⟨S256x128, .f32⟩
  | .hbm, ⟨9, _⟩ => ⟨S256x128, .f32⟩
  | .hbm, ⟨10, _⟩ => ⟨S1952x1024, .f32⟩
  | .hbm, ⟨11, _⟩ => ⟨S32x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S64x1024, .f32⟩
  | .hbm, ⟨21, _⟩ => ⟨S384x1024, .f32⟩
  | .hbm, ⟨22, _⟩ => ⟨S512x1024, .f32⟩
  | .hbm, ⟨23, _⟩ => ⟨S512x1024, .bf16⟩
  | .hbm, ⟨24, _⟩ => ⟨S128x8x128, .f32⟩
  | .hbm, ⟨25, _⟩ => ⟨S128x8x64, .f32⟩
  | .hbm, ⟨26, _⟩ => ⟨S128x512, .f32⟩
  | .hbm, ⟨27, _⟩ => ⟨S128x8x64, .f32⟩
  | .hbm, ⟨28, _⟩ => ⟨S128x512, .f32⟩
  | .hbm, ⟨29, _⟩ => ⟨S128x1024, .f32⟩
  | .hbm, ⟨30, _⟩ => ⟨S128x1024, .bf16⟩
  | .hbm, ⟨31, _⟩ => ⟨S8x4352x1024, .bf16⟩
  | .hbm, ⟨32, _⟩ => ⟨S8x4352x512, .bf16⟩
  | .local _ .vmem, ⟨0, _⟩ => ⟨S4x256x1024, .f32⟩
  | .local _ .vmem, ⟨1, _⟩ => ⟨S4x256x1024, .f32⟩
  | .local _ .vmem, ⟨2, _⟩ => ⟨S16x6144, .f32⟩
  | .local _ .vmem, ⟨3, _⟩ => ⟨S256x1024, .bf16⟩
  | .local _ .vmem, ⟨4, _⟩ => ⟨S1x128, .f32⟩
  | .local _ .vmem, ⟨5, _⟩ => ⟨S128x1024, .bf16⟩
  | .local _ .vmem, ⟨6, _⟩ => ⟨S256x128, .f32⟩
  | .local _ .vmem, ⟨7, _⟩ => ⟨S256x128, .f32⟩
  | .local _ .vmem, ⟨8, _⟩ => ⟨S4x256x1024, .bf16⟩
  | .local _ .vmem, ⟨9, _⟩ => ⟨S4x256x1024, .bf16⟩
  | .local _ .vmem, ⟨10, _⟩ => ⟨S4x256x512, .bf16⟩
  | .local _ .vmem, ⟨11, _⟩ => ⟨S4x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  ![arg0.toNat, c16_i32.toNat, c0_i32.toNat]

def cc0_transform_10 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  ![arg0.toNat, c16_i32.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x256x1024 : Shape := ⟨3, ![8, 256, 1024]⟩
abbrev S16x6144 : Shape := ⟨2, ![16, 6144]⟩
abbrev S1024x1952 : Shape := ⟨2, ![1024, 1952]⟩
abbrev S1x128 : Shape := ⟨2, ![1, 128]⟩
abbrev S128x1024 : Shape := ⟨2, ![128, 1024]⟩
abbrev S8x4352x1024 : Shape := ⟨3, ![8, 4352, 1024]⟩
abbrev S8x4352x512 : Shape := ⟨3, ![8, 4352, 512]⟩
abbrev S1x6144 : Shape := ⟨2, ![1, 6144]⟩
abbrev S6144 : Shape := ⟨1, ![6144]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x1952 : Shape := ⟨3, ![8, 256, 1952]⟩
abbrev S8x256x128 : Shape := ⟨3, ![8, 256, 128]⟩
abbrev S128 : Shape := ⟨1, ![128]⟩
abbrev S1x1x128 : Shape := ⟨3, ![1, 1, 128]⟩
abbrev S8x256x4x256 : Shape := ⟨4, ![8, 256, 4, 256]⟩
abbrev S8x256x32 : Shape := ⟨3, ![8, 256, 32]⟩
abbrev S8x256x1x32 : Shape := ⟨4, ![8, 256, 1, 32]⟩
abbrev S8x256x1x8 : Shape := ⟨4, ![8, 256, 1, 8]⟩
abbrev S8x256x1x64 : Shape := ⟨4, ![8, 256, 1, 64]⟩
abbrev S8x256x4x64 : Shape := ⟨4, ![8, 256, 4, 64]⟩
abbrev S8x256x8x128 : Shape := ⟨4, ![8, 256, 8, 128]⟩
abbrev S8x256x8x64 : Shape := ⟨4, ![8, 256, 8, 64]⟩
abbrev S8x256x512 : Shape := ⟨3, ![8, 256, 512]⟩
abbrev S8x4096x1024 : Shape := ⟨3, ![8, 4096, 1024]⟩
abbrev S8x4096x512 : Shape := ⟨3, ![8, 4096, 512]⟩

abbrev nBuf : Space → Nat
  | .hbm => 81
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024x1952, .f32⟩
  | .hbm, ⟨3, _⟩ => ⟨S1x128, .f32⟩
  | .hbm, ⟨4, _⟩ => ⟨S128x1024, .f32⟩
  | .hbm, ⟨5, _⟩ => ⟨S8x4352x1024, .bf16⟩
  | .hbm, ⟨6, _⟩ => ⟨S8x4352x512, .bf16⟩
  | .hbm, ⟨7, _⟩ => ⟨S1x6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S8x256x1024, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S_, .f32⟩
  | .hbm, ⟨20, _⟩ => ⟨S8x256x1, .f32⟩
  | .hbm, ⟨21, _⟩ => ⟨S8x256x1, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S8x256x1, .f32⟩
  | .hbm, ⟨26, _⟩ => ⟨S8x256x1024, .f32⟩
  | .hbm, ⟨27, _⟩ => ⟨S8x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S8x256x1952, .f32⟩
  | .hbm, ⟨38, _⟩ => ⟨S8x256x128, .f32⟩
  | .hbm, ⟨39, _⟩ => ⟨S8x256x128, .f32⟩
  | .hbm, ⟨40, _⟩ => ⟨S_, .f32⟩
  | .hbm, ⟨41, _⟩ => ⟨S8x256, .f32⟩
  | .hbm, ⟨42, _⟩ => ⟨S8x256x1, .f32⟩
  | .hbm, ⟨43, _⟩ => ⟨S_, .f32⟩
  | .hbm, ⟨44, _⟩ => ⟨S8x256x1, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S8x256x1, .f32⟩
  | .hbm, ⟨50, _⟩ => ⟨S8x256x128, .f32⟩
  | .hbm, ⟨51, _⟩ => ⟨S8x256x128, .f32⟩
  | .hbm, ⟨52, _⟩ => ⟨S128, .f32⟩
  | .hbm, ⟨53, _⟩ => ⟨S1x1x128, .f32⟩
  | .hbm, ⟨54, _⟩ => ⟨S8x256x128, .f32⟩
  | .hbm, ⟨55, _⟩ => ⟨S8x256x128, .f32⟩
  | .hbm, ⟨56, _⟩ => ⟨S8x256x1024, .f32⟩
  | .hbm, ⟨57, _⟩ => ⟨S8x256x4x256, .f32⟩
  | .hbm, ⟨58, _⟩ => ⟨S8x256x32, .f32⟩
  | .hbm, ⟨59, _⟩ => ⟨S8x256x1x32, .f32⟩
  | .hbm, ⟨60, _⟩ => ⟨S8x256x1x8, .f32⟩
  | .hbm, ⟨61, _⟩ => ⟨S8x256x1x8, .f32⟩
  | .hbm, ⟨62, _⟩ => ⟨S8x256x1x8, .f32⟩
  | .hbm, ⟨63, _⟩ => ⟨S8x256x1x8, .f32⟩
  | .hbm, ⟨64, _⟩ => ⟨S_, .f32⟩
  | .hbm, ⟨65, _⟩ => ⟨S8x256x1x32, .f32⟩
  | .hbm, ⟨66, _⟩ => ⟨S8x256x1x64, .f32⟩
  | .hbm, ⟨67, _⟩ => ⟨S8x256x4x64, .f32⟩
  | .hbm, ⟨68, _⟩ => ⟨S8x256x4x64, .f32⟩
  | .hbm, ⟨69, _⟩ => ⟨S8x256x4x64, .f32⟩
  | .hbm, ⟨70, _⟩ => ⟨S8x256x4x256, .f32⟩
  | .hbm, ⟨71, _⟩ => ⟨S8x256x1024, .f32⟩
  | .hbm, ⟨72, _⟩ => ⟨S8x256x8x128, .f32⟩
  | .hbm, ⟨73, _⟩ => ⟨S8x256x8x64, .f32⟩
  | .hbm, ⟨74, _⟩ => ⟨S8x256x512, .f32⟩
  | .hbm, ⟨75, _⟩ => ⟨S8x4096x1024, .bf16⟩
  | .hbm, ⟨76, _⟩ => ⟨S8x256x1024, .bf16⟩
  | .hbm, ⟨77, _⟩ => ⟨S8x4352x1024, .bf16⟩
  | .hbm, ⟨78, _⟩ => ⟨S8x4096x512, .bf16⟩
  | .hbm, ⟨79, _⟩ => ⟨S8x256x512, .bf16⟩
  | .hbm, ⟨80, _⟩ => ⟨S8x4352x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Proof.Attention.Words.lean ====
/- The attention kernel's arithmetic, said in a few words. The printed body computes its three products in pieces: 8 chunks of 512 keys and a last one of 256, and
   each chunk in tiles of 128 lanes. `scores`/`scores'` are the products of one chunk, `laneMax` the running maximum over the tiles, `spread` the row maximum
   repeated along the lanes, `weighted` the sum over all chunks of `exp2 (score - max)` times `[values | ones]`, and `pair` the quotients of two heads side by side.
   Nothing is proved here but that these are what the printed payloads compose (Cases.lean). -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Attention

open Cert.KernelIdeal Cert.KernelIdeal.Gen Idealize.ShloMosaic Idealize.ShloMosaic.TcCoe Idealize.SL.Sem

variable {F : FTy → Type} [FloatOps F]

/-- The rows of one query block, as a matrix. -/
def rows (q : Vec F S1x1024x128 .bf16) : FVec F S1024x128 .bf16 := shapeCast S1024x128 q shapeCasts_S1x1024x128_S1024x128

/-- The scores of 1024 rows against 512 keys. -/
def scores (q : FVec F S1024x128 .bf16) (k : Vec F S1x512x128 .bf16) : FVec F S1024x512 .f32 :=
  matmul dot_S1024x128_S512x128_S1024x512_1_1_0_0_n_n none q (shapeCast S512x128 k shapeCasts_S1x512x128_S512x128) (constant S1024x512 .f32 0x00000000#32)

/-- The scores of 1024 rows against the last 256 keys. -/
def scores' (q : FVec F S1024x128 .bf16) (k : Vec F S1x256x128 .bf16) : FVec F S1024x256 .f32 :=
  matmul dot_S1024x128_S256x128_S1024x256_1_1_0_0_n_n none q (shapeCast S256x128 k shapeCasts_S1x256x128_S256x128) (constant S1024x256 .f32 0x00000000#32)

/-- The larger of the four tiles of a chunk, lane by lane. -/
def tileMax (s : FVec F S1024x512 .f32) : FVec F S1024x128 .f32 :=
  maximumf (maximumf (maximumf (extractStridedSlice S1024x128 ![0, 0] s slices_S1024x512_o0_0_S1024x128)
    (extractStridedSlice S1024x128 ![0, 128] s slices_S1024x512_o0_128_S1024x128))
    (extractStridedSlice S1024x128 ![0, 256] s slices_S1024x512_o0_256_S1024x128))
    (extractStridedSlice S1024x128 ![0, 384] s slices_S1024x512_o0_384_S1024x128)

/-- The larger of the last chunk's two tiles, lane by lane. -/
def tileMax' (s : FVec F S1024x256 .f32) : FVec F S1024x128 .f32 :=
  maximumf (extractStridedSlice S1024x128 ![0, 0] s slices_S1024x256_o0_0_S1024x128)
    (extractStridedSlice S1024x128 ![0, 128] s slices_S1024x256_o0_128_S1024x128)

/-- The running maximum over the nine chunks, lane by lane. -/
def laneMax (q : FVec F S1024x128 .bf16) (k : Fin 8 → Vec F S1x512x128 .bf16) (k' : Vec F S1x256x128 .bf16) : FVec F S1024x128 .f32 :=
  maximumf (maximumf (maximumf (maximumf (maximumf (maximumf (maximumf (maximumf (tileMax (scores q (k 0))) (tileMax (scores q (k 1))))
    (tileMax (scores q (k 2)))) (tileMax (scores q (k 3)))) (tileMax (scores q (k 4)))) (tileMax (scores q (k 5)))) (tileMax (scores q (k 6))))
    (tileMax (scores q (k 7)))) (tileMax' (scores' q k'))

/-- The maximum over the lanes, repeated along them. -/
def spread (m : FVec F S1024x128 .f32) : FVec F S1024x128 .f32 :=
  broadcastTo S1024x128 (shapeCast S1024x1 (shapeCast S1024x1
    (multiReduction .maximumf [1] S1024 m 0xFF800000#32 reduces_S1024x128_S1024 (.inl rfl) rfl) shapeCasts_S1024_S1024x1) shapeCasts_S1024x1_S1024x1)
    broadcasts_S1024x1_S1024x128

/-- The values of one chunk with a block of ones beside them. -/
def withOnes (v : Vec F S1x512x128 .bf16) : FVec F S512x256 .bf16 :=
  concatenate S512x256 1 [⟨S512x128, (shapeCast S512x128 v shapeCasts_S1x512x128_S512x128 : FVec F S512x128 .bf16)⟩,
    ⟨S512x128, (broadcast S512x128 (Scalar.ofBits .bf16 0x3F80#16 : F .bf16) : FVec F S512x128 .bf16)⟩] concatenates_S512x128_S512x128_S512x256_d1

/-- The values of the last chunk with a block of ones beside them. -/
def withOnes' (v : Vec F S1x256x128 .bf16) : FVec F S256x256 .bf16 :=
  concatenate S256x256 1 [⟨S256x128, (shapeCast S256x128 v shapeCasts_S1x256x128_S256x128 : FVec F S256x128 .bf16)⟩,
    ⟨S256x128, (broadcast S256x128 (Scalar.ofBits .bf16 0x3F80#16 : F .bf16) : FVec F S256x128 .bf16)⟩] concatenates_S256x128_S256x128_S256x256_d1

/-- One tile's exponentials. -/
def expo (m t : FVec F S1024x128 .f32) : FVec F S1024x128 .f32 := exp2 (subf t m)

/-- One chunk's exponentials times its values and ones. -/
def part (m : FVec F S1024x128 .f32) (t0 t1 t2 t3 : FVec F S1024x128 .f32) (v : Vec F S1x512x128 .bf16) : FVec F S1024x256 .f32 :=
  matmul dot_S1024x512_S512x256_S1024x256_1_0_0_1_n_n none
    (truncf .bf16 (concatenate S1024x512 1 [⟨S1024x128, expo m t0⟩, ⟨S1024x128, expo m t1⟩, ⟨S1024x128, expo m t2⟩, ⟨S1024x128, expo m t3⟩]
      concatenates_S1024x128_S1024x128_S1024x128_S1024x128_S1024x512_d1) bitsLt_bf16_f32)
    (withOnes v) (constant S1024x256 .f32 0x00000000#32)

/-- The last chunk's exponentials times its values and ones. -/
def part' (m : FVec F S1024x128 .f32) (t0 t1 : FVec F S1024x128 .f32) (v : Vec F S1x256x128 .bf16) : FVec F S1024x256 .f32 :=
  matmul dot_S1024x256_S256x256_S1024x256_1_0_0_1_n_n none
    (truncf .bf16 (concatenate S1024x256 1 [⟨S1024x128, expo m t0⟩, ⟨S1024x128, expo m t1⟩]
      concatenates_S1024x128_S1024x128_S1024x256_d1) bitsLt_bf16_f32)
    (withOnes' v) (constant S1024x256 .f32 0x00000000#32)

/-- All nine chunks' products, added up. -/
def weighted (m : FVec F S1024x128 .f32) (t : Fin 34 → FVec F S1024x128 .f32) (v : Fin 8 → Vec F S1x512x128 .bf16) (v' : Vec F S1x256x128 .bf16) : FVec F S1024x256 .f32 :=
  addf (addf (addf (addf (addf (addf (addf (addf (part m (t 0) (t 1) (t 2) (t 3) (v 0)) (part m (t 4) (t 5) (t 6) (t 7) (v 1)))
    (part m (t 8) (t 9) (t 10) (t 11) (v 2))) (part m (t 12) (t 13) (t 14) (t 15) (v 3))) (part m (t 16) (t 17) (t 18) (t 19) (v 4)))
    (part m (t 20) (t 21) (t 22) (t 23) (v 5))) (part m (t 24) (t 25) (t 26) (t 27) (v 6))) (part m (t 28) (t 29) (t 30) (t 31) (v 7)))
    (part' m (t 32) (t 33) v')

/-- Two heads' quotients side by side: lanes below 64 from the first, the others from the second. -/
def pair (a b : FVec F S1024x256 .f32) : FVec F S1024x128 .bf16 :=
  truncf .bf16 (select (cmpi .slt (iota .tc S1024x128 32 [1] iota_S1024x128_d1_w32) (broadcast S1024x128 64#32))
    (divf (extractStridedSlice S1024x128 ![0, 0] a slices_S1024x256_o0_0_S1024x128) (extractStridedSlice S1024x128 ![0, 128] a slices_S1024x256_o0_128_S1024x128))
    (divf (extractStridedSlice S1024x128 ![0, 0] b slices_S1024x256_o0_0_S1024x128) (extractStridedSlice S1024x128 ![0, 128] b slices_S1024x256_o0_128_S1024x128)))
    bitsLt_bf16_f32

/-! ## The pieces the body loads and stores -/

theorem inbTile (j : Fin 34) : ∀ a, (![0, 128 * j.val] : Fin 2 → ℕ) a + S1024x128.size a ≤ S1024x4352.size a := by
  intro a; have := j.isLt; fin_cases a <;> simp [S1024x128, S1024x4352] <;> omega
theorem inbKey (h : Fin 2) (j : Fin 8) : ∀ a, (![0, 512 * j.val, 128 * h.val] : Fin 3 → ℕ) a + S1x512x128.size a ≤ S1x4352x256.size a := by
  intro a; have := j.isLt; have := h.isLt; fin_cases a <;> simp [S1x512x128, S1x4352x256] <;> omega
theorem inbKey' (h : Fin 2) : ∀ a, (![0, 4096, 128 * h.val] : Fin 3 → ℕ) a + S1x256x128.size a ≤ S1x4352x256.size a := by
  intro a; have := h.isLt; fin_cases a <;> simp [S1x256x128, S1x4352x256] <;> omega
theorem inbVal (j : Fin 8) : ∀ a, (![0, 512 * j.val, 0] : Fin 3 → ℕ) a + S1x512x128.size a ≤ S1x4352x128.size a := by
  intro a; have := j.isLt; fin_cases a <;> simp [S1x512x128, S1x4352x128] <;> omega
theorem inbVal' : ∀ a, (![0, 4096, 0] : Fin 3 → ℕ) a + S1x256x128.size a ≤ S1x4352x128.size a := by
  intro a; fin_cases a <;> simp [S1x256x128, S1x4352x128]
theorem inbRow (r h : Fin 2) : ∀ a, (![0, 1024 * r.val, 128 * h.val] : Fin 3 → ℕ) a + S1x1024x128.size a ≤ S1x2048x256.size a := by
  intro a; have := r.isLt; have := h.isLt; fin_cases a <;> simp [S1x1024x128, S1x2048x256] <;> omega

/-- Tile `j` of a whole score matrix. -/
def tileRect (j : Fin 34) : Rect S1024x4352 := Rect.unit ![0, 128 * j.val] S1024x128.size (inbTile j)
/-- Chunk `j` of head `h`'s keys. -/
def keyRect (h : Fin 2) (j : Fin 8) : Rect S1x4352x256 := Rect.unit ![0, 512 * j.val, 128 * h.val] S1x512x128.size (inbKey h j)
def keyRect' (h : Fin 2) : Rect S1x4352x256 := Rect.unit ![0, 4096, 128 * h.val] S1x256x128.size (inbKey' h)
/-- Chunk `j` of the values. -/
def valRect (j : Fin 8) : Rect S1x4352x128 := Rect.unit ![0, 512 * j.val, 0] S1x512x128.size (inbVal j)
def valRect' : Rect S1x4352x128 := Rect.unit ![0, 4096, 0] S1x256x128.size inbVal'
/-- Half `r` of the query block's rows, head `h`. -/
def rowRect (r h : Fin 2) : Rect S1x2048x256 := Rect.unit ![0, 1024 * r.val, 128 * h.val] S1x1024x128.size (inbRow r h)

/-- Half `r` of the query block, head `h`, as a matrix. -/
def qs (x0 : Vec F S1x2048x256 .bf16) (r h : Fin 2) : FVec F S1024x128 .bf16 := rows (View.ld x0 (rowRect r h))
/-- Head `h`'s chunks of keys. -/
def ks (x1 : Vec F S1x4352x256 .bf16) (h : Fin 2) (j : Fin 8) : Vec F S1x512x128 .bf16 := View.ld x1 (keyRect h j)
def ks' (x1 : Vec F S1x4352x256 .bf16) (h : Fin 2) : Vec F S1x256x128 .bf16 := View.ld x1 (keyRect' h)
def vs (x : Vec F S1x4352x128 .bf16) (j : Fin 8) : Vec F S1x512x128 .bf16 := View.ld x (valRect j)
def vs' (x : Vec F S1x4352x128 .bf16) : Vec F S1x256x128 .bf16 := View.ld x valRect'

/-- The nine stores of one score matrix, last first. -/
def stores (x0 : Vec F S1x2048x256 .bf16) (x1 : Vec F S1x4352x256 .bf16) (r h : Fin 2) : List (View.Piece (Elt F) S1024x4352 .f32) :=
  [⟨Rect.unit ![0, 4096] S1024x256.size inb_S1024x4352_S1024x256_0_4096, shapeCast S1024x256 (scores' (qs x0 r h) (ks' x1 h)) shapeCasts_S1024x256_S1024x256⟩,
   ⟨Rect.unit ![0, 3584] S1024x512.size inb_S1024x4352_S1024x512_0_3584, shapeCast S1024x512 (scores (qs x0 r h) (ks x1 h 7)) shapeCasts_S1024x512_S1024x512⟩,
   ⟨Rect.unit ![0, 3072] S1024x512.size inb_S1024x4352_S1024x512_0_3072, shapeCast S1024x512 (scores (qs x0 r h) (ks x1 h 6)) shapeCasts_S1024x512_S1024x512⟩,
   ⟨Rect.unit ![0, 2560] S1024x512.size inb_S1024x4352_S1024x512_0_2560, shapeCast S1024x512 (scores (qs x0 r h) (ks x1 h 5)) shapeCasts_S1024x512_S1024x512⟩,
   ⟨Rect.unit ![0, 2048] S1024x512.size inb_S1024x4352_S1024x512_0_2048, shapeCast S1024x512 (scores (qs x0 r h) (ks x1 h 4)) shapeCasts_S1024x512_S1024x512⟩,
   ⟨Rect.unit ![0, 1536] S1024x512.size inb_S1024x4352_S1024x512_0_1536, shapeCast S1024x512 (scores (qs x0 r h) (ks x1 h 3)) shapeCasts_S1024x512_S1024x512⟩,
   ⟨Rect.unit ![0, 1024] S1024x512.size inb_S1024x4352_S1024x512_0_1024, shapeCast S1024x512 (scores (qs x0 r h) (ks x1 h 2)) shapeCasts_S1024x512_S1024x512⟩,
   ⟨Rect.unit ![0, 512] S1024x512.size inb_S1024x4352_S1024x512_0_512, shapeCast S1024x512 (scores (qs x0 r h) (ks x1 h 1)) shapeCasts_S1024x512_S1024x512⟩,
   ⟨Rect.unit ![0, 0] S1024x512.size inb_S1024x4352_S1024x512_0_0, shapeCast S1024x512 (scores (qs x0 r h) (ks x1 h 0)) shapeCasts_S1024x512_S1024x512⟩]

/-- The tiles of the score matrix that a list of stores leaves. -/
def tiles (L : List (View.Piece (Elt F) S1024x4352 .f32)) (j : Fin 34) : FVec F S1024x128 .f32 := fun y => View.canon L ((tileRect j).toLoadRect.idx y)
/-- The tiles of a whole score matrix. -/
def tilesOf (s : Vec F S1024x4352 .f32) (j : Fin 34) : FVec F S1024x128 .f32 := View.ld s (tileRect j)

/-- The largest score of each row, repeated along the lanes. -/
def top (x0 : Vec F S1x2048x256 .bf16) (x1 : Vec F S1x4352x256 .bf16) (r h : Fin 2) : FVec F S1024x128 .f32 := laneMax (qs x0 r h) (ks x1 h) (ks' x1 h)

/-- Sums of one half of the rows and one head, from the stores of its scores. -/
def sums (x0 : Vec F S1x2048x256 .bf16) (x1 : Vec F S1x4352x256 .bf16) (x3 : Vec F S1x4352x128 .bf16) (r h : Fin 2) (L : List (View.Piece (Elt F) S1024x4352 .f32)) : FVec F S1024x256 .f32 :=
  weighted (spread (top x0 x1 r h)) (tiles (stores x0 x1 r h ++ L)) (vs x3) (vs' x3)

/-- The sums as the body forms them: from the tiles it loads back. -/
def rawSums (x0 : Vec F S1x2048x256 .bf16) (x1 : Vec F S1x4352x256 .bf16) (x3 : Vec F S1x4352x128 .bf16) (r h : Fin 2) (L : List (View.Piece (Elt F) S1024x4352 .f32))
    (v : View sig .tc .vmem S1024x4352 .f32) : FVec F S1024x256 .f32 :=
  weighted (spread (top x0 x1 r h)) (fun j => v.readCov L (tileRect j).toLoadRect) (vs x3) (vs' x3)

theorem rawSums_eq (x0 : Vec F S1x2048x256 .bf16) (x1 : Vec F S1x4352x256 .bf16) (x3 : Vec F S1x4352x128 .bf16) (r h : Fin 2) (L : List (View.Piece (Elt F) S1024x4352 .f32))
    (v : View sig .tc .vmem S1024x4352 .f32) : rawSums x0 x1 x3 r h (stores x0 x1 r h ++ L) v = sums x0 x1 x3 r h L := by
  unfold rawSums sums tiles
  congr 1
  funext j
  exact View.readCov_eq_canon' v _ _

end Cert.KernelIdeal.Attention

end
-- ==== Proof.Attention.Softmax.lean ====
/- Softmax attention of one row over the extended reals. `att s v` is the weighted mean of the values `v` with weights `2 ^ s`. Subtracting a real number from every score
   changes nothing (`att_sub`), whether the division comes after the sum, as in the kernel, or before it, as in the reference (`att_ref`). -/
module

public import Idealize.ShloMosaic.Lib.Pipeline.ValueKit
public import Mathlib.Analysis.SpecialFunctions.Pow.Real

@[expose] public section

noncomputable section

namespace Cert.Attention

open Idealize.ShloMosaic

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.max {x y : EReal} (hx : IsReal x) (hy : IsReal y) : IsReal (max x y) := by
  rcases max_choice x y with h | h <;> rw [h] <;> assumption
theorem IsReal.zero : IsReal 0 := ⟨0, EReal.coe_zero.symm⟩
theorem IsReal.sum {ι : Type*} (s : Finset ι) (f : ι → EReal) (h : ∀ i, IsReal (f i)) : IsReal (∑ i ∈ s, f i) :=
  Finset.sum_induction f IsReal (fun _ _ => IsReal.add) IsReal.zero fun i _ => h i

/-- The maximum of a nonempty list of real numbers, taken from minus infinity on, is a real number. -/
theorem IsReal.fold {ι : Type*} (s : Finset ι) (f : ι → EReal) (h : ∀ i, IsReal (f i)) (hs : s.Nonempty) :
    IsReal (s.fold Max.max ⊥ f) := by
  classical
  induction hs using Finset.Nonempty.cons_induction with
  | singleton a => rw [Finset.fold_singleton, max_bot_right]; exact h a
  | cons a s ha _ ih => rw [Finset.fold_cons]; exact (h a).max ih

/-- Not infinite, so real. -/
theorem isReal_of_abs_lt (x : EReal) (h : Max.max x (-x) < ⊤) : IsReal x := by
  induction x with
  | bot => simp at h
  | top => simp at h
  | coe r => exact ⟨r, rfl⟩

/-- The mean of the values with weights `2 ^ s`. -/
def att {n : ℕ} (s v : Fin n → EReal) : EReal := ∑ j, v j * Ideal.div (Ideal.exp2 (s j)) (∑ i, Ideal.exp2 (s i))

/-- A nonnegative real factor goes into a sum of extended reals. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem exp2_sub (r m : ℝ) : Ideal.exp2 ((r : EReal) - (m : EReal)) = (((2 : ℝ) ^ (-m) * (2 : ℝ) ^ r : ℝ) : EReal) := by
  rw [← EReal.coe_sub, Ideal.exp2_coe, ← Real.rpow_add two_pos, show -m + r = r - m by ring]; rfl

theorem exp2_real (r : ℝ) : Ideal.exp2 (r : EReal) = (((2 : ℝ) ^ r : ℝ) : EReal) := rfl

theorem sum_pos' {n : ℕ} (hn : 0 < n) (r : Fin n → ℝ) : 0 < ∑ i, (2 : ℝ) ^ r i :=
  Finset.sum_pos (fun i _ => Real.rpow_pos_of_pos two_pos _) ⟨⟨0, hn⟩, Finset.mem_univ _⟩

/-- `att` of real scores, its weights spelt out. -/
theorem att_real {n : ℕ} (hn : 0 < n) (r : Fin n → ℝ) (v : Fin n → EReal) :
    att (fun j => (r j : EReal)) v = ∑ j, v j * (((2 : ℝ) ^ r j * (1 / ∑ i, (2 : ℝ) ^ r i) : ℝ) : EReal) := by
  unfold att
  simp only [exp2_real, coe_sum]
  refine Finset.sum_congr rfl fun j _ => ?_
  rw [Ideal.div_coe (sum_pos' hn r).ne', EReal.coe_mul]

/-- The kernel's form: the scores less a real number, and the division after the sums. -/
theorem att_sub {n : ℕ} (hn : 0 < n) (s v : Fin n → EReal) (m : EReal) (hs : ∀ j, IsReal (s j)) (hm : IsReal m) :
    Ideal.div (∑ j, Ideal.exp2 (s j - m) * v j) (∑ j, Ideal.exp2 (s j - m) * 1) = att s v := by
  choose r hr using hs
  obtain ⟨m, rfl⟩ := hm
  obtain rfl : s = fun j => (r j : EReal) := funext hr
  have hc : 0 < (2 : ℝ) ^ (-m) := Real.rpow_pos_of_pos two_pos _
  have hZ := sum_pos' hn r
  rw [att_real hn]
  simp only [exp2_sub, mul_one, coe_sum, ← Finset.mul_sum]
  rw [Ideal.div_coe (mul_pos hc hZ).ne', sum_mul_real _ _ _ (one_div_nonneg.mpr (mul_pos hc hZ).le)]
  refine Finset.sum_congr rfl fun j _ => ?_
  rw [mul_comm _ (v j), mul_assoc, ← EReal.coe_mul]
  congr 2
  field_simp

/-- The reference's form: the same, with the division before the sum and the power written as one. -/
theorem att_ref {n : ℕ} (hn : 0 < n) (s v : Fin n → EReal) (m : EReal) (hs : ∀ j, IsReal (s j)) (hm : IsReal m) :
    ∑ j, v j * Ideal.div (Ideal.pow 2 (s j - m)) (∑ i, Ideal.pow 2 (s i - m)) = att s v := by
  choose r hr using hs
  obtain ⟨m, rfl⟩ := hm
  obtain rfl : s = fun j => (r j : EReal) := funext hr
  have hc : 0 < (2 : ℝ) ^ (-m) := Real.rpow_pos_of_pos two_pos _
  have hZ := sum_pos' hn r
  have hp : ∀ j, Ideal.pow 2 ((r j : EReal) - (m : EReal)) = (((2 : ℝ) ^ (-m) * (2 : ℝ) ^ r j : ℝ) : EReal) := fun j => by
    rw [← exp2_sub, ← EReal.coe_sub]; rfl
  rw [att_real hn]
  simp only [hp, coe_sum, ← Finset.mul_sum]
  refine Finset.sum_congr rfl fun j _ => ?_
  rw [Ideal.div_coe (mul_pos hc hZ).ne', ← EReal.coe_mul]
  congr 2
  field_simp

/-- Softmax attention with base 2, heads side by side: 128 columns of queries and keys and 64 columns of values to a head. -/
def attention
    (q : (⟨3, ![8, 4096, 1024]⟩ : Shape).Idx → EReal) (k : (⟨3, ![8, 4352, 1024]⟩ : Shape).Idx → EReal) (v : (⟨3, ![8, 4352, 512]⟩ : Shape).Idx → EReal) (b : Fin 8) (i : Fin 4096) (e : Fin 512) : EReal :=
  att (fun j : Fin 4352 => ∑ d : Fin 128, q (ix3 b i ⟨e.val / 64 * 128 + d.val, by omega⟩) * k (ix3 b j ⟨e.val / 64 * 128 + d.val, by omega⟩)) fun j => v (ix3 b j e)

end Cert.Attention

end
-- ==== Proof.Attention.Arith.lean ====
/- What the attention's arithmetic computes over the extended reals, entry by entry: the score of a row against a key (`score`), the nine stores of a score matrix read
   back as that function (`canon_stores`), real maxima from real scores, and the quotients `pair` leaves as the softmax attention `att` (`pair_apply`). -/
module

public import proofs.«01_k».proof.Proof.Attention.Words
public import proofs.«01_k».proof.Proof.Attention.Softmax

@[expose] public section

set_option maxRecDepth 16384

noncomputable section

namespace Cert.KernelIdeal.Attention

open Cert.KernelIdeal Cert.KernelIdeal.Gen Idealize.ShloMosaic Idealize.ShloMosaic.TcCoe Idealize.SL.Sem Cert.Attention

/-! ## The scores -/

/-- Row `i` of half `r` against key `j`, in head `h` of the group. -/
def score (x0 : Vec Ideal S1x2048x256 .bf16) (x1 : Vec Ideal S1x4352x256 .bf16) (r h : Fin 2) (i : Fin 1024) (j : Fin 4352) : EReal :=
  ∑ d : Fin 128, x0 (ix3 0 ⟨1024 * r.val + i.val, by omega⟩ ⟨128 * h.val + d.val, by omega⟩) * x1 (ix3 0 j ⟨128 * h.val + d.val, by omega⟩)

theorem qs_apply (x0 : Vec Ideal S1x2048x256 .bf16) (r h : Fin 2) (i : Fin 1024) (d : Fin 128) :
    qs x0 r h (ix2 i d) = x0 (ix3 0 ⟨1024 * r.val + i.val, by omega⟩ ⟨128 * h.val + d.val, by omega⟩) := by
  unfold qs
  generalize hz : View.ld x0 (rowRect r h) = z
  have : rows z (ix2 i d) = z (ix3 0 i d) := by pointwise [rows]
  rw [this, ← hz]
  refine congrArg x0 ?_
  funext a; refine Fin.ext ?_; fin_cases a <;> simp [LoadRect.idx, Rect.toLoadRect, rowRect, Rect.unit]

theorem ks_apply (x1 : Vec Ideal S1x4352x256 .bf16) (h : Fin 2) (j : Fin 8) (x : Fin 512) (d : Fin 128) :
    ks x1 h j (ix3 0 x d) = x1 (ix3 0 ⟨512 * j.val + x.val, by omega⟩ ⟨128 * h.val + d.val, by omega⟩) := by
  refine congrArg x1 ?_
  funext a; refine Fin.ext ?_; fin_cases a <;> simp [LoadRect.idx, Rect.toLoadRect, keyRect, Rect.unit]

theorem ks'_apply (x1 : Vec Ideal S1x4352x256 .bf16) (h : Fin 2) (x : Fin 256) (d : Fin 128) :
    ks' x1 h (ix3 0 x d) = x1 (ix3 0 ⟨4096 + x.val, by omega⟩ ⟨128 * h.val + d.val, by omega⟩) := by
  refine congrArg x1 ?_
  funext a; refine Fin.ext ?_; fin_cases a <;> simp [LoadRect.idx, Rect.toLoadRect, keyRect', Rect.unit]

theorem vs_apply (x : Vec Ideal S1x4352x128 .bf16) (j : Fin 8) (k : Fin 512) (d : Fin 128) :
    vs x j (ix3 0 k d) = x (ix3 0 ⟨512 * j.val + k.val, by omega⟩ d) := by
  refine congrArg x ?_
  funext a; refine Fin.ext ?_; fin_cases a <;> simp [LoadRect.idx, Rect.toLoadRect, valRect, Rect.unit]

theorem vs'_apply (x : Vec Ideal S1x4352x128 .bf16) (k : Fin 256) (d : Fin 128) :
    vs' x (ix3 0 k d) = x (ix3 0 ⟨4096 + k.val, by omega⟩ d) := by
  refine congrArg x ?_
  funext a; refine Fin.ext ?_; fin_cases a <;> simp [LoadRect.idx, Rect.toLoadRect, valRect', Rect.unit]

theorem scores_sum (q : FVec Ideal S1024x128 .bf16) (k : Vec Ideal S1x512x128 .bf16) (i : Fin 1024) (x : Fin 512) :
    scores q k (ix2 i x) = ∑ d : Fin 128, q (ix2 i d) * k (ix3 0 x d) := by
  pointwise [scores]

theorem scores'_sum (q : FVec Ideal S1024x128 .bf16) (k : Vec Ideal S1x256x128 .bf16) (i : Fin 1024) (x : Fin 256) :
    scores' q k (ix2 i x) = ∑ d : Fin 128, q (ix2 i d) * k (ix3 0 x d) := by
  pointwise [scores']

theorem scores_apply (x0 : Vec Ideal S1x2048x256 .bf16) (x1 : Vec Ideal S1x4352x256 .bf16) (r h : Fin 2) (j : Fin 8) (i : Fin 1024) (x : Fin 512) :
    scores (qs x0 r h) (ks x1 h j) (ix2 i x) = score x0 x1 r h i ⟨512 * j.val + x.val, by omega⟩ := by
  rw [scores_sum]
  exact Finset.sum_congr rfl fun d _ => congrArg₂ (· * ·) (qs_apply x0 r h i d) (ks_apply x1 h j x d)

theorem scores'_apply (x0 : Vec Ideal S1x2048x256 .bf16) (x1 : Vec Ideal S1x4352x256 .bf16) (r h : Fin 2) (i : Fin 1024) (x : Fin 256) :
    scores' (qs x0 r h) (ks' x1 h) (ix2 i x) = score x0 x1 r h i ⟨4096 + x.val, by omega⟩ := by
  rw [scores'_sum]
  exact Finset.sum_congr rfl fun d _ => congrArg₂ (· * ·) (qs_apply x0 r h i d) (ks'_apply x1 h x d)

/-! ## The stored score matrix -/

/-- A whole score matrix, entry by entry. -/
def scoreMat (x0 : Vec Ideal S1x2048x256 .bf16) (x1 : Vec Ideal S1x4352x256 .bf16) (r h : Fin 2) : Vec Ideal S1024x4352 .f32 :=
  fun y => score x0 x1 r h (y 0) (y 1)

theorem piece (x0 : Vec Ideal S1x2048x256 .bf16) (x1 : Vec Ideal S1x4352x256 .bf16) (r h : Fin 2) (j : Fin 8) (o : ℕ) (ho : o = 512 * j.val)
    (hin : ∀ a, (![0, o] : Fin 2 → ℕ) a + S1024x512.size a ≤ S1024x4352.size a) (x : S1024x512.Idx) :
    shapeCast S1024x512 (scores (qs x0 r h) (ks x1 h j)) shapeCasts_S1024x512_S1024x512 x = scoreMat x0 x1 r h ((Rect.unit ![0, o] S1024x512.size hin : Rect S1024x4352).emb x) := by
  subst ho
  rw [shapeCast_self, eq_ix2 x]
  refine (scores_apply x0 x1 r h j (x 0) (x 1)).trans ?_
  refine congrArg₂ (score x0 x1 r h) (Fin.ext ?_) (Fin.ext ?_) <;> simp [Rect.emb, Rect.unit]

theorem piece' (x0 : Vec Ideal S1x2048x256 .bf16) (x1 : Vec Ideal S1x4352x256 .bf16) (r h : Fin 2)
    (hin : ∀ a, (![0, 4096] : Fin 2 → ℕ) a + S1024x256.size a ≤ S1024x4352.size a) (x : S1024x256.Idx) :
    shapeCast S1024x256 (scores' (qs x0 r h) (ks' x1 h)) shapeCasts_S1024x256_S1024x256 x = scoreMat x0 x1 r h ((Rect.unit ![0, 4096] S1024x256.size hin : Rect S1024x4352).emb x) := by
  rw [shapeCast_self, eq_ix2 x]
  refine (scores'_apply x0 x1 r h (x 0) (x 1)).trans ?_
  refine congrArg₂ (score x0 x1 r h) (Fin.ext ?_) (Fin.ext ?_) <;> simp [Rect.emb, Rect.unit]

/-- The nine stores cover the matrix, whatever was there before. -/
theorem canon_stores (x0 : Vec Ideal S1x2048x256 .bf16) (x1 : Vec Ideal S1x4352x256 .bf16) (r h : Fin 2) (L : List (View.Piece (Elt Ideal) S1024x4352 .f32)) :
    View.canon (Val := Elt Ideal) (s := S1024x4352) (stores x0 x1 r h ++ L) = scoreMat x0 x1 r h := by
  funext y
  refine View.canon_append_of_piecesOf (scoreMat x0 x1 r h) L (stores x0 x1 r h) ?_ y ?_
  · exact ⟨piece' x0 x1 r h inb_S1024x4352_S1024x256_0_4096, piece x0 x1 r h 7 _ rfl inb_S1024x4352_S1024x512_0_3584, piece x0 x1 r h 6 _ rfl inb_S1024x4352_S1024x512_0_3072, piece x0 x1 r h 5 _ rfl inb_S1024x4352_S1024x512_0_2560, piece x0 x1 r h 4 _ rfl inb_S1024x4352_S1024x512_0_2048,
      piece x0 x1 r h 3 _ rfl inb_S1024x4352_S1024x512_0_1536, piece x0 x1 r h 2 _ rfl inb_S1024x4352_S1024x512_0_1024, piece x0 x1 r h 1 _ rfl inb_S1024x4352_S1024x512_0_512, piece x0 x1 r h 0 _ rfl inb_S1024x4352_S1024x512_0_0, trivial⟩
  · exact View.cover_of_tiledBy (stores x0 x1 r h) ![1024, 256] (by sl_kernel_rfl) y

theorem tilesOf_apply (x0 : Vec Ideal S1x2048x256 .bf16) (x1 : Vec Ideal S1x4352x256 .bf16) (r h : Fin 2) (j : Fin 34) (i : Fin 1024) (l : Fin 128) :
    tilesOf (scoreMat x0 x1 r h) j (ix2 i l) = score x0 x1 r h i ⟨128 * j.val + l.val, by omega⟩ := by
  refine congrArg₂ (score x0 x1 r h) (Fin.ext ?_) (Fin.ext ?_) <;> simp [LoadRect.idx, Rect.toLoadRect, tileRect, Rect.unit]

theorem tiles_stores (x0 : Vec Ideal S1x2048x256 .bf16) (x1 : Vec Ideal S1x4352x256 .bf16) (r h : Fin 2) (L : List (View.Piece (Elt Ideal) S1024x4352 .f32)) :
    tiles (stores x0 x1 r h ++ L) = tilesOf (scoreMat x0 x1 r h) := by
  funext j y
  exact congrFun (canon_stores x0 x1 r h L) _

/-! ## The maxima are real -/

theorem tileMax_real (s : FVec Ideal S1024x512 .f32) (i : Fin 1024) (l : Fin 128) (hs : ∀ x, IsReal (s (ix2 i x))) : IsReal (tileMax s (ix2 i l)) := by
  pointwise [tileMax]
  exact (((hs _).max (hs _)).max (hs _)).max (hs _)

theorem tileMax'_real (s : FVec Ideal S1024x256 .f32) (i : Fin 1024) (l : Fin 128) (hs : ∀ x, IsReal (s (ix2 i x))) : IsReal (tileMax' s (ix2 i l)) := by
  pointwise [tileMax']
  exact (hs _).max (hs _)

theorem top_real (x0 : Vec Ideal S1x2048x256 .bf16) (x1 : Vec Ideal S1x4352x256 .bf16) (r h : Fin 2) (i : Fin 1024)
    (hs : ∀ j, IsReal (score x0 x1 r h i j)) (l : Fin 128) : IsReal (top x0 x1 r h (ix2 i l)) := by
  have a : ∀ j, IsReal (tileMax (scores (qs x0 r h) (ks x1 h j)) (ix2 i l)) := fun j =>
    tileMax_real _ i l fun x => by rw [scores_apply]; exact hs _
  have b : IsReal (tileMax' (scores' (qs x0 r h) (ks' x1 h)) (ix2 i l)) := tileMax'_real _ i l fun x => by rw [scores'_apply]; exact hs _
  exact ((((((((a 0).max (a 1)).max (a 2)).max (a 3)).max (a 4)).max (a 5)).max (a 6)).max (a 7)).max b

/-- The maximum of a row. -/
def rowTop (m : FVec Ideal S1024x128 .f32) (i : Fin 1024) : EReal := Finset.univ.fold max ⊥ fun x : Fin 128 => m (ix2 i x)

theorem spread_apply (m : FVec Ideal S1024x128 .f32) (i : Fin 1024) (l : Fin 128) : spread m (ix2 i l) = rowTop m i := by
  pointwise [spread]
  rfl

theorem rowTop_real (m : FVec Ideal S1024x128 .f32) (i : Fin 1024) (hm : ∀ l, IsReal (m (ix2 i l))) : IsReal (rowTop m i) :=
  IsReal.fold _ _ hm Finset.univ_nonempty

/-! ## The weighted sums -/

/-- Column `c` of `[values | ones]`. -/
def col (v : Fin 4352 → Fin 128 → EReal) (c : Fin 256) (k : Fin 4352) : EReal := if h : c.val < 128 then v k ⟨c.val, h⟩ else 1

theorem part_apply (m t0 t1 t2 t3 : FVec Ideal S1024x128 .f32) (v : Vec Ideal S1x512x128 .bf16) (i : Fin 1024) (c : Fin 256) (M : EReal) (g : Fin 512 → EReal)
    (hm : ∀ l, m (ix2 i l) = M) (h0 : ∀ l : Fin 128, t0 (ix2 i l) = g ⟨l.val, by omega⟩) (h1 : ∀ l : Fin 128, t1 (ix2 i l) = g ⟨128 + l.val, by omega⟩)
    (h2 : ∀ l : Fin 128, t2 (ix2 i l) = g ⟨256 + l.val, by omega⟩) (h3 : ∀ l : Fin 128, t3 (ix2 i l) = g ⟨384 + l.val, by omega⟩) :
    part m t0 t1 t2 t3 v (ix2 i c) = ∑ x : Fin 512, Ideal.exp2 (g x - M) * (if h : c.val < 128 then v (ix3 0 x ⟨c.val, h⟩) else 1) := by
  pointwise [part, expo, withOnes]
  refine Finset.sum_congr rfl fun x _ => ?_
  refine congrArg₂ (· * ·) ?_ rfl
  simp only [hm, h0, h1, h2, h3]
  have hx := x.isLt
  split_ifs
  all_goals first
    | exact congrArg (fun z : EReal => Ideal.exp2 (z - M)) (congrArg g (Fin.ext rfl))
    | exact congrArg (fun z : EReal => Ideal.exp2 (z - M)) (congrArg g (Fin.ext (show 128 + (x.val - 128) = x.val by omega)))
    | exact congrArg (fun z : EReal => Ideal.exp2 (z - M)) (congrArg g (Fin.ext (show 256 + (x.val - 128 - 128) = x.val by omega)))
    | exact congrArg (fun z : EReal => Ideal.exp2 (z - M)) (congrArg g (Fin.ext (show 384 + (x.val - 128 - 128 - 128) = x.val by omega)))

theorem part'_apply (m t0 t1 : FVec Ideal S1024x128 .f32) (v : Vec Ideal S1x256x128 .bf16) (i : Fin 1024) (c : Fin 256) (M : EReal) (g : Fin 256 → EReal)
    (hm : ∀ l, m (ix2 i l) = M) (h0 : ∀ l : Fin 128, t0 (ix2 i l) = g ⟨l.val, by omega⟩) (h1 : ∀ l : Fin 128, t1 (ix2 i l) = g ⟨128 + l.val, by omega⟩) :
    part' m t0 t1 v (ix2 i c) = ∑ x : Fin 256, Ideal.exp2 (g x - M) * (if h : c.val < 128 then v (ix3 0 x ⟨c.val, h⟩) else 1) := by
  pointwise [part', expo, withOnes']
  rw [Fin.sum_univ_two_halves 128 128 rfl fun x : Fin 256 => Ideal.exp2 (g x - M) * (if h : c.val < 128 then v (ix3 0 x ⟨c.val, h⟩) else 1)]
  simp only [hm, h0, h1]
  rfl

/-- A sum over the 4352 keys, chunk by chunk. -/
theorem sum_chunks (f : Fin 4352 → EReal) :
    ∑ k, f k = ((((((((∑ x : Fin 512, f ⟨512 * 0 + x.val, by omega⟩) + ∑ x : Fin 512, f ⟨512 * 1 + x.val, by omega⟩) + ∑ x : Fin 512, f ⟨512 * 2 + x.val, by omega⟩)
      + ∑ x : Fin 512, f ⟨512 * 3 + x.val, by omega⟩) + ∑ x : Fin 512, f ⟨512 * 4 + x.val, by omega⟩) + ∑ x : Fin 512, f ⟨512 * 5 + x.val, by omega⟩)
      + ∑ x : Fin 512, f ⟨512 * 6 + x.val, by omega⟩) + ∑ x : Fin 512, f ⟨512 * 7 + x.val, by omega⟩) + ∑ x : Fin 256, f ⟨4096 + x.val, by omega⟩ := by
  rw [Fin.sum_univ_two_halves 4096 256 rfl f, Fin.sum_univ_tiles 8 512 rfl]
  refine congrArg₂ (· + ·) ?_ rfl
  rw [Fin.sum_univ_eight]
  simp only [mul_comm]
  rfl

theorem weighted_apply (m : FVec Ideal S1024x128 .f32) (t : Fin 34 → FVec Ideal S1024x128 .f32) (v : Vec Ideal S1x4352x128 .bf16) (i : Fin 1024) (c : Fin 256)
    (M : EReal) (g : Fin 4352 → EReal) (hm : ∀ l, m (ix2 i l) = M) (ht : ∀ (j : Fin 34) (l : Fin 128), t j (ix2 i l) = g ⟨128 * j.val + l.val, by omega⟩) :
    weighted m t (vs v) (vs' v) (ix2 i c) = ∑ k : Fin 4352, Ideal.exp2 (g k - M) * col (fun k l => v (ix3 0 k l)) c k := by
  have P : ∀ (j : Fin 8) (j0 j1 j2 j3 : Fin 34), j0.val = 4 * j.val → j1.val = 4 * j.val + 1 → j2.val = 4 * j.val + 2 → j3.val = 4 * j.val + 3 →
      part m (t j0) (t j1) (t j2) (t j3) (vs v j) (ix2 i c)
        = ∑ x : Fin 512, (fun k : Fin 4352 => Ideal.exp2 (g k - M) * col (fun k l => v (ix3 0 k l)) c k) ⟨512 * j.val + x.val, by omega⟩ := by
    intro j j0 j1 j2 j3 e0 e1 e2 e3
    rw [part_apply m (t j0) (t j1) (t j2) (t j3) (vs v j) i c M (fun x => g ⟨512 * j.val + x.val, by omega⟩) hm
      (fun l => (ht j0 l).trans (congrArg g (Fin.ext (by show 128 * j0.val + l.val = 512 * j.val + l.val; omega))))
      (fun l => (ht j1 l).trans (congrArg g (Fin.ext (by show 128 * j1.val + l.val = 512 * j.val + (128 + l.val); omega))))
      (fun l => (ht j2 l).trans (congrArg g (Fin.ext (by show 128 * j2.val + l.val = 512 * j.val + (256 + l.val); omega))))
      (fun l => (ht j3 l).trans (congrArg g (Fin.ext (by show 128 * j3.val + l.val = 512 * j.val + (384 + l.val); omega))))]
    refine Finset.sum_congr rfl fun x _ => congrArg₂ (· * ·) rfl ?_
    unfold col
    split_ifs with hc
    · exact vs_apply v j x ⟨c.val, hc⟩
    · rfl
  have Q : part' m (t 32) (t 33) (vs' v) (ix2 i c)
        = ∑ x : Fin 256, (fun k : Fin 4352 => Ideal.exp2 (g k - M) * col (fun k l => v (ix3 0 k l)) c k) ⟨4096 + x.val, by omega⟩ := by
    rw [part'_apply m (t 32) (t 33) (vs' v) i c M (fun x => g ⟨4096 + x.val, by omega⟩) hm
      (fun l => (ht 32 l).trans (congrArg g (Fin.ext rfl)))
      (fun l => (ht 33 l).trans (congrArg g (Fin.ext (by show 128 * 33 + l.val = 4096 + (128 + l.val); omega))))]
    refine Finset.sum_congr rfl fun x _ => congrArg₂ (· * ·) rfl ?_
    unfold col
    split_ifs with hc
    · exact vs'_apply v x ⟨c.val, hc⟩
    · rfl
  rw [sum_chunks fun k => Ideal.exp2 (g k - M) * col (fun k l => v (ix3 0 k l)) c k]
  refine (congrArg₂ (· + ·) (congrArg₂ (· + ·) (congrArg₂ (· + ·) (congrArg₂ (· + ·) (congrArg₂ (· + ·) (congrArg₂ (· + ·) (congrArg₂ (· + ·) (congrArg₂ (· + ·)
    (P 0 0 1 2 3 rfl rfl rfl rfl) (P 1 4 5 6 7 rfl rfl rfl rfl)) (P 2 8 9 10 11 rfl rfl rfl rfl)) (P 3 12 13 14 15 rfl rfl rfl rfl)) (P 4 16 17 18 19 rfl rfl rfl rfl))
    (P 5 20 21 22 23 rfl rfl rfl rfl)) (P 6 24 25 26 27 rfl rfl rfl rfl)) (P 7 28 29 30 31 rfl rfl rfl rfl)) Q : _)

/-- The quotient of a weighted sum by the sum of the weights is the softmax attention. -/
theorem quotient (x0 : Vec Ideal S1x2048x256 .bf16) (x1 : Vec Ideal S1x4352x256 .bf16) (v : Vec Ideal S1x4352x128 .bf16) (r h : Fin 2) (i : Fin 1024) (l : Fin 128)
    (hs : ∀ j, IsReal (score x0 x1 r h i j)) (w : FVec Ideal S1024x256 .f32)
    (hw : w = weighted (spread (top x0 x1 r h)) (tilesOf (scoreMat x0 x1 r h)) (vs v) (vs' v)) :
    Ideal.div (w (ix2 i ⟨l.val, by omega⟩)) (w (ix2 i ⟨128 + l.val, by omega⟩)) = att (score x0 x1 r h i) fun k => v (ix3 0 k l) := by
  subst hw
  rw [weighted_apply _ _ v i _ (rowTop (top x0 x1 r h) i) (score x0 x1 r h i) (spread_apply _ i) (fun j l => tilesOf_apply x0 x1 r h j i l),
    weighted_apply _ _ v i _ (rowTop (top x0 x1 r h) i) (score x0 x1 r h i) (spread_apply _ i) (fun j l => tilesOf_apply x0 x1 r h j i l),
    ← att_sub (by omega) (score x0 x1 r h i) (fun k => v (ix3 0 k l)) (rowTop (top x0 x1 r h) i) hs (rowTop_real _ i (top_real x0 x1 r h i hs))]
  refine congrArg₂ Ideal.div (Finset.sum_congr rfl fun k _ => congrArg₂ (· * ·) rfl ?_) (Finset.sum_congr rfl fun k _ => congrArg₂ (· * ·) rfl ?_)
  · exact dif_pos (show l.val < 128 from l.isLt)
  · exact dif_neg (show ¬ 128 + l.val < 128 by omega)

theorem lane_test : ∀ l : Fin 128, IntOp.cmpi .slt (BitVec.ofNat 32 l.val) 64#32 = if l.val < 64 then 1#1 else 0#1 := by decide

theorem pair_sum (a b : FVec Ideal S1024x256 .f32) (i : Fin 1024) (l : Fin 128) :
    pair a b (ix2 i l) = if l.val < 64 then Ideal.div (a (ix2 i ⟨l.val, by omega⟩)) (a (ix2 i ⟨128 + l.val, by omega⟩))
      else Ideal.div (b (ix2 i ⟨l.val, by omega⟩)) (b (ix2 i ⟨128 + l.val, by omega⟩)) := by
  pointwise [pair]
  rw [lane_test]
  split_ifs <;> rfl

/-- Lane `l` of the output of two heads: head `l / 64`. -/
theorem pair_apply (x0 : Vec Ideal S1x2048x256 .bf16) (x1 : Vec Ideal S1x4352x256 .bf16) (v : Vec Ideal S1x4352x128 .bf16) (r : Fin 2) (i : Fin 1024) (l : Fin 128)
    (hs : ∀ h j, IsReal (score x0 x1 r h i j)) (a b : FVec Ideal S1024x256 .f32)
    (ha : a = weighted (spread (top x0 x1 r 0)) (tilesOf (scoreMat x0 x1 r 0)) (vs v) (vs' v))
    (hb : b = weighted (spread (top x0 x1 r 1)) (tilesOf (scoreMat x0 x1 r 1)) (vs v) (vs' v)) :
    pair a b (ix2 i l) = att (score x0 x1 r ⟨l.val / 64, by omega⟩ i) fun k => v (ix3 0 k l) := by
  rw [pair_sum, quotient x0 x1 v r 0 i l (hs 0) a ha, quotient x0 x1 v r 1 i l (hs 1) b hb]
  split_ifs with c
  · rw [show (⟨l.val / 64, by omega⟩ : Fin 2) = 0 from Fin.ext (by show l.val / 64 = 0; omega)]
  · rw [show (⟨l.val / 64, by omega⟩ : Fin 2) = 1 from Fin.ext (by show l.val / 64 = 1; omega)]

end Cert.KernelIdeal.Attention

end
-- ==== Proof.Attention.CaseA.lean ====
/- What the body stores at the first point, which also fills the carried scratch, in the words of Words.lean. -/
module

public import proofs.«01_k».proof.Proof.Attention.Words

@[expose] public section

set_option maxRecDepth 16384

noncomputable section

namespace Cert.KernelIdeal.Attention

open Cert.KernelIdeal Cert.KernelIdeal.Gen Idealize.ShloMosaic Idealize.ShloMosaic.TcCoe Idealize.SL.Sem

variable {F : FTy → Type} [FloatOps F]

section
variable (c : Dev nD) (i : grid0.Coords) (arg1 : Memref sig .tc .vmem S1x2048x256 .bf16) (harg1 : arg1.IsWhole) (arg2 : Memref sig .tc .vmem S1x4352x256 .bf16) (harg2 : arg2.IsWhole)
  (arg3 : Memref sig .tc .vmem S1x4352x128 .bf16) (harg3 : arg3.IsWhole) (arg4 : Memref sig .tc .vmem S1x4352x128 .bf16) (harg4 : arg4.IsWhole)
  (arg5 : Memref sig .tc .vmem S1x2048x128 .bf16) (harg5 : arg5.IsWhole) (arg6 : Memref sig .tc .vmem S1024x4352 .f32) (harg6 : arg6.IsWhole)
  (arg7 : Memref sig .tc .vmem S1024x4352 .f32) (harg7 : arg7.IsWhole) (arg8 : Memref sig .tc .vmem S1024x128 .f32) (harg8 : arg8.IsWhole)
  (arg9 : Memref sig .tc .vmem S1024x256 .f32) (harg9 : arg9.IsWhole) (arg10 : Memref sig .tc .vmem S1024x128 .bf16) (harg10 : arg10.IsWhole) (hc0 : cond0_0 i)
  (x0 : Vec F S1x2048x256 .bf16) (x1 : Vec F S1x4352x256 .bf16) (x2 : Vec F S1x4352x128 .bf16) (x3 : Vec F S1x4352x128 .bf16)

theorem runA_scores_raw : (kernelRun0_A c i arg1 harg1 arg2 harg2 arg3 harg3 arg4 harg4 arg5 harg5 arg6 harg6 arg7 harg7 arg8 harg8 arg9 harg9 arg10 harg10 hc0 x0 x1 x2 x3).2.1 = stores (arg1.view.read (Elt F) (harg1.unread x0)) (arg2.view.read (Elt F) (harg2.unread x1)) 1 1 ++ (stores (arg1.view.read (Elt F) (harg1.unread x0)) (arg2.view.read (Elt F) (harg2.unread x1)) 0 1 ++ [⟨Rect.unit ![0, 0] S1024x4352.size inb_S1024x4352_S1024x4352_0_0, k0_pay2⟩]) := rfl

theorem runA_top_raw : (kernelRun0_A c i arg1 harg1 arg2 harg2 arg3 harg3 arg4 harg4 arg5 harg5 arg6 harg6 arg7 harg7 arg8 harg8 arg9 harg9 arg10 harg10 hc0 x0 x1 x2 x3).2.2.1
    = [⟨Rect.unit ![0, 0] S1024x128.size inb_S1024x128_S1024x128_0_0, shapeCast S1024x128 (top (arg1.view.read (Elt F) (harg1.unread x0)) (arg2.view.read (Elt F) (harg2.unread x1)) 1 1) shapeCasts_S1024x128_S1024x128⟩, ⟨Rect.unit ![0, 0] S1024x128.size inb_S1024x128_S1024x128_0_0, k0_pay3⟩] := rfl

theorem runA_sums_raw : (kernelRun0_A c i arg1 harg1 arg2 harg2 arg3 harg3 arg4 harg4 arg5 harg5 arg6 harg6 arg7 harg7 arg8 harg8 arg9 harg9 arg10 harg10 hc0 x0 x1 x2 x3).2.2.2.1
    = [⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 1 0 (stores (arg1.view.read (Elt F) (harg1.unread x0)) (arg2.view.read (Elt F) (harg2.unread x1)) 1 0 ++ stores (arg1.view.read (Elt F) (harg1.unread x0)) (arg2.view.read (Elt F) (harg2.unread x1)) 0 0) arg6.view) shapeCasts_S1024x256_S1024x256⟩,
       ⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 0 0 (stores (arg1.view.read (Elt F) (harg1.unread x0)) (arg2.view.read (Elt F) (harg2.unread x1)) 0 0) arg6.view) shapeCasts_S1024x256_S1024x256⟩, ⟨Rect.unit ![0, 0] S1024x256.size inb_S1024x256_S1024x256_0_0, k0_pay4⟩] := rfl

theorem runA_pair_raw : (kernelRun0_A c i arg1 harg1 arg2 harg2 arg3 harg3 arg4 harg4 arg5 harg5 arg6 harg6 arg7 harg7 arg8 harg8 arg9 harg9 arg10 harg10 hc0 x0 x1 x2 x3).2.2.2.2.1
    = [⟨Rect.unit ![0, 0] S1024x128.size inb_S1024x128_S1024x128_0_0,
        shapeCast S1024x128 (pair (arg9.view.readCov (Val := Elt F) [⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 0 0 (stores (arg1.view.read (Elt F) (harg1.unread x0)) (arg2.view.read (Elt F) (harg2.unread x1)) 0 0) arg6.view) shapeCasts_S1024x256_S1024x256⟩, ⟨Rect.unit ![0, 0] S1024x256.size inb_S1024x256_S1024x256_0_0, k0_pay4⟩]
          (Rect.unit ![0, 0] S1024x256.size inb_S1024x256_S1024x256_0_0).toLoadRect) (rawSums (arg1.view.read (Elt F) (harg1.unread x0)) (arg2.view.read (Elt F) (harg2.unread x1)) (arg4.view.read (Elt F) (harg4.unread x3)) 0 1 (stores (arg1.view.read (Elt F) (harg1.unread x0)) (arg2.view.read (Elt F) (harg2.unread x1)) 0 1 ++ [⟨Rect.unit ![0, 0] S1024x4352.size inb_S1024x4352_S1024x4352_0_0, k0_pay2⟩]) arg7.view)) shapeCasts_S1024x128_S1024x128⟩, ⟨Rect.unit ![0, 0] S1024x128.size inb_S1024x128_S1024x128_0_0, k0_pay5⟩] := rfl

/-! ## The same, as what the buffers hold -/

theorem leftA_scores : sout0_A_1 c i arg1 harg1 arg2 harg2 arg3 harg3 arg4 harg4 arg5 harg5 arg6 harg6 arg7 harg7 arg8 harg8 arg9 harg9 arg10 harg10 hc0 x0 x1 x2 x3 = View.canon (stores x0 x1 1 1 ++ (stores x0 x1 0 1 ++ [⟨Rect.unit ![0, 0] S1024x4352.size inb_S1024x4352_S1024x4352_0_0, k0_pay2⟩])) := by
  unfold sout0_A_1
  rw [View.read_writes_junk_eq_canon, runA_scores_raw c i arg1 harg1 arg2 harg2 arg3 harg3 arg4 harg4 arg5 harg5 arg6 harg6 arg7 harg7 arg8 harg8 arg9 harg9 arg10 harg10 hc0 x0 x1 x2 x3, harg1.read_unread, harg2.read_unread]

theorem leftA_top : sout0_A_2 c i arg1 harg1 arg2 harg2 arg3 harg3 arg4 harg4 arg5 harg5 arg6 harg6 arg7 harg7 arg8 harg8 arg9 harg9 arg10 harg10 hc0 x0 x1 x2 x3 = top x0 x1 1 1 := by
  unfold sout0_A_2
  rw [View.read_writes_junk_eq_canon, runA_top_raw c i arg1 harg1 arg2 harg2 arg3 harg3 arg4 harg4 arg5 harg5 arg6 harg6 arg7 harg7 arg8 harg8 arg9 harg9 arg10 harg10 hc0 x0 x1 x2 x3, harg1.read_unread, harg2.read_unread, shapeCast_self]
  exact View.canon_cons_unit_lit _ _ _ (by decide)

theorem leftA_sums : sout0_A_3 c i arg1 harg1 arg2 harg2 arg3 harg3 arg4 harg4 arg5 harg5 arg6 harg6 arg7 harg7 arg8 harg8 arg9 harg9 arg10 harg10 hc0 x0 x1 x2 x3 = sums x0 x1 x3 1 0 (stores x0 x1 0 0) := by
  unfold sout0_A_3
  rw [View.read_writes_junk_eq_canon, runA_sums_raw c i arg1 harg1 arg2 harg2 arg3 harg3 arg4 harg4 arg5 harg5 arg6 harg6 arg7 harg7 arg8 harg8 arg9 harg9 arg10 harg10 hc0 x0 x1 x2 x3, harg1.read_unread, harg2.read_unread, harg4.read_unread, shapeCast_self, rawSums_eq]
  exact View.canon_cons_unit_lit _ _ _ (by decide)

theorem leftA_pair : sout0_A_4 c i arg1 harg1 arg2 harg2 arg3 harg3 arg4 harg4 arg5 harg5 arg6 harg6 arg7 harg7 arg8 harg8 arg9 harg9 arg10 harg10 hc0 x0 x1 x2 x3 = pair (sums x0 x1 x3 0 0 []) (sums x0 x1 x3 0 1 [⟨Rect.unit ![0, 0] S1024x4352.size inb_S1024x4352_S1024x4352_0_0, k0_pay2⟩]) := by
  unfold sout0_A_4
  have e0 : ∀ v, rawSums x0 x1 x3 0 0 (stores x0 x1 0 0) v = sums x0 x1 x3 0 0 [] := fun v => by rw [← rawSums_eq _ _ _ _ _ _ v, List.append_nil]
  have e1 : ∀ v, rawSums x0 x1 x3 0 1 (stores x0 x1 0 1 ++ [⟨Rect.unit ![0, 0] S1024x4352.size inb_S1024x4352_S1024x4352_0_0, k0_pay2⟩]) v = sums x0 x1 x3 0 1 [⟨Rect.unit ![0, 0] S1024x4352.size inb_S1024x4352_S1024x4352_0_0, k0_pay2⟩] := fun v => by rw [← rawSums_eq _ _ _ _ _ _ v]
  rw [View.read_writes_junk_eq_canon, runA_pair_raw c i arg1 harg1 arg2 harg2 arg3 harg3 arg4 harg4 arg5 harg5 arg6 harg6 arg7 harg7 arg8 harg8 arg9 harg9 arg10 harg10 hc0 x0 x1 x2 x3, harg1.read_unread, harg2.read_unread, harg4.read_unread, shapeCast_self, shapeCast_self, e0, e1]
  refine (View.canon_cons_unit_lit _ _ _ (by decide)).trans ?_
  exact congrArg (pair · _) (View.readCov_cons_toLoadRect _ _ _ _)

end

end Cert.KernelIdeal.Attention

end
-- ==== Proof.Attention.CaseB.lean ====
/- What the body stores at a point after the first, in the words of Words.lean. -/
module

public import proofs.«01_k».proof.Proof.Attention.Words

@[expose] public section

set_option maxRecDepth 16384

noncomputable section

namespace Cert.KernelIdeal.Attention

open Cert.KernelIdeal Cert.KernelIdeal.Gen Idealize.ShloMosaic Idealize.ShloMosaic.TcCoe Idealize.SL.Sem

variable {F : FTy → Type} [FloatOps F]

section
variable (c : Dev nD) (i : grid0.Coords) (arg1 : Memref sig .tc .vmem S1x2048x256 .bf16) (harg1 : arg1.IsWhole) (arg2 : Memref sig .tc .vmem S1x4352x256 .bf16) (harg2 : arg2.IsWhole)
  (arg3 : Memref sig .tc .vmem S1x4352x128 .bf16) (harg3 : arg3.IsWhole) (arg4 : Memref sig .tc .vmem S1x4352x128 .bf16) (harg4 : arg4.IsWhole)
  (arg5 : Memref sig .tc .vmem S1x2048x128 .bf16) (harg5 : arg5.IsWhole) (arg6 : Memref sig .tc .vmem S1024x4352 .f32) (harg6 : arg6.IsWhole)
  (arg7 : Memref sig .tc .vmem S1024x4352 .f32) (harg7 : arg7.IsWhole) (arg8 : Memref sig .tc .vmem S1024x128 .f32) (harg8 : arg8.IsWhole)
  (arg9 : Memref sig .tc .vmem S1024x256 .f32) (harg9 : arg9.IsWhole) (arg10 : Memref sig .tc .vmem S1024x128 .bf16) (harg10 : arg10.IsWhole) (hc0 : ¬cond0_0 i)
  (x0 : Vec F S1x2048x256 .bf16) (x1 : Vec F S1x4352x256 .bf16) (x2 : Vec F S1x4352x128 .bf16) (x3 : Vec F S1x4352x128 .bf16)
  (xs1 : Vec F S1024x4352 .f32) (xs2 : Vec F S1024x128 .f32) (xs3 : Vec F S1024x256 .f32) (xs4 : Vec F S1024x128 .bf16)

/-- The two stores of the output block, over what the loads read of the carried scratch. -/
theorem runB_out_raw :
    (kernelRun0_B c i arg1 harg1 arg2 harg2 arg3 harg3 arg4 harg4 arg5 harg5 arg6 harg6 arg7 harg7 arg8 harg8 arg9 harg9 arg10 harg10 hc0 x0 x1 x2 x3 xs1 xs2 xs3 xs4).1
    = [⟨Rect.unit ![0, 1024, 0] S1x1024x128.size inb_S1x2048x128_S1x1024x128_0_1024_0,
        shapeCast S1x1024x128 (pair (View.ld (arg9.view.read (Elt F) (harg9.unread xs3)) (Rect.unit ![0, 0] S1024x256.size inb_S1024x256_S1024x256_0_0))
          (weighted (spread (View.ld (arg8.view.read (Elt F) (harg8.unread xs2)) (Rect.unit ![0, 0] S1024x128.size inb_S1024x128_S1024x128_0_0)))
            (tilesOf (arg7.view.read (Elt F) (harg7.unread xs1))) (vs (arg3.view.read (Elt F) (harg3.unread x2))) (vs' (arg3.view.read (Elt F) (harg3.unread x2)))))
          shapeCasts_S1024x128_S1x1024x128⟩,
       ⟨Rect.unit ![0, 0, 0] S1x1024x128.size inb_S1x2048x128_S1x1024x128_0_0_0,
        shapeCast S1x1024x128 (View.ld (arg10.view.read (Elt F) (harg10.unread xs4)) (Rect.unit ![0, 0] S1024x128.size inb_S1024x128_S1024x128_0_0)) shapeCasts_S1024x128_S1x1024x128⟩] := by
  rfl

theorem runB_scores_raw : (kernelRun0_B c i arg1 harg1 arg2 harg2 arg3 harg3 arg4 harg4 arg5 harg5 arg6 harg6 arg7 harg7 arg8 harg8 arg9 harg9 arg10 harg10 hc0 x0 x1 x2 x3 xs1 xs2 xs3 xs4).2.1 = stores (arg1.view.read (Elt F) (harg1.unread x0)) (arg2.view.read (Elt F) (harg2.unread x1)) 1 1 ++ stores (arg1.view.read (Elt F) (harg1.unread x0)) (arg2.view.read (Elt F) (harg2.unread x1)) 0 1 := rfl

theorem runB_top_raw : (kernelRun0_B c i arg1 harg1 arg2 harg2 arg3 harg3 arg4 harg4 arg5 harg5 arg6 harg6 arg7 harg7 arg8 harg8 arg9 harg9 arg10 harg10 hc0 x0 x1 x2 x3 xs1 xs2 xs3 xs4).2.2.1
    = [⟨Rect.unit ![0, 0] S1024x128.size inb_S1024x128_S1024x128_0_0, shapeCast S1024x128 (top (arg1.view.read (Elt F) (harg1.unread x0)) (arg2.view.read (Elt F) (harg2.unread x1)) 1 1) shapeCasts_S1024x128_S1024x128⟩] := rfl

theorem runB_sums_raw : (kernelRun0_B c i arg1 harg1 arg2 harg2 arg3 harg3 arg4 harg4 arg5 harg5 arg6 harg6 arg7 harg7 arg8 harg8 arg9 harg9 arg10 harg10 hc0 x0 x1 x2 x3 xs1 xs2 xs3 xs4).2.2.2.1
    = [⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 1 0 (stores (arg1.view.read (Elt F) (harg1.unread x0)) (arg2.view.read (Elt F) (harg2.unread x1)) 1 0 ++ stores (arg1.view.read (Elt F) (harg1.unread x0)) (arg2.view.read (Elt F) (harg2.unread x1)) 0 0) arg6.view) shapeCasts_S1024x256_S1024x256⟩,
       ⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 0 0 (stores (arg1.view.read (Elt F) (harg1.unread x0)) (arg2.view.read (Elt F) (harg2.unread x1)) 0 0) arg6.view) shapeCasts_S1024x256_S1024x256⟩] := rfl

theorem runB_pair_raw : (kernelRun0_B c i arg1 harg1 arg2 harg2 arg3 harg3 arg4 harg4 arg5 harg5 arg6 harg6 arg7 harg7 arg8 harg8 arg9 harg9 arg10 harg10 hc0 x0 x1 x2 x3 xs1 xs2 xs3 xs4).2.2.2.2.1
    = [⟨Rect.unit ![0, 0] S1024x128.size inb_S1024x128_S1024x128_0_0,
        shapeCast S1024x128 (pair (arg9.view.readCov (Val := Elt F) [⟨Rect.unit ![0, 0] S1024x256.size inb_S1024x256_S1024x256_0_0,
        shapeCast S1024x256 (rawSums (arg1.view.read (Elt F) (harg1.unread x0)) (arg2.view.read (Elt F) (harg2.unread x1)) (arg4.view.read (Elt F) (harg4.unread x3)) 0 0 (stores (arg1.view.read (Elt F) (harg1.unread x0)) (arg2.view.read (Elt F) (harg2.unread x1)) 0 0) arg6.view) shapeCasts_S1024x256_S1024x256⟩]
          (Rect.unit ![0, 0] S1024x256.size inb_S1024x256_S1024x256_0_0).toLoadRect) (rawSums (arg1.view.read (Elt F) (harg1.unread x0)) (arg2.view.read (Elt F) (harg2.unread x1)) (arg4.view.read (Elt F) (harg4.unread x3)) 0 1 (stores (arg1.view.read (Elt F) (harg1.unread x0)) (arg2.view.read (Elt F) (harg2.unread x1)) 0 1) arg7.view)) shapeCasts_S1024x128_S1024x128⟩] := rfl

/-! ## The same, as what the buffers hold -/

theorem leftB_scores : sout0_B_1 c i arg1 harg1 arg2 harg2 arg3 harg3 arg4 harg4 arg5 harg5 arg6 harg6 arg7 harg7 arg8 harg8 arg9 harg9 arg10 harg10 hc0 x0 x1 x2 x3 xs1 xs2 xs3 xs4 = View.canon (stores x0 x1 1 1 ++ stores x0 x1 0 1) := by
  unfold sout0_B_1
  rw [View.read_writes_junk_eq_canon, runB_scores_raw c i arg1 harg1 arg2 harg2 arg3 harg3 arg4 harg4 arg5 harg5 arg6 harg6 arg7 harg7 arg8 harg8 arg9 harg9 arg10 harg10 hc0 x0 x1 x2 x3 xs1 xs2 xs3 xs4, harg1.read_unread, harg2.read_unread]

theorem leftB_top : sout0_B_2 c i arg1 harg1 arg2 harg2 arg3 harg3 arg4 harg4 arg5 harg5 arg6 harg6 arg7 harg7 arg8 harg8 arg9 harg9 arg10 harg10 hc0 x0 x1 x2 x3 xs1 xs2 xs3 xs4 = top x0 x1 1 1 := by
  unfold sout0_B_2
  rw [View.read_writes_junk_eq_canon, runB_top_raw c i arg1 harg1 arg2 harg2 arg3 harg3 arg4 harg4 arg5 harg5 arg6 harg6 arg7 harg7 arg8 harg8 arg9 harg9 arg10 harg10 hc0 x0 x1 x2 x3 xs1 xs2 xs3 xs4, harg1.read_unread, harg2.read_unread, shapeCast_self]
  exact View.canon_cons_unit_lit _ _ _ (by decide)

theorem leftB_sums : sout0_B_3 c i arg1 harg1 arg2 harg2 arg3 harg3 arg4 harg4 arg5 harg5 arg6 harg6 arg7 harg7 arg8 harg8 arg9 harg9 arg10 harg10 hc0 x0 x1 x2 x3 xs1 xs2 xs3 xs4 = sums x0 x1 x3 1 0 (stores x0 x1 0 0) := by
  unfold sout0_B_3
  rw [View.read_writes_junk_eq_canon, runB_sums_raw c i arg1 harg1 arg2 harg2 arg3 harg3 arg4 harg4 arg5 harg5 arg6 harg6 arg7 harg7 arg8 harg8 arg9 harg9 arg10 harg10 hc0 x0 x1 x2 x3 xs1 xs2 xs3 xs4, harg1.read_unread, harg2.read_unread, harg4.read_unread, shapeCast_self, rawSums_eq]
  exact View.canon_cons_unit_lit _ _ _ (by decide)

theorem leftB_pair : sout0_B_4 c i arg1 harg1 arg2 harg2 arg3 harg3 arg4 harg4 arg5 harg5 arg6 harg6 arg7 harg7 arg8 harg8 arg9 harg9 arg10 harg10 hc0 x0 x1 x2 x3 xs1 xs2 xs3 xs4 = pair (sums x0 x1 x3 0 0 []) (sums x0 x1 x3 0 1 []) := by
  unfold sout0_B_4
  have e0 : ∀ v, rawSums x0 x1 x3 0 0 (stores x0 x1 0 0) v = sums x0 x1 x3 0 0 [] := fun v => by rw [← rawSums_eq _ _ _ _ _ _ v, List.append_nil]
  have e1 : ∀ v, rawSums x0 x1 x3 0 1 (stores x0 x1 0 1) v = sums x0 x1 x3 0 1 [] := fun v => by rw [← rawSums_eq _ _ _ _ _ _ v, List.append_nil]
  rw [View.read_writes_junk_eq_canon, runB_pair_raw c i arg1 harg1 arg2 harg2 arg3 harg3 arg4 harg4 arg5 harg5 arg6 harg6 arg7 harg7 arg8 harg8 arg9 harg9 arg10 harg10 hc0 x0 x1 x2 x3 xs1 xs2 xs3 xs4, harg1.read_unread, harg2.read_unread, harg4.read_unread, shapeCast_self, shapeCast_self, e0, e1]
  refine (View.canon_cons_unit_lit _ _ _ (by decide)).trans ?_
  exact congrArg (pair · _) (View.readCov_cons_toLoadRect _ _ _ _)

theorem leftB_out : out0_B_4 c i arg1 harg1 arg2 harg2 arg3 harg3 arg4 harg4 arg5 harg5 arg6 harg6 arg7 harg7 arg8 harg8 arg9 harg9 arg10 harg10 hc0 x0 x1 x2 x3 xs1 xs2 xs3 xs4
    = View.canon (Val := Elt F) (s := S1x2048x128) [⟨Rect.unit ![0, 1024, 0] S1x1024x128.size inb_S1x2048x128_S1x1024x128_0_1024_0,
        shapeCast S1x1024x128 (pair xs3 (weighted (spread xs2) (tilesOf xs1) (vs x2) (vs' x2))) shapeCasts_S1024x128_S1x1024x128⟩,
       ⟨Rect.unit ![0, 0, 0] S1x1024x128.size inb_S1x2048x128_S1x1024x128_0_0_0, shapeCast S1x1024x128 xs4 shapeCasts_S1024x128_S1x1024x128⟩] := by
  unfold out0_B_4
  have e8 : View.ld xs2 (Rect.unit ![0, 0] S1024x128.size inb_S1024x128_S1024x128_0_0) = xs2 := View.ld_unit_lit _ _ (by decide)
  have e9 : View.ld xs3 (Rect.unit ![0, 0] S1024x256.size inb_S1024x256_S1024x256_0_0) = xs3 := View.ld_unit_lit _ _ (by decide)
  have e10 : View.ld xs4 (Rect.unit ![0, 0] S1024x128.size inb_S1024x128_S1024x128_0_0) = xs4 := View.ld_unit_lit _ _ (by decide)
  rw [View.read_writes_junk_eq_canon, runB_out_raw c i arg1 harg1 arg2 harg2 arg3 harg3 arg4 harg4 arg5 harg5 arg6 harg6 arg7 harg7 arg8 harg8 arg9 harg9 arg10 harg10 hc0 x0 x1 x2 x3 xs1 xs2 xs3 xs4,
    harg3.read_unread, harg7.read_unread, harg8.read_unread, harg9.read_unread, harg10.read_unread, e8, e9, e10]

end

end Cert.KernelIdeal.Attention

end
-- ==== Proof.Attention.Point.lean ====
/- From the points to the whole result. Point `t` of the grid works on tile `min t 63` and keeps the scores, maxima and sums it will need (`held`); the next point finishes that
   tile and writes it (`out_apply`). The 64 blocks written at points 1 to 64 make up the result, which is the softmax attention of the three arguments (`result`). -/
module

public import proofs.«01_k».proof.Proof.Attention.Arith
public import proofs.«01_k».proof.Proof.Attention.CaseA
public import proofs.«01_k».proof.Proof.Attention.CaseB
public import proofs.«01_k».proof.Proof.Gen.KernelIdeal.Value

@[expose] public section

set_option maxRecDepth 16384

noncomputable section

namespace Cert.KernelIdeal.Attention

open Cert.KernelIdeal Cert.KernelIdeal.Gen Idealize.ShloMosaic Idealize.ShloMosaic.TcCoe Idealize.SL.Sem Cert.Attention

/-- The weighted sums of half `r` and head `h` of a tile. -/
def sumsOf (x0 : Vec Ideal S1x2048x256 .bf16) (x1 : Vec Ideal S1x4352x256 .bf16) (x3 : Vec Ideal S1x4352x128 .bf16) (r h : Fin 2) : FVec Ideal S1024x256 .f32 :=
  weighted (spread (top x0 x1 r h)) (tilesOf (scoreMat x0 x1 r h)) (vs x3) (vs' x3)

theorem sums_eq (x0 : Vec Ideal S1x2048x256 .bf16) (x1 : Vec Ideal S1x4352x256 .bf16) (x3 : Vec Ideal S1x4352x128 .bf16) (r h : Fin 2)
    (L : List (View.Piece (Elt Ideal) S1024x4352 .f32)) : sums x0 x1 x3 r h L = sumsOf x0 x1 x3 r h := by
  unfold sums sumsOf
  rw [tiles_stores]

variable (m : (ℓ : Loc nD τ sig) → Buf (Elt Ideal) ℓ)

/-- What a point leaves in the four carried buffers: all of it about its own tile. -/
theorem held (c : Dev nD) (t : Fin cfg0.N) :
    (outsAt0 m c t.val t.isLt).2.1 = scoreMat (iblk m c 0 t) (iblk m c 1 t) 1 1
    ∧ (outsAt0 m c t.val t.isLt).2.2.1 = top (iblk m c 0 t) (iblk m c 1 t) 1 1
    ∧ (outsAt0 m c t.val t.isLt).2.2.2.1 = sumsOf (iblk m c 0 t) (iblk m c 1 t) (iblk m c 3 t) 1 0
    ∧ (outsAt0 m c t.val t.isLt).2.2.2.2 = pair (sumsOf (iblk m c 0 t) (iblk m c 1 t) (iblk m c 3 t) 0 0) (sumsOf (iblk m c 0 t) (iblk m c 1 t) (iblk m c 3 t) 0 1) := by
  by_cases h0 : t.val % 65 = 0
  · rw [outsAt0_A m c t h0]
    dsimp only
    rw [leftA_scores, leftA_top, leftA_sums, leftA_pair]
    simp only [sums_eq]
    exact ⟨canon_stores _ _ 1 1 _, trivial, trivial, trivial⟩
  · rw [outsAt0_B m c t h0]
    dsimp only
    rw [leftB_scores, leftB_top, leftB_sums, leftB_pair]
    simp only [sums_eq]
    exact ⟨canon_stores _ _ 1 1 _, trivial, trivial, trivial⟩

/-- Which blocks a point works on: the queries, keys and values of tile `min t 63`, the values and the output of tile `t - 1`. -/
theorem blocks : ∀ t : Fin cfg0.N,
    win0_0.index t = ![min t.val 63 / 8, min t.val 63 % 2, min t.val 63 / 2 % 4]
    ∧ win0_1.index t = ![min t.val 63 / 8, 0, min t.val 63 / 2 % 4]
    ∧ win0_2.index t = ![(t.val - 1) / 8, 0, (t.val - 1) / 2 % 4]
    ∧ win0_3.index t = ![min t.val 63 / 8, 0, min t.val 63 / 2 % 4]
    ∧ win0_4.index t = ![(t.val - 1) / 8, (t.val - 1) % 2, (t.val - 1) / 2 % 4] := by decide +kernel

theorem points (t : Fin cfg0.N) : t.val < 65 := lt_of_lt_of_eq t.isLt (show cfg0.N = 65 from N_0)

theorem iblk_q (c : Dev nD) (t : Fin cfg0.N) (i : Fin 2048) (d : Fin 256) : iblk m c 0 t (ix3 0 i d)
    = m ((c : Thread nD τ).loc main_arg0) (ix3 ⟨min t.val 63 / 8, by omega⟩ ⟨min t.val 63 % 2 * 2048 + i.val, by omega⟩ ⟨min t.val 63 / 2 % 4 * 256 + d.val, by omega⟩) := by
  blk_ext [iblk, V, blocks t]
theorem iblk_k (c : Dev nD) (t : Fin cfg0.N) (j : Fin 4352) (d : Fin 256) : iblk m c 1 t (ix3 0 j d)
    = m ((c : Thread nD τ).loc main_arg1) (ix3 ⟨min t.val 63 / 8, by omega⟩ j ⟨min t.val 63 / 2 % 4 * 256 + d.val, by omega⟩) := by
  blk_ext [iblk, V, blocks t]
theorem iblk_v (c : Dev nD) (t : Fin cfg0.N) (j : Fin 4352) (d : Fin 128) : iblk m c 3 t (ix3 0 j d)
    = m ((c : Thread nD τ).loc main_arg2) (ix3 ⟨min t.val 63 / 8, by omega⟩ j ⟨min t.val 63 / 2 % 4 * 128 + d.val, by omega⟩) := by
  blk_ext [iblk, V, blocks t]
theorem iblk_vp (c : Dev nD) (t : Fin cfg0.N) (j : Fin 4352) (d : Fin 128) : iblk m c 2 t (ix3 0 j d)
    = m ((c : Thread nD τ).loc main_arg2) (ix3 ⟨(t.val - 1) / 8, by have := points t; omega⟩ j ⟨(t.val - 1) / 2 % 4 * 128 + d.val, by omega⟩) := by
  blk_ext [iblk, V, blocks t]

/-- The values of the tile a point finishes are those its tile had at the point before. -/
theorem values_kept (c : Dev nD) (t s : Fin cfg0.N) (hs : s.val = t.val - 1) : iblk m c 3 s = iblk m c 2 t := by
  funext y
  have ht := points t
  rw [show y = ix3 0 (y 1) (y 2) from by
    funext a
    fin_cases a
    · exact Fin.ext (Nat.lt_one_iff.mp (y 0).isLt)
    · rfl
    · rfl]
  refine (iblk_v m c s (y 1) (y 2)).trans (Eq.trans ?_ (iblk_vp m c t (y 1) (y 2)).symm)
  refine congrArg _ ?_
  have e : min s.val 63 = t.val - 1 := by omega
  funext a
  fin_cases a
  · exact Fin.ext (by show min s.val 63 / 8 = (t.val - 1) / 8; rw [e])
  · rfl
  · exact Fin.ext (by show min s.val 63 / 2 % 4 * 128 + (y 2).val = (t.val - 1) / 2 % 4 * 128 + (y 2).val; rw [e])

/-- A tile's output block, entry by entry. -/
def tileOut (x0 : Vec Ideal S1x2048x256 .bf16) (x1 : Vec Ideal S1x4352x256 .bf16) (v : Vec Ideal S1x4352x128 .bf16) (i : Fin 2048) (l : Fin 128) : EReal :=
  att (score x0 x1 ⟨i.val / 1024, by omega⟩ ⟨l.val / 64, by omega⟩ ⟨i.val % 1024, by omega⟩) fun k => v (ix3 0 k l)

theorem half (x0 : Vec Ideal S1x2048x256 .bf16) (x1 : Vec Ideal S1x4352x256 .bf16) (v : Vec Ideal S1x4352x128 .bf16) (r : Fin 2) (o : ℕ) (ho : o = 1024 * r.val)
    (hin : ∀ a, (![0, o, 0] : Fin 3 → ℕ) a + S1x1024x128.size a ≤ S1x2048x128.size a) (hr : ∀ h i j, IsReal (score x0 x1 r h i j)) (x : S1x1024x128.Idx) :
    shapeCast S1x1024x128 (pair (sumsOf x0 x1 v r 0) (sumsOf x0 x1 v r 1)) shapeCasts_S1024x128_S1x1024x128 x
      = (fun y : S1x2048x128.Idx => tileOut x0 x1 v (y 1) (y 2)) ((Rect.unit ![0, o, 0] S1x1024x128.size hin : Rect S1x2048x128).emb x) := by
  have cast : ∀ (w : FVec Ideal S1024x128 .bf16) (i : Fin 1024) (l : Fin 128), shapeCast S1x1024x128 w shapeCasts_S1024x128_S1x1024x128 (ix3 0 i l) = w (ix2 i l) := by
    intro w i l
    pointwise
  have ex : x = ix3 0 (x 1) (x 2) := by
    funext a
    fin_cases a
    · exact Fin.ext (Nat.lt_one_iff.mp (x 0).isLt)
    · rfl
    · rfl
  have hx : (x 1).val < 1024 := (x 1).isLt
  have e1 : ((Rect.unit ![0, o, 0] S1x1024x128.size hin : Rect S1x2048x128).emb x 1).val = 1024 * r.val + (x 1).val := by simp [Rect.emb, Rect.unit, ho]
  have e2 : ((Rect.unit ![0, o, 0] S1x1024x128.size hin : Rect S1x2048x128).emb x 2).val = (x 2).val := by simp [Rect.emb, Rect.unit]
  generalize (Rect.unit ![0, o, 0] S1x1024x128.size hin : Rect S1x2048x128).emb x = y at e1 e2
  refine (congrArg (shapeCast S1x1024x128 (pair (sumsOf x0 x1 v r 0) (sumsOf x0 x1 v r 1)) shapeCasts_S1024x128_S1x1024x128) ex).trans ?_
  refine (cast _ (x 1) (x 2)).trans ?_
  refine (pair_apply x0 x1 v r (x 1) (x 2) (fun h j => hr h _ j) _ _ rfl rfl).trans ?_
  unfold tileOut
  have f2 : (y 2 : Fin 128) = x 2 := Fin.ext e2
  have f1 : (⟨(y 1).val / 1024, by have : (y 1).val < 2048 := (y 1).isLt; omega⟩ : Fin 2) = r := Fin.ext (by show (y 1).val / 1024 = r.val; omega)
  have f0 : (⟨(y 1).val % 1024, by omega⟩ : Fin 1024) = x 1 := Fin.ext (by show (y 1).val % 1024 = (x 1).val; omega)
  dsimp only
  rw [f2, f1, f0]

/-- The block a point writes: the attention of the tile of the point before. -/
theorem out_apply (c : Dev nD) (t s : Fin cfg0.N) (hs : s.val = t.val - 1) (h0 : ¬ t.val % 65 = 0)
    (hr : ∀ r h i j, IsReal (score (iblk m c 0 s) (iblk m c 1 s) r h i j)) (y : S1x2048x128.Idx) :
    (outsAt0 m c t.val t.isLt).1 y = tileOut (iblk m c 0 s) (iblk m c 1 s) (iblk m c 2 t) (y 1) (y 2) := by
  obtain ⟨e1, e2, e3, e4⟩ := held m c s
  obtain ⟨s, hlt⟩ := s
  obtain rfl : s = t.val - 1 := hs
  dsimp only at e1 e2 e3 e4
  rw [values_kept m c t ⟨t.val - 1, hlt⟩ rfl] at e3 e4
  rw [outsAt0_B m c t h0]
  dsimp only
  rw [leftB_out, e1, e2, e3, e4]
  refine View.canon_append_of_piecesOf (Val := Elt Ideal) (s := S1x2048x128) (e := .bf16)
    (fun y => tileOut (iblk m c 0 ⟨t.val - 1, hlt⟩) (iblk m c 1 ⟨t.val - 1, hlt⟩) (iblk m c 2 t) (y 1) (y 2)) [] [_, _] ⟨?_, ?_, trivial⟩ y
    (View.cover_of_tiledL _ ![1, 1024, 128] (by sl_kernel_rfl) y)
  · exact half _ _ _ 1 1024 rfl inb_S1x2048x128_S1x1024x128_0_1024_0 (fun h i j => hr 1 h i j)
  · exact half _ _ _ 0 0 rfl inb_S1x2048x128_S1x1024x128_0_0_0 (fun h i j => hr 0 h i j)

/-! ## The whole result -/

theorem flushed : ∀ t : Fin cfg0.N, (cfg0.win 4).flush t = true → ¬ t.val % 65 = 0 := by decide +kernel

/-- The three arguments as launched. -/
def argQ (c : Dev nD) : S8x4096x1024.Idx → EReal := m ((c : Thread nD τ).loc main_arg0)
def argK (c : Dev nD) : S8x4352x1024.Idx → EReal := m ((c : Thread nD τ).loc main_arg1)
def argV (c : Dev nD) : S8x4352x512.Idx → EReal := m ((c : Thread nD τ).loc main_arg2)

theorem score_block (c : Dev nD) (s : Fin cfg0.N) (r h : Fin 2) (i : Fin 1024) (j : Fin 4352) : score (iblk m c 0 s) (iblk m c 1 s) r h i j
    = ∑ d : Fin 128, argQ m c (ix3 ⟨min s.val 63 / 8, by omega⟩ ⟨min s.val 63 % 2 * 2048 + (1024 * r.val + i.val), by omega⟩ ⟨min s.val 63 / 2 % 4 * 256 + (128 * h.val + d.val), by omega⟩)
      * argK m c (ix3 ⟨min s.val 63 / 8, by omega⟩ j ⟨min s.val 63 / 2 % 4 * 256 + (128 * h.val + d.val), by omega⟩) :=
  Finset.sum_congr rfl fun d _ => congrArg₂ (fun a b : EReal => a * b) (iblk_q m c s _ _) (iblk_k m c s _ _)

/-- The kernel's result. -/
theorem result (c : Dev nD) (hq : ∀ x, IsReal (argQ m c x)) (hk : ∀ x, IsReal (argK m c x)) :
    (dats m 0 c).arrAt 4 cfg0.N = fun y : S8x4096x512.Idx => attention (argQ m c) (argK m c)
      (argV m c) (y 0) (y 1) (y 2) := by
  refine (dats m 0 c).arrAt_eq_of_covers 4 _ (by decide +kernel) fun t hf y => ?_
  blk_simp
  rw [after0_4]
  have ht := points t
  have h0 := flushed t hf
  obtain ⟨s, hs⟩ : ∃ s : Fin cfg0.N, s.val = t.val - 1 := ⟨⟨t.val - 1, Nat.lt_of_le_of_lt (Nat.sub_le _ _) t.isLt⟩, rfl⟩
  refine (out_apply m c t s hs h0 (fun r h i j => ?_) y).trans ?_
  · rw [score_block]
    exact IsReal.sum _ _ fun d => (hq _).mul (hk _)
  have e0 : ((win0_4.blk t).view.emb y 0).val = (t.val - 1) / 8 := by
    blk_simp [blocks t]
  have e1 : ((win0_4.blk t).view.emb y 1).val = (t.val - 1) % 2 * 2048 + (y 1).val := by
    blk_simp [blocks t]
  have e2 : ((win0_4.blk t).view.emb y 2).val = (t.val - 1) / 2 % 4 * 128 + (y 2).val := by
    blk_simp [blocks t]
  have h1 : (y 1).val < 2048 := (y 1).isLt
  have h2 : (y 2).val < 128 := (y 2).isLt
  generalize (win0_4.blk t).view.emb y = z at e0 e1 e2
  have es : min s.val 63 = t.val - 1 := by omega
  unfold tileOut attention
  refine congrArg₂ att (funext fun j => ?_) (funext fun k => ?_)
  · rw [score_block]
    refine Finset.sum_congr rfl fun d _ => congrArg₂ (fun a b : EReal => a * b) (congrArg (argQ m c) ?_) (congrArg (argK m c) ?_)
    · funext a
      fin_cases a
      · exact Fin.ext (by show min s.val 63 / 8 = (z 0).val; omega)
      · exact Fin.ext (by show min s.val 63 % 2 * 2048 + (1024 * ((y 1).val / 1024) + (y 1).val % 1024) = (z 1).val; omega)
      · exact Fin.ext (by show min s.val 63 / 2 % 4 * 256 + (128 * ((y 2).val / 64) + d.val) = (z 2).val / 64 * 128 + d.val; omega)
    · funext a
      fin_cases a
      · exact Fin.ext (by show min s.val 63 / 8 = (z 0).val; omega)
      · rfl
      · exact Fin.ext (by show min s.val 63 / 2 % 4 * 256 + (128 * ((y 2).val / 64) + d.val) = (z 2).val / 64 * 128 + d.val; omega)
  · refine (iblk_vp m c t k (y 2)).trans (congrArg (argV m c) ?_)
    funext a
    fin_cases a
    · exact Fin.ext (by show (t.val - 1) / 8 = (z 0).val; omega)
    · rfl
    · exact Fin.ext (by show (t.val - 1) / 2 % 4 * 128 + (y 2).val = (z 2).val; omega)

end Cert.KernelIdeal.Attention

end
-- ==== Proof.Attention.Reference.lean ====
/- The reference's result, entry by entry: the softmax attention of its three arguments, when queries and keys are real. -/
module

public import proofs.«01_k».proof.Proof.Attention.Softmax
public import proofs.«01_k».proof.Proof.Gen.ReferenceIdeal.Read

@[expose] public section

set_option maxRecDepth 16384

noncomputable section

namespace Cert.ReferenceIdeal.Attention

open Cert.ReferenceIdeal Cert.ReferenceIdeal.Gen Cert.ReferenceIdeal.Read Idealize.ShloMosaic Idealize.ShloMosaic.TcCoe Idealize.SL.Sem Cert.Attention

variable (q : S8x4096x1024.Idx → EReal) (k : S8x4352x1024.Idx → EReal) (v : S8x4352x512.Idx → EReal)

/-- One head's score. -/
def score (b h : Fin 8) (i : Fin 4096) (j : Fin 4352) : EReal :=
  ∑ d : Fin 128, q (ix3 b i ⟨h.val * 128 + d.val, by omega⟩) * k (ix3 b j ⟨h.val * 128 + d.val, by omega⟩)

theorem v1_at (b : Fin 8) (i : Fin 4096) (h : Fin 8) (d : Fin 128) : val_main_v1 (F := Ideal) q (ix4 b i h d) = q (ix3 b i ⟨h.val * 128 + d.val, by omega⟩) := by
  rw [val_main_v1_apply, val_main_v0_apply]
  refine congrArg q ?_
  funext a
  fin_cases a
  · exact Fin.ext (by show (((b.val * 4096 + i.val) * 8 + h.val) * 128 + d.val) / 4194304 = b.val; omega)
  · exact Fin.ext (by show (((b.val * 4096 + i.val) * 8 + h.val) * 128 + d.val) / 1024 % 4096 = i.val; omega)
  · exact Fin.ext (by show (((b.val * 4096 + i.val) * 8 + h.val) * 128 + d.val) % 1024 = h.val * 128 + d.val; omega)

theorem v3_at (b : Fin 8) (i : Fin 4352) (h : Fin 8) (d : Fin 128) : val_main_v3 (F := Ideal) k (ix4 b i h d) = k (ix3 b i ⟨h.val * 128 + d.val, by omega⟩) := by
  rw [val_main_v3_apply, val_main_v2_apply]
  refine congrArg k ?_
  funext a
  fin_cases a
  · exact Fin.ext (by show (((b.val * 4352 + i.val) * 8 + h.val) * 128 + d.val) / 4456448 = b.val; omega)
  · exact Fin.ext (by show (((b.val * 4352 + i.val) * 8 + h.val) * 128 + d.val) / 1024 % 4352 = i.val; omega)
  · exact Fin.ext (by show (((b.val * 4352 + i.val) * 8 + h.val) * 128 + d.val) % 1024 = h.val * 128 + d.val; omega)

theorem v5_at (b : Fin 8) (i : Fin 4352) (h : Fin 8) (d : Fin 64) : val_main_v5 (F := Ideal) v (ix4 b i h d) = v (ix3 b i ⟨h.val * 64 + d.val, by omega⟩) := by
  rw [val_main_v5_apply, val_main_v4_apply]
  refine congrArg v ?_
  funext a
  fin_cases a
  · exact Fin.ext (by show (((b.val * 4352 + i.val) * 8 + h.val) * 64 + d.val) / 2228224 = b.val; omega)
  · exact Fin.ext (by show (((b.val * 4352 + i.val) * 8 + h.val) * 64 + d.val) / 512 % 4352 = i.val; omega)
  · exact Fin.ext (by show (((b.val * 4352 + i.val) * 8 + h.val) * 64 + d.val) % 512 = h.val * 64 + d.val; omega)

/-- An index of four coordinates from its coordinates' values. -/
theorem ix4_of {n0 n1 n2 n3 : ℕ} (y : (⟨4, ![n0, n1, n2, n3]⟩ : Shape).Idx) (a : Fin n0) (b : Fin n1) (c : Fin n2) (d : Fin n3)
    (h0 : (y 0).val = a.val) (h1 : (y 1).val = b.val) (h2 : (y 2).val = c.val) (h3 : (y 3).val = d.val) : y = ix4 a b c d := by
  funext e
  fin_cases e
  · exact Fin.ext h0
  · exact Fin.ext h1
  · exact Fin.ext h2
  · exact Fin.ext h3

theorem v6_at (b h : Fin 8) (i : Fin 4096) (j : Fin 4352) : val_main_v6 (F := Ideal) q k (ix4 b h i j) = score q k b h i j := by
  rw [val_main_v6_apply]
  refine Finset.sum_congr rfl fun d _ => congrArg₂ (fun x y : EReal => x * y) ?_ ?_
  · rw [ix4_of (lidx_main_v6 (ix4 b h i j) d) b i h d rfl rfl rfl rfl, v1_at]
  · rw [ix4_of (ridx_main_v6 (ix4 b h i j) d) b j h d rfl rfl rfl rfl, v3_at]

/-- The row maximum the reference subtracts. -/
def rowMax (b h : Fin 8) (i : Fin 4096) : EReal := val_main_v7 (F := Ideal) q k (ix3 b h i)

theorem rowMax_real (hs : ∀ b h i j, IsReal (score q k b h i j)) (b h : Fin 8) (i : Fin 4096) : IsReal (rowMax q k b h i) := by
  have e : ∀ (x : FVec Ideal S8x8x4096x4352 .f32) , Host.reduce FloatOps.maximumf x (val_main_cst (F := Ideal)) reducesTo_S8x8x4096x4352_S8x8x4096_d3 h_S_ (ix3 b h i)
      = Finset.univ.fold max ⊥ fun j : Fin 4352 => x (ix4 b h i j) := by
    intro x
    pointwise [val_main_cst]
    rw [show Ideal.ofBits .f32 0xFF800000#32 = (⊥ : EReal) by simp [Ideal.ofBits, Ideal.ieee]]
  unfold rowMax val_main_v7
  rw [e]
  exact IsReal.fold _ _ (fun j => by rw [v6_at]; exact hs b h i j) Finset.univ_nonempty

theorem v10_at (b h : Fin 8) (i : Fin 4096) (j : Fin 4352) : val_main_v10 (F := Ideal) q k (ix4 b h i j) = score q k b h i j - rowMax q k b h i := by
  rw [val_main_v10_apply, v6_at, val_main_v9_apply, val_main_v8_apply]
  refine congrArg (fun x : EReal => score q k b h i j - x) (congrArg (val_main_v7 (F := Ideal) q k) ?_)
  funext a
  fin_cases a <;> rfl

theorem two : (FloatOps.ofBits .f32 0x40000000#32 : Ideal .f32) = (2 : EReal) := by
  show Ideal.ofBits .f32 0x40000000#32 = 2
  rw [show (2 : EReal) = ((2 : ℝ) : EReal) by norm_cast]
  simp [Ideal.ofBits, Ideal.ieee, -EReal.coe_mul]
  norm_num

theorem v12_at (b h : Fin 8) (i : Fin 4096) (j : Fin 4352) : val_main_v12 (F := Ideal) q k (ix4 b h i j) = Ideal.pow 2 (score q k b h i j - rowMax q k b h i) := by
  rw [val_main_v12_apply, v10_at, val_main_v11_apply, val_main_cst_0_apply, two]
  rfl

theorem v13_at (b h : Fin 8) (i : Fin 4096) : val_main_v13 (F := Ideal) q k (ix3 b h i) = ∑ j : Fin 4352, Ideal.pow 2 (score q k b h i j - rowMax q k b h i) := by
  rw [val_main_v13_apply, val_main_cst_1_apply]
  have z : (FloatOps.ofBits .f32 0x00000000#32 : Ideal .f32) = (0 : EReal) := Ideal.ofBits_zero_f32
  rw [z, zero_add]
  refine Finset.sum_congr rfl fun j _ => ?_
  rw [ix4_of (idx_main_v13 (ix3 b h i) j) b h i j rfl rfl rfl rfl, v12_at]

theorem v16_at (b h : Fin 8) (i : Fin 4096) (j : Fin 4352) : val_main_v16 (F := Ideal) q k (ix4 b h i j)
    = Ideal.div (Ideal.pow 2 (score q k b h i j - rowMax q k b h i)) (∑ j : Fin 4352, Ideal.pow 2 (score q k b h i j - rowMax q k b h i)) := by
  rw [val_main_v16_apply, v12_at, val_main_v15_apply, val_main_v14_apply, ← v13_at]
  refine congrArg (fun x : EReal => Ideal.div _ x) (congrArg (val_main_v13 (F := Ideal) q k) ?_)
  funext a
  fin_cases a <;> rfl

/-- The reference's result. -/
theorem result (hq : ∀ x, IsReal (q x)) (hk : ∀ x, IsReal (k x)) : val_main_v20 (F := Ideal) q k v = fun y : S8x4096x512.Idx => attention q k v (y 0) (y 1) (y 2) := by
  have hs : ∀ b h i j, IsReal (score q k b h i j) := fun b h i j => IsReal.sum _ _ fun d => (hq _).mul (hk _)
  funext y
  have h0 : (y 0).val < 8 := (y 0).isLt
  have h1 : (y 1).val < 4096 := (y 1).isLt
  have h2 : (y 2).val < 512 := (y 2).isLt
  rw [val_main_v20_apply, val_main_v19_apply, val_main_v18_apply,
    ix4_of (idx_main_v18 (idx_main_v19 y)) (y 0) ⟨(y 2).val / 64, by omega⟩ ⟨(y 2).val % 64, by omega⟩ (y 1)
      (by show (((y 0).val * 4096 + (y 1).val) * 512 + (y 2).val) / 2097152 = (y 0).val; omega)
      (by show (((y 0).val * 4096 + (y 1).val) * 512 + (y 2).val) / 64 % 8 = (y 2).val / 64; omega)
      (by show (((y 0).val * 4096 + (y 1).val) * 512 + (y 2).val) % 64 = (y 2).val % 64; omega)
      (by show (((y 0).val * 4096 + (y 1).val) * 512 + (y 2).val) / 512 % 4096 = (y 1).val; omega), val_main_v17_apply]
  refine Eq.trans ?_ (att_ref (by omega) (score q k (y 0) ⟨(y 2).val / 64, by omega⟩ (y 1)) (fun j => v (ix3 (y 0) j (y 2)))
    (rowMax q k (y 0) ⟨(y 2).val / 64, by omega⟩ (y 1)) (hs _ _ _) (rowMax_real q k hs _ _ _))
  refine Finset.sum_congr rfl fun j _ => congrArg₂ (fun x y : EReal => x * y) ?_ ?_
  · rw [ix4_of (lidx_main_v17 _ j) (y 0) j ⟨(y 2).val / 64, by omega⟩ ⟨(y 2).val % 64, by omega⟩ rfl rfl rfl rfl]
    refine (v5_at v (y 0) j ⟨(y 2).val / 64, by omega⟩ ⟨(y 2).val % 64, by omega⟩).trans ?_
    refine congrArg v ?_
    funext a
    fin_cases a
    · rfl
    · rfl
    · exact Fin.ext (by show (y 2).val / 64 * 64 + (y 2).val % 64 = (y 2).val; omega)
  · rw [ix4_of (ridx_main_v17 _ j) (y 0) ⟨(y 2).val / 64, by omega⟩ (y 1) j rfl rfl rfl rfl]
    exact v16_at q k (y 0) ⟨(y 2).val / 64, by omega⟩ (y 1) j

end Cert.ReferenceIdeal.Attention

end
-- ==== Proof.Attention.Claim.lean ====
/- The claim about the attention: on queries and keys all finite, the kernel and the reference leave the same array. The precondition is read back as "every query and every key is a
   real number" (`reals_of_pre`); then both results are the softmax attention of Softmax.lean. -/
module

public import proofs.«01_k».proof.Defs
public import proofs.«01_k».proof.Proof.Attention.Point
public import proofs.«01_k».proof.Proof.Attention.Reference
public import proofs.«01_k».proof.Proof.Gen.ReferenceIdeal.Run
public import Idealize.ShloMosaic.Lib.ReduceAll

@[expose] public section

noncomputable section

namespace Cert.Attention

open Idealize.ShloMosaic Idealize.ShloMosaic.TcCoe Idealize.SL.Sem

/-- The side conditions of the precondition's operations. -/
theorem preFacts : Cert.Pre_finite_scores.Facts where
  bitsLt_bf16_f32 := by decide
  bcast_S_S8x4096x1024 := by decide
  reducesTo_S8x4096x1024_S_d0_1_2 := by decide
  h_S_ := by decide
  bcast_S_S8x4352x1024 := by decide
  reducesTo_S8x4352x1024_S_d0_1_2 := by decide

/-- A bit that says `|x| < ⊤` says that `x` is a real number. -/
theorem real_of_bit (x : EReal) (h : FloatOps.cmpf (F := Ideal) (φ := .f32) .olt (FloatOps.absf (F := Ideal) (φ := .f32) x) (FloatOps.ofBits (F := Ideal) .f32 0x7F800000#32) = 1#1) : IsReal x := by
  have top : (FloatOps.ofBits (F := Ideal) .f32 0x7F800000#32 : EReal) = ⊤ := by
    show Ideal.ofBits .f32 0x7F800000#32 = ⊤
    simp [Ideal.ofBits, Ideal.ieee]
  rw [top] at h
  refine isReal_of_abs_lt x ?_
  by_contra hn
  have e : Ideal.cmp .olt (Max.max x (-x)) ⊤ = 1#1 := h
  simp [Ideal.cmp, hn] at e

/-- Where the precondition holds, every query and every key is a real number. -/
theorem reals_of_pre [Cert.Pre_finite_scores.Facts] (q : FVec Ideal ⟨3, ![8, 4096, 1024]⟩ .bf16) (k : FVec Ideal ⟨3, ![8, 4352, 1024]⟩ .bf16) (v : FVec Ideal ⟨3, ![8, 4352, 512]⟩ .bf16)
    (h : Cert.Pre_finite_scores.fn (F := Ideal) q k v = fun _ => 1#1) : (∀ x, IsReal (q x)) ∧ ∀ x, IsReal (k x) := by
  have h := congrFun h (fun a => a.elim0)
  dsimp only [Cert.Pre_finite_scores.fn] at h
  have hs : ∀ a b : BitVec 1, a &&& b = 1#1 → a = 1#1 ∧ b = 1#1 := by decide
  obtain ⟨h1, h2⟩ := hs _ _ h
  haveI : Subsingleton Cert.Pre_finite_scores.S_.Idx := ⟨fun a b => funext fun i => i.elim0⟩
  exact ⟨fun x => real_of_bit _ (Host.reduce_andi_all _ _ _ _ _ h1 x), fun x => real_of_bit _ (Host.reduce_andi_all _ _ _ _ _ h2 x)⟩

theorem algebraic : @Cert.algebraic_KernelIdeal_ReferenceIdeal_pre_finite_scores Cert.KernelIdeal.Gen.facts Cert.ReferenceIdeal.Gen.facts preFacts := by
  letI := preFacts
  intro m g m' g' hpre hargs
  refine ⟨fun c => fun y : Cert.KernelIdeal.S8x4096x512.Idx => attention (Cert.KernelIdeal.Attention.argQ m c) (Cert.KernelIdeal.Attention.argK m c) (Cert.KernelIdeal.Attention.argV m c) (y 0) (y 1) (y 2), ?_, ?_⟩
  · refine (θ_run _ _ _).mono (fun r h c => ?_) (Cert.KernelIdeal.Value.run_blocks m g)
    obtain ⟨hq, hk⟩ := reals_of_pre _ _ _ (hpre c)
    exact ⟨(h c).1.trans (Cert.KernelIdeal.Attention.result m c hq hk), (h c).2⟩
  · refine (θ_run _ _ _).mono (fun r h c => ?_) (Cert.ReferenceIdeal.Value.run m' g')
    obtain ⟨hq, hk⟩ := reals_of_pre _ _ _ (hpre c)
    refine ⟨(h c).1.trans ((Cert.ReferenceIdeal.Read.val_main_v20_eq _ _ _).trans ?_), (h c).2⟩
    rw [(hargs c).1, (hargs c).2.1, (hargs c).2.2]
    exact Cert.ReferenceIdeal.Attention.result _ _ _ hq hk

end Cert.Attention

end
-- ==== Proof.Mlp.Words.lean ====
/- The kernel of the output projection and the MLP, said in a few words. A grid point holds 1024 rows and works on them in four groups of 256. Of a group: `mix` is the output projection
   (attention columns times the upper half of the weights, convolution columns times the lower), `resid` the residual stream after it, `norm` the row-wise RMS normalization, `modulate`
   the MLP's input, `hidden` and `down` one of four chunks of the MLP, `mlp` their sum, and `finish` the last residual and normalization. The four stores of the output block are `groupOut`
   of the four groups (`run_raw`). -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable {F : FTy → Type} [FloatOps F]

/-- A vector of one row, repeated down 256 rows. -/
def down256 (v : FVec F S1x1024 .f32) : FVec F S256x1024 .f32 := broadcastTo S256x1024 v broadcasts_S1x1024_S256x1024

/-- The output projection of 256 rows. -/
def mix (a : Vec F S1x256x512 .bf16) (w : Vec F S512x1024 .bf16) (b : Vec F S1x256x512 .bf16) (w' : Vec F S512x1024 .bf16) : FVec F S256x1024 .f32 :=
  addf (matmul dot_S256x512_S512x1024_S256x1024_1_0_0_1_n_n none (shapeCast S256x512 a shapeCasts_S1x256x512_S256x512) w (constant S256x1024 .f32 0x00000000#32))
    (matmul dot_S256x512_S512x1024_S256x1024_1_0_0_1_n_n none (shapeCast S256x512 b shapeCasts_S1x256x512_S256x512) w' (constant S256x1024 .f32 0x00000000#32))

/-- The residual stream after the output projection. -/
def resid (x : Vec F S1x256x1024 .f32) (g : FVec F S1x1024 .f32) (p : FVec F S256x1024 .f32) : FVec F S256x1024 .f32 :=
  addf (shapeCast S256x1024 x shapeCasts_S1x256x1024_S256x1024) (mulf (down256 g) p)

/-- The row-wise RMS normalization. -/
def norm (v : FVec F S256x1024 .f32) : FVec F S256x1024 .f32 :=
  mulf v (broadcastTo S256x1024 (rsqrt (addf (divf (shapeCast S256x1 (multiReduction .add [1] S256 (mulf v v) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024)

/-- The MLP's input: normalized, scaled by one plus `sc`, shifted by `sh`. -/
def modulate (v : FVec F S256x1024 .f32) (sh sc : FVec F S1x1024 .f32) : FVec F S256x1024 .bf16 :=
  truncf .bf16 (addf (mulf (norm v) (down256 (addf (broadcast S1x1024 (Scalar.ofBits .f32 0x3F800000#32)) sc))) (down256 sh)) bitsLt_bf16_f32

/-- 1024 columns of the hidden layer. -/
def hidden (h : FVec F S256x1024 .bf16) (w : Vec F S1024x1024 .bf16) : FVec F S256x1024 .f32 :=
  maximumf (matmul dot_S256x1024_S1024x1024_S256x1024_1_0_0_1_n_n none h w (constant S256x1024 .f32 0x00000000#32)) (broadcast S256x1024 (Scalar.ofBits .f32 0x00000000#32))

/-- Their share of the MLP's result. -/
def down (u : FVec F S256x1024 .f32) (w : Vec F S1024x1024 .bf16) : FVec F S256x1024 .f32 :=
  matmul dot_S256x1024_S1024x1024_S256x1024_1_0_0_1_n_n none (truncf .bf16 (mulf u u) bitsLt_bf16_f32) w (constant S256x1024 .f32 0x00000000#32)

/-- The MLP: the four chunks' shares. -/
def mlp (h : FVec F S256x1024 .bf16) (w1 w2 : Fin 4 → Vec F S1024x1024 .bf16) : FVec F S256x1024 .f32 :=
  addf (addf (addf (down (hidden h (w1 0)) (w2 0)) (down (hidden h (w1 1)) (w2 1))) (down (hidden h (w1 2)) (w2 2))) (down (hidden h (w1 3)) (w2 3))

/-- The last residual and normalization. -/
def finish (v : FVec F S256x1024 .f32) (g : FVec F S1x1024 .f32) (y : FVec F S256x1024 .f32) (gf : Vec F S1x1024 .f32) : FVec F S256x1024 .f32 :=
  mulf (norm (addf v (mulf (down256 g) y))) (down256 gf)

/-! ## What the loads read -/

/-- The four groups of rows of the wide block and of the two narrow ones. -/
def wideRect (s : Fin 4) : Rect S1x1024x1024 := Rect.unit ![0, 256 * s.val, 0] S1x256x1024.size (by revert s; decide)
def narrowRect (s : Fin 4) : Rect S1x1024x512 := Rect.unit ![0, 256 * s.val, 0] S1x256x512.size (by revert s; decide)
/-- The two halves of the projection's weights, and the four chunks of the MLP's. -/
def halfRect (h : Fin 2) : Rect S1024x1024 := Rect.unit ![512 * h.val, 0] S512x1024.size (by revert h; decide)
def upRect (k : Fin 4) : Rect S1024x4096 := Rect.unit ![0, 1024 * k.val] S1024x1024.size (by revert k; decide)
def downRect (k : Fin 4) : Rect S4096x1024 := Rect.unit ![1024 * k.val, 0] S1024x1024.size (by revert k; decide)
/-- The batch's row of the modulation vectors. -/
def modRect (i : grid0.Coords) : Rect S16x6144 := Rect.unit (k0_off1 i) S1x6144.size (k0_off1_inb i)
def rowRect : Rect S1x1024 := Rect.unit ![0, 0] S1x1024.size inb_S1x1024_S1x1024_0_0

section
variable (i : grid0.Coords) (x0 : Vec F S1x1024x1024 .f32) (x1 x2 : Vec F S1x1024x512 .bf16) (x3 : Vec F S16x6144 .f32) (x4 : Vec F S1024x1024 .bf16)
  (x5 : Vec F S1024x4096 .bf16) (x6 : Vec F S4096x1024 .bf16) (x7 : Vec F S1x1024 .f32)

/-- The loads: a group of rows, a part of the weights, the last normalization's vector. -/
def wide (s : Fin 4) : Vec F S1x256x1024 .f32 := View.ld x0 (wideRect s)
def narrow (s : Fin 4) : Vec F S1x256x512 .bf16 := View.ld x1 (narrowRect s)
def halfW (h : Fin 2) : Vec F S512x1024 .bf16 := View.ld x4 (halfRect h)
def upW (k : Fin 4) : Vec F S1024x1024 .bf16 := View.ld x5 (upRect k)
def downW (k : Fin 4) : Vec F S1024x1024 .bf16 := View.ld x6 (downRect k)
def gain : Vec F S1x1024 .f32 := View.ld x7 rowRect
/-- The batch's modulation vectors, in one row. -/
def modRow : FVec F S1x6144 .f32 := View.ld x3 (modRect i)
/-- The four of them the kernel uses: the gate of the projection, the shift, the scale and the gate of the MLP. -/
def gate1 : FVec F S1x1024 .f32 := extractStridedSlice S1x1024 ![0, 2048] (modRow i x3) slices_S1x6144_o0_2048_S1x1024
def shift : FVec F S1x1024 .f32 := extractStridedSlice S1x1024 ![0, 3072] (modRow i x3) slices_S1x6144_o0_3072_S1x1024
def scale : FVec F S1x1024 .f32 := extractStridedSlice S1x1024 ![0, 4096] (modRow i x3) slices_S1x6144_o0_4096_S1x1024
def gate2 : FVec F S1x1024 .f32 := extractStridedSlice S1x1024 ![0, 5120] (modRow i x3) slices_S1x6144_o0_5120_S1x1024

/-- The residual stream of one group. -/
def groupResid (s : Fin 4) : FVec F S256x1024 .f32 :=
  resid (wide x0 s) (gate1 i x3) (mix (narrow x1 s) (halfW x4 0) (narrow x2 s) (halfW x4 1))

/-- The result of one group. -/
def groupOut (s : Fin 4) : FVec F S256x1024 .f32 :=
  finish (groupResid i x0 x1 x2 x3 x4 s) (gate2 i x3)
    (mlp (modulate (groupResid i x0 x1 x2 x3 x4 s) (shift i x3) (scale i x3)) (upW x5) (downW x6)) (gain x7)

/-- The four stores, the last one first. -/
def stores : List (View.Piece (Elt F) S1x1024x1024 .f32) :=
  [⟨wideRect 3, shapeCast S1x256x1024 (groupOut i x0 x1 x2 x3 x4 x5 x6 x7 3) shapeCasts_S256x1024_S1x256x1024⟩,
   ⟨wideRect 2, shapeCast S1x256x1024 (groupOut i x0 x1 x2 x3 x4 x5 x6 x7 2) shapeCasts_S256x1024_S1x256x1024⟩,
   ⟨wideRect 1, shapeCast S1x256x1024 (groupOut i x0 x1 x2 x3 x4 x5 x6 x7 1) shapeCasts_S256x1024_S1x256x1024⟩,
   ⟨wideRect 0, shapeCast S1x256x1024 (groupOut i x0 x1 x2 x3 x4 x5 x6 x7 0) shapeCasts_S256x1024_S1x256x1024⟩]

variable (c : Dev nD) (arg2 : Memref sig .tc .vmem S1x1024x1024 .f32) (harg2 : arg2.IsWhole) (arg3 : Memref sig .tc .vmem S1x1024x512 .bf16) (harg3 : arg3.IsWhole)
  (arg4 : Memref sig .tc .vmem S1x1024x512 .bf16) (harg4 : arg4.IsWhole) (arg5 : Memref sig .tc .vmem S16x6144 .f32) (harg5 : arg5.IsWhole)
  (arg6 : Memref sig .tc .vmem S1024x1024 .bf16) (harg6 : arg6.IsWhole) (arg7 : Memref sig .tc .vmem S1024x4096 .bf16) (harg7 : arg7.IsWhole)
  (arg8 : Memref sig .tc .vmem S4096x1024 .bf16) (harg8 : arg8.IsWhole) (arg9 : Memref sig .tc .vmem S1x1024 .f32) (harg9 : arg9.IsWhole)
  (arg10 : Memref sig .tc .vmem S1x1024x1024 .f32) (harg10 : arg10.IsWhole)

theorem run_raw :
    (kernelRun0_A c i arg2 harg2 arg3 harg3 arg4 harg4 arg5 harg5 arg6 harg6 arg7 harg7 arg8 harg8 arg9 harg9 arg10 harg10 x0 x1 x2 x3 x4 x5 x6 x7).1
    = stores i (arg2.view.read (Elt F) (harg2.unread x0)) (arg3.view.read (Elt F) (harg3.unread x1)) (arg4.view.read (Elt F) (harg4.unread x2)) (arg5.view.read (Elt F) (harg5.unread x3))
        (arg6.view.read (Elt F) (harg6.unread x4)) (arg7.view.read (Elt F) (harg7.unread x5)) (arg8.view.read (Elt F) (harg8.unread x6)) (arg9.view.read (Elt F) (harg9.unread x7)) := rfl

/-- What the body leaves in the output's buffer. -/
theorem left : out0_A_8 c i arg2 harg2 arg3 harg3 arg4 harg4 arg5 harg5 arg6 harg6 arg7 harg7 arg8 harg8 arg9 harg9 arg10 harg10 x0 x1 x2 x3 x4 x5 x6 x7
    = View.canon (Val := Elt F) (s := S1x1024x1024) (stores i x0 x1 x2 x3 x4 x5 x6 x7) := by
  unfold out0_A_8
  rw [View.read_writes_junk_eq_canon, run_raw, harg2.read_unread, harg3.read_unread, harg4.read_unread, harg5.read_unread, harg6.read_unread, harg7.read_unread, harg8.read_unread,
    harg9.read_unread]

end

end Cert.Kernel2Ideal.Mlp

end
-- ==== Proof.Mlp.Spec.lean ====
/- One row of the output projection and the MLP, over the extended reals: what both programs compute of a row of the residual stream, its attention and convolution rows, its batch's
   modulation vectors and the weights. -/
module

public import Idealize.ShloMosaic.Lib.Pipeline.ValueKit

@[expose] public section

noncomputable section

namespace Cert.Mlp

open Idealize.ShloMosaic

/-- The row's width, 1024, and the small number under the root. -/
def width : EReal := Ideal.ofBits .f32 0x44800000#32
def eps : EReal := Ideal.ofBits .f32 0x358637BD#32

/-- A row divided by its root mean square. -/
def normed (r : Fin 1024 → EReal) (e : Fin 1024) : EReal := r e * Ideal.rsqrt (Ideal.div (∑ k : Fin 1024, r k * r k) width + eps)

/-- The row of the attention beside the row of the convolution. -/
def joined (a b : Fin 512 → EReal) (k : Fin 1024) : EReal := if h : k.val < 512 then a ⟨k.val, h⟩ else b ⟨k.val - 512, by omega⟩

/-- The residual stream after the output projection. -/
def stream (x : Fin 1024 → EReal) (g : Fin 1024 → EReal) (a b : Fin 512 → EReal) (w : Fin 1024 → Fin 1024 → EReal) (e : Fin 1024) : EReal :=
  x e + g e * ∑ k : Fin 1024, joined a b k * w k e

/-- The MLP's input. -/
def modulated (r sh sc : Fin 1024 → EReal) (e : Fin 1024) : EReal := normed r e * (1 + sc e) + sh e

/-- The hidden layer, and the MLP: the squares of its positive part through the second matrix. -/
def neuron (h : Fin 1024 → EReal) (w1 : Fin 1024 → Fin 4096 → EReal) (k : Fin 4096) : EReal := max (∑ d : Fin 1024, h d * w1 d k) 0
def ffn (h : Fin 1024 → EReal) (w1 : Fin 1024 → Fin 4096 → EReal) (w2 : Fin 4096 → Fin 1024 → EReal) (e : Fin 1024) : EReal :=
  ∑ k : Fin 4096, neuron h w1 k * neuron h w1 k * w2 k e

/-- The last residual and normalization. -/
def final (r g y gf : Fin 1024 → EReal) (e : Fin 1024) : EReal := normed (fun e => r e + g e * y e) e * gf e

/-- All of it, of one row. -/
def outRow (x : Fin 1024 → EReal) (a b : Fin 512 → EReal) (g1 sh sc g2 : Fin 1024 → EReal) (w : Fin 1024 → Fin 1024 → EReal) (w1 : Fin 1024 → Fin 4096 → EReal)
    (w2 : Fin 4096 → Fin 1024 → EReal) (gf : Fin 1024 → EReal) (e : Fin 1024) : EReal :=
  final (stream x g1 a b w) g2 (ffn (modulated (stream x g1 a b w) sh sc) w1 w2) gf e

/-- The result as an array, of the eight arguments: the modulation vectors are columns 2048 to 6143 of the batch's row. -/
def result (x : (⟨3, ![8, 4096, 1024]⟩ : Shape).Idx → EReal) (a b : (⟨3, ![8, 4096, 512]⟩ : Shape).Idx → EReal) (md : (⟨2, ![16, 6144]⟩ : Shape).Idx → EReal)
    (w : (⟨2, ![1024, 1024]⟩ : Shape).Idx → EReal) (w1 : (⟨2, ![1024, 4096]⟩ : Shape).Idx → EReal) (w2 : (⟨2, ![4096, 1024]⟩ : Shape).Idx → EReal)
    (gf : (⟨2, ![1, 1024]⟩ : Shape).Idx → EReal) (n : Fin 8) (i : Fin 4096) (e : Fin 1024) : EReal :=
  outRow (fun e => x (ix3 n i e)) (fun k => a (ix3 n i k)) (fun k => b (ix3 n i k)) (fun e => md (ix2 ⟨n.val, by omega⟩ ⟨2048 + e.val, by omega⟩))
    (fun e => md (ix2 ⟨n.val, by omega⟩ ⟨3072 + e.val, by omega⟩)) (fun e => md (ix2 ⟨n.val, by omega⟩ ⟨4096 + e.val, by omega⟩))
    (fun e => md (ix2 ⟨n.val, by omega⟩ ⟨5120 + e.val, by omega⟩)) (fun d e => w (ix2 d e)) (fun d k => w1 (ix2 d k)) (fun k e => w2 (ix2 k e)) (fun e => gf (ix2 0 e)) e

/-! ## Sums by parts -/

theorem sum_halves (f : Fin 1024 → EReal) : ∑ k, f k = (∑ k : Fin 512, f ⟨512 * 0 + k.val, by omega⟩) + ∑ k : Fin 512, f ⟨512 * 1 + k.val, by omega⟩ := by
  rw [Fin.sum_univ_tiles 2 512 rfl, Fin.sum_univ_two]
  simp only [mul_comm]
  rfl

theorem sum_quarters (f : Fin 4096 → EReal) : ∑ k, f k = (((∑ x : Fin 1024, f ⟨1024 * 0 + x.val, by omega⟩) + ∑ x : Fin 1024, f ⟨1024 * 1 + x.val, by omega⟩)
    + ∑ x : Fin 1024, f ⟨1024 * 2 + x.val, by omega⟩) + ∑ x : Fin 1024, f ⟨1024 * 3 + x.val, by omega⟩ := by
  rw [Fin.sum_univ_tiles 4 1024 rfl, Fin.sum_univ_four]
  simp only [mul_comm]
  rfl

end Cert.Mlp

end
-- ==== Proof.Mlp.Arith.lean ====
/- What the words of Words.lean compute over the extended reals, entry by entry, up to the result of a group of rows: a row of it is `outRow` of Spec.lean (`groupOut_apply`). -/
module

public import proofs.«01_k».proof.Proof.Mlp.Words
public import proofs.«01_k».proof.Proof.Mlp.Spec

@[expose] public section

set_option maxRecDepth 16384

noncomputable section

namespace Cert.Kernel2Ideal.Mlp

open Cert.Kernel2Ideal Cert.Kernel2Ideal.Gen Idealize.ShloMosaic Idealize.ShloMosaic.TcCoe Idealize.SL.Sem Cert.Mlp

/-! ## The operations -/

theorem mix_apply (a : Vec Ideal S1x256x512 .bf16) (w : Vec Ideal S512x1024 .bf16) (b : Vec Ideal S1x256x512 .bf16) (w' : Vec Ideal S512x1024 .bf16) (i : Fin 256) (e : Fin 1024) :
    mix a w b w' (ix2 i e) = (∑ k : Fin 512, a (ix3 0 i k) * w (ix2 k e)) + ∑ k : Fin 512, b (ix3 0 i k) * w' (ix2 k e) := by
  pointwise [mix]

theorem resid_apply (x : Vec Ideal S1x256x1024 .f32) (g : FVec Ideal S1x1024 .f32) (p : FVec Ideal S256x1024 .f32) (i : Fin 256) (e : Fin 1024) :
    resid x g p (ix2 i e) = x (ix3 0 i e) + g (ix2 0 e) * p (ix2 i e) := by
  pointwise [resid, down256]

theorem norm_apply (v : FVec Ideal S256x1024 .f32) (i : Fin 256) (e : Fin 1024) : norm v (ix2 i e) = normed (fun e => v (ix2 i e)) e := by
  pointwise [norm]
  rfl

theorem modulate_apply (v : FVec Ideal S256x1024 .f32) (sh sc : FVec Ideal S1x1024 .f32) (i : Fin 256) (e : Fin 1024) :
    modulate v sh sc (ix2 i e) = modulated (fun e => v (ix2 i e)) (fun e => sh (ix2 0 e)) (fun e => sc (ix2 0 e)) e := by
  unfold modulated
  rw [← norm_apply]
  pointwise [modulate, down256]

theorem hidden_apply (h : FVec Ideal S256x1024 .bf16) (w : Vec Ideal S1024x1024 .bf16) (i : Fin 256) (k : Fin 1024) :
    hidden h w (ix2 i k) = max (∑ d : Fin 1024, h (ix2 i d) * w (ix2 d k)) 0 := by
  pointwise [hidden]

theorem down_apply (u : FVec Ideal S256x1024 .f32) (w : Vec Ideal S1024x1024 .bf16) (i : Fin 256) (e : Fin 1024) :
    down u w (ix2 i e) = ∑ k : Fin 1024, u (ix2 i k) * u (ix2 i k) * w (ix2 k e) := by
  pointwise [down]

theorem finish_apply (v : FVec Ideal S256x1024 .f32) (g : FVec Ideal S1x1024 .f32) (y : FVec Ideal S256x1024 .f32) (gf : Vec Ideal S1x1024 .f32) (i : Fin 256) (e : Fin 1024) :
    finish v g y gf (ix2 i e) = final (fun e => v (ix2 i e)) (fun e => g (ix2 0 e)) (fun e => y (ix2 i e)) (fun e => gf (ix2 0 e)) e := by
  have s : ∀ e, addf v (mulf (down256 g) y) (ix2 i e) = v (ix2 i e) + g (ix2 0 e) * y (ix2 i e) := by
    intro e
    pointwise [down256]
  have m : finish v g y gf (ix2 i e) = norm (addf v (mulf (down256 g) y)) (ix2 i e) * gf (ix2 0 e) := by
    unfold finish
    generalize norm (addf v (mulf (down256 g) y)) = z
    pointwise [down256]
  rw [m, norm_apply]
  unfold final
  simp only [s]

/-! ## The loads -/

section
variable (i : grid0.Coords) (x0 : Vec Ideal S1x1024x1024 .f32) (x1 x2 : Vec Ideal S1x1024x512 .bf16) (x3 : Vec Ideal S16x6144 .f32) (x4 : Vec Ideal S1024x1024 .bf16)
  (x5 : Vec Ideal S1024x4096 .bf16) (x6 : Vec Ideal S4096x1024 .bf16) (x7 : Vec Ideal S1x1024 .f32)

theorem wide_apply (s : Fin 4) (r : Fin 256) (e : Fin 1024) : (wide x0 s) (ix3 0 r e) = x0 (ix3 0 ⟨256 * s.val + r.val, by omega⟩ e) := by
  refine congrArg x0 ?_
  funext a; refine Fin.ext ?_; fin_cases a <;> simp [LoadRect.idx, Rect.toLoadRect, wideRect, Rect.unit]

theorem narrow_apply (s : Fin 4) (r : Fin 256) (k : Fin 512) : (narrow x1 s) (ix3 0 r k) = x1 (ix3 0 ⟨256 * s.val + r.val, by omega⟩ k) := by
  refine congrArg x1 ?_
  funext a; refine Fin.ext ?_; fin_cases a <;> simp [LoadRect.idx, Rect.toLoadRect, narrowRect, Rect.unit]

theorem halfW_apply (h : Fin 2) (k : Fin 512) (e : Fin 1024) : (halfW x4 h) (ix2 k e) = x4 (ix2 ⟨512 * h.val + k.val, by omega⟩ e) := by
  refine congrArg x4 ?_
  funext a; refine Fin.ext ?_; fin_cases a <;> simp [LoadRect.idx, Rect.toLoadRect, halfRect, Rect.unit]

theorem upW_apply (j : Fin 4) (d k : Fin 1024) : (upW x5 j) (ix2 d k) = x5 (ix2 d ⟨1024 * j.val + k.val, by omega⟩) := by
  refine congrArg x5 ?_
  funext a; refine Fin.ext ?_; fin_cases a <;> simp [LoadRect.idx, Rect.toLoadRect, upRect, Rect.unit]

theorem downW_apply (j : Fin 4) (k e : Fin 1024) : (downW x6 j) (ix2 k e) = x6 (ix2 ⟨1024 * j.val + k.val, by omega⟩ e) := by
  refine congrArg x6 ?_
  funext a; refine Fin.ext ?_; fin_cases a <;> simp [LoadRect.idx, Rect.toLoadRect, downRect, Rect.unit]

theorem gain_apply (e : Fin 1024) : (gain x7) (ix2 0 e) = x7 (ix2 0 e) := by
  refine congrArg x7 ?_
  funext a; refine Fin.ext ?_; fin_cases a <;> simp [LoadRect.idx, Rect.toLoadRect, rowRect, Rect.unit]

/-- The batch a point works on. -/
theorem batch_lt : (i 0).val < 8 := (i 0).isLt

theorem modRow_apply (e : Fin 6144) : modRow i x3 (ix2 0 e) = x3 (ix2 ⟨(i 0).val, by have := batch_lt i; omega⟩ e) := by
  refine congrArg x3 ?_
  funext a; refine Fin.ext ?_; fin_cases a <;> simp [LoadRect.idx, Rect.toLoadRect, modRect, Rect.unit, k0_off1_eq]

theorem gate1_apply (e : Fin 1024) : gate1 i x3 (ix2 0 e) = x3 (ix2 ⟨(i 0).val, by have := batch_lt i; omega⟩ ⟨2048 + e.val, by omega⟩) := by
  refine Eq.trans ?_ (modRow_apply i x3 ⟨2048 + e.val, by omega⟩)
  unfold gate1
  generalize modRow i x3 = z
  pointwise
theorem shift_apply (e : Fin 1024) : shift i x3 (ix2 0 e) = x3 (ix2 ⟨(i 0).val, by have := batch_lt i; omega⟩ ⟨3072 + e.val, by omega⟩) := by
  refine Eq.trans ?_ (modRow_apply i x3 ⟨3072 + e.val, by omega⟩)
  unfold shift
  generalize modRow i x3 = z
  pointwise
theorem scale_apply (e : Fin 1024) : scale i x3 (ix2 0 e) = x3 (ix2 ⟨(i 0).val, by have := batch_lt i; omega⟩ ⟨4096 + e.val, by omega⟩) := by
  refine Eq.trans ?_ (modRow_apply i x3 ⟨4096 + e.val, by omega⟩)
  unfold scale
  generalize modRow i x3 = z
  pointwise
theorem gate2_apply (e : Fin 1024) : gate2 i x3 (ix2 0 e) = x3 (ix2 ⟨(i 0).val, by have := batch_lt i; omega⟩ ⟨5120 + e.val, by omega⟩) := by
  refine Eq.trans ?_ (modRow_apply i x3 ⟨5120 + e.val, by omega⟩)
  unfold gate2
  generalize modRow i x3 = z
  pointwise

/-! ## A group of rows -/

theorem mlp_apply (h : FVec Ideal S256x1024 .bf16) (r : Fin 256) (e : Fin 1024) :
    mlp h (upW x5) (downW x6) (ix2 r e) = ffn (fun d => h (ix2 r d)) (fun d k => x5 (ix2 d k)) (fun k e => x6 (ix2 k e)) e := by
  have P : ∀ j : Fin 4, down (hidden h (upW x5 j)) (downW x6 j) (ix2 r e)
      = ∑ x : Fin 1024, (fun k : Fin 4096 => neuron (fun d => h (ix2 r d)) (fun d k => x5 (ix2 d k)) k * neuron (fun d => h (ix2 r d)) (fun d k => x5 (ix2 d k)) k * x6 (ix2 k e))
          ⟨1024 * j.val + x.val, by omega⟩ := by
    intro j
    rw [down_apply]
    refine Finset.sum_congr rfl fun x _ => ?_
    have u : hidden h (upW x5 j) (ix2 r x) = neuron (fun d => h (ix2 r d)) (fun d k => x5 (ix2 d k)) ⟨1024 * j.val + x.val, by omega⟩ := by
      rw [hidden_apply]
      exact congrArg (fun z : EReal => max z 0) (Finset.sum_congr rfl fun d _ => congrArg (fun z : EReal => h (ix2 r d) * z) (upW_apply x5 j d x))
    rw [u]
    exact congrArg (fun z : EReal => _ * z) (downW_apply x6 j x e)
  unfold ffn
  rw [sum_quarters]
  exact congrArg₂ (fun a b : EReal => a + b) (congrArg₂ (fun a b : EReal => a + b) (congrArg₂ (fun a b : EReal => a + b) (P 0) (P 1)) (P 2)) (P 3)

theorem groupResid_apply (s : Fin 4) (r : Fin 256) (e : Fin 1024) : groupResid i x0 x1 x2 x3 x4 s (ix2 r e)
    = stream (fun e => x0 (ix3 0 ⟨256 * s.val + r.val, by omega⟩ e)) (fun e => x3 (ix2 ⟨(i 0).val, by have := batch_lt i; omega⟩ ⟨2048 + e.val, by omega⟩))
        (fun k => x1 (ix3 0 ⟨256 * s.val + r.val, by omega⟩ k)) (fun k => x2 (ix3 0 ⟨256 * s.val + r.val, by omega⟩ k)) (fun d e => x4 (ix2 d e)) e := by
  unfold groupResid stream
  rw [resid_apply, gate1_apply, mix_apply, sum_halves]
  refine congrArg₂ (fun a b : EReal => a + b) (wide_apply x0 s r e) (congrArg (fun z : EReal => _ * z) (congrArg₂ (fun a b : EReal => a + b) ?_ ?_))
  · refine Finset.sum_congr rfl fun k _ => congrArg₂ (fun a b : EReal => a * b) ((narrow_apply x1 s r k).trans ?_) (halfW_apply x4 0 k e)
    unfold joined
    rw [dif_pos (show 512 * 0 + k.val < 512 by omega)]
    exact congrArg x1 (congrArg (ix3 0 _) (Fin.ext (by show k.val = 512 * 0 + k.val; omega)))
  · refine Finset.sum_congr rfl fun k _ => congrArg₂ (fun a b : EReal => a * b) ((narrow_apply x2 s r k).trans ?_) (halfW_apply x4 1 k e)
    unfold joined
    rw [dif_neg (show ¬ 512 * 1 + k.val < 512 by omega)]
    exact congrArg x2 (congrArg (ix3 0 _) (Fin.ext (by show k.val = 512 * 1 + k.val - 512; omega)))

/-- A point's output, entry by entry. -/
def pointOut (r : Fin 1024) (e : Fin 1024) : EReal :=
  outRow (fun e => x0 (ix3 0 r e)) (fun k => x1 (ix3 0 r k)) (fun k => x2 (ix3 0 r k)) (fun e => x3 (ix2 ⟨(i 0).val, by have := batch_lt i; omega⟩ ⟨2048 + e.val, by omega⟩))
    (fun e => x3 (ix2 ⟨(i 0).val, by have := batch_lt i; omega⟩ ⟨3072 + e.val, by omega⟩)) (fun e => x3 (ix2 ⟨(i 0).val, by have := batch_lt i; omega⟩ ⟨4096 + e.val, by omega⟩))
    (fun e => x3 (ix2 ⟨(i 0).val, by have := batch_lt i; omega⟩ ⟨5120 + e.val, by omega⟩)) (fun d e => x4 (ix2 d e)) (fun d k => x5 (ix2 d k)) (fun k e => x6 (ix2 k e))
    (fun e => x7 (ix2 0 e)) e

theorem groupOut_apply (s : Fin 4) (r : Fin 256) (e : Fin 1024) : groupOut i x0 x1 x2 x3 x4 x5 x6 x7 s (ix2 r e)
    = pointOut i x0 x1 x2 x3 x4 x5 x6 x7 ⟨256 * s.val + r.val, by omega⟩ e := by
  unfold groupOut pointOut outRow
  rw [finish_apply]
  simp only [mlp_apply, modulate_apply, groupResid_apply, shift_apply, scale_apply, gate2_apply]
  exact congrArg (fun g => final _ _ _ g e) (funext fun e => gain_apply x7 e)

/-! ## A point -/

theorem piece (s : Fin 4) (o : ℕ) (ho : o = 256 * s.val) (hin : ∀ a, (![0, o, 0] : Fin 3 → ℕ) a + S1x256x1024.size a ≤ S1x1024x1024.size a) (x : S1x256x1024.Idx) :
    shapeCast S1x256x1024 (groupOut i x0 x1 x2 x3 x4 x5 x6 x7 s) shapeCasts_S256x1024_S1x256x1024 x
      = (fun y : S1x1024x1024.Idx => pointOut i x0 x1 x2 x3 x4 x5 x6 x7 (y 1) (y 2)) ((Rect.unit ![0, o, 0] S1x256x1024.size hin : Rect S1x1024x1024).emb x) := by
  have cast : ∀ (w : FVec Ideal S256x1024 .f32) (r : Fin 256) (e : Fin 1024), shapeCast S1x256x1024 w shapeCasts_S256x1024_S1x256x1024 (ix3 0 r e) = w (ix2 r e) := by
    intro w r e
    pointwise
  have ex : x = ix3 0 (x 1) (x 2) := by
    funext a
    fin_cases a
    · exact Fin.ext (Nat.lt_one_iff.mp (x 0).isLt)
    · rfl
    · rfl
  refine (congrArg (shapeCast S1x256x1024 (groupOut i x0 x1 x2 x3 x4 x5 x6 x7 s) shapeCasts_S256x1024_S1x256x1024) ex).trans ?_
  refine (cast _ (x 1) (x 2)).trans ?_
  refine (groupOut_apply i x0 x1 x2 x3 x4 x5 x6 x7 s (x 1) (x 2)).trans ?_
  refine congrArg₂ (pointOut i x0 x1 x2 x3 x4 x5 x6 x7) (Fin.ext ?_) (Fin.ext ?_) <;> simp [Rect.emb, Rect.unit, ho]

/-- The four stores cover the block. -/
theorem canon_stores : View.canon (Val := Elt Ideal) (s := S1x1024x1024) (stores i x0 x1 x2 x3 x4 x5 x6 x7)
    = fun y : S1x1024x1024.Idx => pointOut i x0 x1 x2 x3 x4 x5 x6 x7 (y 1) (y 2) := by
  funext y
  refine View.canon_append_of_piecesOf (fun y : S1x1024x1024.Idx => pointOut i x0 x1 x2 x3 x4 x5 x6 x7 (y 1) (y 2)) [] (stores i x0 x1 x2 x3 x4 x5 x6 x7) ?_ y ?_
  · exact ⟨piece i x0 x1 x2 x3 x4 x5 x6 x7 3 768 rfl inb_S1x1024x1024_S1x256x1024_0_768_0, piece i x0 x1 x2 x3 x4 x5 x6 x7 2 512 rfl inb_S1x1024x1024_S1x256x1024_0_512_0,
      piece i x0 x1 x2 x3 x4 x5 x6 x7 1 256 rfl inb_S1x1024x1024_S1x256x1024_0_256_0, piece i x0 x1 x2 x3 x4 x5 x6 x7 0 0 rfl inb_S1x1024x1024_S1x256x1024_0_0_0, trivial⟩
  · exact View.cover_of_tiledL (stores i x0 x1 x2 x3 x4 x5 x6 x7) S1x256x1024.size (by sl_kernel_rfl) y

end

end Cert.Kernel2Ideal.Mlp

end
-- ==== Proof.Mlp.Point.lean ====
/- From the points to the whole result: point `t` of the grid works on batch `t / 4` and rows `t % 4 * 1024` to `t % 4 * 1024 + 1023`, and the 32 blocks make up the result (`result_eq`). -/
module

public import proofs.«01_k».proof.Proof.Mlp.Arith
public import proofs.«01_k».proof.Proof.Gen.Kernel2Ideal.Value

@[expose] public section

set_option maxRecDepth 16384

noncomputable section

namespace Cert.Kernel2Ideal.Mlp

open Cert.Kernel2Ideal Cert.Kernel2Ideal.Gen Idealize.ShloMosaic Idealize.ShloMosaic.TcCoe Idealize.SL.Sem Cert.Mlp

variable (m : (ℓ : Loc nD τ sig) → Buf (Elt Ideal) ℓ)

/-- Which blocks a point works on. -/
theorem blocks : ∀ t : Fin cfg0.N,
    win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0] ∧ win0_6.index t = ![0, 0] ∧ win0_7.index t = ![0, 0]
    ∧ win0_8.index t = ![t.val / 4, t.val % 4, 0] := by decide +kernel

theorem batch : ∀ t : Fin cfg0.N, (grid0.coords t 0).val = t.val / 4 := by decide +kernel

theorem points (t : Fin cfg0.N) : t.val < 32 := lt_of_lt_of_eq t.isLt (show cfg0.N = 32 from N_0)

theorem iblk_x (c : Dev nD) (t : Fin cfg0.N) (i e : Fin 1024) : iblk m c 0 t (ix3 0 i e)
    = m ((c : Thread nD τ).loc main_arg0) (ix3 ⟨t.val / 4, by have := points t; omega⟩ ⟨t.val % 4 * 1024 + i.val, by omega⟩ e) := by
  blk_ext [iblk, V, blocks t]
theorem iblk_a (c : Dev nD) (t : Fin cfg0.N) (i : Fin 1024) (k : Fin 512) : iblk m c 1 t (ix3 0 i k)
    = m ((c : Thread nD τ).loc main_arg1) (ix3 ⟨t.val / 4, by have := points t; omega⟩ ⟨t.val % 4 * 1024 + i.val, by omega⟩ k) := by
  blk_ext [iblk, V, blocks t]
theorem iblk_b (c : Dev nD) (t : Fin cfg0.N) (i : Fin 1024) (k : Fin 512) : iblk m c 2 t (ix3 0 i k)
    = m ((c : Thread nD τ).loc main_arg2) (ix3 ⟨t.val / 4, by have := points t; omega⟩ ⟨t.val % 4 * 1024 + i.val, by omega⟩ k) := by
  blk_ext [iblk, V, blocks t]
theorem iblk_mod (c : Dev nD) (t : Fin cfg0.N) (n : Fin 16) (e : Fin 6144) : iblk m c 3 t (ix2 n e) = m ((c : Thread nD τ).loc main_arg3) (ix2 n e) := by
  blk_ext [iblk, V, blocks t]
theorem iblk_w (c : Dev nD) (t : Fin cfg0.N) (d e : Fin 1024) : iblk m c 4 t (ix2 d e) = m ((c : Thread nD τ).loc main_arg4) (ix2 d e) := by
  blk_ext [iblk, V, blocks t]
theorem iblk_w1 (c : Dev nD) (t : Fin cfg0.N) (d : Fin 1024) (k : Fin 4096) : iblk m c 5 t (ix2 d k) = m ((c : Thread nD τ).loc main_arg5) (ix2 d k) := by
  blk_ext [iblk, V, blocks t]
theorem iblk_w2 (c : Dev nD) (t : Fin cfg0.N) (k : Fin 4096) (e : Fin 1024) : iblk m c 6 t (ix2 k e) = m ((c : Thread nD τ).loc main_arg6) (ix2 k e) := by
  blk_ext [iblk, V, blocks t]
theorem iblk_gf (c : Dev nD) (t : Fin cfg0.N) (e : Fin 1024) : iblk m c 7 t (ix2 0 e) = m ((c : Thread nD τ).loc main_arg7) (ix2 0 e) := by
  blk_ext [iblk, V, blocks t]

/-- The eight arguments as launched. -/
def argX (c : Dev nD) : S8x4096x1024.Idx → EReal := m ((c : Thread nD τ).loc main_arg0)
def argA (c : Dev nD) : S8x4096x512.Idx → EReal := m ((c : Thread nD τ).loc main_arg1)
def argB (c : Dev nD) : S8x4096x512.Idx → EReal := m ((c : Thread nD τ).loc main_arg2)
def argMod (c : Dev nD) : S16x6144.Idx → EReal := m ((c : Thread nD τ).loc main_arg3)
def argW (c : Dev nD) : S1024x1024.Idx → EReal := m ((c : Thread nD τ).loc main_arg4)
def argW1 (c : Dev nD) : S1024x4096.Idx → EReal := m ((c : Thread nD τ).loc main_arg5)
def argW2 (c : Dev nD) : S4096x1024.Idx → EReal := m ((c : Thread nD τ).loc main_arg6)
def argG (c : Dev nD) : S1x1024.Idx → EReal := m ((c : Thread nD τ).loc main_arg7)

/-- The block a point writes. -/
theorem out_apply (c : Dev nD) (t : Fin cfg0.N) (y : S1x1024x1024.Idx) : outsAt0 m c t y
    = pointOut (grid0.coords t) (iblk m c 0 t) (iblk m c 1 t) (iblk m c 2 t) (iblk m c 3 t) (iblk m c 4 t) (iblk m c 5 t) (iblk m c 6 t) (iblk m c 7 t) (y 1) (y 2) := by
  unfold outsAt0
  rw [left, canon_stores]

theorem point_result (c : Dev nD) (t : Fin cfg0.N) (i e : Fin 1024) :
    pointOut (grid0.coords t) (iblk m c 0 t) (iblk m c 1 t) (iblk m c 2 t) (iblk m c 3 t) (iblk m c 4 t) (iblk m c 5 t) (iblk m c 6 t) (iblk m c 7 t) i e
      = result (argX m c) (argA m c) (argB m c) (argMod m c) (argW m c) (argW1 m c) (argW2 m c) (argG m c) ⟨t.val / 4, by have := points t; omega⟩ ⟨t.val % 4 * 1024 + i.val, by omega⟩ e := by
  have hm : ∀ e : Fin 6144, iblk m c 3 t (ix2 ⟨(grid0.coords t 0).val, by have := batch_lt (grid0.coords t); omega⟩ e) = argMod m c (ix2 ⟨t.val / 4, by have := points t; omega⟩ e) := by
    intro e
    refine (iblk_mod m c t _ e).trans (congrArg (argMod m c) ?_)
    exact congrArg (fun n : Fin 16 => (ix2 n e : S16x6144.Idx)) (Fin.ext (batch t))
  unfold pointOut result
  simp only [hm]
  congr 1
  · exact funext fun e => iblk_x m c t i e
  · exact funext fun k => iblk_a m c t i k
  · exact funext fun k => iblk_b m c t i k
  · exact funext fun d => funext fun e => iblk_w m c t d e
  · exact funext fun d => funext fun k => iblk_w1 m c t d k
  · exact funext fun k => funext fun e => iblk_w2 m c t k e
  · exact funext fun e => iblk_gf m c t e

/-- The kernel's result. -/
theorem result_eq (c : Dev nD) : (dats m 0 c).arrAt 8 cfg0.N
    = fun y : S8x4096x1024.Idx => result (argX m c) (argA m c) (argB m c) (argMod m c) (argW m c) (argW1 m c) (argW2 m c) (argG m c) (y 0) (y 1) (y 2) := by
  refine (dats m 0 c).arrAt_eq_of_covers 8 _ (by decide +kernel) fun t hf y => ?_
  blk_simp
  rw [after0_8]
  refine (out_apply m c t y).trans ((point_result m c t (y 1) (y 2)).trans ?_)
  have e0 : ((win0_8.blk t).view.emb y 0).val = t.val / 4 := by
    blk_simp [blocks t]
  have e1 : ((win0_8.blk t).view.emb y 1).val = t.val % 4 * 1024 + (y 1).val := by
    blk_simp [blocks t]
  have e2 : ((win0_8.blk t).view.emb y 2).val = (y 2).val := by
    blk_simp [blocks t]
  generalize (win0_8.blk t).view.emb y = z at e0 e1 e2
  rw [show (z 0 : Fin 8) = ⟨t.val / 4, by have := points t; omega⟩ from Fin.ext e0,
    show (z 1 : Fin 4096) = ⟨t.val % 4 * 1024 + (y 1).val, by have : (y 1).val < 1024 := (y 1).isLt; omega⟩ from Fin.ext e1, show (z 2 : Fin 1024) = y 2 from Fin.ext e2]
  rfl

end Cert.Kernel2Ideal.Mlp

end
-- ==== Proof.Mlp.Reference.lean ====
/- The reference's result, entry by entry: `result` of Spec.lean. -/
module

public import proofs.«01_k».proof.Proof.Mlp.Spec
public import proofs.«01_k».proof.Proof.Gen.Reference2Ideal.Read

@[expose] public section

set_option maxRecDepth 16384

noncomputable section

namespace Cert.Reference2Ideal.Mlp

open Cert.Reference2Ideal Cert.Reference2Ideal.Gen Cert.Reference2Ideal.Read Idealize.ShloMosaic Idealize.ShloMosaic.TcCoe Idealize.SL.Sem Cert.Mlp

variable (x : S8x4096x1024.Idx → EReal) (a b : S8x4096x512.Idx → EReal) (md : S16x6144.Idx → EReal) (w : S1024x1024.Idx → EReal) (w1 : S1024x4096.Idx → EReal)
  (w2 : S4096x1024.Idx → EReal) (gf : S1x1024.Idx → EReal)

/-- Equal coordinates, equal indices. -/
theorem ix2_of {n0 n1 : ℕ} (y : (⟨2, ![n0, n1]⟩ : Shape).Idx) (a : Fin n0) (b : Fin n1) (h0 : (y 0).val = a.val) (h1 : (y 1).val = b.val) : y = ix2 a b := by
  funext e
  fin_cases e
  · exact Fin.ext h0
  · exact Fin.ext h1
theorem ix3_of {n0 n1 n2 : ℕ} (y : (⟨3, ![n0, n1, n2]⟩ : Shape).Idx) (a : Fin n0) (b : Fin n1) (c : Fin n2) (h0 : (y 0).val = a.val) (h1 : (y 1).val = b.val) (h2 : (y 2).val = c.val) :
    y = ix3 a b c := by
  funext e
  fin_cases e
  · exact Fin.ext h0
  · exact Fin.ext h1
  · exact Fin.ext h2

/-! ## The modulation vectors -/

/-- The batch's modulation vectors, from column `o` on. -/
def vec (o : ℕ) (ho : o + 1024 ≤ 6144) (n : Fin 8) (e : Fin 1024) : EReal := md (ix2 ⟨n.val, by omega⟩ ⟨o + e.val, by omega⟩)

theorem v9_at (n : Fin 8) (e : Fin 1024) (y : S8x1x1024.Idx) (h0 : (y 0).val = n.val) (h2 : (y 2).val = e.val) : val_main_v9 (F := Ideal) md y = vec md 2048 (by omega) n e := by
  rw [val_main_v9_apply, val_main_v3_apply, val_main_v0_apply]
  exact congrArg md (ix2_of _ _ _ h0 (by show 2048 + (y 2).val = 2048 + e.val; omega))
theorem v10_at (n : Fin 8) (e : Fin 1024) (y : S8x1x1024.Idx) (h0 : (y 0).val = n.val) (h2 : (y 2).val = e.val) : val_main_v10 (F := Ideal) md y = vec md 3072 (by omega) n e := by
  rw [val_main_v10_apply, val_main_v4_apply, val_main_v0_apply]
  exact congrArg md (ix2_of _ _ _ h0 (by show 3072 + (y 2).val = 3072 + e.val; omega))
theorem v11_at (n : Fin 8) (e : Fin 1024) (y : S8x1x1024.Idx) (h0 : (y 0).val = n.val) (h2 : (y 2).val = e.val) : val_main_v11 (F := Ideal) md y = vec md 4096 (by omega) n e := by
  rw [val_main_v11_apply, val_main_v5_apply, val_main_v0_apply]
  exact congrArg md (ix2_of _ _ _ h0 (by show 4096 + (y 2).val = 4096 + e.val; omega))
theorem v12_at (n : Fin 8) (e : Fin 1024) (y : S8x1x1024.Idx) (h0 : (y 0).val = n.val) (h2 : (y 2).val = e.val) : val_main_v12 (F := Ideal) md y = vec md 5120 (by omega) n e := by
  rw [val_main_v12_apply, val_main_v6_apply, val_main_v0_apply]
  exact congrArg md (ix2_of _ _ _ h0 (by show 5120 + (y 2).val = 5120 + e.val; omega))

/-! ## The output projection -/

theorem v15_at (n : Fin 8) (i : Fin 4096) (k : Fin 1024) : val_main_v15 (F := Ideal) a b (ix3 n i k) = joined (fun k => a (ix3 n i k)) (fun k => b (ix3 n i k)) k := by
  unfold joined
  pointwise [val_main_v15, val_main_v13, val_main_v14]

/-- The residual stream after the projection. -/
def str (n : Fin 8) (i : Fin 4096) (e : Fin 1024) : EReal :=
  stream (fun e => x (ix3 n i e)) (vec md 2048 (by omega) n) (fun k => a (ix3 n i k)) (fun k => b (ix3 n i k)) (fun d e => w (ix2 d e)) e

theorem v20_at (n : Fin 8) (i : Fin 4096) (e : Fin 1024) : val_main_v20 (F := Ideal) x a b md w (ix3 n i e) = str x a b md w n i e := by
  have s : val_main_v17 (F := Ideal) a b w (ix3 n i e) = ∑ k : Fin 1024, joined (fun k => a (ix3 n i k)) (fun k => b (ix3 n i k)) k * w (ix2 k e) := by
    rw [val_main_v17_apply]
    refine Finset.sum_congr rfl fun k _ => congrArg₂ (fun x y : EReal => x * y) ?_ ?_
    · rw [ix3_of (lidx_main_v17 (ix3 n i e) k) n i k rfl rfl rfl, v15_at]
    · rw [val_main_v16_apply, ix2_of (ridx_main_v17 (ix3 n i e) k) k e rfl rfl]
      rfl
  rw [val_main_v20_apply, val_main_v19_apply, val_main_v18_apply, v9_at md n e _ rfl rfl, s]
  rfl

theorem zero_bits : (FloatOps.ofBits (F := Ideal) .f32 0x00000000#32 : EReal) = 0 := Ideal.ofBits_zero_f32
theorem one_bits : (FloatOps.ofBits (F := Ideal) .f32 0x3F800000#32 : EReal) = 1 := Ideal.ofBits_one_f32

theorem v30_at (n : Fin 8) (i : Fin 4096) (e : Fin 1024) : val_main_v30 (F := Ideal) x a b md w (ix3 n i e) = normed (str x a b md w n i) e := by
  have s : ∀ y : S8x4096.Idx, (y 0).val = n.val → (y 1).val = i.val → val_main_v22 (F := Ideal) x a b md w y = ∑ k : Fin 1024, str x a b md w n i k * str x a b md w n i k := by
    intro y h0 h1
    rw [val_main_v22_apply, val_main_cst_apply, zero_bits, zero_add]
    refine Finset.sum_congr rfl fun k _ => ?_
    rw [ix3_of (idx_main_v22 y k) n i k h0 h1 rfl, val_main_v21_apply, v20_at]
    rfl
  rw [val_main_v30_apply, v20_at, val_main_v29_apply, val_main_v28_apply, val_main_v27_apply, val_main_v25_apply, val_main_v23_apply, s _ rfl rfl, val_main_v24_apply, val_main_cst_0_apply,
    val_main_v26_apply, val_main_cst_1_apply]
  rfl

/-! ## The MLP -/

/-- The MLP's input. -/
def inp (n : Fin 8) (i : Fin 4096) (d : Fin 1024) : EReal := modulated (str x a b md w n i) (vec md 3072 (by omega) n) (vec md 4096 (by omega) n) d

theorem v36_at (n : Fin 8) (i : Fin 4096) (e : Fin 1024) : val_main_v36 (F := Ideal) x a b md w (ix3 n i e) = inp x a b md w n i e := by
  rw [val_main_v36_apply, val_main_v34_apply, v30_at, val_main_v33_apply, val_main_v32_apply, val_main_v31_apply, val_main_cst_2_apply, one_bits, v11_at md n e _ rfl rfl, val_main_v35_apply,
    v10_at md n e _ rfl rfl]
  rfl

theorem v39_at (n : Fin 8) (i : Fin 4096) (k : Fin 4096) : val_main_v39 (F := Ideal) x a b md w w1 (ix3 n i k) = neuron (inp x a b md w n i) (fun d k => w1 (ix2 d k)) k := by
  have s : val_main_v38 (F := Ideal) x a b md w w1 (ix3 n i k) = ∑ d : Fin 1024, inp x a b md w n i d * w1 (ix2 d k) := by
    rw [val_main_v38_apply]
    refine Finset.sum_congr rfl fun d _ => congrArg₂ (fun x y : EReal => x * y) ?_ ?_
    · rw [ix3_of (lidx_main_v38 (ix3 n i k) d) n i d rfl rfl rfl, v36_at]
    · rw [val_main_v37_apply, ix2_of (ridx_main_v38 (ix3 n i k) d) d k rfl rfl]
      rfl
  rw [val_main_v39_apply, s, val_main_call0_v0_apply, val_main_call0_cst_apply, zero_bits]
  rfl

/-- The stream after the MLP. -/
def str2 (n : Fin 8) (i : Fin 4096) (e : Fin 1024) : EReal :=
  str x a b md w n i e + vec md 5120 (by omega) n e * ffn (inp x a b md w n i) (fun d k => w1 (ix2 d k)) (fun k e => w2 (ix2 k e)) e

theorem v45_at (n : Fin 8) (i : Fin 4096) (e : Fin 1024) : val_main_v45 (F := Ideal) x a b md w w1 w2 (ix3 n i e) = str2 x a b md w w1 w2 n i e := by
  have s : val_main_v42 (F := Ideal) x a b md w w1 w2 (ix3 n i e) = ffn (inp x a b md w n i) (fun d k => w1 (ix2 d k)) (fun k e => w2 (ix2 k e)) e := by
    rw [val_main_v42_apply]
    refine Finset.sum_congr rfl fun k _ => congrArg₂ (fun x y : EReal => x * y) ?_ ?_
    · rw [ix3_of (lidx_main_v42 (ix3 n i e) k) n i k rfl rfl rfl, val_main_v40_apply, v39_at]
      rfl
    · rw [val_main_v41_apply, ix2_of (ridx_main_v42 (ix3 n i e) k) k e rfl rfl]
      rfl
  rw [val_main_v45_apply, v20_at, val_main_v44_apply, val_main_v43_apply, v12_at md n e _ rfl rfl, s]
  rfl

theorem v55_at (n : Fin 8) (i : Fin 4096) (e : Fin 1024) : val_main_v55 (F := Ideal) x a b md w w1 w2 (ix3 n i e) = normed (str2 x a b md w w1 w2 n i) e := by
  have s : ∀ y : S8x4096.Idx, (y 0).val = n.val → (y 1).val = i.val →
      val_main_v47 (F := Ideal) x a b md w w1 w2 y = ∑ k : Fin 1024, str2 x a b md w w1 w2 n i k * str2 x a b md w w1 w2 n i k := by
    intro y h0 h1
    rw [val_main_v47_apply, val_main_cst_3_apply, zero_bits, zero_add]
    refine Finset.sum_congr rfl fun k _ => ?_
    rw [ix3_of (idx_main_v47 y k) n i k h0 h1 rfl, val_main_v46_apply, v45_at]
    rfl
  rw [val_main_v55_apply, v45_at, val_main_v54_apply, val_main_v53_apply, val_main_v52_apply, val_main_v50_apply, val_main_v48_apply, s _ rfl rfl, val_main_v49_apply, val_main_cst_4_apply,
    val_main_v51_apply, val_main_cst_5_apply]
  rfl

/-- The reference's result. -/
theorem result_eq : val_main_v59 (F := Ideal) x a b md w w1 w2 gf = fun y : S8x4096x1024.Idx => result x a b md w w1 w2 gf (y 0) (y 1) (y 2) := by
  funext y
  rw [ix3_of y (y 0) (y 1) (y 2) rfl rfl rfl]
  refine (val_main_v59_apply (F := Ideal) x a b md w w1 w2 gf _).trans ?_
  have g : val_main_v58 (F := Ideal) gf (ix3 (y 0) (y 1) (y 2)) = gf (ix2 0 (y 2)) := by
    rw [val_main_v58_apply, val_main_v57_apply, val_main_v56_apply]
    exact congrArg gf (ix2_of _ _ _ rfl (Nat.mod_eq_of_lt (y 2).isLt))
  exact congrArg₂ (fun p q : EReal => p * q) (v55_at x a b md w w1 w2 (y 0) (y 1) (y 2)) g

end Cert.Reference2Ideal.Mlp

end
-- ==== Proof.Mlp.Claim.lean ====
/- The claim about the output projection and the MLP: the kernel and the reference leave the same array, whatever the arguments. Both results are `result` of Spec.lean. -/
module

public import proofs.«01_k».proof.Defs
public import proofs.«01_k».proof.Proof.Mlp.Point
public import proofs.«01_k».proof.Proof.Mlp.Reference
public import proofs.«01_k».proof.Proof.Gen.Reference2Ideal.Run

@[expose] public section

noncomputable section

namespace Cert.Mlp

open Idealize.ShloMosaic Idealize.ShloMosaic.TcCoe Idealize.SL.Sem

theorem algebraic : @Cert.algebraic_Kernel2Ideal_Reference2Ideal Cert.Kernel2Ideal.Gen.facts Cert.Reference2Ideal.Gen.facts := by
  intro m g m' g' _ hargs
  refine ⟨fun c => fun y : Cert.Kernel2Ideal.S8x4096x1024.Idx => result (Cert.Kernel2Ideal.Mlp.argX m c) (Cert.Kernel2Ideal.Mlp.argA m c) (Cert.Kernel2Ideal.Mlp.argB m c)
    (Cert.Kernel2Ideal.Mlp.argMod m c) (Cert.Kernel2Ideal.Mlp.argW m c) (Cert.Kernel2Ideal.Mlp.argW1 m c) (Cert.Kernel2Ideal.Mlp.argW2 m c) (Cert.Kernel2Ideal.Mlp.argG m c) (y 0) (y 1) (y 2), ?_, ?_⟩
  · refine (θ_run _ _ _).mono (fun r h c => ?_) (Cert.Kernel2Ideal.Value.run_blocks m g)
    exact ⟨(h c).1.trans (Cert.Kernel2Ideal.Mlp.result_eq m c), (h c).2⟩
  · refine (θ_run _ _ _).mono (fun r h c => ?_) (Cert.Reference2Ideal.Value.run m' g')
    refine ⟨(h c).1.trans ((Cert.Reference2Ideal.Read.val_main_v59_eq _ _).trans ?_), (h c).2⟩
    obtain ⟨e0, e1, e2, e3, e4, e5, e6, e7⟩ := hargs c
    rw [e0, e1, e2, e3, e4, e5, e6, e7]
    exact Cert.Reference2Ideal.Mlp.result_eq _ _ _ _ _ _ _ _

end Cert.Mlp

end
-- ==== Proof.Adaln.Spec.lean ====
/- The modulation vectors, over the extended reals: the condition through silu and a linear layer. -/
module

public import Idealize.ShloMosaic.Lib.Pipeline.ValueKit

@[expose] public section

noncomputable section

namespace Cert.Adaln

open Idealize.ShloMosaic

/-- A number times its sigmoid. -/
def silu (x : EReal) : EReal := x * Ideal.div 1 (1 + Ideal.exp (-x))

theorem exp_nonneg (x : EReal) : 0 ≤ Ideal.exp x := by
  induction x using EReal.rec with
  | bot => exact le_refl _
  | coe r => exact EReal.coe_nonneg.mpr (Real.exp_pos r).le
  | top => exact le_top

/-- The quotient by one plus the exponential is the same: that divisor is never zero. -/
theorem div_eq_silu (x : EReal) : Ideal.div x (1 + Ideal.exp (-x)) = silu x := by
  have h : (1 + Ideal.exp (-x) : EReal) ≠ 0 :=
    (lt_of_lt_of_le zero_lt_one (le_add_of_nonneg_right (exp_nonneg (-x)))).ne'
  unfold silu Ideal.div
  rw [if_neg h, if_neg h, one_mul]

/-- The result as an array, of the three arguments. -/
def result (c : (⟨2, ![16, 1024]⟩ : Shape).Idx → EReal) (w : (⟨2, ![1024, 6144]⟩ : Shape).Idx → EReal) (b : (⟨2, ![1, 6144]⟩ : Shape).Idx → EReal) (n : Fin 16) (e : Fin 6144) : EReal :=
  (∑ k : Fin 1024, silu (c (ix2 n k)) * w (ix2 k e)) + b (ix2 0 e)

end Cert.Adaln

end
-- ==== Proof.Adaln.Point.lean ====
/- The kernel of the modulation vectors. A grid point computes half of the columns, all rows of them: its block is the matching columns of `result` of Spec.lean, and the two blocks are the
   array (`result_eq`). -/
module

public import proofs.«01_k».proof.Proof.Adaln.Spec
public import proofs.«01_k».proof.Proof.Gen.Kernel3Ideal.Frame
public import Idealize.ShloMosaic.Lib.Pipeline.ValueKit

@[expose] public section

set_option maxRecDepth 16384

noncomputable section

namespace Cert.Kernel3Ideal.Adaln

open Cert.Kernel3Ideal Cert.Kernel3Ideal.Gen Idealize.ShloMosaic Idealize.ShloMosaic.TcCoe Idealize.SL.Sem Cert.Adaln

variable (m : (ℓ : Loc nD τ sig) → Buf (Elt Ideal) ℓ)

/-- What a point computes of its three blocks. -/
theorem pay_apply (c : Vec Ideal S16x1024 .f32) (w : Vec Ideal S1024x3072 .f32) (b : Vec Ideal S1x3072 .f32) (n : Fin 16) (e : Fin 3072) :
    k0_pay1 c w b (ix2 n e) = (∑ k : Fin 1024, silu (c (ix2 n k)) * w (ix2 k e)) + b (ix2 0 e) := by
  simp only [← div_eq_silu, ← zero_sub]
  pointwise [k0_pay1]

/-- Which blocks a point works on. -/
theorem blocks : ∀ t : Fin cfg0.N, win0_0.index t = ![0, 0] ∧ win0_1.index t = ![0, t.val] ∧ win0_2.index t = ![0, t.val] ∧ win0_3.index t = ![0, t.val] := by decide +kernel

theorem points (t : Fin cfg0.N) : t.val < 2 := lt_of_lt_of_eq t.isLt (show cfg0.N = 2 from N_0)

theorem iblk_c (c : Dev nD) (t : Fin cfg0.N) (n : Fin 16) (k : Fin 1024) : iblk m c 0 t (ix2 n k) = m ((c : Thread nD τ).loc main_arg0) (ix2 n k) := by
  blk_ext [iblk, V, blocks t]
theorem iblk_w (c : Dev nD) (t : Fin cfg0.N) (k : Fin 1024) (e : Fin 3072) : iblk m c 1 t (ix2 k e)
    = m ((c : Thread nD τ).loc main_arg1) (ix2 k ⟨t.val * 3072 + e.val, by have := points t; omega⟩) := by
  blk_ext [iblk, V, blocks t]
theorem iblk_b (c : Dev nD) (t : Fin cfg0.N) (e : Fin 3072) : iblk m c 2 t (ix2 0 e)
    = m ((c : Thread nD τ).loc main_arg2) (ix2 0 ⟨t.val * 3072 + e.val, by have := points t; omega⟩) := by
  blk_ext [iblk, V, blocks t]

/-- The three arguments as launched. -/
def argC (c : Dev nD) : S16x1024.Idx → EReal := m ((c : Thread nD τ).loc main_arg0)
def argW (c : Dev nD) : S1024x6144.Idx → EReal := m ((c : Thread nD τ).loc main_arg1)
def argB (c : Dev nD) : S1x6144.Idx → EReal := m ((c : Thread nD τ).loc main_arg2)

/-- The block a point writes. -/
theorem out_apply (c : Dev nD) (t : Fin cfg0.N) (n : Fin 16) (e : Fin 3072) : out0_3 (iblk m c 0 t) (iblk m c 1 t) (iblk m c 2 t) (ix2 n e)
    = result (argC m c) (argW m c) (argB m c) n ⟨t.val * 3072 + e.val, by have := points t; omega⟩ := by
  have h : out0_3 (iblk m c 0 t) (iblk m c 1 t) (iblk m c 2 t) = k0_pay1 (iblk m c 0 t) (iblk m c 1 t) (iblk m c 2 t) := by frame_out
  rw [h]
  refine (pay_apply _ _ _ n e).trans ?_
  unfold result
  refine congrArg₂ (fun x y : EReal => x + y) (Finset.sum_congr rfl fun k _ => congrArg₂ (fun x y : EReal => x * y) (congrArg silu ?_) ?_) ?_
  · exact iblk_c m c t n k
  · exact iblk_w m c t k e
  · exact iblk_b m c t e

/-- The kernel's result. -/
theorem result_eq (c : Dev nD) : (dats m 0 c).arrAt 3 cfg0.N = fun y : S16x6144.Idx => result (argC m c) (argW m c) (argB m c) (y 0) (y 1) := by
  refine (dats m 0 c).arrAt_eq_of_covers 3 _ (by decide +kernel) fun t hf y => ?_
  blk_simp
  rw [after0_3]
  have hy : y = (ix2 (y 0) (y 1) : S16x3072.Idx) := by
    funext a
    fin_cases a <;> rfl
  refine (congrArg (out0_3 (iblk m c 0 t) (iblk m c 1 t) (iblk m c 2 t)) hy).trans ((out_apply m c t (y 0) (y 1)).trans ?_)
  have e0 : ((win0_3.blk t).view.emb y 0).val = (y 0).val := by
    blk_simp [blocks t]
  have e1 : ((win0_3.blk t).view.emb y 1).val = t.val * 3072 + (y 1).val := by
    blk_simp [blocks t]
  generalize (win0_3.blk t).view.emb y = z at e0 e1
  rw [show (z 0 : Fin 16) = y 0 from Fin.ext e0,
    show (z 1 : Fin 6144) = ⟨t.val * 3072 + (y 1).val, by have := points t; have : (y 1).val < 3072 := (y 1).isLt; omega⟩ from Fin.ext e1]
  rfl

end Cert.Kernel3Ideal.Adaln

end
-- ==== Proof.Adaln.Reference.lean ====
/- The reference's result, entry by entry: `result` of Spec.lean. -/
module

public import proofs.«01_k».proof.Proof.Adaln.Spec
public import proofs.«01_k».proof.Proof.Gen.Reference3Ideal.Read

@[expose] public section

set_option maxRecDepth 16384

noncomputable section

namespace Cert.Reference3Ideal.Adaln

open Cert.Reference3Ideal Cert.Reference3Ideal.Gen Cert.Reference3Ideal.Read Idealize.ShloMosaic Idealize.ShloMosaic.TcCoe Idealize.SL.Sem Cert.Adaln

variable (c : S16x1024.Idx → EReal) (w : S1024x6144.Idx → EReal) (b : S1x6144.Idx → EReal)

/-- Equal coordinates, equal indices. -/
theorem ix2_of {n0 n1 : ℕ} (y : (⟨2, ![n0, n1]⟩ : Shape).Idx) (a : Fin n0) (b : Fin n1) (h0 : (y 0).val = a.val) (h1 : (y 1).val = b.val) : y = ix2 a b := by
  funext e
  fin_cases e
  · exact Fin.ext h0
  · exact Fin.ext h1

theorem one_bits : (FloatOps.ofBits (F := Ideal) .f32 0x3F800000#32 : EReal) = 1 := Ideal.ofBits_one_f32

theorem v0_at (y : S16x1024.Idx) : val_main_v0 (F := Ideal) c y = silu (c y) := by
  rw [val_main_v0_apply, val_main_call0_v5_apply, val_main_call0_v4_apply, val_main_call0_cst_0_apply, val_main_call0_v3_apply, val_main_call0_v2_apply, val_main_call0_cst_apply,
    val_main_call0_v1_apply, val_main_call0_v0_apply, one_bits]
  rfl

theorem bias_at (n : Fin 16) (e : Fin 6144) : val_main_v4 (F := Ideal) b (ix2 n e) = b (ix2 0 e) := by
  pointwise [val_main_v4, val_main_v3, val_main_v2]

/-- The reference's result. -/
theorem result_eq : val_main_v5 (F := Ideal) c w b = fun y : S16x6144.Idx => result c w b (y 0) (y 1) := by
  funext y
  obtain ⟨n, e, rfl⟩ : ∃ (n : Fin 16) (e : Fin 6144), y = ix2 n e := ⟨y 0, y 1, ix2_of y _ _ rfl rfl⟩
  rw [val_main_v5_apply, val_main_v1_apply, bias_at]
  refine congrArg (fun x : EReal => x + b (ix2 0 e)) (Finset.sum_congr rfl fun k _ => congrArg₂ (fun x y : EReal => x * y) ?_ ?_)
  · rw [v0_at, ix2_of (lidx_main_v1 (ix2 n e) k) n k rfl rfl]
    rfl
  · rw [ix2_of (ridx_main_v1 (ix2 n e) k) k e rfl rfl]
    rfl

end Cert.Reference3Ideal.Adaln

end
-- ==== Proof.Adaln.Claim.lean ====
/- The claim about the modulation vectors: the kernel and the reference leave the same array, whatever the arguments. Both results are `result` of Spec.lean. -/
module

public import proofs.«01_k».proof.Defs
public import proofs.«01_k».proof.Proof.Adaln.Point
public import proofs.«01_k».proof.Proof.Adaln.Reference
public import proofs.«01_k».proof.Proof.Gen.Kernel3Ideal.Value
public import proofs.«01_k».proof.Proof.Gen.Reference3Ideal.Run

@[expose] public section

noncomputable section

namespace Cert.Adaln

open Idealize.ShloMosaic Idealize.ShloMosaic.TcCoe Idealize.SL.Sem

theorem algebraic : @Cert.algebraic_Kernel3Ideal_Reference3Ideal Cert.Kernel3Ideal.Gen.facts Cert.Reference3Ideal.Gen.facts := by
  intro m g m' g' _ hargs
  refine ⟨fun c => fun y : Cert.Kernel3Ideal.S16x6144.Idx => result (Cert.Kernel3Ideal.Adaln.argC m c) (Cert.Kernel3Ideal.Adaln.argW m c) (Cert.Kernel3Ideal.Adaln.argB m c) (y 0) (y 1), ?_, ?_⟩
  · refine (θ_run _ _ _).mono (fun r h c => ?_) (Cert.Kernel3Ideal.Value.run_blocks m g)
    exact ⟨(h c).1.trans (Cert.Kernel3Ideal.Adaln.result_eq m c), (h c).2⟩
  · refine (θ_run _ _ _).mono (fun r h c => ?_) (Cert.Reference3Ideal.Value.run m' g')
    refine ⟨(h c).1.trans ((Cert.Reference3Ideal.Read.val_main_v5_eq _ _ _).trans ?_), (h c).2⟩
    obtain ⟨e0, e1, e2⟩ := hargs c
    rw [e0, e1, e2]
    exact Cert.Reference3Ideal.Adaln.result_eq _ _ _

end Cert.Adaln

end
-- ==== Proof.Tokens.Run.lean ====
/- The body of the tokens' projections at one grid point, of the program over the extended reals: it runs, and these are its stores. The text is that of the generated module, with a larger limit. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body leaves in every buffer, as the list of its stores, with the proof that it runs. -/

noncomputable def kernelRun0_A (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) :
    Σ' (L17 : List (View.Piece (Elt F) S1x1024x1024 .bf16)), Σ' (L18 : List (View.Piece (Elt F) S1x1024x1024 .bf16)), Σ' (L19 : List (View.Piece (Elt F) S1x1024x512 .bf16)), Σ' (L20 : List (View.Piece (Elt F) S1x1024x512 .bf16)), Σ' (L21 : List (View.Piece (Elt F) S32x4096 .bf16)), Σ' (L22 : List (View.Piece (Elt F) S128x1024 .bf16)), { LT0 : List (View.Piece (Elt F) S2x528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0)) -∗ K ⟨⟩))
          ⊢ wp frame (wpE (defs₀ (F := F)) Variants.none c none) E (cc0_token_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, fun E K => ?run⟩
  case run =>
    simp only [cc0_token_proj_eq_skeleton]; unfold cc0_token_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

end Cert.Kernel4Ideal.Gen

end
-- ==== Proof.Tokens.Frame.lean ====
/- The frame of the tokens' projections, of the program over the extended reals: the program runs, its arguments are left as they were, and the outputs' arrays hold what the grid points store. The text is that of the generated module over the run beside it. -/
module

public import proofs.«01_k».proof.Proof.Tokens.Run
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_17 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1 S1x512x128.size (by sl_kernel_rfl) y

def out0_A_17 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S1x1024x1024 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).1)

theorem cover0_A_18 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.1 S1x512x128.size (by sl_kernel_rfl) y

def out0_A_18 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S1x1024x1024 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.1)

theorem cover0_A_19 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.1 S1x512x512.size (by sl_kernel_rfl) y

def out0_A_19 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S1x1024x512 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.1)

theorem cover0_A_20 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.1 S1x512x512.size (by sl_kernel_rfl) y

def out0_A_20 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S1x1024x512 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.1)

theorem cover0_A_21 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S32x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.1 S32x4096.size (by sl_kernel_rfl) y

def out0_A_21 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S32x4096 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.1)

theorem cover0_A_22 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.2.1 S128x1024.size (by sl_kernel_rfl) y

def out0_A_22 (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S16x6144 .f32) (harg5 : arg5.IsWhole) (arg6 : Memref sig .tc .vmem S512x1024 .bf16) (harg6 : arg6.IsWhole) (arg7 : Memref sig .tc .vmem S1536x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S3x512 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S32x4096 .f32) (harg17 : arg17.IsWhole) (arg18 : Memref sig .tc .vmem S128x1024 .f32) (harg18 : arg18.IsWhole) (arg19 : Memref sig .tc .vmem S1x1024x1024 .bf16) (harg19 : arg19.IsWhole) (arg20 : Memref sig .tc .vmem S1x1024x1024 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S32x4096 .bf16) (harg23 : arg23.IsWhole) (arg24 : Memref sig .tc .vmem S128x1024 .bf16) (harg24 : arg24.IsWhole) (arg25 : Memref sig .tc .vmem S2x528x512 .f32) (harg25 : arg25.IsWhole)
    (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13 : Vec F S1024x128 .f32) (x14 : Vec F S1024x128 .f32) (x15 : Vec F S32x4096 .f32) (x16 : Vec F S128x1024 .f32) : Vec F S128x1024 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16).2.2.2.2.2.1)

def outsAt0 (c : Dev nD) (t : Fin cfg0.N) : Vec F S1x1024x1024 .bf16 × Vec F S1x1024x1024 .bf16 × Vec F S1x1024x512 .bf16 × Vec F S1x1024x512 .bf16 × Vec F S32x4096 .bf16 × Vec F S128x1024 .bf16 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_17 out0_A_18 out0_A_19 out0_A_20 out0_A_21 out0_A_22; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in

theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel4Ideal.Gen

end
-- ==== Proof.Tokens.Words.lean ====
/- The kernel of the tokens' projections, said in a few words. A grid point holds 1024 tokens and works on them in two groups of 512, each with eight tokens before it and eight after it (`tokens`). Of a group: `modul` is the
   normalized and modulated input, `lat` its projection to the latent and the rotary entries, `gates` that to two of the convolution's three parts, `gate` to the third; `qs` and `kvs` the queries, and the keys and values of
   all heads; `turn` rotates 128 lanes; `fill` is what the convolution's taps read, with zeros before the first token and after the last, and `taps` the sum of the three taps. -/
module

public import proofs.«01_k».proof.Proof.Gen.Kernel4Ideal.Skeleton
public import Idealize.ShloMosaic.Lib.Pipeline.ValueKit
public import Idealize.ShloMosaic.Lib.Pipeline.ReadBack

@[expose] public section

set_option maxRecDepth 16384

noncomputable section

namespace Cert.Kernel4Ideal.Tokens

open Cert.Kernel4Ideal Cert.Kernel4Ideal.Gen Idealize.ShloMosaic Idealize.ShloMosaic.TcCoe Idealize.SL.Sem

variable {F : FTy → Type} [FloatOps F]

/-! ## The operations -/

/-- Eight tokens, 512 and eight more. -/
def joined (a : Vec F S1x8x1024 .f32) (x : Vec F S1x512x1024 .f32) (b : Vec F S1x8x1024 .f32) : FVec F S528x1024 .f32 :=
  concatenate S528x1024 0 [⟨S8x1024, shapeCast S8x1024 a shapeCasts_S1x8x1024_S8x1024⟩, ⟨S512x1024, shapeCast S512x1024 x shapeCasts_S1x512x1024_S512x1024⟩,
    ⟨S8x1024, shapeCast S8x1024 b shapeCasts_S1x8x1024_S8x1024⟩] concatenates_S8x1024_S512x1024_S8x1024_S528x1024_d0

/-- Rows of 1024 divided by their root mean square. -/
def norm (x : FVec F S528x1024 .f32) : FVec F S528x1024 .f32 :=
  mulf x (broadcastTo S528x1024 (rsqrt (addf (divf (shapeCast S528x1 (multiReduction .add [1] S528 (mulf x x) 0x00000000#32 reduces_S528x1024_S528 (.inl rfl) rfl) shapeCasts_S528_S528x1)
    (broadcast S528x1 (Scalar.ofBits .f32 0x44800000#32))) (broadcast S528x1 (Scalar.ofBits .f32 0x358637BD#32)))) broadcasts_S528x1_S528x1024)

/-- The tokens normalized and modulated; `v` holds the batch's modulation vectors, of which the first shifts and the second scales. -/
def modul (x : FVec F S528x1024 .f32) (v : Vec F S1x6144 .f32) : FVec F S528x1024 .bf16 :=
  truncf .bf16 (addf (mulf (norm x) (broadcastTo S528x1024 (addf (broadcast S1x1024 (Scalar.ofBits .f32 0x3F800000#32)) (extractStridedSlice S1x1024 ![0, 1024] v slices_S1x6144_o0_1024_S1x1024)) broadcasts_S1x1024_S528x1024))
    (broadcastTo S528x1024 (extractStridedSlice S1x1024 ![0, 0] v slices_S1x6144_o0_0_S1x1024) broadcasts_S1x1024_S528x1024)) bitsLt_bf16_f32

/-- A projection to 512 entries, of the 512 tokens in the middle: the weights' rows are the entries. -/
def lat (h : FVec F S528x1024 .bf16) (w : Vec F S512x1024 .bf16) : FVec F S512x512 .f32 :=
  extractStridedSlice S512x512 ![8, 0] (matmul dot_S528x1024_S512x1024_S528x512_1_1_0_0_n_n none h (shapeCast S512x1024 w shapeCasts_S512x1024_S512x1024) (constant S528x512 .f32 0x00000000#32))
    slices_S528x512_o8_0_S512x512

/-- A projection to 1024 entries, of all 528. -/
def gates (h : FVec F S528x1024 .bf16) (w : Vec F S1024x1024 .bf16) : FVec F S528x1024 .f32 :=
  matmul dot_S528x1024_S1024x1024_S528x1024_1_1_0_0_n_n none h (shapeCast S1024x1024 w shapeCasts_S1024x1024_S1024x1024) (constant S528x1024 .f32 0x00000000#32)

/-- Rows of 256, and of 128, divided by their root mean square. -/
def norm256 (x : FVec F S512x256 .f32) : FVec F S512x256 .f32 :=
  mulf x (broadcastTo S512x256 (rsqrt (addf (divf (shapeCast S512x1 (multiReduction .add [1] S512 (mulf x x) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256)
def norm128 (x : FVec F S512x128 .f32) : FVec F S512x128 .f32 :=
  mulf x (broadcastTo S512x128 (rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128)

/-- The queries of all heads, from the latent entries; and the keys and values. -/
def qs (z : FVec F S512x512 .f32) (g : Vec F S1x256 .f32) (w : Vec F S256x1024 .bf16) : FVec F S512x1024 .f32 :=
  matmul dot_S512x256_S256x1024_S512x1024_1_0_0_1_n_n none
    (truncf .bf16 (mulf (norm256 (extractStridedSlice S512x256 ![0, 0] z slices_S512x512_o0_0_S512x256)) (broadcastTo S512x256 g broadcasts_S1x256_S512x256)) bitsLt_bf16_f32)
    (shapeCast S256x1024 w shapeCasts_S256x1024_S256x1024) (constant S512x1024 .f32 0x00000000#32)
def kvs (z : FVec F S512x512 .f32) (g : Vec F S1x128 .f32) (w : Vec F S128x1024 .bf16) : FVec F S512x1024 .f32 :=
  matmul dot_S512x128_S128x1024_S512x1024_1_0_0_1_n_n none
    (truncf .bf16 (mulf (norm128 (extractStridedSlice S512x128 ![0, 256] z slices_S512x512_o0_256_S512x128)) (broadcastTo S512x128 g broadcasts_S1x128_S512x128)) bitsLt_bf16_f32)
    (shapeCast S128x1024 w shapeCasts_S128x1024_S128x1024) (constant S512x1024 .f32 0x00000000#32)

/-- 128 lanes rotated: every lane times its cosine, plus the lane sixteen further times the sine. -/
def turn (x : FVec F S512x128 .f32) (c s : Vec F S512x128 .f32) : FVec F S512x128 .f32 :=
  addf (mulf x (shapeCast S512x128 c shapeCasts_S512x128_S512x128)) (mulf (dynamicRotate 1 112#32 none x rotates_S512x128_d1) (shapeCast S512x128 s shapeCasts_S512x128_S512x128))

/-- A slot of 128 of the 1024 lanes. -/
theorem slots (h : Fin 8) : S512x1024.Slices ![0, 128 * h.val] S512x128 := by revert h; decide
def slot (x : FVec F S512x1024 .f32) (h : Fin 8) : FVec F S512x128 .f32 := extractStridedSlice S512x128 ![0, 128 * h.val] x (slots h)

/-- A head's queries, as stored; a head's keys: in an even head the plain lanes come first, in an odd head the rotated ones; the values. -/
def qHead (q : FVec F S512x1024 .f32) (h : Fin 8) (c s : Vec F S512x128 .f32) : FVec F S1x512x128 .bf16 :=
  shapeCast S1x512x128 (truncf .bf16 (turn (slot q h) c s) bitsLt_bf16_f32) shapeCasts_S512x128_S1x512x128
def low : IVec S512x128 1 := cmpi .slt (iota .tc S512x128 32 [1] iota_S512x128_d1_w32) (broadcast S512x128 64#32)
def kEven (p r : FVec F S512x128 .f32) : FVec F S1x512x128 .bf16 :=
  shapeCast S1x512x128 (truncf .bf16 (select low p r) bitsLt_bf16_f32) shapeCasts_S512x128_S1x512x128
def vStore (kv : FVec F S512x1024 .f32) : FVec F S1x512x512 .bf16 :=
  shapeCast S1x512x512 (truncf .bf16 (extractStridedSlice S512x512 ![0, 512] kv slices_S512x1024_o0_512_S512x512) bitsLt_bf16_f32) shapeCasts_S512x512_S1x512x512

/-- Which of the 528 tokens exist: of the first group those from the eighth on unless there are tokens before the block, of the second those before the last eight unless there are tokens after it. -/
def there (b : BitVec 32) : Fin 2 → IVec S528x1 1 :=
  ![ori (cmpi .sge (iota .tc S528x1 32 [0] iota_S528x1_d0_w32) (broadcast S528x1 8#32)) (broadcast S528x1 (Scalar.cmpi .sgt b 0#32)),
    ori (cmpi .slt (iota .tc S528x1 32 [0] iota_S528x1_d0_w32) (broadcast S528x1 520#32)) (broadcast S528x1 (Scalar.cmpi .slt b 3#32))]

/-- What the taps read. -/
def fill (ok : IVec S528x1 1) (v : FVec F S528x1024 .f32) : FVec F S1x528x512 .f32 :=
  shapeCast S1x528x512 (select (broadcastTo S528x512 (shapeCast S528x1 ok shapeCasts_S528x1_S528x1) broadcasts_S528x1_S528x512)
    (mulf (extractStridedSlice S528x512 ![0, 0] v slices_S528x1024_o0_0_S528x512) (extractStridedSlice S528x512 ![0, 512] v slices_S528x1024_o0_512_S528x512))
    (broadcast S528x512 (Scalar.ofBits .f32 0x00000000#32))) shapeCasts_S528x512_S1x528x512

/-- The three taps. -/
def taps (w : Vec F S3x512 .f32) (a b c : Vec F S1x512x512 .f32) : FVec F S512x512 .f32 :=
  addf (addf (mulf (broadcastTo S512x512 (extractStridedSlice S1x512 ![0, 0] w slices_S3x512_o0_0_S1x512) broadcasts_S1x512_S512x512) (shapeCast S512x512 a shapeCasts_S1x512x512_S512x512))
    (mulf (broadcastTo S512x512 (extractStridedSlice S1x512 ![1, 0] w slices_S3x512_o1_0_S1x512) broadcasts_S1x512_S512x512) (shapeCast S512x512 b shapeCasts_S1x512x512_S512x512)))
    (mulf (broadcastTo S512x512 (extractStridedSlice S1x512 ![2, 0] w slices_S3x512_o2_0_S1x512) broadcasts_S1x512_S512x512) (shapeCast S512x512 c shapeCasts_S1x512x512_S512x512))

/-- The convolution, as stored. -/
def cStore (g t : FVec F S512x512 .f32) : FVec F S1x512x512 .bf16 := shapeCast S1x512x512 (truncf .bf16 (mulf g t) bitsLt_bf16_f32) shapeCasts_S512x512_S1x512x512

/-! ## What the loads read -/

section
variable (i : grid0.Coords) (x0 : Vec F S1x8x1024 .f32) (x1 : Vec F S1x1024x1024 .f32) (x2 : Vec F S1x8x1024 .f32) (x3 : Vec F S16x6144 .f32) (x4 : Vec F S512x1024 .bf16) (x5 : Vec F S1536x1024 .bf16)
  (x6 : Vec F S1x256 .f32) (x7 : Vec F S256x1024 .bf16) (x8 : Vec F S1x128 .f32) (x9 : Vec F S128x1024 .bf16) (x10 : Vec F S3x512 .f32) (x11 x12 : Vec F S1024x256 .f32) (x13 x14 : Vec F S1024x128 .f32)

/-- The eight tokens before a group, the group, and the eight after it. -/
def before : Fin 2 → Vec F S1x8x1024 .f32 :=
  ![View.ld x0 (Rect.unit (s := S1x8x1024) ![0, 0, 0] S1x8x1024.size inb_S1x8x1024_S1x8x1024_0_0_0), View.ld x1 (Rect.unit (s := S1x1024x1024) ![0, 504, 0] S1x8x1024.size inb_S1x1024x1024_S1x8x1024_0_504_0)]
def after : Fin 2 → Vec F S1x8x1024 .f32 :=
  ![View.ld x1 (Rect.unit (s := S1x1024x1024) ![0, 512, 0] S1x8x1024.size inb_S1x1024x1024_S1x8x1024_0_512_0), View.ld x2 (Rect.unit (s := S1x8x1024) ![0, 0, 0] S1x8x1024.size inb_S1x8x1024_S1x8x1024_0_0_0)]
def rowsRect (s : Fin 2) : Rect S1x1024x1024 := Rect.unit ![0, 512 * s.val, 0] S1x512x1024.size (by revert s; decide)
def rows (s : Fin 2) : Vec F S1x512x1024 .f32 := View.ld x1 (rowsRect s)
/-- The batch's modulation vectors. -/
def modRow : Vec F S1x6144 .f32 := View.ld x3 (Rect.unit (s := S16x6144) (k0_off1 i) S1x6144.size (k0_off1_inb i))
/-- The weights. -/
def wLat : Vec F S512x1024 .bf16 := View.ld x4 (Rect.unit (s := S512x1024) ![0, 0] S512x1024.size inb_S512x1024_S512x1024_0_0)
def wGates : Vec F S1024x1024 .bf16 := View.ld x5 (Rect.unit (s := S1536x1024) ![512, 0] S1024x1024.size inb_S1536x1024_S1024x1024_512_0)
def wGate : Vec F S512x1024 .bf16 := View.ld x5 (Rect.unit (s := S1536x1024) ![0, 0] S512x1024.size inb_S1536x1024_S512x1024_0_0)
def gq : Vec F S1x256 .f32 := View.ld x6 (Rect.unit (s := S1x256) ![0, 0] S1x256.size inb_S1x256_S1x256_0_0)
def wq : Vec F S256x1024 .bf16 := View.ld x7 (Rect.unit (s := S256x1024) ![0, 0] S256x1024.size inb_S256x1024_S256x1024_0_0)
def gkv : Vec F S1x128 .f32 := View.ld x8 (Rect.unit (s := S1x128) ![0, 0] S1x128.size inb_S1x128_S1x128_0_0)
def wkv : Vec F S128x1024 .bf16 := View.ld x9 (Rect.unit (s := S128x1024) ![0, 0] S128x1024.size inb_S128x1024_S128x1024_0_0)
def wTap : Vec F S3x512 .f32 := View.ld x10 (Rect.unit (s := S3x512) ![0, 0] S3x512.size inb_S3x512_S3x512_0_0)
/-- The tables: of the queries, for even and odd heads; of the keys. -/
def tabRect (s p : Fin 2) : Rect S1024x256 := Rect.unit ![512 * s.val, 128 * p.val] S512x128.size (by revert s p; decide)
def qTab (x : Vec F S1024x256 .f32) (s p : Fin 2) : Vec F S512x128 .f32 := View.ld x (tabRect s p)
def ktabRect (s : Fin 2) : Rect S1024x128 := Rect.unit ![512 * s.val, 0] S512x128.size (by revert s; decide)
def kTab (x : Vec F S1024x128 .f32) (s : Fin 2) : Vec F S512x128 .f32 := View.ld x (ktabRect s)

/-! ## A group of tokens -/

def modIn (s : Fin 2) : FVec F S528x1024 .bf16 := modul (joined (before x0 x1 s) (rows x1 s) (after x1 x2 s)) (modRow i x3)
def latIn (s : Fin 2) : FVec F S512x512 .f32 := lat (modIn i x0 x1 x2 x3 s) (wLat x4)
def qIn (s : Fin 2) : FVec F S512x1024 .f32 := qs (latIn i x0 x1 x2 x3 x4 s) (gq x6) (wq x7)
def kvIn (s : Fin 2) : FVec F S512x1024 .f32 := kvs (latIn i x0 x1 x2 x3 x4 s) (gkv x8) (wkv x9)
def ropeIn (s : Fin 2) : FVec F S512x128 .f32 :=
  turn (extractStridedSlice S512x128 ![0, 384] (latIn i x0 x1 x2 x3 x4 s) slices_S512x512_o0_384_S512x128) (kTab x13 s) (kTab x14 s)
def fillIn (s : Fin 2) : FVec F S1x528x512 .f32 := fill (there (BitVec.ofNat 32 (i 1).val) s) (gates (modIn i x0 x1 x2 x3 s) (wGates x5))

/-! ## The stores -/

def slotRect (s : Fin 2) (h : Fin 8) : Rect S1x1024x1024 := Rect.unit ![0, 512 * s.val, 128 * h.val] S1x512x128.size (by revert s h; decide)
def halfRect (s : Fin 2) : Rect S1x1024x512 := Rect.unit ![0, 512 * s.val, 0] S1x512x512.size (by revert s; decide)

/-- The queries' stores: head by head of the two groups, the last one first. -/
def qPiece (s : Fin 2) (h : Fin 8) (p : Fin 2) : View.Piece (Elt F) S1x1024x1024 .bf16 :=
  ⟨slotRect s h, qHead (qIn i x0 x1 x2 x3 x4 x6 x7 s) h (qTab x11 s p) (qTab x12 s p)⟩
def qStores : List (View.Piece (Elt F) S1x1024x1024 .bf16) :=
  let P := qPiece i x0 x1 x2 x3 x4 x6 x7 x11 x12
  [P 1 7 1, P 1 6 0, P 1 5 1, P 1 4 0, P 1 3 1, P 1 2 0, P 1 1 1, P 1 0 0, P 0 7 1, P 0 6 0, P 0 5 1, P 0 4 0, P 0 3 1, P 0 2 0, P 0 1 1, P 0 0 0]

/-- The keys' stores. -/
def kEvenPiece (s : Fin 2) (h g : Fin 8) : View.Piece (Elt F) S1x1024x1024 .bf16 :=
  ⟨slotRect s h, kEven (slot (kvIn i x0 x1 x2 x3 x4 x8 x9 s) g) (ropeIn i x0 x1 x2 x3 x4 x13 x14 s)⟩
def kOddPiece (s : Fin 2) (h g : Fin 8) : View.Piece (Elt F) S1x1024x1024 .bf16 :=
  ⟨slotRect s h, kEven (ropeIn i x0 x1 x2 x3 x4 x13 x14 s) (slot (kvIn i x0 x1 x2 x3 x4 x8 x9 s) g)⟩
def kStores : List (View.Piece (Elt F) S1x1024x1024 .bf16) :=
  let E := kEvenPiece i x0 x1 x2 x3 x4 x8 x9 x13 x14
  let O := kOddPiece i x0 x1 x2 x3 x4 x8 x9 x13 x14
  [O 1 7 3, E 1 6 3, O 1 5 2, E 1 4 2, O 1 3 1, E 1 2 1, O 1 1 0, E 1 0 0, O 0 7 3, E 0 6 3, O 0 5 2, E 0 4 2, O 0 3 1, E 0 2 1, O 0 1 0, E 0 0 0]

/-- The values' stores. -/
def vPiece (s : Fin 2) : View.Piece (Elt F) S1x1024x512 .bf16 := ⟨halfRect s, vStore (kvIn i x0 x1 x2 x3 x4 x8 x9 s)⟩
def vStores : List (View.Piece (Elt F) S1x1024x512 .bf16) := [vPiece i x0 x1 x2 x3 x4 x8 x9 1, vPiece i x0 x1 x2 x3 x4 x8 x9 0]

end

end Cert.Kernel4Ideal.Tokens

end
-- ==== Proof.Tokens.Spec.lean ====
/- The projections of one token, over the extended reals: what both programs compute of a row of the residual stream, its batch's modulation vectors and the weights. -/
module

public import Idealize.ShloMosaic.Lib.Pipeline.ValueKit

@[expose] public section

noncomputable section

namespace Cert.Tokens

open Idealize.ShloMosaic

/-- The small number under the root, the widths 1024, 256 and 128 of the three normalizations, and the scale of the queries. -/
def eps : EReal := Ideal.ofBits .f32 0x358637BD#32
def width : EReal := Ideal.ofBits .f32 0x44800000#32
def width256 : EReal := Ideal.ofBits .f32 0x43800000#32
def width128 : EReal := Ideal.ofBits .f32 0x43000000#32
def factor : EReal := Ideal.ofBits .f32 0x3E16C740#32

/-- A row divided by its root mean square; `w` is its width. -/
def normed {n : ℕ} (w : EReal) (r : Fin n → EReal) (e : Fin n) : EReal := r e * Ideal.rsqrt (Ideal.div (∑ k : Fin n, r k * r k) w + eps)

/-- The token, normalized and modulated. -/
def modulated (r sh sc : Fin 1024 → EReal) (e : Fin 1024) : EReal := normed width r e * (1 + sc e) + sh e

/-- Its first projection: 256 latent entries of the queries, 128 of keys and values, 32 to rotate, and three times 512 for the convolution. -/
def latent (r sh sc : Fin 1024 → EReal) (w : Fin 1024 → Fin 1952 → EReal) (j : Fin 1952) : EReal := ∑ d : Fin 1024, modulated r sh sc d * w d j

/-- The queries of the eight heads, and the keys and values. -/
def query (z : Fin 1952 → EReal) (g : Fin 256 → EReal) (w : Fin 256 → Fin 768 → EReal) (j : Fin 768) : EReal :=
  ∑ d : Fin 256, normed width256 (fun d : Fin 256 => z ⟨d.val, by omega⟩) d * g d * w d j
def keyValue (z : Fin 1952 → EReal) (g : Fin 128 → EReal) (w : Fin 128 → Fin 1024 → EReal) (j : Fin 1024) : EReal :=
  ∑ d : Fin 128, normed width128 (fun d : Fin 128 => z ⟨256 + d.val, by omega⟩) d * g d * w d j

/-- Of 32 entries to rotate, the first and the second half of the row part and of the column part. -/
def first (l : Fin 16) : Fin 32 := if l.val < 8 then ⟨l.val, by omega⟩ else ⟨l.val + 8, by omega⟩
def second (l : Fin 16) : Fin 32 := if l.val < 8 then ⟨l.val + 8, by omega⟩ else ⟨l.val + 16, by omega⟩

/-- The 32 entries rotated, and 32 zeros. -/
def turned (r : Fin 32 → EReal) (c s : Fin 16 → EReal) (l : Fin 64) : EReal :=
  if h : l.val < 16 then r (first ⟨l.val, h⟩) * c ⟨l.val, h⟩ - r (second ⟨l.val, h⟩) * s ⟨l.val, h⟩
  else if h' : l.val < 32 then r (second ⟨l.val - 16, by omega⟩) * c ⟨l.val - 16, by omega⟩ + r (first ⟨l.val - 16, by omega⟩) * s ⟨l.val - 16, by omega⟩
  else 0

/-- Four pieces of 64, one after the other: the plain entries of an even head, its rotated ones, the rotated ones of an odd head, its plain ones. -/
def pair (a b c d : Fin 64 → EReal) (l : Fin 256) : EReal :=
  if h : l.val < 64 then a ⟨l.val, h⟩
  else if h1 : l.val < 128 then b ⟨l.val - 64, by omega⟩
  else if h2 : l.val < 192 then c ⟨l.val - 128, by omega⟩
  else d ⟨l.val - 192, by omega⟩

/-- The queries, laid out in pairs of heads. -/
def queries (q : Fin 768 → EReal) (c s : Fin 16 → EReal) (j : Fin 1024) : EReal :=
  pair (fun l => q ⟨192 * (j.val / 256) + l.val, by omega⟩) (turned (fun l => q ⟨192 * (j.val / 256) + 64 + l.val, by omega⟩) c s)
    (turned (fun l => q ⟨192 * (j.val / 256) + 160 + l.val, by omega⟩) c s) (fun l => q ⟨192 * (j.val / 256) + 96 + l.val, by omega⟩) ⟨j.val % 256, by omega⟩

/-- The keys, laid out in pairs of heads: all of them have the same rotated entries. -/
def keys (kv : Fin 1024 → EReal) (r : Fin 32 → EReal) (c s : Fin 16 → EReal) (j : Fin 1024) : EReal :=
  pair (fun l => kv ⟨256 * (j.val / 256) + l.val, by omega⟩) (turned r c s) (turned r c s) (fun l => kv ⟨256 * (j.val / 256) + 128 + l.val, by omega⟩) ⟨j.val % 256, by omega⟩

/-- The values. -/
def values (kv : Fin 1024 → EReal) (j : Fin 512) : EReal := kv ⟨128 * (j.val / 64) + 64 + j.val % 64, by omega⟩

/-- What the convolution's taps read of a token, and the convolution of three of them. -/
def gated (z : Fin 1952 → EReal) (j : Fin 512) : EReal := z ⟨928 + j.val, by omega⟩ * z ⟨1440 + j.val, by omega⟩
def convolved (z : Fin 1952 → EReal) (before here after : Fin 512 → EReal) (w : Fin 3 → Fin 512 → EReal) (j : Fin 512) : EReal :=
  z ⟨416 + j.val, by omega⟩ * (w 0 j * before j + w 1 j * here j + w 2 j * after j)

/-! ## The results of the whole sequences -/

section
variable (x : (⟨3, ![8, 4096, 1024]⟩ : Shape).Idx → EReal) (md : (⟨2, ![16, 6144]⟩ : Shape).Idx → EReal) (w : (⟨2, ![1024, 1952]⟩ : Shape).Idx → EReal) (gq : (⟨2, ![1, 256]⟩ : Shape).Idx → EReal)
  (wq : (⟨2, ![256, 768]⟩ : Shape).Idx → EReal) (gkv : (⟨2, ![1, 128]⟩ : Shape).Idx → EReal) (wkv : (⟨2, ![128, 1024]⟩ : Shape).Idx → EReal) (wt : (⟨2, ![3, 512]⟩ : Shape).Idx → EReal)
  (cs sn : (⟨2, ![4096, 16]⟩ : Shape).Idx → EReal)

/-- The first projection of token `i` of batch `n`. -/
def lat (n : Fin 8) (i : Fin 4096) (j : Fin 1952) : EReal :=
  latent (fun e => x (ix3 n i e)) (fun e : Fin 1024 => md (ix2 ⟨n.val, by omega⟩ ⟨e.val, by omega⟩)) (fun e : Fin 1024 => md (ix2 ⟨n.val, by omega⟩ ⟨1024 + e.val, by omega⟩)) (fun d j => w (ix2 d j)) j

def qResult (n : Fin 8) (i : Fin 4096) (j : Fin 1024) : EReal :=
  queries (query (lat x md w n i) (fun d => gq (ix2 0 d)) (fun d j => wq (ix2 d j))) (fun k => cs (ix2 i k)) (fun k => sn (ix2 i k)) j * factor
def kvOf (n : Fin 8) (i : Fin 4096) (j : Fin 1024) : EReal := keyValue (lat x md w n i) (fun d => gkv (ix2 0 d)) (fun d j => wkv (ix2 d j)) j
def kResult (n : Fin 8) (i : Fin 4096) (j : Fin 1024) : EReal :=
  keys (kvOf x md w gkv wkv n i) (fun k : Fin 32 => lat x md w n i ⟨384 + k.val, by omega⟩) (fun k => cs (ix2 i k)) (fun k => sn (ix2 i k)) j
def vResult (n : Fin 8) (i : Fin 4096) (j : Fin 512) : EReal := values (kvOf x md w gkv wkv n i) j
/-- The sequence the taps read, with a zero before its first token and one after its last. -/
def padded (n : Fin 8) (p : ℕ) (j : Fin 512) : EReal := if h : 1 ≤ p ∧ p ≤ 4096 then gated (lat x md w n ⟨p - 1, by omega⟩) j else 0
def cResult (n : Fin 8) (i : Fin 4096) (j : Fin 512) : EReal :=
  convolved (lat x md w n i) (padded x md w n i.val) (padded x md w n (i.val + 1)) (padded x md w n (i.val + 2)) (fun k j => wt (ix2 k j)) j
end

end Cert.Tokens

end
-- ==== Proof.Tokens.Arith.lean ====
/- What the operations of Words.lean compute over the extended reals, entry by entry. -/
module

public import proofs.«01_k».proof.Proof.Tokens.Words
public import proofs.«01_k».proof.Proof.Tokens.Spec

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

/-- A row of the 528. -/
def rowOf (a : S1x8x1024.Idx → EReal) (x : S1x512x1024.Idx → EReal) (b : S1x8x1024.Idx → EReal) (R : Fin 528) (e : Fin 1024) : EReal :=
  if h : R.val < 8 then a (ix3 0 ⟨R.val, h⟩ e) else if h' : R.val < 520 then x (ix3 0 ⟨R.val - 8, by omega⟩ e) else b (ix3 0 ⟨R.val - 520, by omega⟩ e)

theorem joined_apply (a : Vec Ideal S1x8x1024 .f32) (x : Vec Ideal S1x512x1024 .f32) (b : Vec Ideal S1x8x1024 .f32) (R : Fin 528) (e : Fin 1024) :
    joined a x b (ix2 R e) = rowOf a x b R e := by
  unfold rowOf
  pointwise [joined]
  by_cases h : R.val < 8
  · rw [dif_pos h, dif_pos h]
  · rw [dif_neg h, dif_neg h]
    by_cases h' : R.val < 520
    · rw [dif_pos h', dif_pos (by omega)]
    · rw [dif_neg h', dif_neg (by omega)]
      exact congrArg (fun k : Fin 8 => b (ix3 0 k e)) (Fin.ext (by show R.val - 8 - 512 = R.val - 520; omega))

theorem norm_apply (x : FVec Ideal S528x1024 .f32) (R : Fin 528) (e : Fin 1024) : norm x (ix2 R e) = normed width (fun e => x (ix2 R e)) e := by
  pointwise [norm]
  rfl

theorem modul_apply (x : FVec Ideal S528x1024 .f32) (v : Vec Ideal S1x6144 .f32) (R : Fin 528) (e : Fin 1024) :
    modul x v (ix2 R e) = modulated (fun e => x (ix2 R e)) (fun e => v (ix2 0 ⟨e.val, by omega⟩)) (fun e => v (ix2 0 ⟨1024 + e.val, by omega⟩)) e := by
  unfold modulated
  rw [← norm_apply]
  unfold modul
  generalize norm x = z
  pointwise

theorem lat_apply (h : FVec Ideal S528x1024 .bf16) (w : Vec Ideal S512x1024 .bf16) (r j : Fin 512) :
    lat h w (ix2 r j) = ∑ d : Fin 1024, h (ix2 ⟨8 + r.val, by omega⟩ d) * w (ix2 j d) := by
  pointwise [lat]

theorem gates_apply (h : FVec Ideal S528x1024 .bf16) (w : Vec Ideal S1024x1024 .bf16) (R : Fin 528) (j : Fin 1024) :
    gates h w (ix2 R j) = ∑ d : Fin 1024, h (ix2 R d) * w (ix2 j d) := by
  pointwise [gates]

theorem norm256_apply (x : FVec Ideal S512x256 .f32) (r : Fin 512) (e : Fin 256) : norm256 x (ix2 r e) = normed width256 (fun e => x (ix2 r e)) e := by
  pointwise [norm256]
  rfl

theorem norm128_apply (x : FVec Ideal S512x128 .f32) (r : Fin 512) (e : Fin 128) : norm128 x (ix2 r e) = normed width128 (fun e => x (ix2 r e)) e := by
  pointwise [norm128]
  rfl

theorem cut256_apply (z : FVec Ideal S512x512 .f32) (r : Fin 512) (d : Fin 256) : extractStridedSlice S512x256 ![0, 0] z slices_S512x512_o0_0_S512x256 (ix2 r d) = z (ix2 r ⟨d.val, by omega⟩) := by
  pointwise
theorem cut128_apply (z : FVec Ideal S512x512 .f32) (r : Fin 512) (d : Fin 128) : extractStridedSlice S512x128 ![0, 256] z slices_S512x512_o0_256_S512x128 (ix2 r d) = z (ix2 r ⟨256 + d.val, by omega⟩) := by
  pointwise
theorem cutRope_apply (z : FVec Ideal S512x512 .f32) (r : Fin 512) (d : Fin 128) : extractStridedSlice S512x128 ![0, 384] z slices_S512x512_o0_384_S512x128 (ix2 r d) = z (ix2 r ⟨384 + d.val, by omega⟩) := by
  pointwise

theorem qs_apply (z : FVec Ideal S512x512 .f32) (g : Vec Ideal S1x256 .f32) (w : Vec Ideal S256x1024 .bf16) (r : Fin 512) (j : Fin 1024) :
    qs z g w (ix2 r j) = ∑ d : Fin 256, normed width256 (fun d : Fin 256 => z (ix2 r ⟨d.val, by omega⟩)) d * g (ix2 0 d) * w (ix2 d j) := by
  simp only [← cut256_apply, ← norm256_apply]
  unfold qs
  generalize norm256 (F := Ideal) _ = y
  pointwise

theorem kvs_apply (z : FVec Ideal S512x512 .f32) (g : Vec Ideal S1x128 .f32) (w : Vec Ideal S128x1024 .bf16) (r : Fin 512) (j : Fin 1024) :
    kvs z g w (ix2 r j) = ∑ d : Fin 128, normed width128 (fun d : Fin 128 => z (ix2 r ⟨256 + d.val, by omega⟩)) d * g (ix2 0 d) * w (ix2 d j) := by
  simp only [← cut128_apply, ← norm128_apply]
  unfold kvs
  generalize norm128 (F := Ideal) _ = y
  pointwise

theorem turn_apply (x : FVec Ideal S512x128 .f32) (c s : Vec Ideal S512x128 .f32) (r : Fin 512) (l : Fin 128) :
    turn x c s (ix2 r l) = x (ix2 r l) * c (ix2 r l) + x (ix2 r ⟨(l.val + 16) % 128, Nat.mod_lt _ (by decide)⟩) * s (ix2 r l) := by
  pointwise [turn]
  exact congrArg (fun k : Fin 128 => _ + x (ix2 r k) * _) (Fin.ext (by show (l.val + 128 - 112) % 128 = (l.val + 16) % 128; omega))

theorem slot_apply (x : FVec Ideal S512x1024 .f32) (h : Fin 8) (r : Fin 512) (l : Fin 128) : slot x h (ix2 r l) = x (ix2 r ⟨128 * h.val + l.val, by omega⟩) := by
  pointwise [slot]

theorem qHead_apply (q : FVec Ideal S512x1024 .f32) (h : Fin 8) (c s : Vec Ideal S512x128 .f32) (r : Fin 512) (l : Fin 128) :
    qHead q h c s (ix3 0 r l) = q (ix2 r ⟨128 * h.val + l.val, by omega⟩) * c (ix2 r l) + q (ix2 r ⟨128 * h.val + (l.val + 16) % 128, by omega⟩) * s (ix2 r l) := by
  refine Eq.trans ?_ ((turn_apply (slot q h) c s r l).trans ?_)
  · unfold qHead
    generalize turn _ c s = y
    pointwise
  · rw [slot_apply, slot_apply]

theorem low_apply : ∀ l : Fin 128, IntOp.cmpi CmpIPredicate.slt (BitVec.ofNat 32 l.val) 64#32 = if l.val < 64 then 1#1 else 0#1 := by decide +kernel
theorem select_ite {α : Type} (p : Prop) [Decidable p] (a b : α) : Scalar.select (if p then 1#1 else 0#1) a b = if p then a else b := by
  split <;> rfl

theorem kEven_apply (p t : FVec Ideal S512x128 .f32) (r : Fin 512) (l : Fin 128) : kEven p t (ix3 0 r l) = if l.val < 64 then p (ix2 r l) else t (ix2 r l) := by
  pointwise [kEven, low]
  rw [low_apply, select_ite]

theorem vStore_apply (kv : FVec Ideal S512x1024 .f32) (r j : Fin 512) : vStore kv (ix3 0 r j) = kv (ix2 r ⟨512 + j.val, by omega⟩) := by
  pointwise [vStore]

theorem taps_apply (w : Vec Ideal S3x512 .f32) (a b c : Vec Ideal S1x512x512 .f32) (r j : Fin 512) :
    taps w a b c (ix2 r j) = w (ix2 0 j) * a (ix3 0 r j) + w (ix2 1 j) * b (ix3 0 r j) + w (ix2 2 j) * c (ix3 0 r j) := by
  pointwise [taps]

theorem cStore_apply (g t : FVec Ideal S512x512 .f32) (r j : Fin 512) : cStore g t (ix3 0 r j) = g (ix2 r j) * t (ix2 r j) := by
  pointwise [cStore]

theorem fill_apply (ok : IVec S528x1 1) (v : FVec Ideal S528x1024 .f32) (R : Fin 528) (j : Fin 512) :
    fill ok v (ix3 0 R j) = if ok (ix2 R 0) = 1#1 then v (ix2 R ⟨j.val, by omega⟩) * v (ix2 R ⟨512 + j.val, by omega⟩) else 0 := by
  pointwise [fill]
  rfl

theorem there_first (b : Fin 4) (R : Fin 528) : there (BitVec.ofNat 32 b.val) 0 (ix2 R 0) = if 8 ≤ R.val ∨ 0 < b.val then 1#1 else 0#1 := by
  pointwise [there]
  revert b R
  decide +kernel

theorem there_second (b : Fin 4) (R : Fin 528) : there (BitVec.ofNat 32 b.val) 1 (ix2 R 0) = if R.val < 520 ∨ b.val < 3 then 1#1 else 0#1 := by
  pointwise [there]
  revert b R
  decide +kernel

end Cert.Kernel4Ideal.Tokens

end
-- ==== Proof.Tokens.Left.lean ====
/- What the body leaves in the six outputs' buffers at one grid point: the stores of Words.lean, of the blocks the point reads. The convolution's taps read back what the body wrote before: tap `k` of a group
   reads 512 rows of `fillIn`, from row `7 + k` on. -/
module

public import proofs.«01_k».proof.Proof.Tokens.Words
public import proofs.«01_k».proof.Proof.Tokens.Frame

@[expose] public section

set_option maxRecDepth 16384

noncomputable section

namespace Cert.Kernel4Ideal.Tokens

open Cert.Kernel4Ideal Cert.Kernel4Ideal.Gen Idealize.ShloMosaic Idealize.ShloMosaic.TcCoe Idealize.SL.Sem

variable {F : FTy → Type} [FloatOps F]

section
variable (i : grid0.Coords) (x0 : Vec F S1x8x1024 .f32) (x1 : Vec F S1x1024x1024 .f32) (x2 : Vec F S1x8x1024 .f32) (x3 : Vec F S16x6144 .f32) (x5 : Vec F S1536x1024 .bf16) (x10 : Vec F S3x512 .f32)
  (x15 : Vec F S32x4096 .f32) (x16 : Vec F S128x1024 .f32)

/-- Where a group's rows for the taps are kept, and where a tap reads. -/
def slabRect (s : Fin 2) : Rect S2x528x512 := Rect.unit ![s.val, 0, 0] S1x528x512.size (by revert s; decide)
def tapRect (s : Fin 2) (k : Fin 3) : Rect S2x528x512 := Rect.unit ![s.val, 7 + k.val, 0] S1x512x512.size (by revert s k; decide)
def fillPiece (s : Fin 2) : View.Piece (Elt F) S2x528x512 .f32 := ⟨slabRect s, fillIn i x0 x1 x2 x3 x5 s⟩
def kept (s : Fin 2) : List (View.Piece (Elt F) S2x528x512 .f32) := (![[fillPiece i x0 x1 x2 x3 x5 0], [fillPiece i x0 x1 x2 x3 x5 1, fillPiece i x0 x1 x2 x3 x5 0]] : Fin 2 → List (View.Piece (Elt F) S2x528x512 .f32)) s

/-- What a tap reads. -/
def readRect (k : Fin 3) : Rect S1x528x512 := Rect.unit ![0, 7 + k.val, 0] S1x512x512.size (by revert k; decide)
def tapIn (s : Fin 2) (k : Fin 3) : Vec F S1x512x512 .f32 := View.ld (fillIn i x0 x1 x2 x3 x5 s) (readRect k)

theorem tap_place (s : Fin 2) (k : Fin 3) (y : S1x512x512.Idx) : (tapRect s k).toLoadRect.idx y = (slabRect s).emb ((readRect k).toLoadRect.idx y) := by
  funext a
  refine Fin.ext ?_
  show (tapRect s k).off a + (tapRect s k).stride a * (y a).val = (slabRect s).off a + (slabRect s).stride a * ((readRect k).off a + (readRect k).stride a * (y a).val)
  fin_cases a <;> simp [tapRect, readRect, slabRect, Rect.unit]
theorem read_piece {sig : RefSig} {κ : Kind} {sp : Space} (v : View sig κ sp S2x528x512 .f32) (s : Fin 2) (k : Fin 3) (f : Vec F S1x528x512 .f32) (L : List (View.Piece (Elt F) S2x528x512 .f32)) :
    v.readCov (⟨slabRect s, f⟩ :: L) (tapRect s k).toLoadRect = View.ld f (readRect k) := by
  rw [View.readCov_eq_canon']
  funext y
  exact (congrArg (View.canon (⟨slabRect s, f⟩ :: L)) (tap_place s k y)).trans (View.canon_cons_emb (slabRect s) f L ((readRect k).toLoadRect.idx y))
theorem kept_read {sig : RefSig} {κ : Kind} {sp : Space} (v : View sig κ sp S2x528x512 .f32) : ∀ (s : Fin 2) (k : Fin 3),
    v.readCov (kept i x0 x1 x2 x3 x5 s) (tapRect s k).toLoadRect = tapIn i x0 x1 x2 x3 x5 s k
  | 0, k => read_piece v 0 k (fillIn i x0 x1 x2 x3 x5 0) []
  | 1, k => read_piece v 1 k (fillIn i x0 x1 x2 x3 x5 1) [fillPiece i x0 x1 x2 x3 x5 0]

/-- The convolution's stores. -/
def gateIn (s : Fin 2) : FVec F S512x512 .f32 := lat (modIn i x0 x1 x2 x3 s) (wGate x5)
def cPieceOf (T : Fin 2 → Fin 3 → Vec F S1x512x512 .f32) (s : Fin 2) : View.Piece (Elt F) S1x1024x512 .bf16 :=
  ⟨halfRect s, cStore (gateIn i x0 x1 x2 x3 x5 s) (taps (wTap x10) (T s 0) (T s 1) (T s 2))⟩
def cStoresOf (T : Fin 2 → Fin 3 → Vec F S1x512x512 .f32) : List (View.Piece (Elt F) S1x1024x512 .bf16) := [cPieceOf i x0 x1 x2 x3 x5 x10 T 1, cPieceOf i x0 x1 x2 x3 x5 x10 T 0]
def cStores : List (View.Piece (Elt F) S1x1024x512 .bf16) := cStoresOf i x0 x1 x2 x3 x5 x10 (tapIn i x0 x1 x2 x3 x5)

/-- The weights' stores. -/
def upStores : List (View.Piece (Elt F) S32x4096 .bf16) :=
  [⟨Rect.unit (s := S32x4096) ![0, 0] S32x4096.size inb_S32x4096_S32x4096_0_0, truncf .bf16 (View.ld x15 (Rect.unit (s := S32x4096) ![0, 0] S32x4096.size inb_S32x4096_S32x4096_0_0) : Vec F S32x4096 .f32) bitsLt_bf16_f32⟩]
def downStores : List (View.Piece (Elt F) S128x1024 .bf16) :=
  [⟨Rect.unit (s := S128x1024) ![0, 0] S128x1024.size inb_S128x1024_S128x1024_0_0, truncf .bf16 (View.ld x16 (Rect.unit (s := S128x1024) ![0, 0] S128x1024.size inb_S128x1024_S128x1024_0_0) : Vec F S128x1024 .f32) bitsLt_bf16_f32⟩]

end

section
variable (c : Dev nD) (i : grid0.Coords) (arg2 : Memref sig .tc .vmem S1x8x1024 .f32) (harg2 : arg2.IsWhole) (arg3 : Memref sig .tc .vmem S1x1024x1024 .f32) (harg3 : arg3.IsWhole) (arg4 : Memref
  sig .tc .vmem S1x8x1024 .f32) (harg4 : arg4.IsWhole) (arg5 : Memref sig .tc .vmem S16x6144 .f32) (harg5 : arg5.IsWhole) (arg6 : Memref sig .tc .vmem S512x1024 .bf16) (harg6 :
  arg6.IsWhole) (arg7 : Memref sig .tc .vmem S1536x1024 .bf16) (harg7 : arg7.IsWhole) (arg8 : Memref sig .tc .vmem S1x256 .f32) (harg8 : arg8.IsWhole) (arg9 : Memref sig .tc .vmem
  S256x1024 .bf16) (harg9 : arg9.IsWhole) (arg10 : Memref sig .tc .vmem S1x128 .f32) (harg10 : arg10.IsWhole) (arg11 : Memref sig .tc .vmem S128x1024 .bf16) (harg11 : arg11.IsWhole)
  (arg12 : Memref sig .tc .vmem S3x512 .f32) (harg12 : arg12.IsWhole) (arg13 : Memref sig .tc .vmem S1024x256 .f32) (harg13 : arg13.IsWhole) (arg14 : Memref sig .tc .vmem S1024x256 .f32)
  (harg14 : arg14.IsWhole) (arg15 : Memref sig .tc .vmem S1024x128 .f32) (harg15 : arg15.IsWhole) (arg16 : Memref sig .tc .vmem S1024x128 .f32) (harg16 : arg16.IsWhole) (arg17 : Memref
  sig .tc .vmem S32x4096 .f32) (harg17 : arg17.IsWhole) (arg18 : Memref sig .tc .vmem S128x1024 .f32) (harg18 : arg18.IsWhole) (arg19 : Memref sig .tc .vmem S1x1024x1024 .bf16) (harg19 :
  arg19.IsWhole) (arg20 : Memref sig .tc .vmem S1x1024x1024 .bf16) (harg20 : arg20.IsWhole) (arg21 : Memref sig .tc .vmem S1x1024x512 .bf16) (harg21 : arg21.IsWhole) (arg22 : Memref sig
  .tc .vmem S1x1024x512 .bf16) (harg22 : arg22.IsWhole) (arg23 : Memref sig .tc .vmem S32x4096 .bf16) (harg23 : arg23.IsWhole) (arg24 : Memref sig .tc .vmem S128x1024 .bf16) (harg24 :
  arg24.IsWhole) (arg25 : Memref sig .tc .vmem S2x528x512 .f32) (harg25 : arg25.IsWhole)
  (x0 : Vec F S1x8x1024 .f32) (x1 : Vec F S1x1024x1024 .f32) (x2 : Vec F S1x8x1024 .f32) (x3 : Vec F S16x6144 .f32) (x4 : Vec F S512x1024 .bf16) (x5 : Vec F S1536x1024 .bf16) (x6 : Vec F
  S1x256 .f32) (x7 : Vec F S256x1024 .bf16) (x8 : Vec F S1x128 .f32) (x9 : Vec F S128x1024 .bf16) (x10 : Vec F S3x512 .f32) (x11 : Vec F S1024x256 .f32) (x12 : Vec F S1024x256 .f32) (x13
  : Vec F S1024x128 .f32) (x14 : Vec F S1024x128 .f32) (x15 : Vec F S32x4096 .f32) (x16 : Vec F S128x1024 .f32)

theorem run17 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).1
    = qStores i (arg2.view.read (Elt F) (harg2.unread x0)) (arg3.view.read (Elt F) (harg3.unread x1)) (arg4.view.read (Elt F) (harg4.unread x2)) (arg5.view.read (Elt F) (harg5.unread x3))
  (arg6.view.read (Elt F) (harg6.unread x4)) (arg8.view.read (Elt F) (harg8.unread x6)) (arg9.view.read (Elt F) (harg9.unread x7)) (arg13.view.read (Elt F) (harg13.unread x11))
  (arg14.view.read (Elt F) (harg14.unread x12)) := rfl
theorem left17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S1x1024x1024) (qStores i x0 x1 x2 x3 x4 x6 x7 x11 x12) := by
  unfold out0_A_17
  rw [View.read_writes_junk_eq_canon, run17, harg2.read_unread, harg3.read_unread, harg4.read_unread, harg5.read_unread, harg6.read_unread, harg8.read_unread, harg9.read_unread, harg13.read_unread, harg14.read_unread]

theorem run18 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).2.1
    = kStores i (arg2.view.read (Elt F) (harg2.unread x0)) (arg3.view.read (Elt F) (harg3.unread x1)) (arg4.view.read (Elt F) (harg4.unread x2)) (arg5.view.read (Elt F) (harg5.unread x3))
  (arg6.view.read (Elt F) (harg6.unread x4)) (arg10.view.read (Elt F) (harg10.unread x8)) (arg11.view.read (Elt F) (harg11.unread x9)) (arg15.view.read (Elt F) (harg15.unread x13))
  (arg16.view.read (Elt F) (harg16.unread x14)) := rfl
theorem left18 : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S1x1024x1024) (kStores i x0 x1 x2 x3 x4 x8 x9 x13 x14) := by
  unfold out0_A_18
  rw [View.read_writes_junk_eq_canon, run18, harg2.read_unread, harg3.read_unread, harg4.read_unread, harg5.read_unread, harg6.read_unread, harg10.read_unread, harg11.read_unread, harg15.read_unread, harg16.read_unread]

theorem run19 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).2.2.1
    = vStores i (arg2.view.read (Elt F) (harg2.unread x0)) (arg3.view.read (Elt F) (harg3.unread x1)) (arg4.view.read (Elt F) (harg4.unread x2)) (arg5.view.read (Elt F) (harg5.unread x3))
  (arg6.view.read (Elt F) (harg6.unread x4)) (arg10.view.read (Elt F) (harg10.unread x8)) (arg11.view.read (Elt F) (harg11.unread x9)) := rfl
theorem left19 : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S1x1024x512) (vStores i x0 x1 x2 x3 x4 x8 x9) := by
  unfold out0_A_19
  rw [View.read_writes_junk_eq_canon, run19, harg2.read_unread, harg3.read_unread, harg4.read_unread, harg5.read_unread, harg6.read_unread, harg10.read_unread, harg11.read_unread]

theorem run20 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).2.2.2.1
    = cStoresOf i (arg2.view.read (Elt F) (harg2.unread x0)) (arg3.view.read (Elt F) (harg3.unread x1)) (arg4.view.read (Elt F) (harg4.unread x2)) (arg5.view.read (Elt F) (harg5.unread x3))
  (arg7.view.read (Elt F) (harg7.unread x5)) (arg12.view.read (Elt F) (harg12.unread x10)) (fun s k => arg25.view.readCov (kept i (arg2.view.read (Elt F) (harg2.unread x0))
  (arg3.view.read (Elt F) (harg3.unread x1)) (arg4.view.read (Elt F) (harg4.unread x2)) (arg5.view.read (Elt F) (harg5.unread x3)) (arg7.view.read (Elt F) (harg7.unread x5)) s) (tapRect s
  k).toLoadRect) := rfl
theorem left20 : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S1x1024x512) (cStores i x0 x1 x2 x3 x5 x10) := by
  unfold out0_A_20
  rw [View.read_writes_junk_eq_canon, run20, harg2.read_unread, harg3.read_unread, harg4.read_unread, harg5.read_unread, harg7.read_unread, harg12.read_unread]
  exact congrArg (fun T => View.canon (cStoresOf i x0 x1 x2 x3 x5 x10 T)) (funext fun s => funext fun k => kept_read i x0 x1 x2 x3 x5 arg25.view s k)

theorem run21 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).2.2.2.2.1
    = upStores (arg17.view.read (Elt F) (harg17.unread x15)) := rfl
theorem left21 : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S32x4096) (upStores x15) := by
  unfold out0_A_21
  rw [View.read_writes_junk_eq_canon, run21, harg17.read_unread]

theorem run22 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15
  arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15
  x16).2.2.2.2.2.1
    = downStores (arg18.view.read (Elt F) (harg18.unread x16)) := rfl
theorem left22 : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
    = View.canon (Val := Elt F) (s := S128x1024) (downStores x16) := by
  unfold out0_A_22
  rw [View.read_writes_junk_eq_canon, run22, harg18.read_unread]

end

end Cert.Kernel4Ideal.Tokens

end
-- ==== Proof.Tokens.Block.lean ====
/- A grid point's six outputs, entry by entry, from the blocks it reads: `qOut`, `kOut`, `vOut` and `cOut` of a row and a lane, and the two blocks of weights as they are. The rows around the block are numbered
   from eight before it (`around`). -/
module

public import proofs.«01_k».proof.Proof.Tokens.Arith
public import proofs.«01_k».proof.Proof.Tokens.Left

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

section
variable (i : grid0.Coords) (x0 : Vec Ideal S1x8x1024 .f32) (x1 : Vec Ideal S1x1024x1024 .f32) (x2 : Vec Ideal S1x8x1024 .f32) (x3 : Vec Ideal S16x6144 .f32) (x4 : Vec Ideal S512x1024 .bf16)
  (x5 : Vec Ideal S1536x1024 .bf16) (x6 : Vec Ideal S1x256 .f32) (x7 : Vec Ideal S256x1024 .bf16) (x8 : Vec Ideal S1x128 .f32) (x9 : Vec Ideal S128x1024 .bf16) (x10 : Vec Ideal S3x512 .f32)
  (x11 x12 : Vec Ideal S1024x256 .f32) (x13 x14 : Vec Ideal S1024x128 .f32) (x15 : Vec Ideal S32x4096 .f32) (x16 : Vec Ideal S128x1024 .f32)

/-! ## The loads -/

theorem rows_apply (s : Fin 2) (r : Fin 512) (e : Fin 1024) : (rows x1 s) (ix3 0 r e) = x1 (ix3 0 ⟨512 * s.val + r.val, by omega⟩ e) := by
  refine congrArg x1 ?_
  funext a; refine Fin.ext ?_; fin_cases a <;> simp [LoadRect.idx, Rect.toLoadRect, rowsRect, Rect.unit]
theorem before_first (r : Fin 8) (e : Fin 1024) : (before x0 x1 0) (ix3 0 r e) = x0 (ix3 0 r e) := by
  refine congrArg x0 ?_
  funext a; refine Fin.ext ?_; fin_cases a <;> simp [LoadRect.idx, Rect.toLoadRect, Rect.unit]
theorem before_second (r : Fin 8) (e : Fin 1024) : (before x0 x1 1) (ix3 0 r e) = x1 (ix3 0 ⟨504 + r.val, by omega⟩ e) := by
  refine congrArg x1 ?_
  funext a; refine Fin.ext ?_; fin_cases a <;> simp [LoadRect.idx, Rect.toLoadRect, Rect.unit]
theorem after_first (r : Fin 8) (e : Fin 1024) : (after x1 x2 0) (ix3 0 r e) = x1 (ix3 0 ⟨512 + r.val, by omega⟩ e) := by
  refine congrArg x1 ?_
  funext a; refine Fin.ext ?_; fin_cases a <;> simp [LoadRect.idx, Rect.toLoadRect, Rect.unit]
theorem after_second (r : Fin 8) (e : Fin 1024) : (after x1 x2 1) (ix3 0 r e) = x2 (ix3 0 r e) := by
  refine congrArg x2 ?_
  funext a; refine Fin.ext ?_; fin_cases a <;> simp [LoadRect.idx, Rect.toLoadRect, Rect.unit]

/-- The batch and the tile a point works on. -/
theorem batch_lt : (i 0).val < 8 := (i 0).isLt
theorem tile_lt : (i 1).val < 4 := (i 1).isLt

theorem modRow_apply (e : Fin 6144) : modRow i x3 (ix2 0 e) = x3 (ix2 ⟨(i 0).val, by have := batch_lt i; omega⟩ e) := by
  refine congrArg x3 ?_
  funext a; refine Fin.ext ?_; fin_cases a <;> simp [LoadRect.idx, Rect.toLoadRect, Rect.unit, k0_off1_eq]
theorem wLat_apply (j : Fin 512) (d : Fin 1024) : (wLat x4) (ix2 j d) = x4 (ix2 j d) := by
  refine congrArg x4 ?_
  funext a; refine Fin.ext ?_; fin_cases a <;> simp [LoadRect.idx, Rect.toLoadRect, Rect.unit]
theorem wGates_apply (j d : Fin 1024) : (wGates x5) (ix2 j d) = x5 (ix2 ⟨512 + j.val, by omega⟩ d) := by
  refine congrArg x5 ?_
  funext a; refine Fin.ext ?_; fin_cases a <;> simp [LoadRect.idx, Rect.toLoadRect, Rect.unit]
theorem wGate_apply (j : Fin 512) (d : Fin 1024) : (wGate x5) (ix2 j d) = x5 (ix2 ⟨j.val, by omega⟩ d) := by
  refine congrArg x5 ?_
  funext a; refine Fin.ext ?_; fin_cases a <;> simp [LoadRect.idx, Rect.toLoadRect, Rect.unit]
theorem gq_apply (d : Fin 256) : (gq x6) (ix2 0 d) = x6 (ix2 0 d) := by
  refine congrArg x6 ?_
  funext a; refine Fin.ext ?_; fin_cases a <;> simp [LoadRect.idx, Rect.toLoadRect, Rect.unit]
theorem wq_apply (d : Fin 256) (j : Fin 1024) : (wq x7) (ix2 d j) = x7 (ix2 d j) := by
  refine congrArg x7 ?_
  funext a; refine Fin.ext ?_; fin_cases a <;> simp [LoadRect.idx, Rect.toLoadRect, Rect.unit]
theorem gkv_apply (d : Fin 128) : (gkv x8) (ix2 0 d) = x8 (ix2 0 d) := by
  refine congrArg x8 ?_
  funext a; refine Fin.ext ?_; fin_cases a <;> simp [LoadRect.idx, Rect.toLoadRect, Rect.unit]
theorem wkv_apply (d : Fin 128) (j : Fin 1024) : (wkv x9) (ix2 d j) = x9 (ix2 d j) := by
  refine congrArg x9 ?_
  funext a; refine Fin.ext ?_; fin_cases a <;> simp [LoadRect.idx, Rect.toLoadRect, Rect.unit]
theorem wTap_apply (k : Fin 3) (j : Fin 512) : (wTap x10) (ix2 k j) = x10 (ix2 k j) := by
  refine congrArg x10 ?_
  funext a; refine Fin.ext ?_; fin_cases a <;> simp [LoadRect.idx, Rect.toLoadRect, Rect.unit]
theorem qTab_apply (s p : Fin 2) (r : Fin 512) (l : Fin 128) : (qTab x11 s p) (ix2 r l) = x11 (ix2 ⟨512 * s.val + r.val, by omega⟩ ⟨128 * p.val + l.val, by omega⟩) := by
  refine congrArg x11 ?_
  funext a; refine Fin.ext ?_; fin_cases a <;> simp [LoadRect.idx, Rect.toLoadRect, tabRect, Rect.unit]
theorem kTab_apply (s : Fin 2) (r : Fin 512) (l : Fin 128) : (kTab x13 s) (ix2 r l) = x13 (ix2 ⟨512 * s.val + r.val, by omega⟩ l) := by
  refine congrArg x13 ?_
  funext a; refine Fin.ext ?_; fin_cases a <;> simp [LoadRect.idx, Rect.toLoadRect, ktabRect, Rect.unit]
theorem tapIn_apply (s : Fin 2) (k : Fin 3) (r j : Fin 512) : (tapIn i x0 x1 x2 x3 x5 s k) (ix3 0 r j) = fillIn i x0 x1 x2 x3 x5 s (ix3 0 ⟨7 + k.val + r.val, by omega⟩ j) := by
  refine congrArg (fillIn i x0 x1 x2 x3 x5 s) ?_
  funext a; refine Fin.ext ?_; fin_cases a <;> simp [LoadRect.idx, Rect.toLoadRect, readRect, Rect.unit]

/-! ## A row -/

/-- The rows from eight before the block to eight after it. -/
def around (P : Fin 1040) (e : Fin 1024) : EReal :=
  if h : P.val < 8 then x0 (ix3 0 ⟨P.val, h⟩ e) else if h' : P.val < 1032 then x1 (ix3 0 ⟨P.val - 8, by omega⟩ e) else x2 (ix3 0 ⟨P.val - 1032, by omega⟩ e)

theorem around_inside (r : Fin 1024) : around x0 x1 x2 ⟨8 + r.val, by omega⟩ = fun e => x1 (ix3 0 r e) := by
  funext e
  unfold around
  rw [dif_neg (by show ¬ 8 + r.val < 8; omega), dif_pos (by show 8 + r.val < 1032; omega)]
  exact congrArg (fun k : Fin 1024 => x1 (ix3 0 k e)) (Fin.ext (by show 8 + r.val - 8 = r.val; omega))

theorem around_before (P : Fin 1040) (e : Fin 1024) (h : P.val < 8) : around x0 x1 x2 P e = x0 (ix3 0 ⟨P.val, h⟩ e) := dif_pos h
theorem around_in (P : Fin 1040) (e : Fin 1024) (h : 8 ≤ P.val) (h' : P.val < 1032) : around x0 x1 x2 P e = x1 (ix3 0 ⟨P.val - 8, by omega⟩ e) :=
  (dif_neg (by omega)).trans (dif_pos h')
theorem around_after (P : Fin 1040) (e : Fin 1024) (h : 1032 ≤ P.val) : around x0 x1 x2 P e = x2 (ix3 0 ⟨P.val - 1032, by omega⟩ e) :=
  (dif_neg (by omega)).trans (dif_neg (by omega))

theorem rowOf_around (s : Fin 2) (R : Fin 528) (e : Fin 1024) : rowOf (before x0 x1 s) (rows x1 s) (after x1 x2 s) R e = around x0 x1 x2 ⟨512 * s.val + R.val, by omega⟩ e := by
  unfold rowOf
  obtain rfl | rfl : s = 0 ∨ s = 1 := by fin_cases s <;> simp
  · by_cases h : R.val < 8
    · rw [dif_pos h, before_first]
      refine Eq.trans ?_ (around_before x0 x1 x2 _ e (by show 512 * 0 + R.val < 8; omega)).symm
      exact congrArg (fun k : Fin 8 => x0 (ix3 0 k e)) (Fin.ext (by show R.val = 512 * 0 + R.val; omega))
    · rw [dif_neg h]
      refine Eq.trans ?_ (around_in x0 x1 x2 _ e (by show 8 ≤ 512 * 0 + R.val; omega) (by show 512 * 0 + R.val < 1032; omega)).symm
      by_cases h' : R.val < 520
      · rw [dif_pos h', rows_apply]
        exact congrArg (fun k : Fin 1024 => x1 (ix3 0 k e)) (Fin.ext (by show 512 * 0 + (R.val - 8) = 512 * 0 + R.val - 8; omega))
      · rw [dif_neg h', after_first]
        exact congrArg (fun k : Fin 1024 => x1 (ix3 0 k e)) (Fin.ext (by show 512 + (R.val - 520) = 512 * 0 + R.val - 8; omega))
  · by_cases h : R.val < 8
    · rw [dif_pos h, before_second]
      refine Eq.trans ?_ (around_in x0 x1 x2 _ e (by show 8 ≤ 512 * 1 + R.val; omega) (by show 512 * 1 + R.val < 1032; omega)).symm
      exact congrArg (fun k : Fin 1024 => x1 (ix3 0 k e)) (Fin.ext (by show 504 + R.val = 512 * 1 + R.val - 8; omega))
    · rw [dif_neg h]
      by_cases h' : R.val < 520
      · rw [dif_pos h', rows_apply]
        refine Eq.trans ?_ (around_in x0 x1 x2 _ e (by show 8 ≤ 512 * 1 + R.val; omega) (by show 512 * 1 + R.val < 1032; omega)).symm
        exact congrArg (fun k : Fin 1024 => x1 (ix3 0 k e)) (Fin.ext (by show 512 * 1 + (R.val - 8) = 512 * 1 + R.val - 8; omega))
      · rw [dif_neg h', after_second]
        refine Eq.trans ?_ (around_after x0 x1 x2 _ e (by show 1032 ≤ 512 * 1 + R.val; omega)).symm
        exact congrArg (fun k : Fin 8 => x2 (ix3 0 k e)) (Fin.ext (by show R.val - 520 = 512 * 1 + R.val - 1032; omega))

/-- The batch's shift and scale. -/
def shiftOf (e : Fin 1024) : EReal := x3 (ix2 ⟨(i 0).val, by have := batch_lt i; omega⟩ ⟨e.val, by omega⟩)
def scaleOf (e : Fin 1024) : EReal := x3 (ix2 ⟨(i 0).val, by have := batch_lt i; omega⟩ ⟨1024 + e.val, by omega⟩)
/-- A modulated row, of the block and around it. -/
def tok (r e : Fin 1024) : EReal := modulated (fun e => x1 (ix3 0 r e)) (shiftOf i x3) (scaleOf i x3) e
def tokAround (P : Fin 1040) (e : Fin 1024) : EReal := modulated (around x0 x1 x2 P) (shiftOf i x3) (scaleOf i x3) e

theorem modIn_apply (s : Fin 2) (R : Fin 528) (e : Fin 1024) : modIn i x0 x1 x2 x3 s (ix2 R e) = tokAround i x0 x1 x2 x3 ⟨512 * s.val + R.val, by omega⟩ e := by
  unfold modIn tokAround
  rw [modul_apply]
  simp only [joined_apply, rowOf_around, modRow_apply]
  rfl

theorem tokAround_inside (s : Fin 2) (r : Fin 512) : tokAround i x0 x1 x2 x3 ⟨512 * s.val + (8 + r.val), by omega⟩ = tok i x1 x3 ⟨512 * s.val + r.val, by omega⟩ := by
  unfold tokAround tok
  rw [show (⟨512 * s.val + (8 + r.val), by omega⟩ : Fin 1040) = ⟨8 + (⟨512 * s.val + r.val, by omega⟩ : Fin 1024).val, by omega⟩ from Fin.ext (by show 512 * s.val + (8 + r.val) = 8 + (512 * s.val + r.val); omega),
    around_inside]

/-- The first projection's entries of a row. -/
def zLat (r : Fin 1024) (j : Fin 512) : EReal := ∑ d : Fin 1024, tok i x1 x3 r d * x4 (ix2 j d)
def zGate (r : Fin 1024) (j : Fin 512) : EReal := ∑ d : Fin 1024, tok i x1 x3 r d * x5 (ix2 ⟨j.val, by omega⟩ d)
def zPair (P : Fin 1040) (j : Fin 1024) : EReal := ∑ d : Fin 1024, tokAround i x0 x1 x2 x3 P d * x5 (ix2 ⟨512 + j.val, by omega⟩ d)

theorem latIn_apply (s : Fin 2) (r j : Fin 512) : latIn i x0 x1 x2 x3 x4 s (ix2 r j) = zLat i x1 x3 x4 ⟨512 * s.val + r.val, by omega⟩ j := by
  unfold latIn zLat
  rw [lat_apply]
  refine Finset.sum_congr rfl fun d _ => ?_
  rw [modIn_apply, wLat_apply]
  exact congrArg (fun f => f d * _) (tokAround_inside i x0 x1 x2 x3 s r)

theorem gateIn_apply (s : Fin 2) (r j : Fin 512) : gateIn i x0 x1 x2 x3 x5 s (ix2 r j) = zGate i x1 x3 x5 ⟨512 * s.val + r.val, by omega⟩ j := by
  unfold gateIn zGate
  rw [lat_apply]
  refine Finset.sum_congr rfl fun d _ => ?_
  rw [modIn_apply, wGate_apply]
  exact congrArg (fun f => f d * _) (tokAround_inside i x0 x1 x2 x3 s r)

/-- What a tap reads: nothing before the first token and after the last. -/
def upAt (P : Fin 1040) (j : Fin 512) : EReal :=
  if (8 ≤ P.val ∨ 0 < (i 1).val) ∧ (P.val < 1032 ∨ (i 1).val < 3) then zPair i x0 x1 x2 x3 x5 P ⟨j.val, by omega⟩ * zPair i x0 x1 x2 x3 x5 P ⟨512 + j.val, by omega⟩ else 0

theorem bit_ite {p : Prop} [Decidable p] : ((if p then 1#1 else 0#1) = 1#1) ↔ p := by split <;> simp_all

theorem fillIn_apply (s : Fin 2) (R : Fin 528) (j : Fin 512) : fillIn i x0 x1 x2 x3 x5 s (ix3 0 R j) = upAt i x0 x1 x2 x3 x5 ⟨512 * s.val + R.val, by omega⟩ j := by
  unfold fillIn upAt zPair
  rw [fill_apply]
  simp only [gates_apply, modIn_apply, wGates_apply]
  have ht : (there (BitVec.ofNat 32 (i 1).val) s (ix2 R 0) = 1#1) ↔ (8 ≤ 512 * s.val + R.val ∨ 0 < (i 1).val) ∧ (512 * s.val + R.val < 1032 ∨ (i 1).val < 3) := by
    obtain rfl | rfl : s = 0 ∨ s = 1 := by fin_cases s <;> simp
    · rw [show there (BitVec.ofNat 32 (i 1).val) 0 (ix2 R 0) = _ from there_first ⟨(i 1).val, tile_lt i⟩ R, bit_ite]
      constructor
      · intro h; refine ⟨?_, Or.inl (show 512 * 0 + R.val < 1032 by omega)⟩
        rcases h with h | h
        · exact Or.inl (show 8 ≤ 512 * 0 + R.val by omega)
        · exact Or.inr h
      · intro h
        rcases h.1 with h | h
        · exact Or.inl (by have : 8 ≤ 512 * 0 + R.val := h; omega)
        · exact Or.inr h
    · rw [show there (BitVec.ofNat 32 (i 1).val) 1 (ix2 R 0) = _ from there_second ⟨(i 1).val, tile_lt i⟩ R, bit_ite]
      constructor
      · intro h; refine ⟨Or.inl (show 8 ≤ 512 * 1 + R.val by omega), ?_⟩
        rcases h with h | h
        · exact Or.inl (show 512 * 1 + R.val < 1032 by omega)
        · exact Or.inr h
      · intro h
        rcases h.2 with h | h
        · exact Or.inl (by have : 512 * 1 + R.val < 1032 := h; omega)
        · exact Or.inr h
  exact if_congr ht rfl rfl

/-! ## The outputs -/

def qRow (r : Fin 1024) (j : Fin 1024) : EReal := ∑ d : Fin 256, normed width256 (fun d : Fin 256 => zLat i x1 x3 x4 r ⟨d.val, by omega⟩) d * x6 (ix2 0 d) * x7 (ix2 d j)
def kvRow (r : Fin 1024) (j : Fin 1024) : EReal := ∑ d : Fin 128, normed width128 (fun d : Fin 128 => zLat i x1 x3 x4 r ⟨256 + d.val, by omega⟩) d * x8 (ix2 0 d) * x9 (ix2 d j)

theorem qIn_apply (s : Fin 2) (r : Fin 512) (j : Fin 1024) : qIn i x0 x1 x2 x3 x4 x6 x7 s (ix2 r j) = qRow i x1 x3 x4 x6 x7 ⟨512 * s.val + r.val, by omega⟩ j := by
  unfold qIn qRow
  rw [qs_apply]
  simp only [latIn_apply, gq_apply, wq_apply]
theorem kvIn_apply (s : Fin 2) (r : Fin 512) (j : Fin 1024) : kvIn i x0 x1 x2 x3 x4 x8 x9 s (ix2 r j) = kvRow i x1 x3 x4 x8 x9 ⟨512 * s.val + r.val, by omega⟩ j := by
  unfold kvIn kvRow
  rw [kvs_apply]
  simp only [latIn_apply, gkv_apply, wkv_apply]

def qOut (r l : Fin 1024) : EReal :=
  qRow i x1 x3 x4 x6 x7 r l * x11 (ix2 r ⟨l.val % 256, by omega⟩) + qRow i x1 x3 x4 x6 x7 r ⟨128 * (l.val / 128) + (l.val % 128 + 16) % 128, by omega⟩ * x12 (ix2 r ⟨l.val % 256, by omega⟩)
def ropeOut (r : Fin 1024) (l : Fin 128) : EReal :=
  zLat i x1 x3 x4 r ⟨384 + l.val, by omega⟩ * x13 (ix2 r l) + zLat i x1 x3 x4 r ⟨384 + (l.val + 16) % 128, by omega⟩ * x14 (ix2 r l)
/-- Of the four pieces of 64 lanes of a pair of heads the first and the last are plain, the others rotated. -/
def kOut (r l : Fin 1024) : EReal :=
  if l.val % 256 < 64 ∨ 192 ≤ l.val % 256 then kvRow i x1 x3 x4 x8 x9 r ⟨128 * (l.val / 256) + l.val % 128, by omega⟩ else ropeOut i x1 x3 x4 x13 x14 r ⟨l.val % 128, by omega⟩
def vOut (r : Fin 1024) (j : Fin 512) : EReal := kvRow i x1 x3 x4 x8 x9 r ⟨512 + j.val, by omega⟩
def cOut (r : Fin 1024) (j : Fin 512) : EReal :=
  zGate i x1 x3 x5 r j * (x10 (ix2 0 j) * upAt i x0 x1 x2 x3 x5 ⟨r.val + 7, by omega⟩ j + x10 (ix2 1 j) * upAt i x0 x1 x2 x3 x5 ⟨r.val + 8, by omega⟩ j + x10 (ix2 2 j) * upAt i x0 x1 x2 x3 x5 ⟨r.val + 9, by omega⟩ j)

theorem ropeIn_apply (s : Fin 2) (r : Fin 512) (l : Fin 128) : ropeIn i x0 x1 x2 x3 x4 x13 x14 s (ix2 r l) = ropeOut i x1 x3 x4 x13 x14 ⟨512 * s.val + r.val, by omega⟩ l := by
  unfold ropeIn ropeOut
  rw [turn_apply]
  simp only [cutRope_apply, latIn_apply, kTab_apply]

/-! ## The stores make up the blocks -/

theorem lane3 {b c : ℕ} (x : (⟨3, ![1, b, c]⟩ : Shape).Idx) : x = ix3 0 (x 1) (x 2) := by
  funext a
  fin_cases a
  · exact Fin.ext (Nat.lt_one_iff.mp (x 0).isLt)
  · rfl
  · rfl

theorem slot_place (s : Fin 2) (h : Fin 8) (r : Fin 512) (l : Fin 128) (G : Fin 1024 → Fin 1024 → EReal) : (fun y : S1x1024x1024.Idx => G (y 1) (y 2)) ((slotRect s h).emb (ix3 0 r l))
    = G ⟨512 * s.val + r.val, by omega⟩ ⟨128 * h.val + l.val, by omega⟩ := by
  refine congrArg₂ G (Fin.ext ?_) (Fin.ext ?_)
  · show 512 * s.val + 1 * r.val = 512 * s.val + r.val
    omega
  · show 128 * h.val + 1 * l.val = 128 * h.val + l.val
    omega
theorem half_place (s : Fin 2) (r j : Fin 512) (G : Fin 1024 → Fin 512 → EReal) : (fun y : S1x1024x512.Idx => G (y 1) (y 2)) ((halfRect s).emb (ix3 0 r j))
    = G ⟨512 * s.val + r.val, by omega⟩ j := by
  refine congrArg₂ G (Fin.ext ?_) (Fin.ext ?_)
  · show 512 * s.val + 1 * r.val = 512 * s.val + r.val
    omega
  · show 0 + 1 * j.val = j.val
    omega

theorem q_piece_at (s : Fin 2) (h : Fin 8) (p : Fin 2) (hp : p.val = h.val % 2) (r : Fin 512) (l : Fin 128) : (qPiece i x0 x1 x2 x3 x4 x6 x7 x11 x12 s h p).2 (ix3 0 r l)
    = (fun y : S1x1024x1024.Idx => qOut i x1 x3 x4 x6 x7 x11 x12 (y 1) (y 2)) ((slotRect s h).emb (ix3 0 r l)) := by
  refine Eq.trans ?_ (slot_place s h r l _).symm
  refine (qHead_apply _ h _ _ r l).trans ?_
  rw [qIn_apply, qIn_apply, qTab_apply, qTab_apply]
  unfold qOut
  refine congrArg₂ (fun a b : EReal => a + b) (congrArg (fun z : EReal => _ * z) (congrArg x11 (congrArg (ix2 _) (Fin.ext ?_))))
    (congrArg₂ (fun a b : EReal => a * b) (congrArg (qRow i x1 x3 x4 x6 x7 _) (Fin.ext ?_)) (congrArg x12 (congrArg (ix2 _) (Fin.ext ?_))))
  · show 128 * p.val + l.val = (128 * h.val + l.val) % 256
    omega
  · show 128 * h.val + (l.val + 16) % 128 = 128 * ((128 * h.val + l.val) / 128) + ((128 * h.val + l.val) % 128 + 16) % 128
    omega
  · show 128 * p.val + l.val = (128 * h.val + l.val) % 256
    omega
theorem q_piece (s : Fin 2) (h : Fin 8) (p : Fin 2) (hp : p.val = h.val % 2) (x : S1x512x128.Idx) : (qPiece i x0 x1 x2 x3 x4 x6 x7 x11 x12 s h p).2 x
    = (fun y : S1x1024x1024.Idx => qOut i x1 x3 x4 x6 x7 x11 x12 (y 1) (y 2)) ((slotRect s h).emb x) := by
  obtain ⟨r, l, rfl⟩ : ∃ (r : Fin 512) (l : Fin 128), x = ix3 0 r l := ⟨x 1, x 2, lane3 x⟩
  exact q_piece_at i x0 x1 x2 x3 x4 x6 x7 x11 x12 s h p hp r l

theorem canon_q : View.canon (Val := Elt Ideal) (s := S1x1024x1024) (qStores i x0 x1 x2 x3 x4 x6 x7 x11 x12)
    = fun y : S1x1024x1024.Idx => qOut i x1 x3 x4 x6 x7 x11 x12 (y 1) (y 2) := by
  funext y
  have P := q_piece i x0 x1 x2 x3 x4 x6 x7 x11 x12
  refine View.canon_append_of_piecesOf (fun y : S1x1024x1024.Idx => qOut i x1 x3 x4 x6 x7 x11 x12 (y 1) (y 2)) [] (qStores i x0 x1 x2 x3 x4 x6 x7 x11 x12) ?_ y ?_
  · exact ⟨P 1 7 1 rfl, P 1 6 0 rfl, P 1 5 1 rfl, P 1 4 0 rfl, P 1 3 1 rfl, P 1 2 0 rfl, P 1 1 1 rfl, P 1 0 0 rfl, P 0 7 1 rfl, P 0 6 0 rfl, P 0 5 1 rfl, P 0 4 0 rfl, P 0 3 1 rfl, P 0 2 0 rfl, P 0 1 1 rfl, P 0 0 0 rfl, trivial⟩
  · exact View.cover_of_tiledL (qStores i x0 x1 x2 x3 x4 x6 x7 x11 x12) S1x512x128.size (by sl_kernel_rfl) y

theorem even_piece_at (s : Fin 2) (h g : Fin 8) (hg : h.val = 2 * g.val) (r : Fin 512) (l : Fin 128) : (kEvenPiece i x0 x1 x2 x3 x4 x8 x9 x13 x14 s h g).2 (ix3 0 r l)
    = (fun y : S1x1024x1024.Idx => kOut i x1 x3 x4 x8 x9 x13 x14 (y 1) (y 2)) ((slotRect s h).emb (ix3 0 r l)) := by
  refine Eq.trans ?_ (slot_place s h r l _).symm
  refine (kEven_apply _ _ r l).trans ?_
  rw [slot_apply, kvIn_apply, ropeIn_apply]
  unfold kOut
  by_cases h64 : l.val < 64
  · rw [if_pos h64, if_pos (by show (128 * h.val + l.val) % 256 < 64 ∨ 192 ≤ (128 * h.val + l.val) % 256; omega)]
    exact congrArg (kvRow i x1 x3 x4 x8 x9 _) (Fin.ext (by show 128 * g.val + l.val = 128 * ((128 * h.val + l.val) / 256) + (128 * h.val + l.val) % 128; omega))
  · rw [if_neg h64, if_neg (by show ¬ ((128 * h.val + l.val) % 256 < 64 ∨ 192 ≤ (128 * h.val + l.val) % 256); omega)]
    exact congrArg (ropeOut i x1 x3 x4 x13 x14 _) (Fin.ext (by show l.val = (128 * h.val + l.val) % 128; omega))
theorem even_piece (s : Fin 2) (h g : Fin 8) (hg : h.val = 2 * g.val) (x : S1x512x128.Idx) : (kEvenPiece i x0 x1 x2 x3 x4 x8 x9 x13 x14 s h g).2 x
    = (fun y : S1x1024x1024.Idx => kOut i x1 x3 x4 x8 x9 x13 x14 (y 1) (y 2)) ((slotRect s h).emb x) := by
  obtain ⟨r, l, rfl⟩ : ∃ (r : Fin 512) (l : Fin 128), x = ix3 0 r l := ⟨x 1, x 2, lane3 x⟩
  exact even_piece_at i x0 x1 x2 x3 x4 x8 x9 x13 x14 s h g hg r l

theorem odd_piece_at (s : Fin 2) (h g : Fin 8) (hg : h.val = 2 * g.val + 1) (r : Fin 512) (l : Fin 128) : (kOddPiece i x0 x1 x2 x3 x4 x8 x9 x13 x14 s h g).2 (ix3 0 r l)
    = (fun y : S1x1024x1024.Idx => kOut i x1 x3 x4 x8 x9 x13 x14 (y 1) (y 2)) ((slotRect s h).emb (ix3 0 r l)) := by
  refine Eq.trans ?_ (slot_place s h r l _).symm
  refine (kEven_apply _ _ r l).trans ?_
  rw [slot_apply, kvIn_apply, ropeIn_apply]
  unfold kOut
  by_cases h64 : l.val < 64
  · rw [if_pos h64, if_neg (by show ¬ ((128 * h.val + l.val) % 256 < 64 ∨ 192 ≤ (128 * h.val + l.val) % 256); omega)]
    exact congrArg (ropeOut i x1 x3 x4 x13 x14 _) (Fin.ext (by show l.val = (128 * h.val + l.val) % 128; omega))
  · rw [if_neg h64, if_pos (by show (128 * h.val + l.val) % 256 < 64 ∨ 192 ≤ (128 * h.val + l.val) % 256; omega)]
    exact congrArg (kvRow i x1 x3 x4 x8 x9 _) (Fin.ext (by show 128 * g.val + l.val = 128 * ((128 * h.val + l.val) / 256) + (128 * h.val + l.val) % 128; omega))
theorem odd_piece (s : Fin 2) (h g : Fin 8) (hg : h.val = 2 * g.val + 1) (x : S1x512x128.Idx) : (kOddPiece i x0 x1 x2 x3 x4 x8 x9 x13 x14 s h g).2 x
    = (fun y : S1x1024x1024.Idx => kOut i x1 x3 x4 x8 x9 x13 x14 (y 1) (y 2)) ((slotRect s h).emb x) := by
  obtain ⟨r, l, rfl⟩ : ∃ (r : Fin 512) (l : Fin 128), x = ix3 0 r l := ⟨x 1, x 2, lane3 x⟩
  exact odd_piece_at i x0 x1 x2 x3 x4 x8 x9 x13 x14 s h g hg r l

theorem canon_k : View.canon (Val := Elt Ideal) (s := S1x1024x1024) (kStores i x0 x1 x2 x3 x4 x8 x9 x13 x14)
    = fun y : S1x1024x1024.Idx => kOut i x1 x3 x4 x8 x9 x13 x14 (y 1) (y 2) := by
  funext y
  have E := even_piece i x0 x1 x2 x3 x4 x8 x9 x13 x14
  have O := odd_piece i x0 x1 x2 x3 x4 x8 x9 x13 x14
  refine View.canon_append_of_piecesOf (fun y : S1x1024x1024.Idx => kOut i x1 x3 x4 x8 x9 x13 x14 (y 1) (y 2)) [] (kStores i x0 x1 x2 x3 x4 x8 x9 x13 x14) ?_ y ?_
  · exact ⟨O 1 7 3 rfl, E 1 6 3 rfl, O 1 5 2 rfl, E 1 4 2 rfl, O 1 3 1 rfl, E 1 2 1 rfl, O 1 1 0 rfl, E 1 0 0 rfl, O 0 7 3 rfl, E 0 6 3 rfl, O 0 5 2 rfl, E 0 4 2 rfl, O 0 3 1 rfl, E 0 2 1 rfl, O 0 1 0 rfl, E 0 0 0 rfl, trivial⟩
  · exact View.cover_of_tiledL (kStores i x0 x1 x2 x3 x4 x8 x9 x13 x14) S1x512x128.size (by sl_kernel_rfl) y

theorem v_piece_at (s : Fin 2) (r : Fin 512) (j : Fin 512) : (vPiece i x0 x1 x2 x3 x4 x8 x9 s).2 (ix3 0 r j) = (fun y : S1x1024x512.Idx => vOut i x1 x3 x4 x8 x9 (y 1) (y 2)) ((halfRect s).emb (ix3 0 r j)) := by
  refine Eq.trans ?_ (half_place s r j _).symm
  refine (vStore_apply _ r j).trans ?_
  rw [kvIn_apply]
  rfl
theorem v_piece (s : Fin 2) (x : S1x512x512.Idx) : (vPiece i x0 x1 x2 x3 x4 x8 x9 s).2 x = (fun y : S1x1024x512.Idx => vOut i x1 x3 x4 x8 x9 (y 1) (y 2)) ((halfRect s).emb x) := by
  obtain ⟨r, l, rfl⟩ : ∃ (r : Fin 512) (l : Fin 512), x = ix3 0 r l := ⟨x 1, x 2, lane3 x⟩
  exact v_piece_at i x0 x1 x2 x3 x4 x8 x9 s r l

theorem canon_v : View.canon (Val := Elt Ideal) (s := S1x1024x512) (vStores i x0 x1 x2 x3 x4 x8 x9) = fun y : S1x1024x512.Idx => vOut i x1 x3 x4 x8 x9 (y 1) (y 2) := by
  funext y
  refine View.canon_append_of_piecesOf (fun y : S1x1024x512.Idx => vOut i x1 x3 x4 x8 x9 (y 1) (y 2)) [] (vStores i x0 x1 x2 x3 x4 x8 x9) ?_ y ?_
  · exact ⟨v_piece i x0 x1 x2 x3 x4 x8 x9 1, v_piece i x0 x1 x2 x3 x4 x8 x9 0, trivial⟩
  · exact View.cover_of_tiledL (vStores i x0 x1 x2 x3 x4 x8 x9) S1x512x512.size (by sl_kernel_rfl) y

theorem c_piece_at (s : Fin 2) (r : Fin 512) (j : Fin 512) : (cPieceOf i x0 x1 x2 x3 x5 x10 (tapIn i x0 x1 x2 x3 x5) s).2 (ix3 0 r j)
    = (fun y : S1x1024x512.Idx => cOut i x0 x1 x2 x3 x5 x10 (y 1) (y 2)) ((halfRect s).emb (ix3 0 r j)) := by
  refine Eq.trans ?_ (half_place s r j _).symm
  refine (cStore_apply _ _ r j).trans ?_
  rw [gateIn_apply, taps_apply]
  simp only [tapIn_apply, fillIn_apply, wTap_apply]
  unfold cOut
  have U : ∀ (k : ℕ) (hk : 512 * s.val + (7 + k + r.val) < 1040) (hk' : 512 * s.val + r.val + (7 + k) < 1040),
      upAt i x0 x1 x2 x3 x5 ⟨512 * s.val + (7 + k + r.val), hk⟩ j = upAt i x0 x1 x2 x3 x5 ⟨512 * s.val + r.val + (7 + k), hk'⟩ j :=
    fun k hk hk' => congrArg (fun P => upAt i x0 x1 x2 x3 x5 P j) (Fin.ext (by show 512 * s.val + (7 + k + r.val) = 512 * s.val + r.val + (7 + k); omega))
  exact congrArg (fun z : EReal => _ * z) (congrArg₂ (fun a b : EReal => a + b) (congrArg₂ (fun a b : EReal => a + b) (congrArg (fun z : EReal => _ * z) (U 0 (by omega) (by omega)))
    (congrArg (fun z : EReal => _ * z) (U 1 (by omega) (by omega)))) (congrArg (fun z : EReal => _ * z) (U 2 (by omega) (by omega))))
theorem c_piece (s : Fin 2) (x : S1x512x512.Idx) : (cPieceOf i x0 x1 x2 x3 x5 x10 (tapIn i x0 x1 x2 x3 x5) s).2 x
    = (fun y : S1x1024x512.Idx => cOut i x0 x1 x2 x3 x5 x10 (y 1) (y 2)) ((halfRect s).emb x) := by
  obtain ⟨r, l, rfl⟩ : ∃ (r : Fin 512) (l : Fin 512), x = ix3 0 r l := ⟨x 1, x 2, lane3 x⟩
  exact c_piece_at i x0 x1 x2 x3 x5 x10 s r l

theorem canon_c : View.canon (Val := Elt Ideal) (s := S1x1024x512) (cStores i x0 x1 x2 x3 x5 x10) = fun y : S1x1024x512.Idx => cOut i x0 x1 x2 x3 x5 x10 (y 1) (y 2) := by
  funext y
  refine View.canon_append_of_piecesOf (fun y : S1x1024x512.Idx => cOut i x0 x1 x2 x3 x5 x10 (y 1) (y 2)) [] (cStores i x0 x1 x2 x3 x5 x10) ?_ y ?_
  · exact ⟨c_piece i x0 x1 x2 x3 x5 x10 1, c_piece i x0 x1 x2 x3 x5 x10 0, trivial⟩
  · exact View.cover_of_tiledL (cStores i x0 x1 x2 x3 x5 x10) S1x512x512.size (by sl_kernel_rfl) y

theorem canon_up : View.canon (Val := Elt Ideal) (s := S32x4096) (upStores x15) = x15 := by
  refine (View.canon_cons_unit_lit _ _ _ (by decide)).trans ?_
  funext y
  exact congrFun (View.ld_unit_lit _ _ (by decide)) y
theorem canon_down : View.canon (Val := Elt Ideal) (s := S128x1024) (downStores x16) = x16 := by
  refine (View.canon_cons_unit_lit _ _ _ (by decide)).trans ?_
  funext y
  exact congrFun (View.ld_unit_lit _ _ (by decide)) y

end

end Cert.Kernel4Ideal.Tokens

end
-- ==== Proof.Tokens.Prefix.lean ====
/- What the kernel's host code prepares: the weights with their columns put in the kernel's order, and the four tables. First the arrays as functions of the arguments, then that the grid's region starts with them. -/
module

public import proofs.«01_k».proof.Proof.Tokens.Frame
public import Idealize.ShloMosaic.Lib.Pipeline.ValueKit
public import Idealize.ShloMosaic.Lib.StableHlo.RunRead

@[expose] public section

set_option maxRecDepth 16384

noncomputable section

namespace Cert.Kernel4Ideal.Tokens

open Cert.Kernel4Ideal Cert.Kernel4Ideal.Gen Idealize.ShloMosaic Idealize.ShloMosaic.TcCoe Idealize.SL.Sem

variable {F : FTy → Type} [FloatOps F]

/-! ## The arrays -/

/-- The first projection's weights, transposed; the 32 rows to rotate, in the order 0, 2, 1, 3 of their quarters, twice; and what the kernel reads. -/
def hT (a : FVec F S1024x1952 .f32) : FVec F S1952x1024 .f32 := transpose S1952x1024 [1, 0] a transposes_S1024x1952_S1952x1024_1_0
def hCut (a : FVec F S1024x1952 .f32) : FVec F S32x1024 .f32 := extractStridedSlice S32x1024 ![384, 0] (hT a) slices_S1952x1024_S32x1024_384_0
def eight (a b c d e f g h : FVec F S8x1024 .f32) : FVec F S64x1024 .f32 :=
  concatenate S64x1024 0 [⟨S8x1024, a⟩, ⟨S8x1024, b⟩, ⟨S8x1024, c⟩, ⟨S8x1024, d⟩, ⟨S8x1024, e⟩, ⟨S8x1024, f⟩, ⟨S8x1024, g⟩, ⟨S8x1024, h⟩]
    concatenates_S8x1024_S8x1024_S8x1024_S8x1024_S8x1024_S8x1024_S8x1024_S8x1024_S64x1024_d0
def turnOrder (r : FVec F S32x1024 .f32) : FVec F S64x1024 .f32 :=
  eight (extractStridedSlice S8x1024 ![0, 0] r slices_S32x1024_S8x1024_0_0) (extractStridedSlice S8x1024 ![16, 0] r slices_S32x1024_S8x1024_16_0)
    (extractStridedSlice S8x1024 ![8, 0] r slices_S32x1024_S8x1024_8_0) (extractStridedSlice S8x1024 ![24, 0] r slices_S32x1024_S8x1024_24_0)
    (extractStridedSlice S8x1024 ![0, 0] r slices_S32x1024_S8x1024_0_0) (extractStridedSlice S8x1024 ![16, 0] r slices_S32x1024_S8x1024_16_0)
    (extractStridedSlice S8x1024 ![8, 0] r slices_S32x1024_S8x1024_8_0) (extractStridedSlice S8x1024 ![24, 0] r slices_S32x1024_S8x1024_24_0)
def stacked (a : FVec F S384x1024 .f32) (b c : FVec F S64x1024 .f32) : FVec F S512x1024 .f32 :=
  concatenate S512x1024 0 [⟨S384x1024, a⟩, ⟨S64x1024, b⟩, ⟨S64x1024, c⟩] concatenates_S384x1024_S64x1024_S64x1024_S512x1024_d0
def hLat (a : FVec F S1024x1952 .f32) : FVec F S512x1024 .bf16 :=
  truncf .bf16 (stacked (extractStridedSlice S384x1024 ![0, 0] (hT a) slices_S1952x1024_S384x1024_0_0) (turnOrder (hCut a)) (turnOrder (hCut a))) bitsLt_bf16_f32
def hConv (a : FVec F S1024x1952 .f32) : FVec F S1536x1024 .bf16 :=
  truncf .bf16 (extractStridedSlice S1536x1024 ![416, 0] (hT a) slices_S1952x1024_S1536x1024_416_0) bitsLt_bf16_f32

/-- The queries' weights: head by head, the rotated columns in the same order, and the heads in pairs. -/
def hHeads (a : FVec F S256x768 .f32) : FVec F S256x8x96 .f32 := shapeCast S256x8x96 a shapeCasts_S256x768_S256x8x96
def hPlain (a : FVec F S256x768 .f32) : FVec F S256x8x64 .f32 := extractStridedSlice S256x8x64 ![0, 0, 0] (hHeads a) slices_S256x8x96_S256x8x64_0_0_0
def hRot (a : FVec F S256x768 .f32) : FVec F S256x8x32 .f32 := extractStridedSlice S256x8x32 ![0, 0, 64] (hHeads a) slices_S256x8x96_S256x8x32_0_0_64
def eightLanes (a b c d e f g h : FVec F S256x8x8 .f32) : FVec F S256x8x64 .f32 :=
  concatenate S256x8x64 2 [⟨S256x8x8, a⟩, ⟨S256x8x8, b⟩, ⟨S256x8x8, c⟩, ⟨S256x8x8, d⟩, ⟨S256x8x8, e⟩, ⟨S256x8x8, f⟩, ⟨S256x8x8, g⟩, ⟨S256x8x8, h⟩]
    concatenates_S256x8x8_S256x8x8_S256x8x8_S256x8x8_S256x8x8_S256x8x8_S256x8x8_S256x8x8_S256x8x64_d2
def turnLanes (r : FVec F S256x8x32 .f32) : FVec F S256x8x64 .f32 :=
  eightLanes (extractStridedSlice S256x8x8 ![0, 0, 0] r slices_S256x8x32_S256x8x8_0_0_0) (extractStridedSlice S256x8x8 ![0, 0, 16] r slices_S256x8x32_S256x8x8_0_0_16)
    (extractStridedSlice S256x8x8 ![0, 0, 8] r slices_S256x8x32_S256x8x8_0_0_8) (extractStridedSlice S256x8x8 ![0, 0, 24] r slices_S256x8x32_S256x8x8_0_0_24)
    (extractStridedSlice S256x8x8 ![0, 0, 0] r slices_S256x8x32_S256x8x8_0_0_0) (extractStridedSlice S256x8x8 ![0, 0, 16] r slices_S256x8x32_S256x8x8_0_0_16)
    (extractStridedSlice S256x8x8 ![0, 0, 8] r slices_S256x8x32_S256x8x8_0_0_8) (extractStridedSlice S256x8x8 ![0, 0, 24] r slices_S256x8x32_S256x8x8_0_0_24)
def two64 (a b : FVec F S256x4x64 .f32) : FVec F S256x4x128 .f32 := concatenate S256x4x128 2 [⟨S256x4x64, a⟩, ⟨S256x4x64, b⟩] concatenates_S256x4x64_S256x4x64_S256x4x128_d2
def evenHeads (a : FVec F S256x8x64 .f32) : FVec F S256x4x64 .f32 := Host.slice S256x4x64 ![0, 0, 0] ![1, 2, 1] a slicesBy_S256x8x64_S256x4x64_0s1_0s2_0s1
def oddHeads (a : FVec F S256x8x64 .f32) : FVec F S256x4x64 .f32 := Host.slice S256x4x64 ![0, 1, 0] ![1, 2, 1] a slicesBy_S256x8x64_S256x4x64_0s1_1s2_0s1
def lone (a : FVec F S256x4x128 .f32) : FVec F S256x4x1x128 .f32 := broadcastInDim S256x4x1x128 ![0, 1, 3] bcast_S256x4x128_S256x4x1x128_0_1_3 a
def pairUp (a b : FVec F S256x4x1x128 .f32) : FVec F S256x4x2x128 .f32 := concatenate S256x4x2x128 2 [⟨S256x4x1x128, a⟩, ⟨S256x4x1x128, b⟩] concatenates_S256x4x1x128_S256x4x1x128_S256x4x2x128_d2
def hPairs (p t : FVec F S256x8x64 .f32) : FVec F S256x4x2x128 .f32 := pairUp (lone (two64 (evenHeads p) (evenHeads t))) (lone (two64 (oddHeads t) (oddHeads p)))
def hQ (a : FVec F S256x768 .f32) : FVec F S256x1024 .bf16 :=
  truncf .bf16 (shapeCast S256x1024 (hPairs (hPlain a) (turnLanes (hRot a))) shapeCasts_S256x4x2x128_S256x1024) bitsLt_bf16_f32

/-- The weights of keys and values: first the keys of all heads, then the values. -/
def hKv8 (a : FVec F S128x1024 .f32) : FVec F S128x8x128 .f32 := shapeCast S128x8x128 a shapeCasts_S128x1024_S128x8x128
def two512 (a b : FVec F S128x512 .f32) : FVec F S128x1024 .f32 := concatenate S128x1024 1 [⟨S128x512, a⟩, ⟨S128x512, b⟩] concatenates_S128x512_S128x512_S128x1024_d1
def hKeys (a : FVec F S128x1024 .f32) : FVec F S128x512 .f32 := shapeCast S128x512 (extractStridedSlice S128x8x64 ![0, 0, 0] (hKv8 a) slices_S128x8x128_S128x8x64_0_0_0) shapeCasts_S128x8x64_S128x512
def hValues (a : FVec F S128x1024 .f32) : FVec F S128x512 .f32 := shapeCast S128x512 (extractStridedSlice S128x8x64 ![0, 0, 64] (hKv8 a) slices_S128x8x128_S128x8x64_0_0_64) shapeCasts_S128x8x64_S128x512
def hKv (a : FVec F S128x1024 .f32) : FVec F S128x1024 .bf16 := truncf .bf16 (two512 (hKeys a) (hValues a)) bitsLt_bf16_f32

/-- The tables. -/
def three (a b : FVec F S4096x16 .f32) (c : FVec F S4096x32 .f32) : FVec F S4096x64 .f32 :=
  concatenate S4096x64 1 [⟨S4096x16, a⟩, ⟨S4096x16, b⟩, ⟨S4096x32, c⟩] concatenates_S4096x16_S4096x16_S4096x32_S4096x64_d1
def four (a b c d : FVec F S4096x64 .f32) : FVec F S4096x256 .f32 :=
  concatenate S4096x256 1 [⟨S4096x64, a⟩, ⟨S4096x64, b⟩, ⟨S4096x64, c⟩, ⟨S4096x64, d⟩] concatenates_S4096x64_S4096x64_S4096x64_S4096x64_S4096x256_d1
def two (a b : FVec F S4096x64 .f32) : FVec F S4096x128 .f32 := concatenate S4096x128 1 [⟨S4096x64, a⟩, ⟨S4096x64, b⟩] concatenates_S4096x64_S4096x64_S4096x128_d1
def zero32 : FVec F S4096x32 .f32 := broadcastInDim S4096x32 ![] bcast_S_S4096x32 (constant S_ .f32 0x00000000#32)
def flat64 (b : BitVec 32) : FVec F S4096x64 .f32 := broadcastInDim S4096x64 ![] bcast_S_S4096x64 (constant S_ .f32 b)
def scale256 : FVec F S4096x256 .f32 := broadcastInDim S4096x256 ![] bcast_S_S4096x256 (constant S_ .f32 0x3E16C740#32)
def hCos (c : FVec F S4096x16 .f32) : FVec F S4096x64 .f32 := three c c zero32
def hSin (s : FVec F S4096x16 .f32) : FVec F S4096x64 .f32 := three (Host.negf s) s zero32
def hCosQ (c : FVec F S4096x16 .f32) : FVec F S4096x256 .f32 := mulf (four (flat64 0x3F800000#32) (hCos c) (hCos c) (flat64 0x3F800000#32)) scale256
def hSinQ (s : FVec F S4096x16 .f32) : FVec F S4096x256 .f32 := mulf (four (flat64 0x00000000#32) (hSin s) (hSin s) (flat64 0x00000000#32)) scale256
def hCosK (c : FVec F S4096x16 .f32) : FVec F S4096x128 .f32 := two (hCos c) (hCos c)
def hSinK (s : FVec F S4096x16 .f32) : FVec F S4096x128 .f32 := two (hSin s) (hSin s)

/-! ## The region starts with them -/

theorem same8 {α β : Type} {f : α → α → α → α → α → α → α → α → β} {a a' b b' c c' d d' e e' g g' h h' k k' : α} (ha : a = a') (hb : b = b') (hc : c = c') (hd : d = d') (he : e = e') (hg : g = g')
    (hh : h = h') (hk : k = k') : f a b c d e g h k = f a' b' c' d' e' g' h' k' := by subst ha hb hc hd he hg hh hk; rfl
theorem same4 {α β : Type} {f : α → α → α → α → β} {a a' b b' c c' d d' : α} (ha : a = a') (hb : b = b') (hc : c = c') (hd : d = d') : f a b c d = f a' b' c' d' := by subst ha hb hc hd; rfl
theorem same3 {α β γ δ : Type} {f : α → β → γ → δ} {a a' : α} {b b' : β} {c c' : γ} (ha : a = a') (hb : b = b') (hc : c = c') : f a b c = f a' b' c' := by subst ha hb hc; rfl

variable (m : (ℓ : Loc nD τ sig) → Buf (Elt F) ℓ) (c : Dev nD)

/-- The arrays before the operation numbered `n`. -/
abbrev at_ (n : ℕ) (b : Ref sig .tc) : Buf (Elt F) ((c : Thread nD τ).loc b) := StableHlo.upto hostOps0 (fun b => m (c, b)) n (Proc.devRef .tc b)

theorem at_v10 : (at_ m c 12 main_v10 : FVec F S64x1024 .f32) = turnOrder (hCut (m ((c : Thread nD τ).loc main_arg2))) := by
  unfold at_
  after_reads_simp
  refine same8 (f := eight) ?_ ?_ ?_ ?_ ?_ ?_ ?_ ?_ <;> after_reads_simp <;> rfl

theorem at_v13 : (V m c main_v13 : FVec F S512x1024 .bf16) = hLat (m ((c : Thread nD τ).loc main_arg2)) := by
  show StableHlo.after hostOps0 _ _ = _
  after_reads_simp
  refine congrArg (fun z : FVec F S512x1024 .f32 => truncf .bf16 z bitsLt_bf16_f32) (same3 (f := stacked) ?_ ?_ ?_)
  · after_reads_simp
    rfl
  · exact at_v10 m c
  · exact at_v10 m c

theorem at_v15 : (V m c main_v15 : FVec F S1536x1024 .bf16) = hConv (m ((c : Thread nD τ).loc main_arg2)) := by
  show StableHlo.after hostOps0 _ _ = _
  after_reads_simp
  rfl

theorem at_v38 : (V m c main_v38 : FVec F S256x1024 .bf16) = hQ (m ((c : Thread nD τ).loc main_arg4)) := by
  show StableHlo.after hostOps0 _ _ = _
  after_reads_simp
  refine congrArg (fun z : FVec F S256x4x2x128 .f32 => truncf .bf16 (shapeCast S256x1024 z shapeCasts_S256x4x2x128_S256x1024) bitsLt_bf16_f32) (congrArg₂ pairUp ?_ ?_)
  · after_reads_simp
    refine congrArg lone (congrArg₂ two64 ?_ ?_)
    · after_reads_simp
      rfl
    · after_reads_simp
      refine congrArg evenHeads (same8 (f := eightLanes) ?_ ?_ ?_ ?_ ?_ ?_ ?_ ?_) <;> after_reads_simp <;> rfl
  · after_reads_simp
    refine congrArg lone (congrArg₂ two64 ?_ ?_)
    · after_reads_simp
      refine congrArg oddHeads (same8 (f := eightLanes) ?_ ?_ ?_ ?_ ?_ ?_ ?_ ?_) <;> after_reads_simp <;> rfl
    · after_reads_simp
      rfl

theorem at_v45 : (V m c main_v45 : FVec F S128x1024 .bf16) = hKv (m ((c : Thread nD τ).loc main_arg6)) := by
  show StableHlo.after hostOps0 _ _ = _
  after_reads_simp
  refine congrArg (fun z : FVec F S128x1024 .f32 => truncf .bf16 z bitsLt_bf16_f32) (congrArg₂ two512 ?_ ?_) <;> after_reads_simp <;> rfl

theorem at_v54 : (V m c main_v54 : FVec F S4096x256 .f32) = hCosQ (m ((c : Thread nD τ).loc main_arg8)) := by
  show StableHlo.after hostOps0 _ _ = _
  after_reads_simp
  refine congrArg (fun z : FVec F S4096x256 .f32 => mulf z scale256) (same4 (f := four) ?_ ?_ ?_ ?_)
  · after_reads_simp
    rfl
  · after_reads_simp
    refine same3 (f := three) ?_ ?_ ?_ <;> after_reads_simp <;> rfl
  · after_reads_simp
    refine same3 (f := three) ?_ ?_ ?_ <;> after_reads_simp <;> rfl
  · after_reads_simp
    rfl

theorem at_v59 : (V m c main_v59 : FVec F S4096x256 .f32) = hSinQ (m ((c : Thread nD τ).loc main_arg9)) := by
  show StableHlo.after hostOps0 _ _ = _
  after_reads_simp
  refine congrArg (fun z : FVec F S4096x256 .f32 => mulf z scale256) (same4 (f := four) ?_ ?_ ?_ ?_)
  · after_reads_simp
    rfl
  · after_reads_simp
    refine same3 (f := three) ?_ ?_ ?_ <;> after_reads_simp <;> rfl
  · after_reads_simp
    refine same3 (f := three) ?_ ?_ ?_ <;> after_reads_simp <;> rfl
  · after_reads_simp
    rfl

theorem at_v60 : (V m c main_v60 : FVec F S4096x128 .f32) = hCosK (m ((c : Thread nD τ).loc main_arg8)) := by
  show StableHlo.after hostOps0 _ _ = _
  after_reads_simp
  refine congrArg₂ two ?_ ?_
  · after_reads_simp
    refine same3 (f := three) ?_ ?_ ?_ <;> after_reads_simp <;> rfl
  · after_reads_simp
    refine same3 (f := three) ?_ ?_ ?_ <;> after_reads_simp <;> rfl

theorem at_v61 : (V m c main_v61 : FVec F S4096x128 .f32) = hSinK (m ((c : Thread nD τ).loc main_arg9)) := by
  show StableHlo.after hostOps0 _ _ = _
  after_reads_simp
  refine congrArg₂ two ?_ ?_
  · after_reads_simp
    refine same3 (f := three) ?_ ?_ ?_ <;> after_reads_simp <;> rfl
  · after_reads_simp
    refine same3 (f := three) ?_ ?_ ?_ <;> after_reads_simp <;> rfl

end Cert.Kernel4Ideal.Tokens

end
-- ==== Proof.Tokens.Columns.lean ====
/- The prepared arrays of Prefix.lean entry by entry: which column of a weight the kernel finds where (`quarter` is the order of the 32 rotated entries), and what stands in the tables. -/
module

public import proofs.«01_k».proof.Proof.Tokens.Prefix
public import proofs.«01_k».proof.Proof.Tokens.Spec

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

/-- The four quarters of 32 entries in the order 0, 2, 1, 3, twice. -/
def quarter (k : Fin 64) : Fin 32 :=
  if h : k.val % 32 < 8 then ⟨k.val % 32, by omega⟩ else if h1 : k.val % 32 < 16 then ⟨k.val % 32 + 8, by omega⟩ else if h2 : k.val % 32 < 24 then ⟨k.val % 32 - 8, by omega⟩ else ⟨k.val % 32, by omega⟩

theorem quarter_first (k : Fin 64) (h : k.val % 32 < 16) : quarter k = first ⟨k.val % 32, h⟩ := by
  unfold quarter first
  by_cases h8 : k.val % 32 < 8
  · rw [dif_pos h8, if_pos h8]
  · rw [dif_neg h8, if_neg h8, dif_pos h]
theorem quarter_second (k : Fin 64) (h : 16 ≤ k.val % 32) : quarter k = second ⟨k.val % 32 - 16, by omega⟩ := by
  unfold quarter second
  rw [dif_neg (by omega), dif_neg (by omega)]
  by_cases h8 : k.val % 32 < 24
  · rw [dif_pos h8, if_pos (by show k.val % 32 - 16 < 8; omega)]
    exact Fin.ext (by show k.val % 32 - 8 = k.val % 32 - 16 + 8; omega)
  · rw [dif_neg h8, if_neg (by show ¬ k.val % 32 - 16 < 8; omega)]
    exact Fin.ext (by show k.val % 32 = k.val % 32 - 16 + 16; omega)

theorem quarter_val (k : Fin 64) : (k.val % 32 < 8 → (quarter k).val = k.val % 32) ∧ (8 ≤ k.val % 32 ∧ k.val % 32 < 16 → (quarter k).val = k.val % 32 + 8)
    ∧ (16 ≤ k.val % 32 ∧ k.val % 32 < 24 → (quarter k).val = k.val % 32 - 8) ∧ (24 ≤ k.val % 32 → (quarter k).val = k.val % 32) := by
  unfold quarter
  refine ⟨fun h => ?_, fun h => ?_, fun h => ?_, fun h => ?_⟩
  · rw [dif_pos h]
  · rw [dif_neg (by omega), dif_pos h.2]
  · rw [dif_neg (by omega), dif_neg (by omega), dif_pos h.2]
  · rw [dif_neg (by omega), dif_neg (by omega), dif_neg (by omega)]

theorem hT_apply (a : FVec Ideal S1024x1952 .f32) (j : Fin 1952) (d : Fin 1024) : hT a (ix2 j d) = a (ix2 d j) := by
  pointwise [hT]
theorem hCut_apply (a : FVec Ideal S1024x1952 .f32) (j : Fin 32) (d : Fin 1024) : hCut a (ix2 j d) = a (ix2 d ⟨384 + j.val, by omega⟩) := by
  refine Eq.trans ?_ (hT_apply a _ d)
  unfold hCut
  generalize hT a = z
  pointwise

theorem turnOrder_apply (r : FVec Ideal S32x1024 .f32) (k : Fin 64) (d : Fin 1024) : turnOrder r (ix2 k d) = r (ix2 (quarter k) d) := by
  pointwise [turnOrder, eight]
  have Q := quarter_val k
  have C : ∀ (n : ℕ) (h : n < 32), n = (quarter k).val → r (ix2 ⟨n, h⟩ d) = r (ix2 (quarter k) d) := fun n h e => congrArg (fun q : Fin 32 => r (ix2 q d)) (Fin.ext e)
  split_ifs <;> exact C _ _ (by omega)

theorem stacked_apply (a : FVec Ideal S384x1024 .f32) (b c : FVec Ideal S64x1024 .f32) (j : Fin 512) (d : Fin 1024) :
    stacked a b c (ix2 j d) = if h : j.val < 384 then a (ix2 ⟨j.val, h⟩ d) else if h' : j.val < 448 then b (ix2 ⟨j.val - 384, by omega⟩ d) else c (ix2 ⟨j.val - 448, by omega⟩ d) := by
  pointwise [stacked]
  have C : ∀ (n n' : ℕ) (h : n < 64) (h' : n' < 64), n = n' → c (ix2 ⟨n, h⟩ d) = c (ix2 ⟨n', h'⟩ d) := fun n n' h h' e => congrArg (fun q : Fin 64 => c (ix2 q d)) (Fin.ext e)
  (repeat' split) <;> first | rfl | omega | exact C _ _ _ _ (by omega)

theorem hLat_plain (a : FVec Ideal S1024x1952 .f32) (j : Fin 384) (d : Fin 1024) : hLat a (ix2 ⟨j.val, by omega⟩ d) = a (ix2 d ⟨j.val, by omega⟩) := by
  show stacked _ _ _ (ix2 ⟨j.val, by omega⟩ d) = _
  rw [stacked_apply, dif_pos j.isLt]
  refine Eq.trans ?_ (hT_apply a _ d)
  generalize hT a = z
  pointwise
theorem hLat_rot (a : FVec Ideal S1024x1952 .f32) (l : Fin 128) (d : Fin 1024) :
    hLat a (ix2 ⟨384 + l.val, by omega⟩ d) = a (ix2 d ⟨384 + (quarter ⟨l.val % 64, by omega⟩).val, by omega⟩) := by
  show stacked _ _ _ (ix2 ⟨384 + l.val, by omega⟩ d) = _
  rw [stacked_apply, dif_neg (by show ¬ 384 + l.val < 384; omega)]
  by_cases h : l.val < 64
  · rw [dif_pos (by show 384 + l.val < 448; omega), turnOrder_apply, hCut_apply]
    exact congrArg (fun k : Fin 64 => a (ix2 d ⟨384 + (quarter k).val, by omega⟩)) (Fin.ext (by show 384 + l.val - 384 = l.val % 64; omega))
  · rw [dif_neg (by show ¬ 384 + l.val < 448; omega), turnOrder_apply, hCut_apply]
    exact congrArg (fun k : Fin 64 => a (ix2 d ⟨384 + (quarter k).val, by omega⟩)) (Fin.ext (by show 384 + l.val - 448 = l.val % 64; omega))

theorem hConv_apply (a : FVec Ideal S1024x1952 .f32) (j : Fin 1536) (d : Fin 1024) : hConv a (ix2 j d) = a (ix2 d ⟨416 + j.val, by omega⟩) := by
  refine Eq.trans ?_ (hT_apply a _ d)
  unfold hConv
  generalize hT a = z
  pointwise

/-! ## The queries' weights -/

theorem hHeads_apply (a : FVec Ideal S256x768 .f32) (d : Fin 256) (h : Fin 8) (l : Fin 96) : hHeads a (ix3 d h l) = a (ix2 d ⟨96 * h.val + l.val, by omega⟩) := by
  pointwise [hHeads]
  exact congrArg (fun k : Fin 768 => a (ix2 d k)) (Fin.ext (show h.val * 96 + l.val = 96 * h.val + l.val by omega))
theorem hPlain_apply (a : FVec Ideal S256x768 .f32) (d : Fin 256) (h : Fin 8) (l : Fin 64) : hPlain a (ix3 d h l) = a (ix2 d ⟨96 * h.val + l.val, by omega⟩) := by
  refine Eq.trans ?_ (hHeads_apply a d h ⟨l.val, by omega⟩)
  unfold hPlain
  generalize hHeads a = z
  pointwise
theorem hRot_apply (a : FVec Ideal S256x768 .f32) (d : Fin 256) (h : Fin 8) (l : Fin 32) : hRot a (ix3 d h l) = a (ix2 d ⟨96 * h.val + 64 + l.val, by omega⟩) := by
  refine Eq.trans ?_ ((hHeads_apply a d h ⟨64 + l.val, by omega⟩).trans (congrArg (fun k : Fin 768 => a (ix2 d k)) (Fin.ext (by show 96 * h.val + (64 + l.val) = 96 * h.val + 64 + l.val; omega))))
  unfold hRot
  generalize hHeads a = z
  pointwise
theorem turnLanes_apply (r : FVec Ideal S256x8x32 .f32) (d : Fin 256) (h : Fin 8) (k : Fin 64) : turnLanes r (ix3 d h k) = r (ix3 d h (quarter k)) := by
  pointwise [turnLanes, eightLanes]
  have Q := quarter_val k
  have C : ∀ (n : ℕ) (hn : n < 32), n = (quarter k).val → r (ix3 d h ⟨n, hn⟩) = r (ix3 d h (quarter k)) := fun n hn e => congrArg (fun q : Fin 32 => r (ix3 d h q)) (Fin.ext e)
  split_ifs <;> exact C _ _ (by omega)

theorem hPairs_apply (p t : FVec Ideal S256x8x64 .f32) (d : Fin 256) (g : Fin 4) (o : Fin 2) (l : Fin 128) : hPairs p t (ix4 d g o l)
    = if o.val = 0 then (if h : l.val < 64 then p (ix3 d ⟨2 * g.val, by omega⟩ ⟨l.val, h⟩) else t (ix3 d ⟨2 * g.val, by omega⟩ ⟨l.val - 64, by omega⟩))
      else (if h : l.val < 64 then t (ix3 d ⟨2 * g.val + 1, by omega⟩ ⟨l.val, h⟩) else p (ix3 d ⟨2 * g.val + 1, by omega⟩ ⟨l.val - 64, by omega⟩)) := by
  pointwise [hPairs, pairUp, lone, two64, evenHeads, oddHeads]
  have C : ∀ (x : FVec Ideal S256x8x64 .f32) (n n' : ℕ) (h : n < 8) (h' : n' < 8) (k : Fin 64), n = n' → x (ix3 d ⟨n, h⟩ k) = x (ix3 d ⟨n', h'⟩ k) :=
    fun x n n' h h' k e => congrArg (fun q : Fin 8 => x (ix3 d q k)) (Fin.ext e)
  (repeat' split) <;> first | rfl | omega | exact C _ _ _ _ _ _ (by omega)

/-- The column of the queries' weights that stands at a lane. -/
def qCol (j : Fin 1024) : Fin 768 :=
  if h : j.val % 256 < 64 then ⟨192 * (j.val / 256) + j.val % 256, by omega⟩
  else if h1 : j.val % 256 < 128 then ⟨192 * (j.val / 256) + 64 + (quarter ⟨j.val % 64, by omega⟩).val, by omega⟩
  else if h2 : j.val % 256 < 192 then ⟨192 * (j.val / 256) + 160 + (quarter ⟨j.val % 64, by omega⟩).val, by omega⟩
  else ⟨192 * (j.val / 256) + 96 + j.val % 64, by omega⟩

theorem hQ_pairs (a : FVec Ideal S256x768 .f32) (d : Fin 256) (j : Fin 1024) : hQ a (ix2 d j)
    = hPairs (hPlain a) (turnLanes (hRot a)) (ix4 d ⟨j.val / 256, by omega⟩ ⟨j.val % 256 / 128, by omega⟩ ⟨j.val % 128, by omega⟩) := by
  unfold hQ
  generalize hPairs (hPlain a) (turnLanes (hRot a)) = z
  pointwise
  exact congrArg (fun k : Fin 2 => z (ix4 d ⟨j.val / 256, by omega⟩ k ⟨j.val % 128, by omega⟩)) (Fin.ext (show j.val / 128 % 2 = j.val % 256 / 128 by omega))

theorem hQ_apply (a : FVec Ideal S256x768 .f32) (d : Fin 256) (j : Fin 1024) : hQ a (ix2 d j) = a (ix2 d (qCol j)) := by
  rw [hQ_pairs, hPairs_apply]
  unfold qCol
  have C : ∀ k k' : Fin 768, k.val = k'.val → a (ix2 d k) = a (ix2 d k') := fun k k' h => congrArg (fun k : Fin 768 => a (ix2 d k)) (Fin.ext h)
  by_cases h : j.val % 256 < 64
  · rw [dif_pos h, if_pos (show j.val % 256 / 128 = 0 by omega), dif_pos (show j.val % 128 < 64 by omega), hPlain_apply]
    exact C _ _ (show 96 * (2 * (j.val / 256)) + j.val % 128 = 192 * (j.val / 256) + j.val % 256 by omega)
  rw [dif_neg h]
  by_cases h1 : j.val % 256 < 128
  · rw [dif_pos h1, if_pos (show j.val % 256 / 128 = 0 by omega), dif_neg (show ¬ j.val % 128 < 64 by omega), turnLanes_apply, hRot_apply]
    rw [show (⟨j.val % 128 - 64, by omega⟩ : Fin 64) = ⟨j.val % 64, by omega⟩ from Fin.ext (show j.val % 128 - 64 = j.val % 64 by omega)]
    exact C _ _ (show 96 * (2 * (j.val / 256)) + 64 + (quarter ⟨j.val % 64, by omega⟩).val = 192 * (j.val / 256) + 64 + (quarter ⟨j.val % 64, by omega⟩).val by omega)
  rw [dif_neg h1]
  by_cases h2 : j.val % 256 < 192
  · rw [dif_pos h2, if_neg (show ¬ j.val % 256 / 128 = 0 by omega), dif_pos (show j.val % 128 < 64 by omega), turnLanes_apply, hRot_apply]
    rw [show (⟨j.val % 128, by omega⟩ : Fin 64) = ⟨j.val % 64, by omega⟩ from Fin.ext (show j.val % 128 = j.val % 64 by omega)]
    exact C _ _ (show 96 * (2 * (j.val / 256) + 1) + 64 + (quarter ⟨j.val % 64, by omega⟩).val = 192 * (j.val / 256) + 160 + (quarter ⟨j.val % 64, by omega⟩).val by omega)
  · rw [dif_neg h2, if_neg (show ¬ j.val % 256 / 128 = 0 by omega), dif_neg (show ¬ j.val % 128 < 64 by omega), hPlain_apply]
    exact C _ _ (show 96 * (2 * (j.val / 256) + 1) + (j.val % 128 - 64) = 192 * (j.val / 256) + 96 + j.val % 64 by omega)

/-! ## The weights of keys and values -/

theorem hKeys_apply (a : FVec Ideal S128x1024 .f32) (d : Fin 128) (j : Fin 512) : hKeys a (ix2 d j) = a (ix2 d ⟨128 * (j.val / 64) + j.val % 64, by omega⟩) := by
  pointwise [hKeys, hKv8]
  exact congrArg (fun k : Fin 1024 => a (ix2 d k)) (Fin.ext (show j.val / 64 * 128 + j.val % 64 = 128 * (j.val / 64) + j.val % 64 by omega))
theorem hValues_apply (a : FVec Ideal S128x1024 .f32) (d : Fin 128) (j : Fin 512) : hValues a (ix2 d j) = a (ix2 d ⟨128 * (j.val / 64) + 64 + j.val % 64, by omega⟩) := by
  pointwise [hValues, hKv8]
  exact congrArg (fun k : Fin 1024 => a (ix2 d k)) (Fin.ext (show j.val / 64 * 128 + (64 + j.val % 64) = 128 * (j.val / 64) + 64 + j.val % 64 by omega))
theorem two512_apply (a b : FVec Ideal S128x512 .f32) (d : Fin 128) (j : Fin 1024) :
    two512 a b (ix2 d j) = if h : j.val < 512 then a (ix2 d ⟨j.val, h⟩) else b (ix2 d ⟨j.val - 512, by omega⟩) := by
  pointwise [two512]
theorem hKv_key (a : FVec Ideal S128x1024 .f32) (d : Fin 128) (j : Fin 512) : hKv a (ix2 d ⟨j.val, by omega⟩) = a (ix2 d ⟨128 * (j.val / 64) + j.val % 64, by omega⟩) := by
  refine Eq.trans ?_ (hKeys_apply a d j)
  show two512 _ _ (ix2 d ⟨j.val, by omega⟩) = _
  rw [two512_apply, dif_pos j.isLt]
theorem hKv_value (a : FVec Ideal S128x1024 .f32) (d : Fin 128) (j : Fin 512) : hKv a (ix2 d ⟨512 + j.val, by omega⟩) = a (ix2 d ⟨128 * (j.val / 64) + 64 + j.val % 64, by omega⟩) := by
  refine Eq.trans ?_ (hValues_apply a d j)
  show two512 _ _ (ix2 d ⟨512 + j.val, by omega⟩) = _
  rw [two512_apply, dif_neg (show ¬ 512 + j.val < 512 by omega)]
  exact congrArg (fun k : Fin 512 => hValues a (ix2 d k)) (Fin.ext (show 512 + j.val - 512 = j.val by omega))

/-! ## The tables -/

/-- A row of the cosines' and of the sines' table. -/
def cosRow (c : Fin 16 → EReal) (l : Fin 64) : EReal := if h : l.val < 16 then c ⟨l.val, h⟩ else if h' : l.val < 32 then c ⟨l.val - 16, by omega⟩ else 0
def sinRow (s : Fin 16 → EReal) (l : Fin 64) : EReal := if h : l.val < 16 then - s ⟨l.val, h⟩ else if h' : l.val < 32 then s ⟨l.val - 16, by omega⟩ else 0

theorem three_apply (a b : FVec Ideal S4096x16 .f32) (c : FVec Ideal S4096x32 .f32) (t : Fin 4096) (l : Fin 64) : three a b c (ix2 t l)
    = if h : l.val < 16 then a (ix2 t ⟨l.val, h⟩) else if h' : l.val < 32 then b (ix2 t ⟨l.val - 16, by omega⟩) else c (ix2 t ⟨l.val - 32, by omega⟩) := by
  pointwise [three]
  have C : ∀ (n n' : ℕ) (h : n < 32) (h' : n' < 32), n = n' → c (ix2 t ⟨n, h⟩) = c (ix2 t ⟨n', h'⟩) := fun n n' h h' e => congrArg (fun q : Fin 32 => c (ix2 t q)) (Fin.ext e)
  (repeat' split) <;> first | rfl | omega | exact C _ _ _ _ (by omega)
theorem zero32_apply (t : Fin 4096) (l : Fin 32) : zero32 (F := Ideal) (ix2 t l) = 0 := by
  pointwise [zero32]
theorem hCos_apply (c : FVec Ideal S4096x16 .f32) (t : Fin 4096) (l : Fin 64) : hCos c (ix2 t l) = cosRow (fun k => c (ix2 t k)) l := by
  unfold hCos cosRow
  rw [three_apply]
  simp only [zero32_apply]
theorem hSin_apply (s : FVec Ideal S4096x16 .f32) (t : Fin 4096) (l : Fin 64) : hSin s (ix2 t l) = sinRow (fun k => s (ix2 t k)) l := by
  unfold hSin sinRow
  rw [three_apply]
  simp only [zero32_apply]
  rfl
theorem two_apply (a : FVec Ideal S4096x64 .f32) (t : Fin 4096) (l : Fin 128) : two a a (ix2 t l) = a (ix2 t ⟨l.val % 64, by omega⟩) := by
  pointwise [two]
  have C : ∀ (x : FVec Ideal S4096x64 .f32) (n n' : ℕ) (h : n < 64) (h' : n' < 64), n = n' → x (ix2 t ⟨n, h⟩) = x (ix2 t ⟨n', h'⟩) := fun x n n' h h' e => congrArg (fun q : Fin 64 => x (ix2 t q)) (Fin.ext e)
  (repeat' split) <;> first | omega | exact C _ _ _ _ _ (by omega)
theorem hCosK_apply (c : FVec Ideal S4096x16 .f32) (t : Fin 4096) (l : Fin 128) : hCosK c (ix2 t l) = cosRow (fun k => c (ix2 t k)) ⟨l.val % 64, by omega⟩ := by
  unfold hCosK
  rw [two_apply, hCos_apply]
theorem hSinK_apply (s : FVec Ideal S4096x16 .f32) (t : Fin 4096) (l : Fin 128) : hSinK s (ix2 t l) = sinRow (fun k => s (ix2 t k)) ⟨l.val % 64, by omega⟩ := by
  unfold hSinK
  rw [two_apply, hSin_apply]
theorem four_apply (a b : FVec Ideal S4096x64 .f32) (t : Fin 4096) (l : Fin 256) : four a b b a (ix2 t l)
    = if 64 ≤ l.val ∧ l.val < 192 then b (ix2 t ⟨l.val % 64, by omega⟩) else a (ix2 t ⟨l.val % 64, by omega⟩) := by
  pointwise [four]
  have C : ∀ (x : FVec Ideal S4096x64 .f32) (n n' : ℕ) (h : n < 64) (h' : n' < 64), n = n' → x (ix2 t ⟨n, h⟩) = x (ix2 t ⟨n', h'⟩) := fun x n n' h h' e => congrArg (fun q : Fin 64 => x (ix2 t q)) (Fin.ext e)
  (repeat' split) <;> first | omega | exact C _ _ _ _ _ (by omega)
theorem one64_apply (t : Fin 4096) (l : Fin 64) : flat64 (F := Ideal) 0x3F800000#32 (ix2 t l) = 1 := by
  pointwise [flat64]
theorem zero64_apply (t : Fin 4096) (l : Fin 64) : flat64 (F := Ideal) 0x00000000#32 (ix2 t l) = 0 := by
  pointwise [flat64]
theorem hCosQ_apply (c : FVec Ideal S4096x16 .f32) (t : Fin 4096) (l : Fin 256) : hCosQ c (ix2 t l)
    = (if 64 ≤ l.val ∧ l.val < 192 then cosRow (fun k => c (ix2 t k)) ⟨l.val % 64, by omega⟩ else 1) * factor := by
  show four _ _ _ _ (ix2 t l) * _ = _
  rw [four_apply, hCos_apply, one64_apply]
  rfl
theorem hSinQ_apply (s : FVec Ideal S4096x16 .f32) (t : Fin 4096) (l : Fin 256) : hSinQ s (ix2 t l)
    = (if 64 ≤ l.val ∧ l.val < 192 then sinRow (fun k => s (ix2 t k)) ⟨l.val % 64, by omega⟩ else 0) * factor := by
  show four _ _ _ _ (ix2 t l) * _ = _
  rw [four_apply, hSin_apply, zero64_apply]
  rfl

end Cert.Kernel4Ideal.Tokens

end
-- ==== Proof.Tokens.Turn.lean ====
/- A rotation as the kernel takes it, with a table of cosines and one of signed sines, is the rotation of Spec.lean; so its queries and keys are the ones described there. -/
module

public import proofs.«01_k».proof.Proof.Tokens.Columns

@[expose] public section

noncomputable section

namespace Cert.Kernel4Ideal.Tokens

open Idealize.ShloMosaic Cert.Tokens

theorem factor_real : ∃ r : ℝ, 0 ≤ r ∧ factor = (r : EReal) := by
  unfold factor
  simp only [Ideal.ofBits, Ideal.ieee]
  rw [if_neg (by decide), if_neg (by decide), if_neg (by decide)]
  exact ⟨_, by positivity, rfl⟩
theorem factor_nonneg : (0 : EReal) ≤ factor := by
  obtain ⟨r, hr, e⟩ := factor_real
  rw [e]
  exact EReal.coe_nonneg.mpr hr
theorem factor_ne_top : factor ≠ ⊤ := by
  obtain ⟨r, hr, e⟩ := factor_real
  rw [e]
  exact EReal.coe_ne_top r

/-- One entry of the rotation; `p` is the entry 16 places further on, where the sines are not zero. -/
theorem turn_entry (r : Fin 32 → EReal) (c s : Fin 16 → EReal) (k : Fin 64) (p : EReal) (hp : k.val < 32 → p = r (quarter ⟨(k.val + 16) % 64, by omega⟩)) :
    r (quarter k) * cosRow c k + p * sinRow s k = turned r c s k := by
  unfold cosRow sinRow turned
  by_cases h : k.val < 16
  · rw [dif_pos h, dif_pos h, dif_pos h, hp (by omega), quarter_first k (by omega), quarter_second _ (by show 16 ≤ (k.val + 16) % 64 % 32; omega)]
    rw [show (⟨k.val % 32, by omega⟩ : Fin 16) = ⟨k.val, h⟩ from Fin.ext (Nat.mod_eq_of_lt (by omega)),
      show (⟨(k.val + 16) % 64 % 32 - 16, by omega⟩ : Fin 16) = ⟨k.val, h⟩ from Fin.ext (show (k.val + 16) % 64 % 32 - 16 = k.val by omega), mul_neg, sub_eq_add_neg]
  rw [dif_neg h, dif_neg h, dif_neg h]
  by_cases h' : k.val < 32
  · rw [dif_pos h', dif_pos h', dif_pos h', hp h', quarter_second k (by omega), quarter_first _ (by show (k.val + 16) % 64 % 32 < 16; omega)]
    rw [show (⟨k.val % 32 - 16, by omega⟩ : Fin 16) = ⟨k.val - 16, by omega⟩ from Fin.ext (show k.val % 32 - 16 = k.val - 16 by omega),
      show (⟨(k.val + 16) % 64 % 32, by omega⟩ : Fin 16) = ⟨k.val - 16, by omega⟩ from Fin.ext (show (k.val + 16) % 64 % 32 = k.val - 16 by omega)]
  · rw [dif_neg h', dif_neg h', dif_neg h', mul_zero, mul_zero, add_zero]

theorem scaled (a b c d : EReal) : a * (b * factor) + c * (d * factor) = (a * b + c * d) * factor := by
  rw [EReal.right_distrib_of_nonneg_of_ne_top factor_nonneg factor_ne_top, mul_assoc, mul_assoc]

/-- A lane of the queries. -/
theorem query_lane (q : Fin 768 → EReal) (c s : Fin 16 → EReal) (j : Fin 1024) :
    q (qCol j) * ((if 64 ≤ j.val % 256 ∧ j.val % 256 < 192 then cosRow c ⟨j.val % 256 % 64, by omega⟩ else 1) * factor)
      + q (qCol ⟨128 * (j.val / 128) + (j.val % 128 + 16) % 128, by omega⟩) * ((if 64 ≤ j.val % 256 ∧ j.val % 256 < 192 then sinRow s ⟨j.val % 256 % 64, by omega⟩ else 0) * factor)
      = queries q c s j * factor := by
  rw [scaled]
  refine congrArg (fun z : EReal => z * factor) ?_
  have Q := fun (k k' : ℕ) (h : k < 64) (h' : k' < 64) (e : k = k') => congrArg (fun k : Fin 64 => (quarter k).val) (Fin.ext e : (⟨k, h⟩ : Fin 64) = ⟨k', h'⟩)
  unfold queries pair
  by_cases h : j.val % 256 < 64
  · rw [if_neg (by omega), if_neg (by omega), mul_one, mul_zero, add_zero, dif_pos h]
    refine congrArg q (Fin.ext ?_)
    unfold qCol
    rw [dif_pos h]
  by_cases h1 : j.val % 256 < 128
  · rw [if_pos (by omega), if_pos (by omega), dif_neg h, dif_pos h1]
    refine Eq.trans ?_ ((turn_entry (fun l => q ⟨192 * (j.val / 256) + 64 + l.val, by omega⟩) c s ⟨j.val % 256 % 64, by omega⟩ (q (qCol ⟨128 * (j.val / 128) + (j.val % 128 + 16) % 128, by omega⟩)) ?_).trans
      (congrArg (turned _ c s) (Fin.ext (show j.val % 256 % 64 = j.val % 256 - 64 by omega))))
    · refine congrArg (fun z : EReal => z * _ + _) (congrArg q (Fin.ext ?_))
      unfold qCol
      rw [dif_neg h, dif_pos h1]
      exact congrArg (fun k => 192 * (j.val / 256) + 64 + k) (Q _ _ _ _ (by omega))
    · intro hk
      have hk : j.val % 256 % 64 < 32 := hk
      refine congrArg q (Fin.ext ?_)
      unfold qCol
      rw [dif_neg (by show ¬ (128 * (j.val / 128) + (j.val % 128 + 16) % 128) % 256 < 64; omega), dif_pos (by show (128 * (j.val / 128) + (j.val % 128 + 16) % 128) % 256 < 128; omega)]
      exact congrArg₂ (fun g k => 192 * g + 64 + k) (show (128 * (j.val / 128) + (j.val % 128 + 16) % 128) / 256 = j.val / 256 by omega) (Q _ _ _ _ (show (128 * (j.val / 128) + (j.val % 128 + 16) % 128) % 64 = (j.val % 256 % 64 + 16) % 64 by omega))
  by_cases h2 : j.val % 256 < 192
  · rw [if_pos (by omega), if_pos (by omega), dif_neg h, dif_neg h1, dif_pos h2]
    refine Eq.trans ?_ ((turn_entry (fun l => q ⟨192 * (j.val / 256) + 160 + l.val, by omega⟩) c s ⟨j.val % 256 % 64, by omega⟩ (q (qCol ⟨128 * (j.val / 128) + (j.val % 128 + 16) % 128, by omega⟩)) ?_).trans
      (congrArg (turned _ c s) (Fin.ext (show j.val % 256 % 64 = j.val % 256 - 128 by omega))))
    · refine congrArg (fun z : EReal => z * _ + _) (congrArg q (Fin.ext ?_))
      unfold qCol
      rw [dif_neg h, dif_neg h1, dif_pos h2]
      exact congrArg (fun k => 192 * (j.val / 256) + 160 + k) (Q _ _ _ _ (by omega))
    · intro hk
      have hk : j.val % 256 % 64 < 32 := hk
      refine congrArg q (Fin.ext ?_)
      unfold qCol
      rw [dif_neg (by show ¬ (128 * (j.val / 128) + (j.val % 128 + 16) % 128) % 256 < 64; omega), dif_neg (by show ¬ (128 * (j.val / 128) + (j.val % 128 + 16) % 128) % 256 < 128; omega),
        dif_pos (by show (128 * (j.val / 128) + (j.val % 128 + 16) % 128) % 256 < 192; omega)]
      exact congrArg₂ (fun g k => 192 * g + 160 + k) (show (128 * (j.val / 128) + (j.val % 128 + 16) % 128) / 256 = j.val / 256 by omega) (Q _ _ _ _ (show (128 * (j.val / 128) + (j.val % 128 + 16) % 128) % 64 = (j.val % 256 % 64 + 16) % 64 by omega))
  · rw [if_neg (by omega), if_neg (by omega), mul_one, mul_zero, add_zero, dif_neg h, dif_neg h1, dif_neg h2]
    refine congrArg q (Fin.ext ?_)
    unfold qCol
    rw [dif_neg h, dif_neg h1, dif_neg h2]
    show 192 * (j.val / 256) + 96 + j.val % 64 = 192 * (j.val / 256) + 96 + (j.val % 256 - 192)
    omega

/-- A rotated lane of the keys. -/
theorem rope_lane (r : Fin 32 → EReal) (c s : Fin 16 → EReal) (l : Fin 128) :
    r (quarter ⟨l.val % 64, by omega⟩) * cosRow c ⟨l.val % 64, by omega⟩ + r (quarter ⟨(l.val + 16) % 128 % 64, by omega⟩) * sinRow s ⟨l.val % 64, by omega⟩ = turned r c s ⟨l.val % 64, by omega⟩ :=
  turn_entry r c s _ _ fun _ => congrArg (fun k : Fin 64 => r (quarter k)) (Fin.ext (show (l.val + 16) % 128 % 64 = (l.val % 64 + 16) % 64 by omega))

theorem key_plain (kv : Fin 1024 → EReal) (r : Fin 32 → EReal) (c s : Fin 16 → EReal) (j : Fin 1024) (h : j.val % 256 < 64 ∨ 192 ≤ j.val % 256) :
    keys kv r c s j = kv ⟨128 * (2 * (j.val / 256) + j.val % 128 / 64) + j.val % 64, by omega⟩ := by
  unfold keys pair
  by_cases h0 : j.val % 256 < 64
  · rw [dif_pos h0]
    exact congrArg kv (Fin.ext (show 256 * (j.val / 256) + j.val % 256 = 128 * (2 * (j.val / 256) + j.val % 128 / 64) + j.val % 64 by omega))
  · rw [dif_neg h0, dif_neg (show ¬ j.val % 256 < 128 by omega), dif_neg (show ¬ j.val % 256 < 192 by omega)]
    exact congrArg kv (Fin.ext (show 256 * (j.val / 256) + 128 + (j.val % 256 - 192) = 128 * (2 * (j.val / 256) + j.val % 128 / 64) + j.val % 64 by omega))
theorem key_turned (kv : Fin 1024 → EReal) (r : Fin 32 → EReal) (c s : Fin 16 → EReal) (j : Fin 1024) (h : ¬ (j.val % 256 < 64 ∨ 192 ≤ j.val % 256)) :
    keys kv r c s j = turned r c s ⟨j.val % 128 % 64, by omega⟩ := by
  unfold keys pair
  rw [dif_neg (show ¬ j.val % 256 < 64 by omega)]
  by_cases h1 : j.val % 256 < 128
  · rw [dif_pos h1]
    exact congrArg (turned r c s) (Fin.ext (show j.val % 256 - 64 = j.val % 128 % 64 by omega))
  · rw [dif_neg h1, dif_pos (show j.val % 256 < 192 by omega)]
    exact congrArg (turned r c s) (Fin.ext (show j.val % 256 - 128 = j.val % 128 % 64 by omega))

end Cert.Kernel4Ideal.Tokens

end
-- ==== Proof.Tokens.Point.lean ====
/- From the points to the six results: point `t` of the grid works on batch `t / 4` and rows `t % 4 * 1024` to `t % 4 * 1024 + 1023`. -/
module

public import proofs.«01_k».proof.Proof.Tokens.Block
public import proofs.«01_k».proof.Proof.Tokens.Turn

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

variable (m : (ℓ : Loc nD τ sig) → Buf (Elt Ideal) ℓ)

/-- Which blocks a point works on. -/
theorem blocks : ∀ t : Fin cfg0.N,
    win0_0.index t = ![t.val / 4, 128 * (t.val % 4) - 1, 0] ∧ win0_1.index t = ![t.val / 4, t.val % 4, 0] ∧ win0_2.index t = ![t.val / 4, min (128 * (t.val % 4 + 1)) 511, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val % 4, 0] ∧ win0_12.index t = ![t.val % 4, 0] ∧ win0_13.index t = ![t.val % 4, 0] ∧ win0_14.index t = ![t.val % 4, 0]
    ∧ win0_15.index t = ![t.val, 0] ∧ win0_16.index t = ![t.val, 0]
    ∧ win0_17.index t = ![t.val / 4, t.val % 4, 0] ∧ win0_18.index t = ![t.val / 4, t.val % 4, 0] ∧ win0_19.index t = ![t.val / 4, t.val % 4, 0] ∧ win0_20.index t = ![t.val / 4, t.val % 4, 0]
    ∧ win0_21.index t = ![t.val, 0] ∧ win0_22.index t = ![t.val, 0] := by decide +kernel

theorem batch : ∀ t : Fin cfg0.N, (grid0.coords t 0).val = t.val / 4 := by decide +kernel
theorem tile : ∀ t : Fin cfg0.N, (grid0.coords t 1).val = t.val % 4 := by decide +kernel

theorem points (t : Fin cfg0.N) : t.val < 32 := lt_of_lt_of_eq t.isLt (show cfg0.N = 32 from N_0)

/-- The arguments as launched. -/
def argX (c : Dev nD) : S8x4096x1024.Idx → EReal := m ((c : Thread nD τ).loc main_arg0)
def argMod (c : Dev nD) : S16x6144.Idx → EReal := m ((c : Thread nD τ).loc main_arg1)
def argW (c : Dev nD) : S1024x1952.Idx → EReal := m ((c : Thread nD τ).loc main_arg2)
def argGq (c : Dev nD) : S1x256.Idx → EReal := m ((c : Thread nD τ).loc main_arg3)
def argWq (c : Dev nD) : S256x768.Idx → EReal := m ((c : Thread nD τ).loc main_arg4)
def argGkv (c : Dev nD) : S1x128.Idx → EReal := m ((c : Thread nD τ).loc main_arg5)
def argWkv (c : Dev nD) : S128x1024.Idx → EReal := m ((c : Thread nD τ).loc main_arg6)
def argTap (c : Dev nD) : S3x512.Idx → EReal := m ((c : Thread nD τ).loc main_arg7)
def argCos (c : Dev nD) : S4096x16.Idx → EReal := m ((c : Thread nD τ).loc main_arg8)
def argSin (c : Dev nD) : S4096x16.Idx → EReal := m ((c : Thread nD τ).loc main_arg9)
def argUp (c : Dev nD) : S1024x4096.Idx → EReal := m ((c : Thread nD τ).loc main_arg10)
def argDown (c : Dev nD) : S4096x1024.Idx → EReal := m ((c : Thread nD τ).loc main_arg11)

/-! ## The blocks -/

theorem iblk_before (c : Dev nD) (t : Fin cfg0.N) (i : Fin 8) (e : Fin 1024) : iblk m c 0 t (ix3 0 i e)
    = argX m c (ix3 ⟨t.val / 4, by have := points t; omega⟩ ⟨(128 * (t.val % 4) - 1) * 8 + i.val, by omega⟩ e) := by
  unfold argX
  blk_ext [iblk, V, blocks t]
theorem iblk_x (c : Dev nD) (t : Fin cfg0.N) (i e : Fin 1024) : iblk m c 1 t (ix3 0 i e)
    = argX m c (ix3 ⟨t.val / 4, by have := points t; omega⟩ ⟨t.val % 4 * 1024 + i.val, by omega⟩ e) := by
  unfold argX
  blk_ext [iblk, V, blocks t]
theorem iblk_after (c : Dev nD) (t : Fin cfg0.N) (i : Fin 8) (e : Fin 1024) : iblk m c 2 t (ix3 0 i e)
    = argX m c (ix3 ⟨t.val / 4, by have := points t; omega⟩ ⟨min (128 * (t.val % 4 + 1)) 511 * 8 + i.val, by omega⟩ e) := by
  unfold argX
  blk_ext [iblk, V, blocks t]
theorem iblk_mod (c : Dev nD) (t : Fin cfg0.N) (n : Fin 16) (e : Fin 6144) : iblk m c 3 t (ix2 n e) = argMod m c (ix2 n e) := by
  unfold argMod
  blk_ext [iblk, V, blocks t]
theorem iblk_gq (c : Dev nD) (t : Fin cfg0.N) (e : Fin 256) : iblk m c 6 t (ix2 0 e) = argGq m c (ix2 0 e) := by
  unfold argGq
  blk_ext [iblk, V, blocks t]
theorem iblk_gkv (c : Dev nD) (t : Fin cfg0.N) (e : Fin 128) : iblk m c 8 t (ix2 0 e) = argGkv m c (ix2 0 e) := by
  unfold argGkv
  blk_ext [iblk, V, blocks t]
theorem iblk_tap (c : Dev nD) (t : Fin cfg0.N) (k : Fin 3) (e : Fin 512) : iblk m c 10 t (ix2 k e) = argTap m c (ix2 k e) := by
  unfold argTap
  blk_ext [iblk, V, blocks t]
theorem iblk_up (c : Dev nD) (t : Fin cfg0.N) (i : Fin 32) (e : Fin 4096) : iblk m c 15 t (ix2 i e) = argUp m c (ix2 ⟨t.val * 32 + i.val, by have := points t; omega⟩ e) := by
  unfold argUp
  blk_ext [iblk, V, blocks t]
theorem iblk_down (c : Dev nD) (t : Fin cfg0.N) (i : Fin 128) (e : Fin 1024) : iblk m c 16 t (ix2 i e) = argDown m c (ix2 ⟨t.val * 128 + i.val, by have := points t; omega⟩ e) := by
  unfold argDown
  blk_ext [iblk, V, blocks t]

theorem iblk_lat (c : Dev nD) (t : Fin cfg0.N) (j : Fin 512) (d : Fin 1024) : iblk m c 4 t (ix2 j d) = hLat (F := Ideal) (argW m c) (ix2 j d) := by
  refine Eq.trans ?_ (congrFun (at_v13 m c) (ix2 j d))
  blk_ext [iblk, blocks t]
theorem iblk_conv (c : Dev nD) (t : Fin cfg0.N) (j : Fin 1536) (d : Fin 1024) : iblk m c 5 t (ix2 j d) = hConv (F := Ideal) (argW m c) (ix2 j d) := by
  refine Eq.trans ?_ (congrFun (at_v15 m c) (ix2 j d))
  blk_ext [iblk, blocks t]
theorem iblk_wq (c : Dev nD) (t : Fin cfg0.N) (d : Fin 256) (j : Fin 1024) : iblk m c 7 t (ix2 d j) = hQ (F := Ideal) (argWq m c) (ix2 d j) := by
  refine Eq.trans ?_ (congrFun (at_v38 m c) (ix2 d j))
  blk_ext [iblk, blocks t]
theorem iblk_wkv (c : Dev nD) (t : Fin cfg0.N) (d : Fin 128) (j : Fin 1024) : iblk m c 9 t (ix2 d j) = hKv (F := Ideal) (argWkv m c) (ix2 d j) := by
  refine Eq.trans ?_ (congrFun (at_v45 m c) (ix2 d j))
  blk_ext [iblk, blocks t]
theorem iblk_cosQ (c : Dev nD) (t : Fin cfg0.N) (i : Fin 1024) (l : Fin 256) : iblk m c 11 t (ix2 i l) = hCosQ (F := Ideal) (argCos m c) (ix2 ⟨t.val % 4 * 1024 + i.val, by omega⟩ l) := by
  refine Eq.trans ?_ (congrFun (at_v54 m c) _)
  blk_ext [iblk, blocks t]
theorem iblk_sinQ (c : Dev nD) (t : Fin cfg0.N) (i : Fin 1024) (l : Fin 256) : iblk m c 12 t (ix2 i l) = hSinQ (F := Ideal) (argSin m c) (ix2 ⟨t.val % 4 * 1024 + i.val, by omega⟩ l) := by
  refine Eq.trans ?_ (congrFun (at_v59 m c) _)
  blk_ext [iblk, blocks t]
theorem iblk_cosK (c : Dev nD) (t : Fin cfg0.N) (i : Fin 1024) (l : Fin 128) : iblk m c 13 t (ix2 i l) = hCosK (F := Ideal) (argCos m c) (ix2 ⟨t.val % 4 * 1024 + i.val, by omega⟩ l) := by
  refine Eq.trans ?_ (congrFun (at_v60 m c) _)
  blk_ext [iblk, blocks t]
theorem iblk_sinK (c : Dev nD) (t : Fin cfg0.N) (i : Fin 1024) (l : Fin 128) : iblk m c 14 t (ix2 i l) = hSinK (F := Ideal) (argSin m c) (ix2 ⟨t.val % 4 * 1024 + i.val, by omega⟩ l) := by
  refine Eq.trans ?_ (congrFun (at_v61 m c) _)
  blk_ext [iblk, blocks t]

end Cert.Kernel4Ideal.Tokens

end
-- ==== Proof.Tokens.Result.lean ====
/- A point's outputs are its part of the results of Spec.lean. -/
module

public import proofs.«01_k».proof.Proof.Tokens.Point

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

variable (m : (ℓ : Loc nD τ sig) → Buf (Elt Ideal) ℓ) (c : Dev nD) (t : Fin cfg0.N)

/-- The batch, and a row's place in the sequence. -/
def bat : Fin 8 := ⟨t.val / 4, by have := points t; omega⟩
def seq (i : Fin 1024) : Fin 4096 := ⟨t.val % 4 * 1024 + i.val, by omega⟩

/-! ## The first projection -/

theorem shift_eq : shiftOf (grid0.coords t) (iblk m c 3 t) = fun e : Fin 1024 => argMod m c (ix2 ⟨(bat t).val, by omega⟩ ⟨e.val, by omega⟩) := by
  funext e
  unfold shiftOf
  exact (iblk_mod m c t _ _).trans (congrArg (fun n : Fin 16 => argMod m c (ix2 n ⟨e.val, by omega⟩)) (Fin.ext (batch t)))
theorem scale_eq : scaleOf (grid0.coords t) (iblk m c 3 t) = fun e : Fin 1024 => argMod m c (ix2 ⟨(bat t).val, by omega⟩ ⟨1024 + e.val, by omega⟩) := by
  funext e
  unfold scaleOf
  exact (iblk_mod m c t _ _).trans (congrArg (fun n : Fin 16 => argMod m c (ix2 n ⟨1024 + e.val, by omega⟩)) (Fin.ext (batch t)))

/-- A modulated token of the sequence. -/
def token (n : Fin 8) (i : Fin 4096) : Fin 1024 → EReal :=
  modulated (fun e => argX m c (ix3 n i e)) (fun e : Fin 1024 => argMod m c (ix2 ⟨n.val, by omega⟩ ⟨e.val, by omega⟩)) (fun e : Fin 1024 => argMod m c (ix2 ⟨n.val, by omega⟩ ⟨1024 + e.val, by omega⟩))
/-- Its first projection. -/
def proj (n : Fin 8) (i : Fin 4096) : Fin 1952 → EReal := Cert.Tokens.lat (argX m c) (argMod m c) (argW m c) n i

theorem tok_eq (i : Fin 1024) : tok (grid0.coords t) (iblk m c 1 t) (iblk m c 3 t) i = token m c (bat t) (seq t i) := by
  funext e
  unfold tok token
  rw [shift_eq, scale_eq]
  exact congrArg (fun r => modulated r _ _ e) (funext fun e => iblk_x m c t i e)

theorem zLat_plain (i : Fin 1024) (j : Fin 384) : zLat (grid0.coords t) (iblk m c 1 t) (iblk m c 3 t) (iblk m c 4 t) i ⟨j.val, by omega⟩ = proj m c (bat t) (seq t i) ⟨j.val, by omega⟩ := by
  unfold zLat
  rw [tok_eq]
  exact Finset.sum_congr rfl fun d _ => congrArg (fun z : EReal => _ * z) ((iblk_lat m c t _ d).trans (hLat_plain _ j d))
theorem zLat_rot (i : Fin 1024) (l : Fin 128) : zLat (grid0.coords t) (iblk m c 1 t) (iblk m c 3 t) (iblk m c 4 t) i ⟨384 + l.val, by omega⟩
    = proj m c (bat t) (seq t i) ⟨384 + (quarter ⟨l.val % 64, by omega⟩).val, by omega⟩ := by
  unfold zLat
  rw [tok_eq]
  exact Finset.sum_congr rfl fun d _ => congrArg (fun z : EReal => _ * z) ((iblk_lat m c t _ d).trans (hLat_rot _ l d))
theorem zGate_eq (i : Fin 1024) (j : Fin 512) : zGate (grid0.coords t) (iblk m c 1 t) (iblk m c 3 t) (iblk m c 5 t) i j = proj m c (bat t) (seq t i) ⟨416 + j.val, by omega⟩ := by
  unfold zGate
  rw [tok_eq]
  exact Finset.sum_congr rfl fun d _ => congrArg (fun z : EReal => _ * z) ((iblk_conv m c t _ d).trans (hConv_apply _ _ d))

/-! ## Queries, keys and values -/

theorem qRow_eq (i j : Fin 1024) : qRow (grid0.coords t) (iblk m c 1 t) (iblk m c 3 t) (iblk m c 4 t) (iblk m c 6 t) (iblk m c 7 t) i j
    = query (proj m c (bat t) (seq t i)) (fun d => argGq m c (ix2 0 d)) (fun d j => argWq m c (ix2 d j)) (qCol j) := by
  unfold qRow query
  refine Finset.sum_congr rfl fun d _ => congrArg₂ (fun a b : EReal => a * b) (congrArg₂ (fun a b : EReal => a * b) ?_ (iblk_gq m c t d)) ((iblk_wq m c t d j).trans (hQ_apply _ d j))
  exact congrArg (fun r : Fin 256 → EReal => normed width256 r d) (funext fun d => zLat_plain m c t i ⟨d.val, by omega⟩)

def kvAt (n : Fin 8) (i : Fin 4096) : Fin 1024 → EReal := kvOf (argX m c) (argMod m c) (argW m c) (argGkv m c) (argWkv m c) n i

theorem kvRow_sum (i J J' : Fin 1024) (h : ∀ d : Fin 128, hKv (F := Ideal) (argWkv m c) (ix2 d J) = argWkv m c (ix2 d J')) :
    kvRow (grid0.coords t) (iblk m c 1 t) (iblk m c 3 t) (iblk m c 4 t) (iblk m c 8 t) (iblk m c 9 t) i J = kvAt m c (bat t) (seq t i) J' := by
  unfold kvRow kvAt kvOf keyValue
  refine Finset.sum_congr rfl fun d _ => congrArg₂ (fun a b : EReal => a * b) (congrArg₂ (fun a b : EReal => a * b) ?_ (iblk_gkv m c t d)) ((iblk_wkv m c t d J).trans (h d))
  exact congrArg (fun r : Fin 128 → EReal => normed width128 r d) (funext fun d => zLat_plain m c t i ⟨256 + d.val, by omega⟩)

theorem q_result (i l : Fin 1024) : qOut (grid0.coords t) (iblk m c 1 t) (iblk m c 3 t) (iblk m c 4 t) (iblk m c 6 t) (iblk m c 7 t) (iblk m c 11 t) (iblk m c 12 t) i l
    = qResult (argX m c) (argMod m c) (argW m c) (argGq m c) (argWq m c) (argCos m c) (argSin m c) (bat t) (seq t i) l := by
  unfold qOut qResult
  rw [qRow_eq, qRow_eq]
  refine Eq.trans ?_ (query_lane _ _ _ l)
  exact congrArg₂ (fun a b : EReal => _ * a + _ * b) ((iblk_cosQ m c t i _).trans (hCosQ_apply _ _ _)) ((iblk_sinQ m c t i _).trans (hSinQ_apply _ _ _))

theorem rope_result (i : Fin 1024) (l : Fin 128) : ropeOut (grid0.coords t) (iblk m c 1 t) (iblk m c 3 t) (iblk m c 4 t) (iblk m c 13 t) (iblk m c 14 t) i l
    = turned (fun k : Fin 32 => proj m c (bat t) (seq t i) ⟨384 + k.val, by omega⟩) (fun k => argCos m c (ix2 (seq t i) k)) (fun k => argSin m c (ix2 (seq t i) k)) ⟨l.val % 64, by omega⟩ := by
  unfold ropeOut
  refine Eq.trans ?_ (rope_lane (fun k : Fin 32 => proj m c (bat t) (seq t i) ⟨384 + k.val, by omega⟩) _ _ l)
  exact congrArg₂ (fun a b : EReal => a + b)
    (congrArg₂ (fun a b : EReal => a * b) (zLat_rot m c t i l) ((iblk_cosK m c t i l).trans (hCosK_apply _ _ l)))
    (congrArg₂ (fun a b : EReal => a * b) (zLat_rot m c t i ⟨(l.val + 16) % 128, by omega⟩) ((iblk_sinK m c t i l).trans (hSinK_apply _ _ l)))

theorem k_result (i l : Fin 1024) : kOut (grid0.coords t) (iblk m c 1 t) (iblk m c 3 t) (iblk m c 4 t) (iblk m c 8 t) (iblk m c 9 t) (iblk m c 13 t) (iblk m c 14 t) i l
    = kResult (argX m c) (argMod m c) (argW m c) (argGkv m c) (argWkv m c) (argCos m c) (argSin m c) (bat t) (seq t i) l := by
  unfold kOut kResult
  by_cases h : l.val % 256 < 64 ∨ 192 ≤ l.val % 256
  · rw [if_pos h, key_plain _ _ _ _ l h]
    refine kvRow_sum m c t i _ _ fun d => (hKv_key _ d ⟨128 * (l.val / 256) + l.val % 128, by omega⟩).trans ?_
    exact congrArg (fun k : Fin 1024 => argWkv m c (ix2 d k)) (Fin.ext (show 128 * ((128 * (l.val / 256) + l.val % 128) / 64) + (128 * (l.val / 256) + l.val % 128) % 64 = 128 * (2 * (l.val / 256) + l.val % 128 / 64) + l.val % 64 by omega))
  · rw [if_neg h, key_turned _ _ _ _ l h]
    exact rope_result m c t i ⟨l.val % 128, by omega⟩

theorem v_result (i : Fin 1024) (j : Fin 512) : vOut (grid0.coords t) (iblk m c 1 t) (iblk m c 3 t) (iblk m c 4 t) (iblk m c 8 t) (iblk m c 9 t) i j
    = vResult (argX m c) (argMod m c) (argW m c) (argGkv m c) (argWkv m c) (bat t) (seq t i) j := by
  unfold vOut vResult values
  exact kvRow_sum m c t i _ _ fun d => hKv_value _ d j

/-! ## The convolution -/

theorem around_eq (P : Fin 1040) (h : (8 ≤ P.val ∨ 0 < t.val % 4) ∧ (P.val < 1032 ∨ t.val % 4 < 3)) (e : Fin 1024) :
    around (iblk m c 0 t) (iblk m c 1 t) (iblk m c 2 t) P e = argX m c (ix3 (bat t) ⟨1024 * (t.val % 4) + P.val - 8, by omega⟩ e) := by
  by_cases h8 : P.val < 8
  · refine (around_before _ _ _ P e h8).trans ((iblk_before m c t _ e).trans ?_)
    exact congrArg (fun k : Fin 4096 => argX m c (ix3 (bat t) k e)) (Fin.ext (show (128 * (t.val % 4) - 1) * 8 + P.val = 1024 * (t.val % 4) + P.val - 8 by omega))
  by_cases h9 : P.val < 1032
  · refine (around_in _ _ _ P e (by omega) h9).trans ((iblk_x m c t _ e).trans ?_)
    exact congrArg (fun k : Fin 4096 => argX m c (ix3 (bat t) k e)) (Fin.ext (show t.val % 4 * 1024 + (P.val - 8) = 1024 * (t.val % 4) + P.val - 8 by omega))
  · refine (around_after _ _ _ P e (by omega)).trans ((iblk_after m c t _ e).trans ?_)
    exact congrArg (fun k : Fin 4096 => argX m c (ix3 (bat t) k e)) (Fin.ext (show min (128 * (t.val % 4 + 1)) 511 * 8 + (P.val - 1032) = 1024 * (t.val % 4) + P.val - 8 by omega))

theorem zPair_eq (P : Fin 1040) (h : (8 ≤ P.val ∨ 0 < t.val % 4) ∧ (P.val < 1032 ∨ t.val % 4 < 3)) (j : Fin 1024) :
    zPair (grid0.coords t) (iblk m c 0 t) (iblk m c 1 t) (iblk m c 2 t) (iblk m c 3 t) (iblk m c 5 t) P j
      = proj m c (bat t) ⟨1024 * (t.val % 4) + P.val - 8, by omega⟩ ⟨928 + j.val, by omega⟩ := by
  have T : tokAround (grid0.coords t) (iblk m c 0 t) (iblk m c 1 t) (iblk m c 2 t) (iblk m c 3 t) P = token m c (bat t) ⟨1024 * (t.val % 4) + P.val - 8, by omega⟩ := by
    funext e
    unfold tokAround token
    rw [shift_eq, scale_eq]
    exact congrArg (fun r => modulated r _ _ e) (funext fun e => around_eq m c t P h e)
  have W : ∀ d : Fin 1024, iblk m c 5 t (ix2 ⟨512 + j.val, by omega⟩ d) = argW m c (ix2 d ⟨928 + j.val, by omega⟩) := fun d =>
    (iblk_conv m c t ⟨512 + j.val, by omega⟩ d).trans ((hConv_apply _ _ d).trans (congrArg (fun k : Fin 1952 => argW m c (ix2 d k)) (Fin.ext (show 416 + (512 + j.val) = 928 + j.val by omega))))
  unfold zPair
  rw [T]
  simp only [W]
  rfl

theorem upAt_eq (P : Fin 1040) (h7 : 7 ≤ P.val) (h32 : P.val ≤ 1032) (j : Fin 512) :
    upAt (grid0.coords t) (iblk m c 0 t) (iblk m c 1 t) (iblk m c 2 t) (iblk m c 3 t) (iblk m c 5 t) P j = padded (argX m c) (argMod m c) (argW m c) (bat t) (1024 * (t.val % 4) + P.val - 7) j := by
  unfold upAt padded
  rw [tile t]
  by_cases h : (8 ≤ P.val ∨ 0 < t.val % 4) ∧ (P.val < 1032 ∨ t.val % 4 < 3)
  · rw [if_pos h, dif_pos (by omega), zPair_eq m c t P h, zPair_eq m c t P h]
    unfold gated
    rw [show (⟨1024 * (t.val % 4) + P.val - 7 - 1, by omega⟩ : Fin 4096) = ⟨1024 * (t.val % 4) + P.val - 8, by omega⟩ from Fin.ext (show 1024 * (t.val % 4) + P.val - 7 - 1 = 1024 * (t.val % 4) + P.val - 8 by omega)]
    refine congrArg (fun z : EReal => _ * z) (congrArg (proj m c _ _) (Fin.ext (show 928 + (512 + j.val) = 1440 + j.val by omega)))
  · rw [if_neg h, dif_neg (by omega)]

theorem c_result (i : Fin 1024) (j : Fin 512) : cOut (grid0.coords t) (iblk m c 0 t) (iblk m c 1 t) (iblk m c 2 t) (iblk m c 3 t) (iblk m c 5 t) (iblk m c 10 t) i j
    = cResult (argX m c) (argMod m c) (argW m c) (argTap m c) (bat t) (seq t i) j := by
  unfold cOut cResult convolved
  have U : ∀ (P : Fin 1040) (p : ℕ), 7 ≤ P.val → P.val ≤ 1032 → 1024 * (t.val % 4) + P.val - 7 = p →
      upAt (grid0.coords t) (iblk m c 0 t) (iblk m c 1 t) (iblk m c 2 t) (iblk m c 3 t) (iblk m c 5 t) P j = padded (argX m c) (argMod m c) (argW m c) (bat t) p j := by
    intro P p h7 h32 e
    rw [upAt_eq m c t P h7 h32 j, e]
  have S : (seq t i).val = t.val % 4 * 1024 + i.val := rfl
  rw [zGate_eq, U ⟨i.val + 7, by omega⟩ (seq t i).val (by show 7 ≤ i.val + 7; omega) (by show i.val + 7 ≤ 1032; omega) (by show 1024 * (t.val % 4) + (i.val + 7) - 7 = _; omega),
    U ⟨i.val + 8, by omega⟩ ((seq t i).val + 1) (by show 7 ≤ i.val + 8; omega) (by show i.val + 8 ≤ 1032; omega) (by show 1024 * (t.val % 4) + (i.val + 8) - 7 = _; omega),
    U ⟨i.val + 9, by omega⟩ ((seq t i).val + 2) (by show 7 ≤ i.val + 9; omega) (by show i.val + 9 ≤ 1032; omega) (by show 1024 * (t.val % 4) + (i.val + 9) - 7 = _; omega),
    show iblk m c 10 t (ix2 0 j) = _ from iblk_tap m c t 0 j, show iblk m c 10 t (ix2 1 j) = _ from iblk_tap m c t 1 j, show iblk m c 10 t (ix2 2 j) = _ from iblk_tap m c t 2 j]
  rfl

/-! ## The outputs of a point, and the arrays they make up -/

theorem q_out (y : S1x1024x1024.Idx) : (outsAt0 m c t).1 y = qOut (grid0.coords t) (iblk m c 1 t) (iblk m c 3 t) (iblk m c 4 t) (iblk m c 6 t) (iblk m c 7 t) (iblk m c 11 t) (iblk m c 12 t) (y 1) (y 2) := by
  unfold outsAt0
  dsimp only
  rw [left17, canon_q]
theorem k_out (y : S1x1024x1024.Idx) : (outsAt0 m c t).2.1 y = kOut (grid0.coords t) (iblk m c 1 t) (iblk m c 3 t) (iblk m c 4 t) (iblk m c 8 t) (iblk m c 9 t) (iblk m c 13 t) (iblk m c 14 t) (y 1) (y 2) := by
  unfold outsAt0
  dsimp only
  rw [left18, canon_k]
theorem v_out (y : S1x1024x512.Idx) : (outsAt0 m c t).2.2.1 y = vOut (grid0.coords t) (iblk m c 1 t) (iblk m c 3 t) (iblk m c 4 t) (iblk m c 8 t) (iblk m c 9 t) (y 1) (y 2) := by
  unfold outsAt0
  dsimp only
  rw [left19, canon_v]
theorem c_out (y : S1x1024x512.Idx) : (outsAt0 m c t).2.2.2.1 y = cOut (grid0.coords t) (iblk m c 0 t) (iblk m c 1 t) (iblk m c 2 t) (iblk m c 3 t) (iblk m c 5 t) (iblk m c 10 t) (y 1) (y 2) := by
  unfold outsAt0
  dsimp only
  rw [left20, canon_c]
theorem up_out (y : S32x4096.Idx) : (outsAt0 m c t).2.2.2.2.1 y = iblk m c 15 t y := by
  unfold outsAt0
  dsimp only
  rw [left21, canon_up]
theorem down_out (y : S128x1024.Idx) : (outsAt0 m c t).2.2.2.2.2 y = iblk m c 16 t y := by
  unfold outsAt0
  dsimp only
  rw [left22, canon_down]

end Cert.Kernel4Ideal.Tokens

end
-- ==== Proof.Tokens.Arrays.lean ====
/- The arrays after the run: the 32 blocks the points write make up the results of Spec.lean. The keys' and the values' arrays have 256 rows more, which no point writes. -/
module

public import proofs.«01_k».proof.Proof.Tokens.Result

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

variable (m : (ℓ : Loc nD τ sig) → Buf (Elt Ideal) ℓ) (c : Dev nD)

def qArr : S8x4096x1024.Idx → EReal := fun y => qResult (argX m c) (argMod m c) (argW m c) (argGq m c) (argWq m c) (argCos m c) (argSin m c) (y 0) (y 1) (y 2)
def kArr : S8x4096x1024.Idx → EReal := fun y => kResult (argX m c) (argMod m c) (argW m c) (argGkv m c) (argWkv m c) (argCos m c) (argSin m c) (y 0) (y 1) (y 2)
def vArr : S8x4096x512.Idx → EReal := fun y => vResult (argX m c) (argMod m c) (argW m c) (argGkv m c) (argWkv m c) (y 0) (y 1) (y 2)
def cArr : S8x4096x512.Idx → EReal := fun y => cResult (argX m c) (argMod m c) (argW m c) (argTap m c) (y 0) (y 1) (y 2)

theorem arr_q : (dats m 0 c).arrAt 17 cfg0.N = qArr m c := by
  refine (dats m 0 c).arrAt_eq_of_covers 17 _ (by decide +kernel) fun t hf y => ?_
  blk_simp
  rw [after0_17]
  refine (q_out m c t y).trans ((q_result m c t (y 1) (y 2)).trans ?_)
  have e0 : ((win0_17.blk t).view.emb y 0).val = t.val / 4 := by
    blk_simp [blocks t]
  have e1 : ((win0_17.blk t).view.emb y 1).val = t.val % 4 * 1024 + (y 1).val := by
    blk_simp [blocks t]
  have e2 : ((win0_17.blk t).view.emb y 2).val = (y 2).val := by
    blk_simp [blocks t]
  unfold qArr
  generalize (win0_17.blk t).view.emb y = z at e0 e1 e2
  rw [show (z 0 : Fin 8) = bat t from Fin.ext e0, show (z 1 : Fin 4096) = seq t (y 1) from Fin.ext e1, show (z 2 : Fin 1024) = y 2 from Fin.ext e2]

theorem arr_c : (dats m 0 c).arrAt 20 cfg0.N = cArr m c := by
  refine (dats m 0 c).arrAt_eq_of_covers 20 _ (by decide +kernel) fun t hf y => ?_
  blk_simp
  rw [after0_20]
  refine (c_out m c t y).trans ((c_result m c t (y 1) (y 2)).trans ?_)
  have e0 : ((win0_20.blk t).view.emb y 0).val = t.val / 4 := by
    blk_simp [blocks t]
  have e1 : ((win0_20.blk t).view.emb y 1).val = t.val % 4 * 1024 + (y 1).val := by
    blk_simp [blocks t]
  have e2 : ((win0_20.blk t).view.emb y 2).val = (y 2).val := by
    blk_simp [blocks t]
  unfold cArr
  generalize (win0_20.blk t).view.emb y = z at e0 e1 e2
  rw [show (z 0 : Fin 8) = bat t from Fin.ext e0, show (z 1 : Fin 4096) = seq t (y 1) from Fin.ext e1, show (z 2 : Fin 512) = y 2 from Fin.ext e2]

theorem ix2_eta {n0 n1 : ℕ} (y : (⟨2, ![n0, n1]⟩ : Shape).Idx) : ix2 (y 0) (y 1) = y := by
  funext e
  fin_cases e <;> rfl

theorem arr_up : (dats m 0 c).arrAt 21 cfg0.N = argUp m c := by
  refine (dats m 0 c).arrAt_eq_of_covers 21 _ (by decide +kernel) fun t hf y => ?_
  blk_simp
  rw [after0_21]
  refine (up_out m c t y).trans ((congrArg (iblk m c 15 t) (ix2_eta y).symm).trans ((iblk_up m c t (y 0) (y 1)).trans ?_))
  have e0 : ((win0_21.blk t).view.emb y 0).val = t.val * 32 + (y 0).val := by
    blk_simp [blocks t]
  have e1 : ((win0_21.blk t).view.emb y 1).val = (y 1).val := by
    blk_simp [blocks t]
  generalize (win0_21.blk t).view.emb y = z at e0 e1
  refine congrArg (argUp m c) ((congrArg₂ (fun (a : Fin 1024) (b : Fin 4096) => (ix2 a b : S1024x4096.Idx)) (Fin.ext e0.symm) (Fin.ext e1.symm)).trans (ix2_eta z))

theorem arr_down : (dats m 0 c).arrAt 22 cfg0.N = argDown m c := by
  refine (dats m 0 c).arrAt_eq_of_covers 22 _ (by decide +kernel) fun t hf y => ?_
  blk_simp
  rw [after0_22]
  refine (down_out m c t y).trans ((congrArg (iblk m c 16 t) (ix2_eta y).symm).trans ((iblk_down m c t (y 0) (y 1)).trans ?_))
  have e0 : ((win0_22.blk t).view.emb y 0).val = t.val * 128 + (y 0).val := by
    blk_simp [blocks t]
  have e1 : ((win0_22.blk t).view.emb y 1).val = (y 1).val := by
    blk_simp [blocks t]
  generalize (win0_22.blk t).view.emb y = z at e0 e1
  refine congrArg (argDown m c) ((congrArg₂ (fun (a : Fin 4096) (b : Fin 1024) => (ix2 a b : S4096x1024.Idx)) (Fin.ext e0.symm) (Fin.ext e1.symm)).trans (ix2_eta z))

/-- The rows a point writes of the longer arrays. -/
def kLong : S8x4352x1024.Idx → EReal := fun y => if h : (y 1).val < 4096 then kArr m c (ix3 (y 0) ⟨(y 1).val, h⟩ (y 2)) else 0
def vLong : S8x4352x512.Idx → EReal := fun y => if h : (y 1).val < 4096 then vArr m c (ix3 (y 0) ⟨(y 1).val, h⟩ (y 2)) else 0

theorem index18 : ∀ t : Fin cfg0.N, win0_18.index t = ![t.val / 4, t.val % 4, 0] := by decide +kernel

/-- Where an element of a point's block lies in the array. -/
theorem emb18 (t : Fin cfg0.N) (y : ((cfg0.win 18).xblock (cfg0.grid.coords t)).Idx) (b : S1x1024x1024.Idx) (hb : (cfg0.win 18).xinj (cfg0.grid.coords t) y = b) :
    ((win0_18.blk t).view.emb y 0).val = t.val / 4 ∧ ((win0_18.blk t).view.emb y 1).val = t.val % 4 * 1024 + (b 1).val ∧ ((win0_18.blk t).view.emb y 2).val = (b 2).val := by
  have h0 : (b 0).val = (y (0 : Fin 3)).val := by rw [← hb]
  have h1 : (b 1).val = (y (1 : Fin 3)).val := by rw [← hb]
  have h2 : (b 2).val = (y (2 : Fin 3)).val := by rw [← hb]
  have l0 : (b 0).val < 1 := (b 0).isLt
  have f0 := win0_18.rect_emb_val t y (0 : Fin 3)
  have f1 := win0_18.rect_emb_val t y (1 : Fin 3)
  have f2 := win0_18.rect_emb_val t y (2 : Fin 3)
  rw [index18 t] at f0 f1 f2
  refine ⟨f0.trans ?_, f1.trans ?_, f2.trans ?_⟩
  · show t.val / 4 * 1 + (y (0 : Fin 3)).val = _
    omega
  · show t.val % 4 * 1024 + (y (1 : Fin 3)).val = _
    omega
  · show 0 * 1024 + (y (2 : Fin 3)).val = _
    omega

theorem arr_k : (dats m 0 c).arrAt 18 cfg0.N = fun y => if (y 1 : Fin 4352).val / 1024 < 4 then kLong m c y else (dats m 0 c).A 18 y := by
  refine (dats m 0 c).arrAt_eq_of_coversWhere 18 (kLong m c) (fun β => β (1 : Fin 3) < 4) (by decide +kernel) (fun t hf y => ?_) (fun j => Iff.rfl)
  obtain ⟨b, hb⟩ : ∃ b : S1x1024x1024.Idx, (cfg0.win 18).xinj (cfg0.grid.coords t) y = b := ⟨_, rfl⟩
  obtain ⟨e0, e1, e2⟩ := emb18 t y b hb
  show (dats m 0 c).after 18 t ((cfg0.win 18).xinj (cfg0.grid.coords t) y) = kLong m c ((win0_18.blk t).view.emb y)
  rw [after0_18, hb]
  refine (k_out m c t b).trans ((k_result m c t (b 1) (b 2)).trans ?_)
  generalize (win0_18.blk t).view.emb y = z at e0 e1 e2
  have l1 : (b 1).val < 1024 := (b 1).isLt
  have l : (z 1).val < 4096 := by omega
  unfold kLong
  rw [dif_pos l]
  unfold kArr
  show _ = kResult _ _ _ _ _ _ _ (z 0) ⟨(z 1).val, l⟩ (z 2)
  rw [show (z 0 : Fin 8) = bat t from Fin.ext e0, show (⟨(z 1).val, l⟩ : Fin 4096) = seq t (b 1) from Fin.ext e1, show (z 2 : Fin 1024) = b 2 from Fin.ext e2]

theorem index19 : ∀ t : Fin cfg0.N, win0_19.index t = ![t.val / 4, t.val % 4, 0] := by decide +kernel

/-- Where an element of a point's block lies in the array. -/
theorem emb19 (t : Fin cfg0.N) (y : ((cfg0.win 19).xblock (cfg0.grid.coords t)).Idx) (b : S1x1024x512.Idx) (hb : (cfg0.win 19).xinj (cfg0.grid.coords t) y = b) :
    ((win0_19.blk t).view.emb y 0).val = t.val / 4 ∧ ((win0_19.blk t).view.emb y 1).val = t.val % 4 * 1024 + (b 1).val ∧ ((win0_19.blk t).view.emb y 2).val = (b 2).val := by
  have h0 : (b 0).val = (y (0 : Fin 3)).val := by rw [← hb]
  have h1 : (b 1).val = (y (1 : Fin 3)).val := by rw [← hb]
  have h2 : (b 2).val = (y (2 : Fin 3)).val := by rw [← hb]
  have l0 : (b 0).val < 1 := (b 0).isLt
  have f0 := win0_19.rect_emb_val t y (0 : Fin 3)
  have f1 := win0_19.rect_emb_val t y (1 : Fin 3)
  have f2 := win0_19.rect_emb_val t y (2 : Fin 3)
  rw [index19 t] at f0 f1 f2
  refine ⟨f0.trans ?_, f1.trans ?_, f2.trans ?_⟩
  · show t.val / 4 * 1 + (y (0 : Fin 3)).val = _
    omega
  · show t.val % 4 * 1024 + (y (1 : Fin 3)).val = _
    omega
  · show 0 * 512 + (y (2 : Fin 3)).val = _
    omega

theorem arr_v : (dats m 0 c).arrAt 19 cfg0.N = fun y => if (y 1 : Fin 4352).val / 1024 < 4 then vLong m c y else (dats m 0 c).A 19 y := by
  refine (dats m 0 c).arrAt_eq_of_coversWhere 19 (vLong m c) (fun β => β (1 : Fin 3) < 4) (by decide +kernel) (fun t hf y => ?_) (fun j => Iff.rfl)
  obtain ⟨b, hb⟩ : ∃ b : S1x1024x512.Idx, (cfg0.win 19).xinj (cfg0.grid.coords t) y = b := ⟨_, rfl⟩
  obtain ⟨e0, e1, e2⟩ := emb19 t y b hb
  show (dats m 0 c).after 19 t ((cfg0.win 19).xinj (cfg0.grid.coords t) y) = vLong m c ((win0_19.blk t).view.emb y)
  rw [after0_19, hb]
  refine (v_out m c t b).trans ((v_result m c t (b 1) (b 2)).trans ?_)
  generalize (win0_19.blk t).view.emb y = z at e0 e1 e2
  have l1 : (b 1).val < 1024 := (b 1).isLt
  have l : (z 1).val < 4096 := by omega
  unfold vLong
  rw [dif_pos l]
  unfold vArr
  show _ = vResult _ _ _ _ _  (z 0) ⟨(z 1).val, l⟩ (z 2)
  rw [show (z 0 : Fin 8) = bat t from Fin.ext e0, show (⟨(z 1).val, l⟩ : Fin 4096) = seq t (b 1) from Fin.ext e1, show (z 2 : Fin 512) = b 2 from Fin.ext e2]

end Cert.Kernel4Ideal.Tokens

end
-- ==== Proof.Tokens.Kernel.lean ====
/- What the kernel leaves: its six results, and its arguments unchanged. The keys and the values are the first 4096 rows of the longer arrays. -/
module

public import proofs.«01_k».proof.Proof.Tokens.Arrays

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

variable (m : (ℓ : Loc nD τ sig) → Buf (Elt Ideal) ℓ) (c : Dev nD)

theorem cut_k (A : S8x4352x1024.Idx → EReal) : extractStridedSlice S8x4096x1024 ![0, 0, 0] (fun y : S8x4352x1024.Idx => if (y 1 : Fin 4352).val / 1024 < 4 then kLong m c y else A y) slices_S8x4352x1024_S8x4096x1024_0_0_0
    = kArr m c := by
  funext y
  have l : (y 1).val < 4096 := (y 1).isLt
  refine (extractStridedSlice_apply ![0, 0, 0] _ slices_S8x4352x1024_S8x4096x1024_0_0_0 y (ix3 (y 0) ⟨(y 1).val, by omega⟩ (y 2)) (fun a => ?_)).trans ?_
  · fin_cases a
    · exact (Nat.zero_add _).symm
    · exact (Nat.zero_add _).symm
    · exact (Nat.zero_add _).symm
  · refine (if_pos (show (y 1).val / 1024 < 4 by omega)).trans ?_
    unfold kLong
    refine (dif_pos l).trans (congrArg (kArr m c) (funext fun e => ?_))
    fin_cases e <;> rfl
theorem cut_v (A : S8x4352x512.Idx → EReal) : extractStridedSlice S8x4096x512 ![0, 0, 0] (fun y : S8x4352x512.Idx => if (y 1 : Fin 4352).val / 1024 < 4 then vLong m c y else A y) slices_S8x4352x512_S8x4096x512_0_0_0
    = vArr m c := by
  funext y
  have l : (y 1).val < 4096 := (y 1).isLt
  refine (extractStridedSlice_apply ![0, 0, 0] _ slices_S8x4352x512_S8x4096x512_0_0_0 y (ix3 (y 0) ⟨(y 1).val, by omega⟩ (y 2)) (fun a => ?_)).trans ?_
  · fin_cases a
    · exact (Nat.zero_add _).symm
    · exact (Nat.zero_add _).symm
    · exact (Nat.zero_add _).symm
  · refine (if_pos (show (y 1).val / 1024 < 4 by omega)).trans ?_
    unfold vLong
    refine (dif_pos l).trans (congrArg (vArr m c) (funext fun e => ?_))
    fin_cases e <;> rfl

theorem exit_k : Pipeline.withArrays (cfgs 0).spec c (V0 m c) (fun w => (dats m 0 c).arrAt w (cfgs 0).N) (Proc.tc.devRef main_v62_1) = (dats m 0 c).arrAt 18 cfg0.N :=
  (dats m 0 c).withArrays_arrAt sharedIn0 (V0 m c) (A_eq m c) 18

theorem tail_k : Pipeline.afterTail₀ cfgs (dats m) 0 (V0 m) [hostOps1] c main_v63 = kArr m c := by
  unfold Pipeline.afterTail₀
  show StableHlo.after hostOps1 _ _ = _
  after_results
  exact (congrArg (fun z => extractStridedSlice S8x4096x1024 ![0, 0, 0] z slices_S8x4352x1024_S8x4096x1024_0_0_0) ((exit_k m c).trans (arr_k m c))).trans (cut_k m c _)

theorem exit_v : Pipeline.withArrays (cfgs 0).spec c (V0 m c) (fun w => (dats m 0 c).arrAt w (cfgs 0).N) (Proc.tc.devRef main_v62_2) = (dats m 0 c).arrAt 19 cfg0.N :=
  (dats m 0 c).withArrays_arrAt sharedIn0 (V0 m c) (A_eq m c) 19

theorem tail_v : Pipeline.afterTail₀ cfgs (dats m) 0 (V0 m) [hostOps1] c main_v64 = vArr m c := by
  unfold Pipeline.afterTail₀
  show StableHlo.after hostOps1 _ _ = _
  after_results
  exact (congrArg (fun z => extractStridedSlice S8x4096x512 ![0, 0, 0] z slices_S8x4352x512_S8x4096x512_0_0_0) ((exit_v m c).trans (arr_v m c))).trans (cut_v m c _)

end Cert.Kernel4Ideal.Tokens

end
-- ==== Proof.Tokens.Pieces.lean ====
/- The pieces the reference's queries and keys are put together from: two halves, the rotated entries of one part, and a pair of heads. -/
module

public import proofs.«01_k».proof.Proof.Tokens.Spec
public import proofs.«01_k».proof.Proof.Gen.Reference4Ideal.Read
public import Idealize.ShloMosaic.Lib.KernelVsHost

@[expose] public section

set_option maxRecDepth 16384

noncomputable section

namespace Cert.Reference4Ideal.Tokens

open Cert.Reference4Ideal Cert.Reference4Ideal.Gen Cert.Reference4Ideal.Read Idealize.ShloMosaic Idealize.ShloMosaic.TcCoe Idealize.SL.Sem Cert.Tokens

variable (x : S8x4096x1024.Idx → EReal) (md : S16x6144.Idx → EReal) (w : S1024x1952.Idx → EReal) (gq : S1x256.Idx → EReal) (wq : S256x768.Idx → EReal) (gkv : S1x128.Idx → EReal)
  (wkv : S128x1024.Idx → EReal) (wt : S3x512.Idx → EReal) (cs sn : S4096x16.Idx → EReal)

/-- Equal coordinates, equal indices. -/
theorem ix2_of {n0 n1 : ℕ} (y : (⟨2, ![n0, n1]⟩ : Shape).Idx) (a : Fin n0) (b : Fin n1) (h0 : (y 0).val = a.val) (h1 : (y 1).val = b.val) : y = ix2 a b := by
  funext e
  fin_cases e
  · exact Fin.ext h0
  · exact Fin.ext h1
theorem ix3_of {n0 n1 n2 : ℕ} (y : (⟨3, ![n0, n1, n2]⟩ : Shape).Idx) (a : Fin n0) (b : Fin n1) (c : Fin n2) (h0 : (y 0).val = a.val) (h1 : (y 1).val = b.val) (h2 : (y 2).val = c.val) :
    y = ix3 a b c := by
  funext e
  fin_cases e
  · exact Fin.ext h0
  · exact Fin.ext h1
  · exact Fin.ext h2
theorem ix4_of {n0 n1 n2 n3 : ℕ} (y : (⟨4, ![n0, n1, n2, n3]⟩ : Shape).Idx) (a : Fin n0) (b : Fin n1) (c : Fin n2) (d : Fin n3) (h0 : (y 0).val = a.val) (h1 : (y 1).val = b.val)
    (h2 : (y 2).val = c.val) (h3 : (y 3).val = d.val) : y = ix4 a b c d := by
  funext e
  fin_cases e
  · exact Fin.ext h0
  · exact Fin.ext h1
  · exact Fin.ext h2
  · exact Fin.ext h3

theorem zero_bits : (FloatOps.ofBits (F := Ideal) .f32 0x00000000#32 : EReal) = 0 := Ideal.ofBits_zero_f32
theorem one_bits : (FloatOps.ofBits (F := Ideal) .f32 0x3F800000#32 : EReal) = 1 := Ideal.ofBits_one_f32

theorem halves4 (a b : S8x4096x4x8.Idx → EReal) (n : Fin 8) (i : Fin 4096) (k : Fin 4) (l : Fin 16) :
    concatenate S8x4096x4x16 3 [⟨S8x4096x4x8, a⟩, ⟨S8x4096x4x8, b⟩] concatenates_S8x4096x4x8_S8x4096x4x8_S8x4096x4x16_d3 (ix4 n i k l) = if h : l.val < 8 then a (ix4 n i k ⟨l.val, h⟩) else b (ix4 n i k ⟨l.val - 8, by omega⟩) := by
  pointwise
theorem turns4 (a b : S8x4096x4x16.Idx → EReal) (z : S8x4096x4x32.Idx → EReal) (n : Fin 8) (i : Fin 4096) (k : Fin 4) (l : Fin 64) :
    concatenate S8x4096x4x64 3 [⟨S8x4096x4x16, a⟩, ⟨S8x4096x4x16, b⟩, ⟨S8x4096x4x32, z⟩] concatenates_S8x4096x4x16_S8x4096x4x16_S8x4096x4x32_S8x4096x4x64_d3 (ix4 n i k l) = if h : l.val < 16 then a (ix4 n i k ⟨l.val, h⟩) else if h' : l.val < 32 then b (ix4 n i k ⟨l.val - 16, by omega⟩) else z (ix4 n i k ⟨l.val - 32, by omega⟩) := by
  have E : ∀ (l l' : Fin 32), l.val = l'.val → z (ix4 n i k l) = z (ix4 n i k l') := fun l l' e => congrArg (fun l => z (ix4 n i k l)) (Fin.ext e)
  pointwise
  (repeat' split) <;> first | rfl | omega | exact E _ _ (by dsimp only; omega)

theorem halves1 (a b : S8x4096x1x8.Idx → EReal) (n : Fin 8) (i : Fin 4096) (k : Fin 1) (l : Fin 16) :
    concatenate S8x4096x1x16 3 [⟨S8x4096x1x8, a⟩, ⟨S8x4096x1x8, b⟩] concatenates_S8x4096x1x8_S8x4096x1x8_S8x4096x1x16_d3 (ix4 n i k l) = if h : l.val < 8 then a (ix4 n i k ⟨l.val, h⟩) else b (ix4 n i k ⟨l.val - 8, by omega⟩) := by
  obtain rfl : k = 0 := Subsingleton.elim _ _
  pointwise
theorem turns1 (a b : S8x4096x1x16.Idx → EReal) (z : S8x4096x1x32.Idx → EReal) (n : Fin 8) (i : Fin 4096) (k : Fin 1) (l : Fin 64) :
    concatenate S8x4096x1x64 3 [⟨S8x4096x1x16, a⟩, ⟨S8x4096x1x16, b⟩, ⟨S8x4096x1x32, z⟩] concatenates_S8x4096x1x16_S8x4096x1x16_S8x4096x1x32_S8x4096x1x64_d3 (ix4 n i k l) = if h : l.val < 16 then a (ix4 n i k ⟨l.val, h⟩) else if h' : l.val < 32 then b (ix4 n i k ⟨l.val - 16, by omega⟩) else z (ix4 n i k ⟨l.val - 32, by omega⟩) := by
  obtain rfl : k = 0 := Subsingleton.elim _ _
  have E : ∀ (l l' : Fin 32), l.val = l'.val → z (ix4 n i 0 l) = z (ix4 n i 0 l') := fun l l' e => congrArg (fun l => z (ix4 n i 0 l)) (Fin.ext e)
  pointwise
  (repeat' split) <;> first | rfl | omega | exact E _ _ (by dsimp only; omega)

theorem pairs (a b c d : S8x4096x4x64.Idx → EReal) (n : Fin 8) (i : Fin 4096) (k : Fin 4) (l : Fin 256) :
    concatenate S8x4096x4x256 3 [⟨S8x4096x4x64, a⟩, ⟨S8x4096x4x64, b⟩, ⟨S8x4096x4x64, c⟩, ⟨S8x4096x4x64, d⟩] concatenates_S8x4096x4x64_S8x4096x4x64_S8x4096x4x64_S8x4096x4x64_S8x4096x4x256_d3 (ix4 n i k l)
      = pair (fun l => a (ix4 n i k l)) (fun l => b (ix4 n i k l)) (fun l => c (ix4 n i k l)) (fun l => d (ix4 n i k l)) l := by
  have E : ∀ (y : S8x4096x4x64.Idx → EReal) (l l' : Fin 64), l.val = l'.val → y (ix4 n i k l) = y (ix4 n i k l') := fun y l l' e => congrArg (fun l => y (ix4 n i k l)) (Fin.ext e)
  unfold pair
  pointwise
  (repeat' split) <;> first | rfl | omega | exact E _ _ _ (by dsimp only; omega)

/-! ## The rotated entries of one part -/

theorem v47_at (n : Fin 8) (i : Fin 4096) (k : Fin 4) (l : Fin 16) : val_main_v47 (F := Ideal) x md w gq wq (ix4 n i k l) = val_main_v44 (F := Ideal) x md w gq wq (ix4 n i k (first l)) := by
  unfold val_main_v47
  refine (halves4 _ _ n i k l).trans ?_
  unfold first
  split <;> rename_i h
  · rw [val_main_v45_apply]
    exact congrArg (val_main_v44 (F := Ideal) x md w gq wq) (ix4_of _ _ _ _ _ rfl rfl rfl rfl)
  · rw [val_main_v46_apply]
    exact congrArg (val_main_v44 (F := Ideal) x md w gq wq) (ix4_of _ _ _ _ _ rfl rfl rfl (by show 16 + (l.val - 8) = l.val + 8; omega))
theorem v50_at (n : Fin 8) (i : Fin 4096) (k : Fin 4) (l : Fin 16) : val_main_v50 (F := Ideal) x md w gq wq (ix4 n i k l) = val_main_v44 (F := Ideal) x md w gq wq (ix4 n i k (second l)) := by
  unfold val_main_v50
  refine (halves4 _ _ n i k l).trans ?_
  unfold second
  split <;> rename_i h
  · rw [val_main_v48_apply]
    exact congrArg (val_main_v44 (F := Ideal) x md w gq wq) (ix4_of _ _ _ _ _ rfl rfl rfl (by show 8 + l.val = l.val + 8; omega))
  · rw [val_main_v49_apply]
    exact congrArg (val_main_v44 (F := Ideal) x md w gq wq) (ix4_of _ _ _ _ _ rfl rfl rfl (by show 24 + (l.val - 8) = l.val + 16; omega))
theorem v54_at (n : Fin 8) (i : Fin 4096) (k : Fin 4) (l : Fin 16) : val_main_v54 (F := Ideal) cs (ix4 n i k l) = cs (ix2 i l) := by
  rw [val_main_v54_apply, val_main_v53_apply, val_main_v51_apply]
  exact congrArg cs (ix2_of _ _ _ rfl rfl)
theorem v57_at (n : Fin 8) (i : Fin 4096) (k : Fin 4) (l : Fin 16) : val_main_v57 (F := Ideal) sn (ix4 n i k l) = sn (ix2 i l) := by
  rw [val_main_v57_apply, val_main_v56_apply, val_main_v52_apply]
  exact congrArg sn (ix2_of _ _ _ rfl rfl)
theorem v61_at (n : Fin 8) (i : Fin 4096) (k : Fin 4) (l : Fin 16) : val_main_v61 (F := Ideal) cs (ix4 n i k l) = cs (ix2 i l) := by
  rw [val_main_v61_apply, val_main_v60_apply, val_main_v51_apply]
  exact congrArg cs (ix2_of _ _ _ rfl rfl)
theorem v64_at (n : Fin 8) (i : Fin 4096) (k : Fin 4) (l : Fin 16) : val_main_v64 (F := Ideal) sn (ix4 n i k l) = sn (ix2 i l) := by
  rw [val_main_v64_apply, val_main_v63_apply, val_main_v52_apply]
  exact congrArg sn (ix2_of _ _ _ rfl rfl)
theorem v68_at (n : Fin 8) (i : Fin 4096) (k : Fin 4) (l : Fin 64) : val_main_v68 (F := Ideal) x md w gq wq cs sn (ix4 n i k l)
    = turned (fun l => val_main_v44 (F := Ideal) x md w gq wq (ix4 n i k l)) (fun l => cs (ix2 i l)) (fun l => sn (ix2 i l)) l := by
  unfold val_main_v68
  refine (turns4 _ _ _ n i k l).trans ?_
  unfold turned
  split <;> rename_i h
  · rw [val_main_v59_apply, val_main_v55_apply, val_main_v58_apply, v47_at, v50_at, v54_at, v57_at]
    rfl
  · split <;> rename_i h'
    · rw [val_main_v66_apply, val_main_v62_apply, val_main_v65_apply, v47_at, v50_at, v61_at, v64_at]
      rfl
    · rw [val_main_v67_apply, val_main_cst_6_apply, zero_bits]

/-! ## The rotated entries of one part -/

theorem v72_at (n : Fin 8) (i : Fin 4096) (k : Fin 4) (l : Fin 16) : val_main_v72 (F := Ideal) x md w gq wq (ix4 n i k l) = val_main_v69 (F := Ideal) x md w gq wq (ix4 n i k (first l)) := by
  unfold val_main_v72
  refine (halves4 _ _ n i k l).trans ?_
  unfold first
  split <;> rename_i h
  · rw [val_main_v70_apply]
    exact congrArg (val_main_v69 (F := Ideal) x md w gq wq) (ix4_of _ _ _ _ _ rfl rfl rfl rfl)
  · rw [val_main_v71_apply]
    exact congrArg (val_main_v69 (F := Ideal) x md w gq wq) (ix4_of _ _ _ _ _ rfl rfl rfl (by show 16 + (l.val - 8) = l.val + 8; omega))
theorem v75_at (n : Fin 8) (i : Fin 4096) (k : Fin 4) (l : Fin 16) : val_main_v75 (F := Ideal) x md w gq wq (ix4 n i k l) = val_main_v69 (F := Ideal) x md w gq wq (ix4 n i k (second l)) := by
  unfold val_main_v75
  refine (halves4 _ _ n i k l).trans ?_
  unfold second
  split <;> rename_i h
  · rw [val_main_v73_apply]
    exact congrArg (val_main_v69 (F := Ideal) x md w gq wq) (ix4_of _ _ _ _ _ rfl rfl rfl (by show 8 + l.val = l.val + 8; omega))
  · rw [val_main_v74_apply]
    exact congrArg (val_main_v69 (F := Ideal) x md w gq wq) (ix4_of _ _ _ _ _ rfl rfl rfl (by show 24 + (l.val - 8) = l.val + 16; omega))
theorem v79_at (n : Fin 8) (i : Fin 4096) (k : Fin 4) (l : Fin 16) : val_main_v79 (F := Ideal) cs (ix4 n i k l) = cs (ix2 i l) := by
  rw [val_main_v79_apply, val_main_v78_apply, val_main_v76_apply]
  exact congrArg cs (ix2_of _ _ _ rfl rfl)
theorem v82_at (n : Fin 8) (i : Fin 4096) (k : Fin 4) (l : Fin 16) : val_main_v82 (F := Ideal) sn (ix4 n i k l) = sn (ix2 i l) := by
  rw [val_main_v82_apply, val_main_v81_apply, val_main_v77_apply]
  exact congrArg sn (ix2_of _ _ _ rfl rfl)
theorem v86_at (n : Fin 8) (i : Fin 4096) (k : Fin 4) (l : Fin 16) : val_main_v86 (F := Ideal) cs (ix4 n i k l) = cs (ix2 i l) := by
  rw [val_main_v86_apply, val_main_v85_apply, val_main_v76_apply]
  exact congrArg cs (ix2_of _ _ _ rfl rfl)
theorem v89_at (n : Fin 8) (i : Fin 4096) (k : Fin 4) (l : Fin 16) : val_main_v89 (F := Ideal) sn (ix4 n i k l) = sn (ix2 i l) := by
  rw [val_main_v89_apply, val_main_v88_apply, val_main_v77_apply]
  exact congrArg sn (ix2_of _ _ _ rfl rfl)
theorem v93_at (n : Fin 8) (i : Fin 4096) (k : Fin 4) (l : Fin 64) : val_main_v93 (F := Ideal) x md w gq wq cs sn (ix4 n i k l)
    = turned (fun l => val_main_v69 (F := Ideal) x md w gq wq (ix4 n i k l)) (fun l => cs (ix2 i l)) (fun l => sn (ix2 i l)) l := by
  unfold val_main_v93
  refine (turns4 _ _ _ n i k l).trans ?_
  unfold turned
  split <;> rename_i h
  · rw [val_main_v84_apply, val_main_v80_apply, val_main_v83_apply, v72_at, v75_at, v79_at, v82_at]
    rfl
  · split <;> rename_i h'
    · rw [val_main_v91_apply, val_main_v87_apply, val_main_v90_apply, v72_at, v75_at, v86_at, v89_at]
      rfl
    · rw [val_main_v92_apply, val_main_cst_7_apply, zero_bits]

/-! ## The rotated entries of one part -/

theorem v120_at (n : Fin 8) (i : Fin 4096) (k : Fin 1) (l : Fin 16) : val_main_v120 (F := Ideal) x md w (ix4 n i k l) = val_main_v117 (F := Ideal) x md w (ix4 n i k (first l)) := by
  unfold val_main_v120
  refine (halves1 _ _ n i k l).trans ?_
  unfold first
  split <;> rename_i h
  · rw [val_main_v118_apply]
    exact congrArg (val_main_v117 (F := Ideal) x md w) (ix4_of _ _ _ _ _ rfl rfl rfl rfl)
  · rw [val_main_v119_apply]
    exact congrArg (val_main_v117 (F := Ideal) x md w) (ix4_of _ _ _ _ _ rfl rfl rfl (by show 16 + (l.val - 8) = l.val + 8; omega))
theorem v123_at (n : Fin 8) (i : Fin 4096) (k : Fin 1) (l : Fin 16) : val_main_v123 (F := Ideal) x md w (ix4 n i k l) = val_main_v117 (F := Ideal) x md w (ix4 n i k (second l)) := by
  unfold val_main_v123
  refine (halves1 _ _ n i k l).trans ?_
  unfold second
  split <;> rename_i h
  · rw [val_main_v121_apply]
    exact congrArg (val_main_v117 (F := Ideal) x md w) (ix4_of _ _ _ _ _ rfl rfl rfl (by show 8 + l.val = l.val + 8; omega))
  · rw [val_main_v122_apply]
    exact congrArg (val_main_v117 (F := Ideal) x md w) (ix4_of _ _ _ _ _ rfl rfl rfl (by show 24 + (l.val - 8) = l.val + 16; omega))
theorem v127_at (n : Fin 8) (i : Fin 4096) (k : Fin 1) (l : Fin 16) : val_main_v127 (F := Ideal) cs (ix4 n i k l) = cs (ix2 i l) := by
  rw [val_main_v127_apply, val_main_v126_apply, val_main_v124_apply]
  exact congrArg cs (ix2_of _ _ _ rfl rfl)
theorem v130_at (n : Fin 8) (i : Fin 4096) (k : Fin 1) (l : Fin 16) : val_main_v130 (F := Ideal) sn (ix4 n i k l) = sn (ix2 i l) := by
  rw [val_main_v130_apply, val_main_v129_apply, val_main_v125_apply]
  exact congrArg sn (ix2_of _ _ _ rfl rfl)
theorem v134_at (n : Fin 8) (i : Fin 4096) (k : Fin 1) (l : Fin 16) : val_main_v134 (F := Ideal) cs (ix4 n i k l) = cs (ix2 i l) := by
  rw [val_main_v134_apply, val_main_v133_apply, val_main_v124_apply]
  exact congrArg cs (ix2_of _ _ _ rfl rfl)
theorem v137_at (n : Fin 8) (i : Fin 4096) (k : Fin 1) (l : Fin 16) : val_main_v137 (F := Ideal) sn (ix4 n i k l) = sn (ix2 i l) := by
  rw [val_main_v137_apply, val_main_v136_apply, val_main_v125_apply]
  exact congrArg sn (ix2_of _ _ _ rfl rfl)
theorem v141_at (n : Fin 8) (i : Fin 4096) (k : Fin 1) (l : Fin 64) : val_main_v141 (F := Ideal) x md w cs sn (ix4 n i k l)
    = turned (fun l => val_main_v117 (F := Ideal) x md w (ix4 n i k l)) (fun l => cs (ix2 i l)) (fun l => sn (ix2 i l)) l := by
  unfold val_main_v141
  refine (turns1 _ _ _ n i k l).trans ?_
  unfold turned
  split <;> rename_i h
  · rw [val_main_v132_apply, val_main_v128_apply, val_main_v131_apply, v120_at, v123_at, v127_at, v130_at]
    rfl
  · split <;> rename_i h'
    · rw [val_main_v139_apply, val_main_v135_apply, val_main_v138_apply, v120_at, v123_at, v134_at, v137_at]
      rfl
    · rw [val_main_v140_apply, val_main_cst_12_apply, zero_bits]

end Cert.Reference4Ideal.Tokens

end
-- ==== Proof.Tokens.Reference.lean ====
/- The reference's six results, entry by entry: the results of Spec.lean, and the two weight arrays as they are. -/
module

public import proofs.«01_k».proof.Proof.Tokens.Pieces

@[expose] public section

set_option maxRecDepth 16384

noncomputable section

namespace Cert.Reference4Ideal.Tokens

open Cert.Reference4Ideal Cert.Reference4Ideal.Gen Cert.Reference4Ideal.Read Idealize.ShloMosaic Idealize.ShloMosaic.TcCoe Idealize.SL.Sem Cert.Tokens

variable (x : S8x4096x1024.Idx → EReal) (md : S16x6144.Idx → EReal) (w : S1024x1952.Idx → EReal) (gq : S1x256.Idx → EReal) (wq : S256x768.Idx → EReal) (gkv : S1x128.Idx → EReal)
  (wkv : S128x1024.Idx → EReal) (wt : S3x512.Idx → EReal) (cs sn : S4096x16.Idx → EReal)

/-! ## The first projection -/

/-- The batch's modulation vectors. -/
def shift (n : Fin 8) (e : Fin 1024) : EReal := md (ix2 ⟨n.val, by omega⟩ ⟨e.val, by omega⟩)
def scale (n : Fin 8) (e : Fin 1024) : EReal := md (ix2 ⟨n.val, by omega⟩ ⟨1024 + e.val, by omega⟩)

theorem v7_at (n : Fin 8) (e : Fin 1024) (y : S8x1x1024.Idx) (h0 : (y 0).val = n.val) (h2 : (y 2).val = e.val) : val_main_v7 (F := Ideal) md y = shift md n e := by
  rw [val_main_v7_apply, val_main_v1_apply, val_main_v0_apply]
  exact congrArg md (ix2_of _ _ _ h0 h2)
theorem v8_at (n : Fin 8) (e : Fin 1024) (y : S8x1x1024.Idx) (h0 : (y 0).val = n.val) (h2 : (y 2).val = e.val) : val_main_v8 (F := Ideal) md y = scale md n e := by
  rw [val_main_v8_apply, val_main_v2_apply, val_main_v0_apply]
  exact congrArg md (ix2_of _ _ _ h0 (by show 1024 + (y 2).val = 1024 + e.val; omega))

theorem v18_at (n : Fin 8) (i : Fin 4096) (e : Fin 1024) : val_main_v18 (F := Ideal) x (ix3 n i e) = normed width (fun e => x (ix3 n i e)) e := by
  have s : ∀ y : S8x4096.Idx, (y 0).val = n.val → (y 1).val = i.val → val_main_v10 (F := Ideal) x y = ∑ k : Fin 1024, x (ix3 n i k) * x (ix3 n i k) := by
    intro y h0 h1
    rw [val_main_v10_apply, val_main_cst_apply, zero_bits, zero_add]
    refine Finset.sum_congr rfl fun k _ => ?_
    rw [ix3_of (idx_main_v10 y k) n i k h0 h1 rfl, val_main_v9_apply]
    rfl
  rw [val_main_v18_apply, val_main_v17_apply, val_main_v16_apply, val_main_v15_apply, val_main_v13_apply, val_main_v11_apply, s _ rfl rfl, val_main_v12_apply, val_main_cst_0_apply,
    val_main_v14_apply, val_main_cst_1_apply]
  rfl

theorem v24_at (n : Fin 8) (i : Fin 4096) (e : Fin 1024) : val_main_v24 (F := Ideal) x md (ix3 n i e) = modulated (fun e => x (ix3 n i e)) (shift md n) (scale md n) e := by
  rw [val_main_v24_apply, val_main_v22_apply, v18_at, val_main_v21_apply, val_main_v20_apply, val_main_v19_apply, val_main_cst_2_apply, one_bits, v8_at md n e _ rfl rfl, val_main_v23_apply,
    v7_at md n e _ rfl rfl]
  rfl

theorem v25_at (n : Fin 8) (i : Fin 4096) (j : Fin 1952) (y : S8x4096x1952.Idx) (h0 : (y 0).val = n.val) (h1 : (y 1).val = i.val) (h2 : (y 2).val = j.val) : val_main_v25 (F := Ideal) x md w y = lat x md w n i j := by
  rw [ix3_of y n i j h0 h1 h2, val_main_v25_apply]
  unfold lat latent
  refine Finset.sum_congr rfl fun d _ => congrArg₂ (fun x y : EReal => x * y) ?_ ?_
  · rw [ix3_of (lidx_main_v25 (ix3 n i j) d) n i d rfl rfl rfl, v24_at]
    rfl
  · rw [ix2_of (ridx_main_v25 (ix3 n i j) d) d j rfl rfl]

/-! ## The queries -/

theorem v26_at (n : Fin 8) (i : Fin 4096) (e : Fin 256) : val_main_v26 (F := Ideal) x md w (ix3 n i e) = lat x md w n i ⟨e.val, by omega⟩ := by
  rw [val_main_v26_apply]
  exact v25_at x md w n i _ _ rfl rfl rfl

theorem v36_at (n : Fin 8) (i : Fin 4096) (e : Fin 256) : val_main_v36 (F := Ideal) x md w (ix3 n i e) = normed width256 (fun e : Fin 256 => lat x md w n i ⟨e.val, by omega⟩) e := by
  have s : ∀ y : S8x4096.Idx, (y 0).val = n.val → (y 1).val = i.val → val_main_v28 (F := Ideal) x md w y = ∑ k : Fin 256, lat x md w n i ⟨k.val, by omega⟩ * lat x md w n i ⟨k.val, by omega⟩ := by
    intro y h0 h1
    rw [val_main_v28_apply, val_main_cst_3_apply, zero_bits, zero_add]
    refine Finset.sum_congr rfl fun k _ => ?_
    rw [ix3_of (idx_main_v28 y k) n i k h0 h1 rfl, val_main_v27_apply, v26_at]
    rfl
  rw [val_main_v36_apply, v26_at, val_main_v35_apply, val_main_v34_apply, val_main_v33_apply, val_main_v31_apply, val_main_v29_apply, s _ rfl rfl, val_main_v30_apply, val_main_cst_4_apply,
    val_main_v32_apply, val_main_cst_5_apply]
  rfl

theorem v39_at (n : Fin 8) (i : Fin 4096) (e : Fin 256) : val_main_v39 (F := Ideal) gq (ix3 n i e) = gq (ix2 0 e) := by
  rw [val_main_v39_apply, val_main_v38_apply, val_main_v37_apply]
  exact congrArg gq (ix2_of _ _ _ rfl (by show e.val % 256 = e.val; omega))

theorem v41_at (n : Fin 8) (i : Fin 4096) (j : Fin 768) (y : S8x4096x768.Idx) (h0 : (y 0).val = n.val) (h1 : (y 1).val = i.val) (h2 : (y 2).val = j.val) :
    val_main_v41 (F := Ideal) x md w gq wq y = query (lat x md w n i) (fun d => gq (ix2 0 d)) (fun d j => wq (ix2 d j)) j := by
  rw [ix3_of y n i j h0 h1 h2, val_main_v41_apply]
  unfold query
  refine Finset.sum_congr rfl fun d _ => congrArg₂ (fun x y : EReal => x * y) ?_ ?_
  · rw [ix3_of (lidx_main_v41 (ix3 n i j) d) n i d rfl rfl rfl, val_main_v40_apply, v36_at, v39_at]
    rfl
  · rw [ix2_of (ridx_main_v41 (ix3 n i j) d) d j rfl rfl]

theorem v42_at (n : Fin 8) (i : Fin 4096) (k : Fin 4) (l : Fin 192) (y : S8x4096x4x192.Idx) (h0 : (y 0).val = n.val) (h1 : (y 1).val = i.val) (h2 : (y 2).val = k.val) (h3 : (y 3).val = l.val) :
    val_main_v42 (F := Ideal) x md w gq wq y = query (lat x md w n i) (fun d => gq (ix2 0 d)) (fun d j => wq (ix2 d j)) ⟨192 * k.val + l.val, by omega⟩ := by
  rw [val_main_v42_apply]
  refine v41_at x md w gq wq n i _ _ ?_ ?_ ?_
  · show ((((y 0).val * 4096 + (y 1).val) * 4 + (y 2).val) * 192 + (y 3).val) / 3145728 = n.val
    omega
  · show ((((y 0).val * 4096 + (y 1).val) * 4 + (y 2).val) * 192 + (y 3).val) / 768 % 4096 = i.val
    omega
  · show ((((y 0).val * 4096 + (y 1).val) * 4 + (y 2).val) * 192 + (y 3).val) % 768 = 192 * k.val + l.val
    omega

theorem v95_at (n : Fin 8) (i : Fin 4096) (k : Fin 4) (l : Fin 256) (y : S8x4096x4x256.Idx) (h0 : (y 0).val = n.val) (h1 : (y 1).val = i.val) (h2 : (y 2).val = k.val) (h3 : (y 3).val = l.val) :
    val_main_v95 (F := Ideal) x md w gq wq cs sn y = pair (fun l => val_main_v43 (F := Ideal) x md w gq wq (ix4 n i k l))
      (turned (fun l => val_main_v44 (F := Ideal) x md w gq wq (ix4 n i k l)) (fun l => cs (ix2 i l)) (fun l => sn (ix2 i l)))
      (turned (fun l => val_main_v69 (F := Ideal) x md w gq wq (ix4 n i k l)) (fun l => cs (ix2 i l)) (fun l => sn (ix2 i l)))
      (fun l => val_main_v94 (F := Ideal) x md w gq wq (ix4 n i k l)) l := by
  rw [ix4_of y n i k l h0 h1 h2 h3]
  unfold val_main_v95
  refine (pairs _ _ _ _ n i k l).trans ?_
  simp only [v68_at, v93_at]

theorem q_eq (n : Fin 8) (i : Fin 4096) (j : Fin 1024) : val_main_v98 (F := Ideal) x md w gq wq cs sn (ix3 n i j) = qResult x md w gq wq cs sn n i j := by
  rw [val_main_v98_apply, val_main_v97_apply, val_main_cst_8_apply, val_main_v96_apply,
    v95_at x md w gq wq cs sn n i ⟨j.val / 256, by omega⟩ ⟨j.val % 256, by omega⟩ _
      (by show ((n.val * 4096 + i.val) * 1024 + j.val) / 4194304 = n.val; omega)
      (by show ((n.val * 4096 + i.val) * 1024 + j.val) / 1024 % 4096 = i.val; omega)
      (by show ((n.val * 4096 + i.val) * 1024 + j.val) / 256 % 4 = j.val / 256; omega)
      (by show ((n.val * 4096 + i.val) * 1024 + j.val) % 256 = j.val % 256; omega)]
  have p : ∀ l : Fin 64, val_main_v43 (F := Ideal) x md w gq wq (ix4 n i ⟨j.val / 256, by omega⟩ l) = query (lat x md w n i) (fun d => gq (ix2 0 d)) (fun d j => wq (ix2 d j)) ⟨192 * (j.val / 256) + l.val, by omega⟩ := by
    intro l
    rw [val_main_v43_apply]
    exact v42_at x md w gq wq n i ⟨j.val / 256, by omega⟩ ⟨l.val, by omega⟩ _ rfl rfl rfl rfl
  have r : ∀ l : Fin 32, val_main_v44 (F := Ideal) x md w gq wq (ix4 n i ⟨j.val / 256, by omega⟩ l) = query (lat x md w n i) (fun d => gq (ix2 0 d)) (fun d j => wq (ix2 d j)) ⟨192 * (j.val / 256) + 64 + l.val, by omega⟩ := by
    intro l
    rw [val_main_v44_apply]
    refine (v42_at x md w gq wq n i ⟨j.val / 256, by omega⟩ ⟨64 + l.val, by omega⟩ _ rfl rfl rfl rfl).trans ?_
    exact congrArg (query _ _ _) (Fin.ext (by show 192 * (j.val / 256) + (64 + l.val) = _; dsimp only; omega))
  have r' : ∀ l : Fin 32, val_main_v69 (F := Ideal) x md w gq wq (ix4 n i ⟨j.val / 256, by omega⟩ l) = query (lat x md w n i) (fun d => gq (ix2 0 d)) (fun d j => wq (ix2 d j)) ⟨192 * (j.val / 256) + 160 + l.val, by omega⟩ := by
    intro l
    rw [val_main_v69_apply]
    refine (v42_at x md w gq wq n i ⟨j.val / 256, by omega⟩ ⟨160 + l.val, by omega⟩ _ rfl rfl rfl rfl).trans ?_
    exact congrArg (query _ _ _) (Fin.ext (by show 192 * (j.val / 256) + (160 + l.val) = _; dsimp only; omega))
  have p' : ∀ l : Fin 64, val_main_v94 (F := Ideal) x md w gq wq (ix4 n i ⟨j.val / 256, by omega⟩ l) = query (lat x md w n i) (fun d => gq (ix2 0 d)) (fun d j => wq (ix2 d j)) ⟨192 * (j.val / 256) + 96 + l.val, by omega⟩ := by
    intro l
    rw [val_main_v94_apply]
    refine (v42_at x md w gq wq n i ⟨j.val / 256, by omega⟩ ⟨96 + l.val, by omega⟩ _ rfl rfl rfl rfl).trans ?_
    exact congrArg (query _ _ _) (Fin.ext (by show 192 * (j.val / 256) + (96 + l.val) = _; dsimp only; omega))
  simp only [p, p', r, r']
  rfl

/-! ## Keys and values -/

theorem v99_at (n : Fin 8) (i : Fin 4096) (e : Fin 128) : val_main_v99 (F := Ideal) x md w (ix3 n i e) = lat x md w n i ⟨256 + e.val, by omega⟩ := by
  rw [val_main_v99_apply]
  exact v25_at x md w n i _ _ rfl rfl rfl

theorem v109_at (n : Fin 8) (i : Fin 4096) (e : Fin 128) : val_main_v109 (F := Ideal) x md w (ix3 n i e) = normed width128 (fun e : Fin 128 => lat x md w n i ⟨256 + e.val, by omega⟩) e := by
  have s : ∀ y : S8x4096.Idx, (y 0).val = n.val → (y 1).val = i.val → val_main_v101 (F := Ideal) x md w y = ∑ k : Fin 128, lat x md w n i ⟨256 + k.val, by omega⟩ * lat x md w n i ⟨256 + k.val, by omega⟩ := by
    intro y h0 h1
    rw [val_main_v101_apply, val_main_cst_9_apply, zero_bits, zero_add]
    refine Finset.sum_congr rfl fun k _ => ?_
    rw [ix3_of (idx_main_v101 y k) n i k h0 h1 rfl, val_main_v100_apply, v99_at]
    rfl
  rw [val_main_v109_apply, v99_at, val_main_v108_apply, val_main_v107_apply, val_main_v106_apply, val_main_v104_apply, val_main_v102_apply, s _ rfl rfl, val_main_v103_apply, val_main_cst_10_apply,
    val_main_v105_apply, val_main_cst_11_apply]
  rfl

theorem v112_at (n : Fin 8) (i : Fin 4096) (e : Fin 128) : val_main_v112 (F := Ideal) gkv (ix3 n i e) = gkv (ix2 0 e) := by
  rw [val_main_v112_apply, val_main_v111_apply, val_main_v110_apply]
  exact congrArg gkv (ix2_of _ _ _ rfl (by show e.val % 128 = e.val; omega))

theorem v114_at (n : Fin 8) (i : Fin 4096) (j : Fin 1024) (y : S8x4096x1024.Idx) (h0 : (y 0).val = n.val) (h1 : (y 1).val = i.val) (h2 : (y 2).val = j.val) :
    val_main_v114 (F := Ideal) x md w gkv wkv y = kvOf x md w gkv wkv n i j := by
  rw [ix3_of y n i j h0 h1 h2, val_main_v114_apply]
  unfold kvOf keyValue
  refine Finset.sum_congr rfl fun d _ => congrArg₂ (fun x y : EReal => x * y) ?_ ?_
  · rw [ix3_of (lidx_main_v114 (ix3 n i j) d) n i d rfl rfl rfl, val_main_v113_apply, v109_at, v112_at]
    rfl
  · rw [ix2_of (ridx_main_v114 (ix3 n i j) d) d j rfl rfl]

theorem v115_at (n : Fin 8) (i : Fin 4096) (k : Fin 4) (l : Fin 256) (y : S8x4096x4x256.Idx) (h0 : (y 0).val = n.val) (h1 : (y 1).val = i.val) (h2 : (y 2).val = k.val) (h3 : (y 3).val = l.val) :
    val_main_v115 (F := Ideal) x md w gkv wkv y = kvOf x md w gkv wkv n i ⟨256 * k.val + l.val, by omega⟩ := by
  rw [val_main_v115_apply]
  refine v114_at x md w gkv wkv n i _ _ ?_ ?_ ?_
  · show ((((y 0).val * 4096 + (y 1).val) * 4 + (y 2).val) * 256 + (y 3).val) / 4194304 = n.val
    omega
  · show ((((y 0).val * 4096 + (y 1).val) * 4 + (y 2).val) * 256 + (y 3).val) / 1024 % 4096 = i.val
    omega
  · show ((((y 0).val * 4096 + (y 1).val) * 4 + (y 2).val) * 256 + (y 3).val) % 1024 = 256 * k.val + l.val
    omega

theorem v142_at (n : Fin 8) (i : Fin 4096) (k : Fin 4) (l : Fin 64) : val_main_v142 (F := Ideal) x md w cs sn (ix4 n i k l)
    = turned (fun l : Fin 32 => lat x md w n i ⟨384 + l.val, by omega⟩) (fun l => cs (ix2 i l)) (fun l => sn (ix2 i l)) l := by
  rw [val_main_v142_apply, ix4_of (idx_main_v142 (ix4 n i k l)) n i 0 l rfl rfl rfl rfl, v141_at]
  refine congrArg (fun r => turned r _ _ l) (funext fun l => ?_)
  rw [val_main_v117_apply, val_main_v116_apply]
  exact v25_at x md w n i _ _ rfl rfl rfl

theorem v145_at (n : Fin 8) (i : Fin 4096) (k : Fin 4) (l : Fin 256) (y : S8x4096x4x256.Idx) (h0 : (y 0).val = n.val) (h1 : (y 1).val = i.val) (h2 : (y 2).val = k.val) (h3 : (y 3).val = l.val) :
    val_main_v145 (F := Ideal) x md w gkv wkv cs sn y = pair (fun l => val_main_v143 (F := Ideal) x md w gkv wkv (ix4 n i k l))
      (turned (fun l : Fin 32 => lat x md w n i ⟨384 + l.val, by omega⟩) (fun l => cs (ix2 i l)) (fun l => sn (ix2 i l)))
      (turned (fun l : Fin 32 => lat x md w n i ⟨384 + l.val, by omega⟩) (fun l => cs (ix2 i l)) (fun l => sn (ix2 i l)))
      (fun l => val_main_v144 (F := Ideal) x md w gkv wkv (ix4 n i k l)) l := by
  rw [ix4_of y n i k l h0 h1 h2 h3]
  unfold val_main_v145
  refine (pairs _ _ _ _ n i k l).trans ?_
  simp only [v142_at]

theorem k_eq (n : Fin 8) (i : Fin 4096) (j : Fin 1024) : val_main_v146 (F := Ideal) x md w gkv wkv cs sn (ix3 n i j) = kResult x md w gkv wkv cs sn n i j := by
  rw [val_main_v146_apply,
    v145_at x md w gkv wkv cs sn n i ⟨j.val / 256, by omega⟩ ⟨j.val % 256, by omega⟩ _
      (by show ((n.val * 4096 + i.val) * 1024 + j.val) / 4194304 = n.val; omega)
      (by show ((n.val * 4096 + i.val) * 1024 + j.val) / 1024 % 4096 = i.val; omega)
      (by show ((n.val * 4096 + i.val) * 1024 + j.val) / 256 % 4 = j.val / 256; omega)
      (by show ((n.val * 4096 + i.val) * 1024 + j.val) % 256 = j.val % 256; omega)]
  have p : ∀ l : Fin 64, val_main_v143 (F := Ideal) x md w gkv wkv (ix4 n i ⟨j.val / 256, by omega⟩ l) = kvOf x md w gkv wkv n i ⟨256 * (j.val / 256) + l.val, by omega⟩ := by
    intro l
    rw [val_main_v143_apply]
    exact v115_at x md w gkv wkv n i ⟨j.val / 256, by omega⟩ ⟨l.val, by omega⟩ _ rfl rfl rfl rfl
  have p' : ∀ l : Fin 64, val_main_v144 (F := Ideal) x md w gkv wkv (ix4 n i ⟨j.val / 256, by omega⟩ l) = kvOf x md w gkv wkv n i ⟨256 * (j.val / 256) + 128 + l.val, by omega⟩ := by
    intro l
    rw [val_main_v144_apply]
    refine (v115_at x md w gkv wkv n i ⟨j.val / 256, by omega⟩ ⟨128 + l.val, by omega⟩ _ rfl rfl rfl rfl).trans ?_
    exact congrArg (kvOf x md w gkv wkv n i) (Fin.ext (by show 256 * (j.val / 256) + (128 + l.val) = _; dsimp only; omega))
  simp only [p, p']
  rfl

theorem v_eq (n : Fin 8) (i : Fin 4096) (j : Fin 512) : val_main_v149 (F := Ideal) x md w gkv wkv (ix3 n i j) = vResult x md w gkv wkv n i j := by
  rw [val_main_v149_apply, ix4_of (idx_main_v149 (ix3 n i j)) n i ⟨j.val / 64, by omega⟩ ⟨j.val % 64, by omega⟩
      (by show ((n.val * 4096 + i.val) * 512 + j.val) / 2097152 = n.val; omega)
      (by show ((n.val * 4096 + i.val) * 512 + j.val) / 512 % 4096 = i.val; omega)
      (by show ((n.val * 4096 + i.val) * 512 + j.val) / 64 % 8 = j.val / 64; omega)
      (by show ((n.val * 4096 + i.val) * 512 + j.val) % 64 = j.val % 64; omega), val_main_v148_apply, val_main_v147_apply]
  refine v114_at x md w gkv wkv n i _ _ ?_ ?_ ?_
  · show (((n.val * 4096 + i.val) * 8 + j.val / 64) * 128 + (64 + j.val % 64)) / 4194304 = n.val
    omega
  · show (((n.val * 4096 + i.val) * 8 + j.val / 64) * 128 + (64 + j.val % 64)) / 1024 % 4096 = i.val
    omega
  · show (((n.val * 4096 + i.val) * 8 + j.val / 64) * 128 + (64 + j.val % 64)) % 1024 = 128 * (j.val / 64) + 64 + j.val % 64
    omega

/-! ## The convolution -/

theorem v151_at (n : Fin 8) (i : Fin 4096) (j : Fin 512) : val_main_v151 (F := Ideal) x md w (ix3 n i j) = lat x md w n i ⟨416 + j.val, by omega⟩ := by
  rw [val_main_v151_apply, val_main_v150_apply]
  exact v25_at x md w n i _ _ rfl rfl rfl

theorem v154_at (n : Fin 8) (i : Fin 4096) (j : Fin 512) : val_main_v154 (F := Ideal) x md w (ix3 n i j) = gated (lat x md w n i) j := by
  have a : val_main_v152 (F := Ideal) x md w (ix3 n i j) = lat x md w n i ⟨928 + j.val, by omega⟩ := by
    rw [val_main_v152_apply, val_main_v150_apply]
    exact v25_at x md w n i _ _ rfl rfl (by show 416 + (512 + j.val) = 928 + j.val; omega)
  have b : val_main_v153 (F := Ideal) x md w (ix3 n i j) = lat x md w n i ⟨1440 + j.val, by omega⟩ := by
    rw [val_main_v153_apply, val_main_v150_apply]
    exact v25_at x md w n i _ _ rfl rfl (by show 416 + (1024 + j.val) = 1440 + j.val; omega)
  rw [val_main_v154_apply, a, b]
  rfl

theorem zero_int : ∀ y : S_.Idx, val_main_call0_v0 (F := Ideal) y = 0 := by
  intro y
  rw [val_main_call0_v0_apply]
  show (((0#32 : BitVec 32).toInt : ℝ) : EReal) = 0
  simp

theorem v155_at (n : Fin 8) (p : ℕ) (j : Fin 512) (y : S8x4098x512.Idx) (h0 : (y 0).val = n.val) (h1 : (y 1).val = p) (h2 : (y 2).val = j.val) : val_main_v155 (F := Ideal) x md w y = padded x md w n p j := by
  unfold val_main_v155 padded
  have l : (y 1).val < 4098 := (y 1).isLt
  by_cases h : 1 ≤ p ∧ p ≤ 4096
  · rw [dif_pos h, ← v154_at]
    refine pad_apply_of_inside _ _ _ _ _ _ _ y (ix3 n ⟨p - 1, by omega⟩ j) fun a => ?_
    fin_cases a
    · show (y 0).val = 0 + n.val * 1
      omega
    · show (y 1).val = 1 + (p - 1) * 1
      omega
    · show (y 2).val = 0 + j.val * 1
      omega
  · rw [dif_neg h]
    refine (pad_apply_of_not_inside _ _ _ _ _ _ _ y (1 : Fin 3) ?_).trans (zero_int _)
    show ¬(1 ≤ (y 1).val ∧ ((y 1).val - 1) % (0 + 1) = 0 ∧ ((y 1).val - 1) / (0 + 1) < 4096)
    omega

theorem v160_at (n : Fin 8) (i : Fin 4096) (j : Fin 512) : val_main_v160 (F := Ideal) wt (ix3 n i j) = wt (ix2 0 j) := by
  rw [val_main_v160_apply, val_main_v159_apply, val_main_v157_apply, val_main_v156_apply]
  exact congrArg wt (ix2_of _ _ _ rfl (by show j.val % 512 = j.val; omega))
theorem v166_at (n : Fin 8) (i : Fin 4096) (j : Fin 512) : val_main_v166 (F := Ideal) wt (ix3 n i j) = wt (ix2 1 j) := by
  rw [val_main_v166_apply, val_main_v165_apply, val_main_v163_apply, val_main_v162_apply]
  exact congrArg wt (ix2_of _ _ _ rfl (by show j.val % 512 = j.val; omega))
theorem v173_at (n : Fin 8) (i : Fin 4096) (j : Fin 512) : val_main_v173 (F := Ideal) wt (ix3 n i j) = wt (ix2 2 j) := by
  rw [val_main_v173_apply, val_main_v172_apply, val_main_v170_apply, val_main_v169_apply]
  exact congrArg wt (ix2_of _ _ _ rfl (by show j.val % 512 = j.val; omega))

theorem c_eq (n : Fin 8) (i : Fin 4096) (j : Fin 512) : val_main_v176 (F := Ideal) x md w wt (ix3 n i j) = cResult x md w wt n i j := by
  rw [val_main_v176_apply, v151_at, val_main_v175_apply, val_main_v168_apply, val_main_v161_apply, val_main_v167_apply, val_main_v174_apply, v160_at, v166_at, v173_at,
    val_main_v158_apply, val_main_v164_apply, val_main_v171_apply,
    v155_at x md w n i.val j _ rfl rfl rfl, v155_at x md w n (i.val + 1) j _ rfl (by show 1 + i.val = i.val + 1; omega) rfl, v155_at x md w n (i.val + 2) j _ rfl (by show 2 + i.val = i.val + 2; omega) rfl]
  rfl

/-! ## The results -/

theorem narrowed (z : EReal) : FloatOps.truncf (F := Ideal) .bf16 bitsLt_bf16_f32 z = z := rfl

theorem result_q : val_main_v177 (F := Ideal) x md w gq wq cs sn = fun y => qResult x md w gq wq cs sn (y 0) (y 1) (y 2) := by
  have key : ∀ y : S8x4096x1024.Idx, val_main_v98 (F := Ideal) x md w gq wq cs sn y = qResult x md w gq wq cs sn (y 0) (y 1) (y 2) := fun y =>
    (congrArg (val_main_v98 (F := Ideal) x md w gq wq cs sn) (ix3_of y (y 0) (y 1) (y 2) rfl rfl rfl)).trans (q_eq x md w gq wq cs sn (y 0) (y 1) (y 2))
  refine funext fun (y : S8x4096x1024.Idx) => ?_
  rw [val_main_v177_apply, narrowed, key]
theorem result_k : val_main_v178 (F := Ideal) x md w gkv wkv cs sn = fun y => kResult x md w gkv wkv cs sn (y 0) (y 1) (y 2) := by
  have key : ∀ y : S8x4096x1024.Idx, val_main_v146 (F := Ideal) x md w gkv wkv cs sn y = kResult x md w gkv wkv cs sn (y 0) (y 1) (y 2) := fun y =>
    (congrArg (val_main_v146 (F := Ideal) x md w gkv wkv cs sn) (ix3_of y (y 0) (y 1) (y 2) rfl rfl rfl)).trans (k_eq x md w gkv wkv cs sn (y 0) (y 1) (y 2))
  refine funext fun (y : S8x4096x1024.Idx) => ?_
  rw [val_main_v178_apply, narrowed, key]
theorem result_v : val_main_v179 (F := Ideal) x md w gkv wkv = fun y => vResult x md w gkv wkv (y 0) (y 1) (y 2) := by
  have key : ∀ y : S8x4096x512.Idx, val_main_v149 (F := Ideal) x md w gkv wkv y = vResult x md w gkv wkv (y 0) (y 1) (y 2) := fun y =>
    (congrArg (val_main_v149 (F := Ideal) x md w gkv wkv) (ix3_of y (y 0) (y 1) (y 2) rfl rfl rfl)).trans (v_eq x md w gkv wkv (y 0) (y 1) (y 2))
  refine funext fun (y : S8x4096x512.Idx) => ?_
  rw [val_main_v179_apply, narrowed, key]
theorem result_c : val_main_v180 (F := Ideal) x md w wt = fun y => cResult x md w wt (y 0) (y 1) (y 2) := by
  have key : ∀ y : S8x4096x512.Idx, val_main_v176 (F := Ideal) x md w wt y = cResult x md w wt (y 0) (y 1) (y 2) := fun y =>
    (congrArg (val_main_v176 (F := Ideal) x md w wt) (ix3_of y (y 0) (y 1) (y 2) rfl rfl rfl)).trans (c_eq x md w wt (y 0) (y 1) (y 2))
  refine funext fun (y : S8x4096x512.Idx) => ?_
  rw [val_main_v180_apply, narrowed, key]
theorem result_up (u : S1024x4096.Idx → EReal) : val_main_v181 (F := Ideal) u = u := by
  funext y
  rw [val_main_v181_apply]
  rfl
theorem result_down (u : S4096x1024.Idx → EReal) : val_main_v182 (F := Ideal) u = u := by
  funext y
  rw [val_main_v182_apply]
  rfl

end Cert.Reference4Ideal.Tokens

end
-- ==== Proof.Tokens.Claim.lean ====
/- The claim about the projections of the tokens: the kernel and the reference leave the same six arrays, whatever the arguments. -/
module

public import proofs.«01_k».proof.Defs
public import proofs.«01_k».proof.Proof.Tokens.Kernel
public import proofs.«01_k».proof.Proof.Tokens.Reference
public import proofs.«01_k».proof.Proof.Gen.Reference4Ideal.Run

@[expose] public section

set_option maxRecDepth 16384

noncomputable section

namespace Cert.Kernel4Ideal.Tokens

open Cert.Kernel4Ideal Cert.Kernel4Ideal.Gen Idealize.ShloMosaic Idealize.ShloMosaic.TcCoe Idealize.SL.Sem Cert.Tokens

variable (m : (ℓ : Loc nD τ sig) → Buf (Elt Ideal) ℓ) (c : Dev nD)

/-! Equal arguments give equal results. -/

theorem qArr_of {x : S8x4096x1024.Idx → EReal} {md : S16x6144.Idx → EReal} {w : S1024x1952.Idx → EReal} {gq : S1x256.Idx → EReal} {wq : S256x768.Idx → EReal} {cs : S4096x16.Idx → EReal} {sn : S4096x16.Idx → EReal}
    (h0 : x = argX m c) (h1 : md = argMod m c) (h2 : w = argW m c) (h3 : gq = argGq m c) (h4 : wq = argWq m c) (h5 : cs = argCos m c) (h6 : sn = argSin m c) :
    (fun y : S8x4096x1024.Idx => qResult x md w gq wq cs sn (y 0) (y 1) (y 2)) = qArr m c := by
  subst h0 h1 h2 h3 h4 h5 h6
  rfl
theorem kArr_of {x : S8x4096x1024.Idx → EReal} {md : S16x6144.Idx → EReal} {w : S1024x1952.Idx → EReal} {gkv : S1x128.Idx → EReal} {wkv : S128x1024.Idx → EReal} {cs : S4096x16.Idx → EReal} {sn : S4096x16.Idx → EReal}
    (h0 : x = argX m c) (h1 : md = argMod m c) (h2 : w = argW m c) (h3 : gkv = argGkv m c) (h4 : wkv = argWkv m c) (h5 : cs = argCos m c) (h6 : sn = argSin m c) :
    (fun y : S8x4096x1024.Idx => kResult x md w gkv wkv cs sn (y 0) (y 1) (y 2)) = kArr m c := by
  subst h0 h1 h2 h3 h4 h5 h6
  rfl
theorem vArr_of {x : S8x4096x1024.Idx → EReal} {md : S16x6144.Idx → EReal} {w : S1024x1952.Idx → EReal} {gkv : S1x128.Idx → EReal} {wkv : S128x1024.Idx → EReal}
    (h0 : x = argX m c) (h1 : md = argMod m c) (h2 : w = argW m c) (h3 : gkv = argGkv m c) (h4 : wkv = argWkv m c) :
    (fun y : S8x4096x512.Idx => vResult x md w gkv wkv (y 0) (y 1) (y 2)) = vArr m c := by
  subst h0 h1 h2 h3 h4
  rfl
theorem cArr_of {x : S8x4096x1024.Idx → EReal} {md : S16x6144.Idx → EReal} {w : S1024x1952.Idx → EReal} {wt : S3x512.Idx → EReal}
    (h0 : x = argX m c) (h1 : md = argMod m c) (h2 : w = argW m c) (h3 : wt = argTap m c) :
    (fun y : S8x4096x512.Idx => cResult x md w wt (y 0) (y 1) (y 2)) = cArr m c := by
  subst h0 h1 h2 h3
  rfl

end Cert.Kernel4Ideal.Tokens

namespace Cert.Tokens

open Idealize.ShloMosaic Idealize.ShloMosaic.TcCoe Idealize.SL.Sem

theorem algebraic : @Cert.algebraic_Kernel4Ideal_Reference4Ideal Cert.Kernel4Ideal.Gen.facts Cert.Reference4Ideal.Gen.facts := by
  intro m g m' g' _ hargs
  refine ⟨fun c => Cert.Kernel4Ideal.Tokens.qArr m c, fun c => Cert.Kernel4Ideal.Tokens.kArr m c, fun c => Cert.Kernel4Ideal.Tokens.vArr m c, fun c => Cert.Kernel4Ideal.Tokens.cArr m c,
    fun c => Cert.Kernel4Ideal.Tokens.argUp m c, fun c => Cert.Kernel4Ideal.Tokens.argDown m c, ?_, ?_⟩
  · refine (θ_run _ _ _).mono (fun r h c => ?_) (θ_run_and (Cert.Kernel4Ideal.Gen.run_main m g) (Cert.Kernel4Ideal.Gen.unchanged m g))
    exact ⟨(h.1.out_eq c 17).trans (Cert.Kernel4Ideal.Tokens.arr_q m c),
      (h.1.rest_eq c Cert.Kernel4Ideal.main_v63 (by decide)).trans (Cert.Kernel4Ideal.Tokens.tail_k m c),
      (h.1.rest_eq c Cert.Kernel4Ideal.main_v64 (by decide)).trans (Cert.Kernel4Ideal.Tokens.tail_v m c),
      (h.1.out_eq c 20).trans (Cert.Kernel4Ideal.Tokens.arr_c m c),
      (h.1.out_eq c 21).trans (Cert.Kernel4Ideal.Tokens.arr_up m c),
      (h.1.out_eq c 22).trans (Cert.Kernel4Ideal.Tokens.arr_down m c), h.2 c⟩
  · refine (θ_run _ _ _).mono (fun r h c => ?_) (Cert.Reference4Ideal.Value.run m' g')
    obtain ⟨h0, h1, h2, h3, h4, h5, hr⟩ := h c
    obtain ⟨e0, e1, e2, e3, e4, e5, e6, e7, e8, e9, e10, e11⟩ := hargs c
    refine ⟨h0.trans ((Cert.Reference4Ideal.Read.val_main_v177_eq _).trans ?_), h1.trans ((Cert.Reference4Ideal.Read.val_main_v178_eq _).trans ?_),
      h2.trans ((Cert.Reference4Ideal.Read.val_main_v179_eq _).trans ?_), h3.trans ((Cert.Reference4Ideal.Read.val_main_v180_eq _).trans ?_),
      h4.trans ((Cert.Reference4Ideal.Read.val_main_v181_eq _).trans ?_), h5.trans ((Cert.Reference4Ideal.Read.val_main_v182_eq _).trans ?_), hr⟩
    · exact (Cert.Reference4Ideal.Tokens.result_q _ _ _ _ _ _ _).trans (Cert.Kernel4Ideal.Tokens.qArr_of m c e0 e1 e2 e3 e4 e8 e9)
    · exact (Cert.Reference4Ideal.Tokens.result_k _ _ _ _ _ _ _).trans (Cert.Kernel4Ideal.Tokens.kArr_of m c e0 e1 e2 e5 e6 e8 e9)
    · exact (Cert.Reference4Ideal.Tokens.result_v _ _ _ _ _).trans (Cert.Kernel4Ideal.Tokens.vArr_of m c e0 e1 e2 e5 e6)
    · exact (Cert.Reference4Ideal.Tokens.result_c _ _ _ _).trans (Cert.Kernel4Ideal.Tokens.cArr_of m c e0 e1 e2 e7)
    · exact (Cert.Reference4Ideal.Tokens.result_up _).trans e10
    · exact (Cert.Reference4Ideal.Tokens.result_down _).trans e11

end Cert.Tokens

end
-- ==== Proof.Context.Words.lean ====
/- The kernel of the context's projections, said in a few words. A grid point holds four batches of 256 rows. `modul` are the normalized and modulated rows, `lat` their projection to 128 latent and 128 rotary entries. Of one
   batch (`batch`): `kvs` the keys and values of all heads; `turn` rotates 128 lanes; `kHead` and `vStore` are what is stored. -/
module

public import proofs.«01_k».proof.Proof.Gen.Kernel5Ideal.Skeleton
public import Idealize.ShloMosaic.Lib.Pipeline.ValueKit
public import Idealize.ShloMosaic.Lib.Pipeline.ReadBack

@[expose] public section

set_option maxRecDepth 16384

noncomputable section

namespace Cert.Kernel5Ideal.Context

open Cert.Kernel5Ideal Cert.Kernel5Ideal.Gen Idealize.ShloMosaic Idealize.ShloMosaic.TcCoe Idealize.SL.Sem

variable {F : FTy → Type} [FloatOps F]

/-! ## The operations -/

/-- Rows of 1024, and of 128, divided by their root mean square. -/
def norm (x : FVec F S1024x1024 .f32) : FVec F S1024x1024 .f32 :=
  mulf x (broadcastTo S1024x1024 (rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)
def norm128 (x : FVec F S256x128 .f32) : FVec F S256x128 .f32 :=
  mulf x (broadcastTo S256x128 (rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)

/-- The rows of all batches. -/
def rows (x : Vec F S4x256x1024 .f32) : FVec F S1024x1024 .f32 := shapeCast S1024x1024 x shapeCasts_S4x256x1024_S1024x1024
/-- They normalized and modulated; of `v` the first vector shifts and the second scales. -/
def modul (x : FVec F S1024x1024 .f32) (v : Vec F S1x6144 .f32) : FVec F S1024x1024 .bf16 :=
  truncf .bf16 (addf (mulf (norm x) (broadcastTo S1024x1024 (addf (broadcast S1x1024 (Scalar.ofBits .f32 0x3F800000#32)) (extractStridedSlice S1x1024 ![0, 1024] v slices_S1x6144_o0_1024_S1x1024)) broadcasts_S1x1024_S1024x1024))
    (broadcastTo S1024x1024 (extractStridedSlice S1x1024 ![0, 0] v slices_S1x6144_o0_0_S1x1024) broadcasts_S1x1024_S1024x1024)) bitsLt_bf16_f32
/-- Their projection: the weights' rows are the entries. -/
def lat (h : FVec F S1024x1024 .bf16) (w : Vec F S256x1024 .bf16) : FVec F S1024x256 .f32 :=
  matmul dot_S1024x1024_S256x1024_S1024x256_1_1_0_0_n_n none h (shapeCast S256x1024 w shapeCasts_S256x1024_S256x1024) (constant S1024x256 .f32 0x00000000#32)

/-- One batch of the four. -/
theorem batches (s : Fin 4) : S1024x256.Slices ![256 * s.val, 0] S256x256 := by revert s; decide
def batch (z : FVec F S1024x256 .f32) (s : Fin 4) : FVec F S256x256 .f32 := extractStridedSlice S256x256 ![256 * s.val, 0] z (batches s)

/-- Its keys and values. -/
def kvs (z : FVec F S256x256 .f32) (g : Vec F S1x128 .f32) (w : Vec F S128x1024 .bf16) : FVec F S256x1024 .f32 :=
  matmul dot_S256x128_S128x1024_S256x1024_1_0_0_1_n_n none
    (truncf .bf16 (mulf (norm128 (extractStridedSlice S256x128 ![0, 0] z slices_S256x256_o0_0_S256x128)) (broadcastTo S256x128 g broadcasts_S1x128_S256x128)) bitsLt_bf16_f32)
    (shapeCast S128x1024 w shapeCasts_S128x1024_S128x1024) (constant S256x1024 .f32 0x00000000#32)

/-- 128 lanes rotated: every lane times its cosine, plus the lane sixteen further times the sine. -/
def turn (x : FVec F S256x128 .f32) (c s : Vec F S256x128 .f32) : FVec F S256x128 .f32 :=
  addf (mulf x c) (mulf (dynamicRotate 1 112#32 none x rotates_S256x128_d1) s)
def rope (z : FVec F S256x256 .f32) (c s : Vec F S256x128 .f32) : FVec F S256x128 .f32 :=
  turn (extractStridedSlice S256x128 ![0, 128] z slices_S256x256_o0_128_S256x128) c s

/-- A slot of 128 of the 1024 lanes. -/
theorem slots (h : Fin 8) : S256x1024.Slices ![0, 128 * h.val] S256x128 := by revert h; decide
def slot (x : FVec F S256x1024 .f32) (h : Fin 8) : FVec F S256x128 .f32 := extractStridedSlice S256x128 ![0, 128 * h.val] x (slots h)

/-- A head's keys, as stored: 64 lanes of `p`, then 64 of `r`; and the values. -/
def low : IVec S256x128 1 := cmpi .slt (iota .tc S256x128 32 [1] iota_S256x128_d1_w32) (broadcast S256x128 64#32)
def kHead (p r : FVec F S256x128 .f32) : FVec F S1x256x128 .bf16 :=
  shapeCast S1x256x128 (truncf .bf16 (select low p r) bitsLt_bf16_f32) shapeCasts_S256x128_S1x256x128
def vStore (kv : FVec F S256x1024 .f32) : FVec F S1x256x512 .bf16 :=
  shapeCast S1x256x512 (truncf .bf16 (extractStridedSlice S256x512 ![0, 512] kv slices_S256x1024_o0_512_S256x512) bitsLt_bf16_f32) shapeCasts_S256x512_S1x256x512

/-! ## What the loads read -/

section
variable (x0 : Vec F S4x256x1024 .f32) (x1 : Vec F S16x6144 .f32) (x2 : Vec F S256x1024 .bf16) (x3 : Vec F S1x128 .f32) (x4 : Vec F S128x1024 .bf16) (x5 x6 : Vec F S256x128 .f32)

def rowsIn : Vec F S4x256x1024 .f32 := View.ld x0 (Rect.unit (s := S4x256x1024) ![0, 0, 0] S4x256x1024.size inb_S4x256x1024_S4x256x1024_0_0_0)
def modRow : Vec F S1x6144 .f32 := View.ld x1 (Rect.unit (s := S16x6144) ![8, 0] S1x6144.size inb_S16x6144_S1x6144_8_0)
def wLat : Vec F S256x1024 .bf16 := View.ld x2 (Rect.unit (s := S256x1024) ![0, 0] S256x1024.size inb_S256x1024_S256x1024_0_0)
def gkv : Vec F S1x128 .f32 := View.ld x3 (Rect.unit (s := S1x128) ![0, 0] S1x128.size inb_S1x128_S1x128_0_0)
def wkv : Vec F S128x1024 .bf16 := View.ld x4 (Rect.unit (s := S128x1024) ![0, 0] S128x1024.size inb_S128x1024_S128x1024_0_0)
def tab (x : Vec F S256x128 .f32) : Vec F S256x128 .f32 := View.ld x (Rect.unit (s := S256x128) ![0, 0] S256x128.size inb_S256x128_S256x128_0_0)

/-! ## A batch -/

def latIn : FVec F S1024x256 .f32 := lat (modul (rows (rowsIn x0)) (modRow x1)) (wLat x2)
def kvIn (s : Fin 4) : FVec F S256x1024 .f32 := kvs (batch (latIn x0 x1 x2) s) (gkv x3) (wkv x4)
def ropeIn (s : Fin 4) : FVec F S256x128 .f32 := rope (batch (latIn x0 x1 x2) s) (tab x5) (tab x6)

/-! ## The stores -/

def slotRect (s : Fin 4) (h : Fin 8) : Rect S4x256x1024 := Rect.unit ![s.val, 0, 128 * h.val] S1x256x128.size (by revert s h; decide)
def halfRect (s : Fin 4) : Rect S4x256x512 := Rect.unit ![s.val, 0, 0] S1x256x512.size (by revert s; decide)

/-- The keys' stores: head by head of the four batches, the last one first. -/
def evenPiece (s : Fin 4) (h g : Fin 8) : View.Piece (Elt F) S4x256x1024 .bf16 := ⟨slotRect s h, kHead (slot (kvIn x0 x1 x2 x3 x4 s) g) (ropeIn x0 x1 x2 x5 x6 s)⟩
def oddPiece (s : Fin 4) (h g : Fin 8) : View.Piece (Elt F) S4x256x1024 .bf16 := ⟨slotRect s h, kHead (ropeIn x0 x1 x2 x5 x6 s) (slot (kvIn x0 x1 x2 x3 x4 s) g)⟩
def kStores : List (View.Piece (Elt F) S4x256x1024 .bf16) :=
  let E := evenPiece x0 x1 x2 x3 x4 x5 x6
  let O := oddPiece x0 x1 x2 x3 x4 x5 x6
  [O 3 7 3, E 3 6 3, O 3 5 2, E 3 4 2, O 3 3 1, E 3 2 1, O 3 1 0, E 3 0 0, O 2 7 3, E 2 6 3, O 2 5 2, E 2 4 2, O 2 3 1, E 2 2 1, O 2 1 0, E 2 0 0,
    O 1 7 3, E 1 6 3, O 1 5 2, E 1 4 2, O 1 3 1, E 1 2 1, O 1 1 0, E 1 0 0, O 0 7 3, E 0 6 3, O 0 5 2, E 0 4 2, O 0 3 1, E 0 2 1, O 0 1 0, E 0 0 0]

/-- The values' stores. -/
def vPiece (s : Fin 4) : View.Piece (Elt F) S4x256x512 .bf16 := ⟨halfRect s, vStore (kvIn x0 x1 x2 x3 x4 s)⟩
def vStores : List (View.Piece (Elt F) S4x256x512 .bf16) := [vPiece x0 x1 x2 x3 x4 3, vPiece x0 x1 x2 x3 x4 2, vPiece x0 x1 x2 x3 x4 1, vPiece x0 x1 x2 x3 x4 0]

end

end Cert.Kernel5Ideal.Context

end
-- ==== Proof.Context.Left.lean ====
/- What the body leaves in the two outputs' buffers at one grid point: the stores of Words.lean, of the blocks the point reads. -/
module

public import proofs.«01_k».proof.Proof.Context.Words
public import proofs.«01_k».proof.Proof.Gen.Kernel5Ideal.Frame

@[expose] public section

set_option maxRecDepth 16384

noncomputable section

namespace Cert.Kernel5Ideal.Context

open Cert.Kernel5Ideal Cert.Kernel5Ideal.Gen Idealize.ShloMosaic Idealize.ShloMosaic.TcCoe Idealize.SL.Sem

variable {F : FTy → Type} [FloatOps F]

variable (c : Dev nD) (i : grid0.Coords) (arg1 : Memref sig .tc .vmem S4x256x1024 .f32) (harg1 : arg1.IsWhole) (arg2 : Memref sig .tc .vmem S16x6144 .f32) (harg2 : arg2.IsWhole)
  (arg3 : Memref sig .tc .vmem S256x1024 .bf16) (harg3 : arg3.IsWhole) (arg4 : Memref sig .tc .vmem S1x128 .f32) (harg4 : arg4.IsWhole) (arg5 : Memref sig .tc .vmem S128x1024 .bf16)
  (harg5 : arg5.IsWhole) (arg6 : Memref sig .tc .vmem S256x128 .f32) (harg6 : arg6.IsWhole) (arg7 : Memref sig .tc .vmem S256x128 .f32) (harg7 : arg7.IsWhole)
  (arg10 : Memref sig .tc .vmem S4x256x1024 .bf16) (harg10 : arg10.IsWhole) (arg11 : Memref sig .tc .vmem S4x256x512 .bf16) (harg11 : arg11.IsWhole)
  (x0 : Vec F S4x256x1024 .f32) (x1 : Vec F S16x6144 .f32) (x2 : Vec F S256x1024 .bf16) (x3 : Vec F S1x128 .f32) (x4 : Vec F S128x1024 .bf16) (x5 x6 : Vec F S256x128 .f32)

theorem run7 :
    (kernelRun0_A c i arg1 harg1 arg2 harg2 arg3 harg3 arg4 harg4 arg5 harg5 arg6 harg6 arg7 harg7 arg10 harg10 arg11 harg11 x0 x1 x2 x3 x4 x5 x6).1
    = kStores (arg1.view.read (Elt F) (harg1.unread x0)) (arg2.view.read (Elt F) (harg2.unread x1)) (arg3.view.read (Elt F) (harg3.unread x2)) (arg4.view.read (Elt F) (harg4.unread x3))
      (arg5.view.read (Elt F) (harg5.unread x4)) (arg6.view.read (Elt F) (harg6.unread x5)) (arg7.view.read (Elt F) (harg7.unread x6)) := rfl
theorem left7 : out0_A_7 c i arg1 harg1 arg2 harg2 arg3 harg3 arg4 harg4 arg5 harg5 arg6 harg6 arg7 harg7 arg10 harg10 arg11 harg11 x0 x1 x2 x3 x4 x5 x6
    = View.canon (Val := Elt F) (s := S4x256x1024) (kStores x0 x1 x2 x3 x4 x5 x6) := by
  unfold out0_A_7
  rw [View.read_writes_junk_eq_canon, run7, harg1.read_unread, harg2.read_unread, harg3.read_unread, harg4.read_unread, harg5.read_unread, harg6.read_unread, harg7.read_unread]

theorem run8 :
    (kernelRun0_A c i arg1 harg1 arg2 harg2 arg3 harg3 arg4 harg4 arg5 harg5 arg6 harg6 arg7 harg7 arg10 harg10 arg11 harg11 x0 x1 x2 x3 x4 x5 x6).2.1
    = vStores (arg1.view.read (Elt F) (harg1.unread x0)) (arg2.view.read (Elt F) (harg2.unread x1)) (arg3.view.read (Elt F) (harg3.unread x2)) (arg4.view.read (Elt F) (harg4.unread x3))
      (arg5.view.read (Elt F) (harg5.unread x4)) := rfl
theorem left8 : out0_A_8 c i arg1 harg1 arg2 harg2 arg3 harg3 arg4 harg4 arg5 harg5 arg6 harg6 arg7 harg7 arg10 harg10 arg11 harg11 x0 x1 x2 x3 x4 x5 x6
    = View.canon (Val := Elt F) (s := S4x256x512) (vStores x0 x1 x2 x3 x4) := by
  unfold out0_A_8
  rw [View.read_writes_junk_eq_canon, run8, harg1.read_unread, harg2.read_unread, harg3.read_unread, harg4.read_unread, harg5.read_unread]

end Cert.Kernel5Ideal.Context

end
-- ==== Proof.Context.Spec.lean ====
/- The keys and values of the context, over the extended reals: what both programs compute of the context's rows, its modulation vectors (the ninth row of the modulation) and the weights. -/
module

public import proofs.«01_k».proof.Proof.Tokens.Spec

@[expose] public section

noncomputable section

namespace Cert.Context

open Idealize.ShloMosaic Cert.Tokens

variable (x : (⟨3, ![8, 256, 1024]⟩ : Shape).Idx → EReal) (md : (⟨2, ![16, 6144]⟩ : Shape).Idx → EReal) (w : (⟨2, ![1024, 1952]⟩ : Shape).Idx → EReal) (gkv : (⟨2, ![1, 128]⟩ : Shape).Idx → EReal)
  (wkv : (⟨2, ![128, 1024]⟩ : Shape).Idx → EReal) (ka : (⟨3, ![8, 4352, 1024]⟩ : Shape).Idx → EReal) (va : (⟨3, ![8, 4352, 512]⟩ : Shape).Idx → EReal)

/-- The modulation vectors of the context. -/
def shift (e : Fin 1024) : EReal := md (ix2 8 ⟨e.val, by omega⟩)
def scale (e : Fin 1024) : EReal := md (ix2 8 ⟨1024 + e.val, by omega⟩)

/-- The first projection of row `i` of batch `n`, and its keys and values before they are laid out. -/
def ctxLat (n : Fin 8) (i : Fin 256) (j : Fin 1952) : EReal := latent (fun e => x (ix3 n i e)) (shift md) (scale md) (fun d j => w (ix2 d j)) j
def ctxKv (n : Fin 8) (i : Fin 256) (j : Fin 1024) : EReal := keyValue (ctxLat x md w n i) (fun d => gkv (ix2 0 d)) (fun d j => wkv (ix2 d j)) j

/-- The keys: without positions, every cosine is one and every sine zero. -/
def kNew (n : Fin 8) (i : Fin 256) (j : Fin 1024) : EReal :=
  keys (ctxKv x md w gkv wkv n i) (fun k : Fin 32 => ctxLat x md w n i ⟨384 + k.val, by omega⟩) (fun _ => 1) (fun _ => 0) j
/-- The values. -/
def vNew (n : Fin 8) (i : Fin 256) (j : Fin 512) : EReal := values (ctxKv x md w gkv wkv n i) j

/-- The whole arrays: 4096 rows as they were, and the context's. -/
def kAll (n : Fin 8) (i : Fin 4352) (j : Fin 1024) : EReal := if h : i.val < 4096 then ka (ix3 n i j) else kNew x md w gkv wkv n ⟨i.val - 4096, by omega⟩ j
def vAll (n : Fin 8) (i : Fin 4352) (j : Fin 512) : EReal := if h : i.val < 4096 then va (ix3 n i j) else vNew x md w gkv wkv n ⟨i.val - 4096, by omega⟩ j

/-- A rotation by nothing. -/
theorem turned_still (r : Fin 32 → EReal) (l : Fin 64) :
    turned r (fun _ => 1) (fun _ => 0) l = if h : l.val < 16 then r (first ⟨l.val, h⟩) else if h' : l.val < 32 then r (second ⟨l.val - 16, by omega⟩) else 0 := by
  unfold turned
  simp only [mul_one, mul_zero, add_zero, sub_zero]

end Cert.Context

end
-- ==== Proof.Context.Block.lean ====
/- A grid point's two outputs, entry by entry, from the blocks it reads: `kOut` and `vOut` of a batch, a row and a lane. -/
module

public import proofs.«01_k».proof.Proof.Context.Left
public import proofs.«01_k».proof.Proof.Context.Spec

@[expose] public section

set_option maxRecDepth 16384

noncomputable section

namespace Cert.Kernel5Ideal.Context

open Cert.Kernel5Ideal Cert.Kernel5Ideal.Gen Idealize.ShloMosaic Idealize.ShloMosaic.TcCoe Idealize.SL.Sem Cert.Tokens

/-! ## The operations -/

theorem rows_apply (x : Vec Ideal S4x256x1024 .f32) (s : Fin 4) (r : Fin 256) (e : Fin 1024) : rows x (ix2 ⟨256 * s.val + r.val, by omega⟩ e) = x (ix3 s r e) := by
  pointwise [rows]

theorem norm_apply (x : FVec Ideal S1024x1024 .f32) (R e : Fin 1024) : norm x (ix2 R e) = normed width (fun e => x (ix2 R e)) e := by
  pointwise [norm]
  rfl

theorem modul_apply (x : FVec Ideal S1024x1024 .f32) (v : Vec Ideal S1x6144 .f32) (R e : Fin 1024) :
    modul x v (ix2 R e) = modulated (fun e => x (ix2 R e)) (fun e => v (ix2 0 ⟨e.val, by omega⟩)) (fun e => v (ix2 0 ⟨1024 + e.val, by omega⟩)) e := by
  unfold modulated
  rw [← norm_apply]
  unfold modul
  generalize norm x = z
  pointwise

theorem lat_apply (h : FVec Ideal S1024x1024 .bf16) (w : Vec Ideal S256x1024 .bf16) (R : Fin 1024) (j : Fin 256) :
    lat h w (ix2 R j) = ∑ d : Fin 1024, h (ix2 R d) * w (ix2 j d) := by
  pointwise [lat]

theorem batch_apply (z : FVec Ideal S1024x256 .f32) (s : Fin 4) (r j : Fin 256) : batch z s (ix2 r j) = z (ix2 ⟨256 * s.val + r.val, by omega⟩ j) := by
  pointwise [batch]

theorem norm128_apply (x : FVec Ideal S256x128 .f32) (r : Fin 256) (e : Fin 128) : norm128 x (ix2 r e) = normed width128 (fun e => x (ix2 r e)) e := by
  pointwise [norm128]
  rfl

theorem cut_apply (z : FVec Ideal S256x256 .f32) (r : Fin 256) (d : Fin 128) : extractStridedSlice S256x128 ![0, 0] z slices_S256x256_o0_0_S256x128 (ix2 r d) = z (ix2 r ⟨d.val, by omega⟩) := by
  pointwise
theorem cutRope_apply (z : FVec Ideal S256x256 .f32) (r : Fin 256) (d : Fin 128) : extractStridedSlice S256x128 ![0, 128] z slices_S256x256_o0_128_S256x128 (ix2 r d) = z (ix2 r ⟨128 + d.val, by omega⟩) := by
  pointwise

theorem kvs_apply (z : FVec Ideal S256x256 .f32) (g : Vec Ideal S1x128 .f32) (w : Vec Ideal S128x1024 .bf16) (r : Fin 256) (j : Fin 1024) :
    kvs z g w (ix2 r j) = ∑ d : Fin 128, normed width128 (fun d : Fin 128 => z (ix2 r ⟨d.val, by omega⟩)) d * g (ix2 0 d) * w (ix2 d j) := by
  simp only [← cut_apply, ← norm128_apply]
  unfold kvs
  generalize norm128 (F := Ideal) _ = y
  pointwise

theorem turn_apply (x : FVec Ideal S256x128 .f32) (c s : Vec Ideal S256x128 .f32) (r : Fin 256) (l : Fin 128) :
    turn x c s (ix2 r l) = x (ix2 r l) * c (ix2 r l) + x (ix2 r ⟨(l.val + 16) % 128, Nat.mod_lt _ (by decide)⟩) * s (ix2 r l) := by
  pointwise [turn]
  exact congrArg (fun k : Fin 128 => _ + x (ix2 r k) * _) (Fin.ext (by show (l.val + 128 - 112) % 128 = (l.val + 16) % 128; omega))
theorem rope_apply (z : FVec Ideal S256x256 .f32) (c s : Vec Ideal S256x128 .f32) (r : Fin 256) (l : Fin 128) :
    rope z c s (ix2 r l) = z (ix2 r ⟨128 + l.val, by omega⟩) * c (ix2 r l) + z (ix2 r ⟨128 + (l.val + 16) % 128, by omega⟩) * s (ix2 r l) := by
  unfold rope
  rw [turn_apply, cutRope_apply, cutRope_apply]

theorem slot_apply (x : FVec Ideal S256x1024 .f32) (h : Fin 8) (r : Fin 256) (l : Fin 128) : slot x h (ix2 r l) = x (ix2 r ⟨128 * h.val + l.val, by omega⟩) := by
  pointwise [slot]

theorem low_apply : ∀ l : Fin 128, IntOp.cmpi CmpIPredicate.slt (BitVec.ofNat 32 l.val) 64#32 = if l.val < 64 then 1#1 else 0#1 := by decide +kernel
theorem select_ite {α : Type} (p : Prop) [Decidable p] (a b : α) : Scalar.select (if p then 1#1 else 0#1) a b = if p then a else b := by
  split <;> rfl

theorem kHead_apply (p t : FVec Ideal S256x128 .f32) (r : Fin 256) (l : Fin 128) : kHead p t (ix3 0 r l) = if l.val < 64 then p (ix2 r l) else t (ix2 r l) := by
  pointwise [kHead, low]
  rw [low_apply, select_ite]

theorem vStore_apply (kv : FVec Ideal S256x1024 .f32) (r : Fin 256) (j : Fin 512) : vStore kv (ix3 0 r j) = kv (ix2 r ⟨512 + j.val, by omega⟩) := by
  pointwise [vStore]

section
variable (x0 : Vec Ideal S4x256x1024 .f32) (x1 : Vec Ideal S16x6144 .f32) (x2 : Vec Ideal S256x1024 .bf16) (x3 : Vec Ideal S1x128 .f32) (x4 : Vec Ideal S128x1024 .bf16) (x5 x6 : Vec Ideal S256x128 .f32)

/-! ## The loads -/

theorem rowsIn_apply (s : Fin 4) (r : Fin 256) (e : Fin 1024) : (rowsIn x0) (ix3 s r e) = x0 (ix3 s r e) := by
  refine congrArg x0 ?_
  funext a; refine Fin.ext ?_; fin_cases a <;> simp [LoadRect.idx, Rect.toLoadRect, Rect.unit]
theorem modRow_apply (e : Fin 6144) : modRow x1 (ix2 0 e) = x1 (ix2 8 e) := by
  refine congrArg x1 ?_
  funext a; refine Fin.ext ?_; fin_cases a <;> simp [LoadRect.idx, Rect.toLoadRect, Rect.unit]
theorem wLat_apply (j : Fin 256) (d : Fin 1024) : (wLat x2) (ix2 j d) = x2 (ix2 j d) := by
  refine congrArg x2 ?_
  funext a; refine Fin.ext ?_; fin_cases a <;> simp [LoadRect.idx, Rect.toLoadRect, Rect.unit]
theorem gkv_apply (d : Fin 128) : (gkv x3) (ix2 0 d) = x3 (ix2 0 d) := by
  refine congrArg x3 ?_
  funext a; refine Fin.ext ?_; fin_cases a <;> simp [LoadRect.idx, Rect.toLoadRect, Rect.unit]
theorem wkv_apply (d : Fin 128) (j : Fin 1024) : (wkv x4) (ix2 d j) = x4 (ix2 d j) := by
  refine congrArg x4 ?_
  funext a; refine Fin.ext ?_; fin_cases a <;> simp [LoadRect.idx, Rect.toLoadRect, Rect.unit]
theorem tab_apply (r : Fin 256) (l : Fin 128) : (tab x5) (ix2 r l) = x5 (ix2 r l) := by
  refine congrArg x5 ?_
  funext a; refine Fin.ext ?_; fin_cases a <;> simp [LoadRect.idx, Rect.toLoadRect, Rect.unit]

/-! ## A row -/

/-- A modulated row of the block, and its projection. -/
def tok (s : Fin 4) (r : Fin 256) (e : Fin 1024) : EReal := modulated (fun e => x0 (ix3 s r e)) (fun e : Fin 1024 => x1 (ix2 8 ⟨e.val, by omega⟩)) (fun e : Fin 1024 => x1 (ix2 8 ⟨1024 + e.val, by omega⟩)) e
def zLat (s : Fin 4) (r j : Fin 256) : EReal := ∑ d : Fin 1024, tok x0 x1 s r d * x2 (ix2 j d)

theorem latIn_apply (s : Fin 4) (r j : Fin 256) : batch (latIn x0 x1 x2) s (ix2 r j) = zLat x0 x1 x2 s r j := by
  rw [batch_apply]
  unfold latIn zLat tok
  rw [lat_apply]
  simp only [modul_apply, rows_apply, rowsIn_apply, modRow_apply, wLat_apply]

/-! ## The outputs -/

def kvRow (s : Fin 4) (r : Fin 256) (j : Fin 1024) : EReal := ∑ d : Fin 128, normed width128 (fun d : Fin 128 => zLat x0 x1 x2 s r ⟨d.val, by omega⟩) d * x3 (ix2 0 d) * x4 (ix2 d j)
def ropeOut (s : Fin 4) (r : Fin 256) (l : Fin 128) : EReal :=
  zLat x0 x1 x2 s r ⟨128 + l.val, by omega⟩ * x5 (ix2 r l) + zLat x0 x1 x2 s r ⟨128 + (l.val + 16) % 128, by omega⟩ * x6 (ix2 r l)
/-- Of the four pieces of 64 lanes of a pair of heads the first and the last are plain, the others rotated. -/
def kOut (s : Fin 4) (r : Fin 256) (l : Fin 1024) : EReal :=
  if l.val % 256 < 64 ∨ 192 ≤ l.val % 256 then kvRow x0 x1 x2 x3 x4 s r ⟨128 * (l.val / 256) + l.val % 128, by omega⟩ else ropeOut x0 x1 x2 x5 x6 s r ⟨l.val % 128, by omega⟩
def vOut (s : Fin 4) (r : Fin 256) (j : Fin 512) : EReal := kvRow x0 x1 x2 x3 x4 s r ⟨512 + j.val, by omega⟩

theorem kvIn_apply (s : Fin 4) (r : Fin 256) (j : Fin 1024) : kvIn x0 x1 x2 x3 x4 s (ix2 r j) = kvRow x0 x1 x2 x3 x4 s r j := by
  unfold kvIn kvRow
  rw [kvs_apply]
  simp only [latIn_apply, gkv_apply, wkv_apply]
theorem ropeIn_apply (s : Fin 4) (r : Fin 256) (l : Fin 128) : ropeIn x0 x1 x2 x5 x6 s (ix2 r l) = ropeOut x0 x1 x2 x5 x6 s r l := by
  unfold ropeIn ropeOut
  rw [rope_apply]
  simp only [latIn_apply, tab_apply]

/-! ## The stores make up the blocks -/

theorem lane3 {b c : ℕ} (x : (⟨3, ![1, b, c]⟩ : Shape).Idx) : x = ix3 0 (x 1) (x 2) := by
  funext a
  fin_cases a
  · exact Fin.ext (Nat.lt_one_iff.mp (x 0).isLt)
  · rfl
  · rfl

theorem slot_place (s : Fin 4) (h : Fin 8) (r : Fin 256) (l : Fin 128) (G : Fin 4 → Fin 256 → Fin 1024 → EReal) : (fun y : S4x256x1024.Idx => G (y 0) (y 1) (y 2)) ((slotRect s h).emb (ix3 0 r l))
    = G s r ⟨128 * h.val + l.val, by omega⟩ := by
  have e0 : ((slotRect s h).emb (ix3 0 r l) 0 : Fin 4) = s := Fin.ext (by show s.val + 1 * 0 = s.val; omega)
  have e1 : ((slotRect s h).emb (ix3 0 r l) 1 : Fin 256) = r := Fin.ext (by show 0 + 1 * r.val = r.val; omega)
  have e2 : ((slotRect s h).emb (ix3 0 r l) 2 : Fin 1024) = (⟨128 * h.val + l.val, by omega⟩ : Fin 1024) := Fin.ext (by show 128 * h.val + 1 * l.val = 128 * h.val + l.val; omega)
  exact (congrArg (fun a : Fin 4 => G a _ _) e0).trans (congrArg₂ (fun (a : Fin 256) (b : Fin 1024) => G s a b) e1 e2)
theorem half_place (s : Fin 4) (r : Fin 256) (j : Fin 512) (G : Fin 4 → Fin 256 → Fin 512 → EReal) : (fun y : S4x256x512.Idx => G (y 0) (y 1) (y 2)) ((halfRect s).emb (ix3 0 r j))
    = G s r j := by
  have e0 : ((halfRect s).emb (ix3 0 r j) 0 : Fin 4) = s := Fin.ext (by show s.val + 1 * 0 = s.val; omega)
  have e1 : ((halfRect s).emb (ix3 0 r j) 1 : Fin 256) = r := Fin.ext (by show 0 + 1 * r.val = r.val; omega)
  have e2 : ((halfRect s).emb (ix3 0 r j) 2 : Fin 512) = j := Fin.ext (by show 0 + 1 * j.val = j.val; omega)
  exact (congrArg (fun a : Fin 4 => G a _ _) e0).trans (congrArg₂ (fun (a : Fin 256) (b : Fin 512) => G s a b) e1 e2)

theorem even_piece_at (s : Fin 4) (h g : Fin 8) (hg : h.val = 2 * g.val) (r : Fin 256) (l : Fin 128) : (evenPiece x0 x1 x2 x3 x4 x5 x6 s h g).2 (ix3 0 r l)
    = (fun y : S4x256x1024.Idx => kOut x0 x1 x2 x3 x4 x5 x6 (y 0) (y 1) (y 2)) ((slotRect s h).emb (ix3 0 r l)) := by
  refine Eq.trans ?_ (slot_place s h r l _).symm
  refine (kHead_apply _ _ r l).trans ?_
  rw [slot_apply, kvIn_apply, ropeIn_apply]
  unfold kOut
  by_cases h64 : l.val < 64
  · rw [if_pos h64, if_pos (by show (128 * h.val + l.val) % 256 < 64 ∨ 192 ≤ (128 * h.val + l.val) % 256; omega)]
    exact congrArg (kvRow x0 x1 x2 x3 x4 _ _) (Fin.ext (by show 128 * g.val + l.val = 128 * ((128 * h.val + l.val) / 256) + (128 * h.val + l.val) % 128; omega))
  · rw [if_neg h64, if_neg (by show ¬ ((128 * h.val + l.val) % 256 < 64 ∨ 192 ≤ (128 * h.val + l.val) % 256); omega)]
    exact congrArg (ropeOut x0 x1 x2 x5 x6 _ _) (Fin.ext (by show l.val = (128 * h.val + l.val) % 128; omega))
theorem even_piece (s : Fin 4) (h g : Fin 8) (hg : h.val = 2 * g.val) (x : S1x256x128.Idx) : (evenPiece x0 x1 x2 x3 x4 x5 x6 s h g).2 x
    = (fun y : S4x256x1024.Idx => kOut x0 x1 x2 x3 x4 x5 x6 (y 0) (y 1) (y 2)) ((slotRect s h).emb x) := by
  obtain ⟨r, l, rfl⟩ : ∃ (r : Fin 256) (l : Fin 128), x = ix3 0 r l := ⟨x 1, x 2, lane3 x⟩
  exact even_piece_at x0 x1 x2 x3 x4 x5 x6 s h g hg r l

theorem odd_piece_at (s : Fin 4) (h g : Fin 8) (hg : h.val = 2 * g.val + 1) (r : Fin 256) (l : Fin 128) : (oddPiece x0 x1 x2 x3 x4 x5 x6 s h g).2 (ix3 0 r l)
    = (fun y : S4x256x1024.Idx => kOut x0 x1 x2 x3 x4 x5 x6 (y 0) (y 1) (y 2)) ((slotRect s h).emb (ix3 0 r l)) := by
  refine Eq.trans ?_ (slot_place s h r l _).symm
  refine (kHead_apply _ _ r l).trans ?_
  rw [slot_apply, kvIn_apply, ropeIn_apply]
  unfold kOut
  by_cases h64 : l.val < 64
  · rw [if_pos h64, if_neg (by show ¬ ((128 * h.val + l.val) % 256 < 64 ∨ 192 ≤ (128 * h.val + l.val) % 256); omega)]
    exact congrArg (ropeOut x0 x1 x2 x5 x6 _ _) (Fin.ext (by show l.val = (128 * h.val + l.val) % 128; omega))
  · rw [if_neg h64, if_pos (by show (128 * h.val + l.val) % 256 < 64 ∨ 192 ≤ (128 * h.val + l.val) % 256; omega)]
    exact congrArg (kvRow x0 x1 x2 x3 x4 _ _) (Fin.ext (by show 128 * g.val + l.val = 128 * ((128 * h.val + l.val) / 256) + (128 * h.val + l.val) % 128; omega))
theorem odd_piece (s : Fin 4) (h g : Fin 8) (hg : h.val = 2 * g.val + 1) (x : S1x256x128.Idx) : (oddPiece x0 x1 x2 x3 x4 x5 x6 s h g).2 x
    = (fun y : S4x256x1024.Idx => kOut x0 x1 x2 x3 x4 x5 x6 (y 0) (y 1) (y 2)) ((slotRect s h).emb x) := by
  obtain ⟨r, l, rfl⟩ : ∃ (r : Fin 256) (l : Fin 128), x = ix3 0 r l := ⟨x 1, x 2, lane3 x⟩
  exact odd_piece_at x0 x1 x2 x3 x4 x5 x6 s h g hg r l

theorem canon_k : View.canon (Val := Elt Ideal) (s := S4x256x1024) (kStores x0 x1 x2 x3 x4 x5 x6) = fun y : S4x256x1024.Idx => kOut x0 x1 x2 x3 x4 x5 x6 (y 0) (y 1) (y 2) := by
  funext y
  have E := even_piece x0 x1 x2 x3 x4 x5 x6
  have O := odd_piece x0 x1 x2 x3 x4 x5 x6
  refine View.canon_append_of_piecesOf (fun y : S4x256x1024.Idx => kOut x0 x1 x2 x3 x4 x5 x6 (y 0) (y 1) (y 2)) [] (kStores x0 x1 x2 x3 x4 x5 x6) ?_ y ?_
  · exact ⟨O 3 7 3 rfl, E 3 6 3 rfl, O 3 5 2 rfl, E 3 4 2 rfl, O 3 3 1 rfl, E 3 2 1 rfl, O 3 1 0 rfl, E 3 0 0 rfl, O 2 7 3 rfl, E 2 6 3 rfl, O 2 5 2 rfl, E 2 4 2 rfl, O 2 3 1 rfl, E 2 2 1 rfl, O 2 1 0 rfl, E 2 0 0 rfl,
      O 1 7 3 rfl, E 1 6 3 rfl, O 1 5 2 rfl, E 1 4 2 rfl, O 1 3 1 rfl, E 1 2 1 rfl, O 1 1 0 rfl, E 1 0 0 rfl, O 0 7 3 rfl, E 0 6 3 rfl, O 0 5 2 rfl, E 0 4 2 rfl, O 0 3 1 rfl, E 0 2 1 rfl, O 0 1 0 rfl, E 0 0 0 rfl, trivial⟩
  · exact View.cover_of_tiledL (kStores x0 x1 x2 x3 x4 x5 x6) S1x256x128.size (by sl_kernel_rfl) y

theorem v_piece_at (s : Fin 4) (r : Fin 256) (j : Fin 512) : (vPiece x0 x1 x2 x3 x4 s).2 (ix3 0 r j) = (fun y : S4x256x512.Idx => vOut x0 x1 x2 x3 x4 (y 0) (y 1) (y 2)) ((halfRect s).emb (ix3 0 r j)) := by
  refine Eq.trans ?_ (half_place s r j _).symm
  refine (vStore_apply _ r j).trans ?_
  rw [kvIn_apply]
  rfl
theorem v_piece (s : Fin 4) (x : S1x256x512.Idx) : (vPiece x0 x1 x2 x3 x4 s).2 x = (fun y : S4x256x512.Idx => vOut x0 x1 x2 x3 x4 (y 0) (y 1) (y 2)) ((halfRect s).emb x) := by
  obtain ⟨r, l, rfl⟩ : ∃ (r : Fin 256) (l : Fin 512), x = ix3 0 r l := ⟨x 1, x 2, lane3 x⟩
  exact v_piece_at x0 x1 x2 x3 x4 s r l

theorem canon_v : View.canon (Val := Elt Ideal) (s := S4x256x512) (vStores x0 x1 x2 x3 x4) = fun y : S4x256x512.Idx => vOut x0 x1 x2 x3 x4 (y 0) (y 1) (y 2) := by
  funext y
  have P := v_piece x0 x1 x2 x3 x4
  refine View.canon_append_of_piecesOf (fun y : S4x256x512.Idx => vOut x0 x1 x2 x3 x4 (y 0) (y 1) (y 2)) [] (vStores x0 x1 x2 x3 x4) ?_ y ?_
  · exact ⟨P 3, P 2, P 1, P 0, trivial⟩
  · exact View.cover_of_tiledL (vStores x0 x1 x2 x3 x4) S1x256x512.size (by sl_kernel_rfl) y

end

end Cert.Kernel5Ideal.Context

end
-- ==== Proof.Context.Prefix.lean ====
/- What the kernel's host code prepares: the weights with their columns put in the kernel's order, as before the tokens' projections, and two tables for a rotation by nothing. -/
module

public import proofs.«01_k».proof.Proof.Gen.Kernel5Ideal.Frame
public import proofs.«01_k».proof.Proof.Tokens.Turn

@[expose] public section

set_option maxRecDepth 16384

noncomputable section

namespace Cert.Kernel5Ideal.Context

open Cert.Kernel5Ideal Cert.Kernel5Ideal.Gen Idealize.ShloMosaic Idealize.ShloMosaic.TcCoe Idealize.SL.Sem
open Cert.Kernel4Ideal.Tokens (same8 same3 cosRow sinRow)

variable (m : (ℓ : Loc nD τ sig) → Buf (Elt Ideal) ℓ) (c : Dev nD)

/-- The arguments as launched. -/
def argX : S8x256x1024.Idx → EReal := m ((c : Thread nD τ).loc main_arg0)
def argMod : S16x6144.Idx → EReal := m ((c : Thread nD τ).loc main_arg1)
def argW : S1024x1952.Idx → EReal := m ((c : Thread nD τ).loc main_arg2)
def argGkv : S1x128.Idx → EReal := m ((c : Thread nD τ).loc main_arg3)
def argWkv : S128x1024.Idx → EReal := m ((c : Thread nD τ).loc main_arg4)
def argK : S8x4352x1024.Idx → EReal := m ((c : Thread nD τ).loc main_arg5)
def argV : S8x4352x512.Idx → EReal := m ((c : Thread nD τ).loc main_arg6)

/-! ## The arrays -/

/-- The first projection's weights, transposed; the 32 rows to rotate, in the order 0, 2, 1, 3 of their quarters, twice; and what the kernel reads. -/
def hT (a : FVec Ideal S1024x1952 .f32) : FVec Ideal S1952x1024 .f32 := transpose S1952x1024 [1, 0] a transposes_S1024x1952_S1952x1024_1_0
def hCut (a : FVec Ideal S1024x1952 .f32) : FVec Ideal S32x1024 .f32 := extractStridedSlice S32x1024 ![384, 0] (hT a) slices_S1952x1024_S32x1024_384_0
def eight (a b c d e f g h : FVec Ideal S8x1024 .f32) : FVec Ideal S64x1024 .f32 :=
  concatenate S64x1024 0 [⟨S8x1024, a⟩, ⟨S8x1024, b⟩, ⟨S8x1024, c⟩, ⟨S8x1024, d⟩, ⟨S8x1024, e⟩, ⟨S8x1024, f⟩, ⟨S8x1024, g⟩, ⟨S8x1024, h⟩]
    concatenates_S8x1024_S8x1024_S8x1024_S8x1024_S8x1024_S8x1024_S8x1024_S8x1024_S64x1024_d0
def turnOrder (r : FVec Ideal S32x1024 .f32) : FVec Ideal S64x1024 .f32 :=
  eight (extractStridedSlice S8x1024 ![0, 0] r slices_S32x1024_S8x1024_0_0) (extractStridedSlice S8x1024 ![16, 0] r slices_S32x1024_S8x1024_16_0)
    (extractStridedSlice S8x1024 ![8, 0] r slices_S32x1024_S8x1024_8_0) (extractStridedSlice S8x1024 ![24, 0] r slices_S32x1024_S8x1024_24_0)
    (extractStridedSlice S8x1024 ![0, 0] r slices_S32x1024_S8x1024_0_0) (extractStridedSlice S8x1024 ![16, 0] r slices_S32x1024_S8x1024_16_0)
    (extractStridedSlice S8x1024 ![8, 0] r slices_S32x1024_S8x1024_8_0) (extractStridedSlice S8x1024 ![24, 0] r slices_S32x1024_S8x1024_24_0)
def stacked (a : FVec Ideal S384x1024 .f32) (b c : FVec Ideal S64x1024 .f32) : FVec Ideal S512x1024 .f32 :=
  concatenate S512x1024 0 [⟨S384x1024, a⟩, ⟨S64x1024, b⟩, ⟨S64x1024, c⟩] concatenates_S384x1024_S64x1024_S64x1024_S512x1024_d0
def hLat (a : FVec Ideal S1024x1952 .f32) : FVec Ideal S512x1024 .bf16 :=
  truncf .bf16 (stacked (extractStridedSlice S384x1024 ![0, 0] (hT a) slices_S1952x1024_S384x1024_0_0) (turnOrder (hCut a)) (turnOrder (hCut a))) bitsLt_bf16_f32

/-- The weights of keys and values: first the keys of all heads, then the values. -/
def hKv8 (a : FVec Ideal S128x1024 .f32) : FVec Ideal S128x8x128 .f32 := shapeCast S128x8x128 a shapeCasts_S128x1024_S128x8x128
def two512 (a b : FVec Ideal S128x512 .f32) : FVec Ideal S128x1024 .f32 := concatenate S128x1024 1 [⟨S128x512, a⟩, ⟨S128x512, b⟩] concatenates_S128x512_S128x512_S128x1024_d1
def hKeys (a : FVec Ideal S128x1024 .f32) : FVec Ideal S128x512 .f32 := shapeCast S128x512 (extractStridedSlice S128x8x64 ![0, 0, 0] (hKv8 a) slices_S128x8x128_S128x8x64_0_0_0) shapeCasts_S128x8x64_S128x512
def hValues (a : FVec Ideal S128x1024 .f32) : FVec Ideal S128x512 .f32 := shapeCast S128x512 (extractStridedSlice S128x8x64 ![0, 0, 64] (hKv8 a) slices_S128x8x128_S128x8x64_0_0_64) shapeCasts_S128x8x64_S128x512
def hKv (a : FVec Ideal S128x1024 .f32) : FVec Ideal S128x1024 .bf16 := truncf .bf16 (two512 (hKeys a) (hValues a)) bitsLt_bf16_f32

/-- They are the arrays prepared for the tokens' projections. -/
theorem hLat_same (a : S1024x1952.Idx → EReal) (y : S512x1024.Idx) : hLat a y = Cert.Kernel4Ideal.Tokens.hLat (F := Ideal) a y := rfl
theorem hKv_same (a : S128x1024.Idx → EReal) (y : S128x1024.Idx) : hKv a y = Cert.Kernel4Ideal.Tokens.hKv (F := Ideal) a y := rfl

/-! ## The region starts with them -/

/-- The arrays before the operation numbered `n`. -/
abbrev at_ (n : ℕ) (b : Ref sig .tc) : Buf (Elt Ideal) ((c : Thread nD τ).loc b) := StableHlo.upto hostOps0 (fun b => m (c, b)) n (Proc.devRef .tc b)

theorem at_v11 : @Eq (FVec Ideal S64x1024 .f32) (at_ m c 14 main_v11) (turnOrder (hCut (argW m c))) := by
  unfold at_
  after_reads_simp
  refine same8 (f := eight) ?_ ?_ ?_ ?_ ?_ ?_ ?_ ?_ <;> after_reads_simp <;> rfl

theorem at_v14 : @Eq (FVec Ideal S512x1024 .bf16) (V m c main_v14) (hLat (argW m c)) := by
  show StableHlo.after hostOps0 _ _ = _
  after_reads_simp
  refine congrArg (fun z : FVec Ideal S512x1024 .f32 => truncf .bf16 z bitsLt_bf16_f32) (same3 (f := stacked) ?_ ?_ ?_)
  · after_reads_simp
    rfl
  · exact at_v11 m c
  · exact at_v11 m c

theorem at_v21 : @Eq (FVec Ideal S128x1024 .bf16) (V m c main_v21) (hKv (argWkv m c)) := by
  show StableHlo.after hostOps0 _ _ = _
  after_reads_simp
  refine congrArg (fun z : FVec Ideal S128x1024 .f32 => truncf .bf16 z bitsLt_bf16_f32) (congrArg₂ two512 ?_ ?_) <;> after_reads_simp <;> rfl

/-- The cosines: one where an entry is rotated. The sines: zero. -/
def ones : FVec Ideal S256x128 .f32 := broadcastInDim S256x128 ![1] bcast_S128_S256x128_1 (fun i => FloatOps.ofBits .f32 (lit0 (S128.rowMajor i)) : FVec Ideal S128 .f32)
def zeros : FVec Ideal S256x128 .f32 := constant S256x128 .f32 0x00000000#32

theorem at_v0 : @Eq (FVec Ideal S256x128 .f32) (V m c main_v0) ones := by
  show StableHlo.after hostOps0 _ _ = _
  after_reads_simp
  rfl
theorem at_cst_0 : @Eq (FVec Ideal S256x128 .f32) (V m c main_cst_0) zeros := by
  show StableHlo.after hostOps0 _ _ = _
  after_reads_simp
  rfl
theorem at_v22_0 : V m c main_v22_0 = m ((c : Thread nD τ).loc main_arg5) := by
  show StableHlo.after hostOps0 _ _ = _
  after_reads_simp
  rfl
theorem at_v22_1 : V m c main_v22_1 = m ((c : Thread nD τ).loc main_arg6) := by
  show StableHlo.after hostOps0 _ _ = _
  after_reads_simp
  rfl

theorem lit0_val : ∀ l : Fin 128, lit0 l = if l.val % 64 < 32 then 0x3F800000#32 else 0x00000000#32 := by decide +kernel

theorem ones_apply (r : Fin 256) (l : Fin 128) : ones (ix2 r l) = cosRow (fun _ => 1) ⟨l.val % 64, by omega⟩ := by
  have h : ones (ix2 r l) = (FloatOps.ofBits (F := Ideal) .f32 (lit0 (S128.rowMajor (ix1 l))) : EReal) := by
    pointwise [ones]
  rw [h, show S128.rowMajor (ix1 l) = l from Fin.ext (Shape.rowMajor_val_one _), lit0_val]
  unfold cosRow
  by_cases h1 : l.val % 64 < 16
  · rw [dif_pos h1, if_pos (by omega)]
    exact Ideal.ofBits_one_f32
  · rw [dif_neg h1]
    by_cases h2 : l.val % 64 < 32
    · rw [dif_pos h2, if_pos h2]
      exact Ideal.ofBits_one_f32
    · rw [dif_neg h2, if_neg h2]
      exact Ideal.ofBits_zero_f32
theorem zeros_apply (r : Fin 256) (l : Fin 128) : zeros (ix2 r l) = sinRow (fun _ => 0) ⟨l.val % 64, by omega⟩ := by
  unfold sinRow
  refine (show zeros (ix2 r l) = 0 from Ideal.ofBits_zero_f32).trans ?_
  (repeat' split) <;> first | rfl | exact neg_zero.symm

end Cert.Kernel5Ideal.Context

end
-- ==== Proof.Context.Point.lean ====
/- From the points to the two results: point `t` of the grid works on the four batches from `4 * t`, and its outputs are its part of the results of Spec.lean. -/
module

public import proofs.«01_k».proof.Proof.Context.Block
public import proofs.«01_k».proof.Proof.Context.Prefix

@[expose] public section

set_option maxRecDepth 16384

noncomputable section

namespace Cert.Kernel5Ideal.Context

open Cert.Kernel5Ideal Cert.Kernel5Ideal.Gen Idealize.ShloMosaic Idealize.ShloMosaic.TcCoe Idealize.SL.Sem Cert.Tokens Cert.Context
open Cert.Kernel4Ideal.Tokens (quarter cosRow sinRow rope_lane key_plain key_turned hLat_plain hLat_rot hKv_key hKv_value)

variable (m : (ℓ : Loc nD τ sig) → Buf (Elt Ideal) ℓ) (c : Dev nD) (t : Fin cfg0.N)

/-- Which blocks a point works on. -/
theorem blocks : ∀ t : Fin cfg0.N,
    win0_0.index t = ![t.val, 0, 0] ∧ win0_1.index t = ![0, 0] ∧ win0_2.index t = ![1, 0] ∧ win0_3.index t = ![0, 0] ∧ win0_4.index t = ![0, 0] ∧ win0_5.index t = ![0, 0] ∧ win0_6.index t = ![0, 0] := by decide +kernel

theorem points : t.val < 2 := lt_of_lt_of_eq t.isLt (show cfg0.N = 2 from N_0)

/-- A batch of the point's four. -/
def bat (s : Fin 4) : Fin 8 := ⟨t.val * 4 + s.val, by have := points t; omega⟩

/-! ## The blocks -/

theorem iblk_x (s : Fin 4) (i : Fin 256) (e : Fin 1024) : iblk m c 0 t (ix3 s i e) = argX m c (ix3 (bat t s) i e) := by
  unfold argX bat
  blk_ext [iblk, V, blocks t]
theorem iblk_mod (n : Fin 16) (e : Fin 6144) : iblk m c 1 t (ix2 n e) = argMod m c (ix2 n e) := by
  unfold argMod
  blk_ext [iblk, V, blocks t]
theorem iblk_lat (j : Fin 256) (d : Fin 1024) : iblk m c 2 t (ix2 j d) = hLat (argW m c) (ix2 ⟨256 + j.val, by omega⟩ d) := by
  refine Eq.trans ?_ (congrFun (at_v14 m c) _)
  blk_ext [iblk, blocks t]
theorem iblk_gkv (e : Fin 128) : iblk m c 3 t (ix2 0 e) = argGkv m c (ix2 0 e) := by
  unfold argGkv
  blk_ext [iblk, V, blocks t]
theorem iblk_wkv (d : Fin 128) (j : Fin 1024) : iblk m c 4 t (ix2 d j) = hKv (argWkv m c) (ix2 d j) := by
  refine Eq.trans ?_ (congrFun (at_v21 m c) _)
  blk_ext [iblk, blocks t]
theorem iblk_cos (i : Fin 256) (l : Fin 128) : iblk m c 5 t (ix2 i l) = cosRow (fun _ => 1) ⟨l.val % 64, by omega⟩ := by
  refine Eq.trans ?_ ((congrFun (at_v0 m c) (ix2 i l)).trans (ones_apply i l))
  blk_ext [iblk, blocks t]
theorem iblk_sin (i : Fin 256) (l : Fin 128) : iblk m c 6 t (ix2 i l) = sinRow (fun _ => 0) ⟨l.val % 64, by omega⟩ := by
  refine Eq.trans ?_ ((congrFun (at_cst_0 m c) (ix2 i l)).trans (zeros_apply i l))
  blk_ext [iblk, blocks t]

/-! ## The first projection -/

/-- A modulated row, and its first projection. -/
def token (n : Fin 8) (i : Fin 256) : Fin 1024 → EReal := modulated (fun e => argX m c (ix3 n i e)) (shift (argMod m c)) (scale (argMod m c))
def proj (n : Fin 8) (i : Fin 256) : Fin 1952 → EReal := ctxLat (argX m c) (argMod m c) (argW m c) n i

theorem tok_eq (s : Fin 4) (i : Fin 256) : tok (iblk m c 0 t) (iblk m c 1 t) s i = token m c (bat t s) i := by
  have S : (fun e : Fin 1024 => iblk m c 1 t (ix2 8 ⟨e.val, by omega⟩)) = shift (argMod m c) := funext fun e => iblk_mod m c t _ _
  have C : (fun e : Fin 1024 => iblk m c 1 t (ix2 8 ⟨1024 + e.val, by omega⟩)) = scale (argMod m c) := funext fun e => iblk_mod m c t _ _
  have X : (fun e : Fin 1024 => iblk m c 0 t (ix3 s i e)) = fun e => argX m c (ix3 (bat t s) i e) := funext fun e => iblk_x m c t s i e
  funext e
  exact (congrArg (fun r => modulated r _ _ e) X).trans ((congrArg (fun r => modulated _ r _ e) S).trans (congrArg (fun r => modulated _ _ r e) C))

theorem zLat_plain (s : Fin 4) (i : Fin 256) (j : Fin 128) : zLat (iblk m c 0 t) (iblk m c 1 t) (iblk m c 2 t) s i ⟨j.val, by omega⟩ = proj m c (bat t s) i ⟨256 + j.val, by omega⟩ := by
  have W : ∀ d : Fin 1024, iblk m c 2 t (ix2 (⟨j.val, by omega⟩ : Fin 256) d) = argW m c (ix2 d ⟨256 + j.val, by omega⟩) := fun d =>
    (iblk_lat m c t ⟨j.val, by omega⟩ d).trans ((hLat_same (argW m c) _).trans (hLat_plain (argW m c) ⟨256 + j.val, by omega⟩ d))
  unfold zLat
  rw [tok_eq]
  simp only [W]
  rfl
theorem zLat_rot (s : Fin 4) (i : Fin 256) (l : Fin 128) : zLat (iblk m c 0 t) (iblk m c 1 t) (iblk m c 2 t) s i ⟨128 + l.val, by omega⟩
    = proj m c (bat t s) i ⟨384 + (quarter ⟨l.val % 64, by omega⟩).val, by omega⟩ := by
  have I : (⟨256 + (128 + l.val), by omega⟩ : Fin 512) = ⟨384 + l.val, by omega⟩ := Fin.ext (show 256 + (128 + l.val) = 384 + l.val by omega)
  have W : ∀ d : Fin 1024, iblk m c 2 t (ix2 (⟨128 + l.val, by omega⟩ : Fin 256) d) = argW m c (ix2 d ⟨384 + (quarter ⟨l.val % 64, by omega⟩).val, by omega⟩) := fun d =>
    (iblk_lat m c t ⟨128 + l.val, by omega⟩ d).trans ((congrArg (fun k : Fin 512 => hLat (argW m c) (ix2 k d)) I).trans ((hLat_same (argW m c) _).trans (hLat_rot (argW m c) l d)))
  unfold zLat
  rw [tok_eq]
  simp only [W]
  rfl

/-! ## Keys and values -/

def kvAt (n : Fin 8) (i : Fin 256) : Fin 1024 → EReal := ctxKv (argX m c) (argMod m c) (argW m c) (argGkv m c) (argWkv m c) n i

theorem kvRow_sum (s : Fin 4) (i : Fin 256) (J J' : Fin 1024) (h : ∀ d : Fin 128, hKv (argWkv m c) (ix2 d J) = argWkv m c (ix2 d J')) :
    kvRow (iblk m c 0 t) (iblk m c 1 t) (iblk m c 2 t) (iblk m c 3 t) (iblk m c 4 t) s i J = kvAt m c (bat t s) i J' := by
  unfold kvRow kvAt ctxKv keyValue
  refine Finset.sum_congr rfl fun d _ => congrArg₂ (fun a b : EReal => a * b) (congrArg₂ (fun a b : EReal => a * b) ?_ (iblk_gkv m c t d)) ((iblk_wkv m c t d J).trans (h d))
  exact congrArg (fun r : Fin 128 → EReal => normed width128 r d) (funext fun d => zLat_plain m c t s i d)

theorem rope_result (s : Fin 4) (i : Fin 256) (l : Fin 128) : ropeOut (iblk m c 0 t) (iblk m c 1 t) (iblk m c 2 t) (iblk m c 5 t) (iblk m c 6 t) s i l
    = turned (fun k : Fin 32 => proj m c (bat t s) i ⟨384 + k.val, by omega⟩) (fun _ => 1) (fun _ => 0) ⟨l.val % 64, by omega⟩ := by
  unfold ropeOut
  refine Eq.trans ?_ (rope_lane (fun k : Fin 32 => proj m c (bat t s) i ⟨384 + k.val, by omega⟩) _ _ l)
  exact congrArg₂ (fun a b : EReal => a + b)
    (congrArg₂ (fun a b : EReal => a * b) (zLat_rot m c t s i l) (iblk_cos m c t i l))
    (congrArg₂ (fun a b : EReal => a * b) (zLat_rot m c t s i ⟨(l.val + 16) % 128, by omega⟩) (iblk_sin m c t i l))

theorem k_result (s : Fin 4) (i : Fin 256) (l : Fin 1024) : kOut (iblk m c 0 t) (iblk m c 1 t) (iblk m c 2 t) (iblk m c 3 t) (iblk m c 4 t) (iblk m c 5 t) (iblk m c 6 t) s i l
    = kNew (argX m c) (argMod m c) (argW m c) (argGkv m c) (argWkv m c) (bat t s) i l := by
  unfold kOut kNew
  by_cases h : l.val % 256 < 64 ∨ 192 ≤ l.val % 256
  · rw [if_pos h, key_plain _ _ _ _ l h]
    refine kvRow_sum m c t s i _ _ fun d => (hKv_same _ _).trans ((hKv_key _ d ⟨128 * (l.val / 256) + l.val % 128, by omega⟩).trans ?_)
    exact congrArg (fun k : Fin 1024 => argWkv m c (ix2 d k)) (Fin.ext (show 128 * ((128 * (l.val / 256) + l.val % 128) / 64) + (128 * (l.val / 256) + l.val % 128) % 64 = 128 * (2 * (l.val / 256) + l.val % 128 / 64) + l.val % 64 by omega))
  · rw [if_neg h, key_turned _ _ _ _ l h]
    exact rope_result m c t s i ⟨l.val % 128, by omega⟩

theorem v_result (s : Fin 4) (i : Fin 256) (j : Fin 512) : vOut (iblk m c 0 t) (iblk m c 1 t) (iblk m c 2 t) (iblk m c 3 t) (iblk m c 4 t) s i j
    = vNew (argX m c) (argMod m c) (argW m c) (argGkv m c) (argWkv m c) (bat t s) i j := by
  unfold vOut vNew values
  exact kvRow_sum m c t s i _ _ fun d => (hKv_same _ _).trans (hKv_value _ d j)

/-! ## The outputs of a point -/

theorem k_out (y : S4x256x1024.Idx) : (outsAt0 m c t).1 y = kOut (iblk m c 0 t) (iblk m c 1 t) (iblk m c 2 t) (iblk m c 3 t) (iblk m c 4 t) (iblk m c 5 t) (iblk m c 6 t) (y 0) (y 1) (y 2) := by
  unfold outsAt0
  dsimp only
  rw [left7, canon_k]
theorem v_out (y : S4x256x512.Idx) : (outsAt0 m c t).2 y = vOut (iblk m c 0 t) (iblk m c 1 t) (iblk m c 2 t) (iblk m c 3 t) (iblk m c 4 t) (y 0) (y 1) (y 2) := by
  unfold outsAt0
  dsimp only
  rw [left8, canon_v]

end Cert.Kernel5Ideal.Context

end
-- ==== Proof.Context.Arrays.lean ====
/- The arrays after the run: the rows from 4096 on are the ones the two points write, the others as they were. -/
module

public import proofs.«01_k».proof.Proof.Context.Point

@[expose] public section

set_option maxRecDepth 16384

noncomputable section

namespace Cert.Kernel5Ideal.Context

open Cert.Kernel5Ideal Cert.Kernel5Ideal.Gen Idealize.ShloMosaic Idealize.ShloMosaic.TcCoe Idealize.SL.Sem Cert.Tokens Cert.Context

variable (m : (ℓ : Loc nD τ sig) → Buf (Elt Ideal) ℓ) (c : Dev nD)

def kArr : S8x4352x1024.Idx → EReal := fun y => kAll (argX m c) (argMod m c) (argW m c) (argGkv m c) (argWkv m c) (argK m c) (y 0) (y 1) (y 2)
def vArr : S8x4352x512.Idx → EReal := fun y => vAll (argX m c) (argMod m c) (argW m c) (argGkv m c) (argWkv m c) (argV m c) (y 0) (y 1) (y 2)

theorem ix3_eta {n0 n1 n2 : ℕ} (y : (⟨3, ![n0, n1, n2]⟩ : Shape).Idx) : ix3 (y 0) (y 1) (y 2) = y := by
  funext e
  fin_cases e <;> rfl

theorem index7 : ∀ t : Fin cfg0.N, win0_7.index t = ![t.val, 16, 0] := by decide +kernel

/-- Where an element of a point's block lies in the array. -/
theorem emb7 (t : Fin cfg0.N) (y : ((cfg0.win 7).xblock (cfg0.grid.coords t)).Idx) (b : S4x256x1024.Idx) (hb : (cfg0.win 7).xinj (cfg0.grid.coords t) y = b) :
    ((win0_7.blk t).view.emb y 0).val = t.val * 4 + (b 0).val ∧ ((win0_7.blk t).view.emb y 1).val = 4096 + (b 1).val ∧ ((win0_7.blk t).view.emb y 2).val = (b 2).val := by
  have h0 : (b 0).val = (y (0 : Fin 3)).val := by rw [← hb]
  have h1 : (b 1).val = (y (1 : Fin 3)).val := by rw [← hb]
  have h2 : (b 2).val = (y (2 : Fin 3)).val := by rw [← hb]
  have f0 := win0_7.rect_emb_val t y (0 : Fin 3)
  have f1 := win0_7.rect_emb_val t y (1 : Fin 3)
  have f2 := win0_7.rect_emb_val t y (2 : Fin 3)
  rw [index7 t] at f0 f1 f2
  refine ⟨f0.trans ?_, f1.trans ?_, f2.trans ?_⟩
  · show t.val * 4 + (y (0 : Fin 3)).val = _
    omega
  · show 16 * 256 + (y (1 : Fin 3)).val = _
    omega
  · show 0 * 1024 + (y (2 : Fin 3)).val = _
    omega

/-- The rows a point writes. -/
def kLong : S8x4352x1024.Idx → EReal := fun y =>
  if h : 4096 ≤ (y 1 : Fin 4352).val then kNew (argX m c) (argMod m c) (argW m c) (argGkv m c) (argWkv m c) (y 0) ⟨(y 1 : Fin 4352).val - 4096, by have : (y 1 : Fin 4352).val < 4352 := (y 1 : Fin 4352).isLt; omega⟩ (y 2) else 0
def vLong : S8x4352x512.Idx → EReal := fun y =>
  if h : 4096 ≤ (y 1 : Fin 4352).val then vNew (argX m c) (argMod m c) (argW m c) (argGkv m c) (argWkv m c) (y 0) ⟨(y 1 : Fin 4352).val - 4096, by have : (y 1 : Fin 4352).val < 4352 := (y 1 : Fin 4352).isLt; omega⟩ (y 2) else 0

theorem arr_k_where : (dats m 0 c).arrAt 7 cfg0.N = fun y => if (y 1 : Fin 4352).val / 256 = 16 then kLong m c y else (dats m 0 c).A 7 y := by
  refine (dats m 0 c).arrAt_eq_of_coversWhere 7 (kLong m c) (fun β => β (1 : Fin 3) = 16) (by decide +kernel) (fun t hf y => ?_) (fun j => Iff.rfl)
  obtain ⟨b, hb⟩ : ∃ b : S4x256x1024.Idx, (cfg0.win 7).xinj (cfg0.grid.coords t) y = b := ⟨_, rfl⟩
  obtain ⟨e0, e1, e2⟩ := emb7 t y b hb
  show (dats m 0 c).after 7 t ((cfg0.win 7).xinj (cfg0.grid.coords t) y) = kLong m c ((win0_7.blk t).view.emb y)
  rw [after0_7, hb]
  refine (k_out m c t b).trans ((k_result m c t (b 0) (b 1) (b 2)).trans ?_)
  generalize (win0_7.blk t).view.emb y = z at e0 e1 e2
  unfold kLong
  refine Eq.trans ?_ (dif_pos (show 4096 ≤ (z 1).val by omega)).symm
  have i : (⟨(z 1 : Fin 4352).val - 4096, by have : (z 1 : Fin 4352).val < 4352 := (z 1 : Fin 4352).isLt; omega⟩ : Fin 256) = b 1 := Fin.ext (show (z 1).val - 4096 = (b 1).val by omega)
  rw [show (z 0 : Fin 8) = bat t (b 0) from Fin.ext e0, i, show (z 2 : Fin 1024) = b 2 from Fin.ext e2]

theorem arr_k : (dats m 0 c).arrAt 7 cfg0.N = kArr m c := by
  rw [arr_k_where]
  funext y
  have l : (y 1 : Fin 4352).val < 4352 := (y 1 : Fin 4352).isLt
  unfold kArr kAll
  by_cases h : (y 1 : Fin 4352).val < 4096
  · refine (if_neg (show ¬ (y 1 : Fin 4352).val / 256 = 16 by omega)).trans (Eq.trans ?_ (dif_pos h).symm)
    refine (congrFun ((A_eq m c 7).trans (at_v22_0 m c)) y).trans ?_
    exact congrArg (argK m c) (ix3_eta y).symm
  · refine (if_pos (show (y 1 : Fin 4352).val / 256 = 16 by omega)).trans (Eq.trans ?_ (dif_neg h).symm)
    unfold kLong
    exact dif_pos (show 4096 ≤ (y 1 : Fin 4352).val by omega)

theorem index8 : ∀ t : Fin cfg0.N, win0_8.index t = ![t.val, 16, 0] := by decide +kernel

/-- Where an element of a point's block lies in the array. -/
theorem emb8 (t : Fin cfg0.N) (y : ((cfg0.win 8).xblock (cfg0.grid.coords t)).Idx) (b : S4x256x512.Idx) (hb : (cfg0.win 8).xinj (cfg0.grid.coords t) y = b) :
    ((win0_8.blk t).view.emb y 0).val = t.val * 4 + (b 0).val ∧ ((win0_8.blk t).view.emb y 1).val = 4096 + (b 1).val ∧ ((win0_8.blk t).view.emb y 2).val = (b 2).val := by
  have h0 : (b 0).val = (y (0 : Fin 3)).val := by rw [← hb]
  have h1 : (b 1).val = (y (1 : Fin 3)).val := by rw [← hb]
  have h2 : (b 2).val = (y (2 : Fin 3)).val := by rw [← hb]
  have f0 := win0_8.rect_emb_val t y (0 : Fin 3)
  have f1 := win0_8.rect_emb_val t y (1 : Fin 3)
  have f2 := win0_8.rect_emb_val t y (2 : Fin 3)
  rw [index8 t] at f0 f1 f2
  refine ⟨f0.trans ?_, f1.trans ?_, f2.trans ?_⟩
  · show t.val * 4 + (y (0 : Fin 3)).val = _
    omega
  · show 16 * 256 + (y (1 : Fin 3)).val = _
    omega
  · show 0 * 512 + (y (2 : Fin 3)).val = _
    omega

theorem arr_v_where : (dats m 0 c).arrAt 8 cfg0.N = fun y => if (y 1 : Fin 4352).val / 256 = 16 then vLong m c y else (dats m 0 c).A 8 y := by
  refine (dats m 0 c).arrAt_eq_of_coversWhere 8 (vLong m c) (fun β => β (1 : Fin 3) = 16) (by decide +kernel) (fun t hf y => ?_) (fun j => Iff.rfl)
  obtain ⟨b, hb⟩ : ∃ b : S4x256x512.Idx, (cfg0.win 8).xinj (cfg0.grid.coords t) y = b := ⟨_, rfl⟩
  obtain ⟨e0, e1, e2⟩ := emb8 t y b hb
  show (dats m 0 c).after 8 t ((cfg0.win 8).xinj (cfg0.grid.coords t) y) = vLong m c ((win0_8.blk t).view.emb y)
  rw [after0_8, hb]
  refine (v_out m c t b).trans ((v_result m c t (b 0) (b 1) (b 2)).trans ?_)
  generalize (win0_8.blk t).view.emb y = z at e0 e1 e2
  unfold vLong
  refine Eq.trans ?_ (dif_pos (show 4096 ≤ (z 1).val by omega)).symm
  have i : (⟨(z 1 : Fin 4352).val - 4096, by have : (z 1 : Fin 4352).val < 4352 := (z 1 : Fin 4352).isLt; omega⟩ : Fin 256) = b 1 := Fin.ext (show (z 1).val - 4096 = (b 1).val by omega)
  rw [show (z 0 : Fin 8) = bat t (b 0) from Fin.ext e0, i, show (z 2 : Fin 512) = b 2 from Fin.ext e2]

theorem arr_v : (dats m 0 c).arrAt 8 cfg0.N = vArr m c := by
  rw [arr_v_where]
  funext y
  have l : (y 1 : Fin 4352).val < 4352 := (y 1 : Fin 4352).isLt
  unfold vArr vAll
  by_cases h : (y 1 : Fin 4352).val < 4096
  · refine (if_neg (show ¬ (y 1 : Fin 4352).val / 256 = 16 by omega)).trans (Eq.trans ?_ (dif_pos h).symm)
    refine (congrFun ((A_eq m c 8).trans (at_v22_1 m c)) y).trans ?_
    exact congrArg (argV m c) (ix3_eta y).symm
  · refine (if_pos (show (y 1 : Fin 4352).val / 256 = 16 by omega)).trans (Eq.trans ?_ (dif_neg h).symm)
    unfold vLong
    exact dif_pos (show 4096 ≤ (y 1 : Fin 4352).val by omega)

end Cert.Kernel5Ideal.Context

end
-- ==== Proof.Context.Reference.lean ====
/- The reference's two results, entry by entry: the arrays of Spec.lean. -/
module

public import proofs.«01_k».proof.Proof.Context.Spec
public import proofs.«01_k».proof.Proof.Tokens.Pieces
public import proofs.«01_k».proof.Proof.Gen.Reference5Ideal.Read

@[expose] public section

set_option maxRecDepth 16384

noncomputable section

namespace Cert.Reference5Ideal.Context

open Cert.Reference5Ideal Cert.Reference5Ideal.Gen Cert.Reference5Ideal.Read Idealize.ShloMosaic Idealize.ShloMosaic.TcCoe Idealize.SL.Sem Cert.Tokens Cert.Context
open Cert.Reference4Ideal.Tokens (ix2_of ix3_of ix4_of zero_bits one_bits)

variable (x : S8x256x1024.Idx → EReal) (md : S16x6144.Idx → EReal) (w : S1024x1952.Idx → EReal) (gkv : S1x128.Idx → EReal) (wkv : S128x1024.Idx → EReal)
  (ka : S8x4352x1024.Idx → EReal) (va : S8x4352x512.Idx → EReal)

/-! ## Arrays put together -/

theorem order (a b c d : S8x256x1x8.Idx → EReal) (z : S8x256x1x32.Idx → EReal) (n : Fin 8) (i : Fin 256) (l : Fin 64) :
    concatenate S8x256x1x64 3 [⟨S8x256x1x8, a⟩, ⟨S8x256x1x8, b⟩, ⟨S8x256x1x8, c⟩, ⟨S8x256x1x8, d⟩, ⟨S8x256x1x32, z⟩]
        concatenates_S8x256x1x8_S8x256x1x8_S8x256x1x8_S8x256x1x8_S8x256x1x32_S8x256x1x64_d3 (ix4 n i 0 l)
      = if h : l.val < 8 then a (ix4 n i 0 ⟨l.val, h⟩) else if h1 : l.val < 16 then b (ix4 n i 0 ⟨l.val - 8, by omega⟩) else if h2 : l.val < 24 then c (ix4 n i 0 ⟨l.val - 16, by omega⟩)
        else if h3 : l.val < 32 then d (ix4 n i 0 ⟨l.val - 24, by omega⟩) else z (ix4 n i 0 ⟨l.val - 32, by omega⟩) := by
  have E : ∀ (y : S8x256x1x8.Idx → EReal) (l l' : Fin 8), l.val = l'.val → y (ix4 n i 0 l) = y (ix4 n i 0 l') := fun y l l' e => congrArg (fun l => y (ix4 n i 0 l)) (Fin.ext e)
  have Z : ∀ (l l' : Fin 32), l.val = l'.val → z (ix4 n i 0 l) = z (ix4 n i 0 l') := fun l l' e => congrArg (fun l => z (ix4 n i 0 l)) (Fin.ext e)
  pointwise
  (repeat' split) <;> first | rfl | omega | exact E _ _ _ (by dsimp only; omega) | exact Z _ _ (by dsimp only; omega)

theorem pairs (a b c d : S8x256x4x64.Idx → EReal) (n : Fin 8) (i : Fin 256) (k : Fin 4) (l : Fin 256) :
    concatenate S8x256x4x256 3 [⟨S8x256x4x64, a⟩, ⟨S8x256x4x64, b⟩, ⟨S8x256x4x64, c⟩, ⟨S8x256x4x64, d⟩] concatenates_S8x256x4x64_S8x256x4x64_S8x256x4x64_S8x256x4x64_S8x256x4x256_d3 (ix4 n i k l)
      = pair (fun l => a (ix4 n i k l)) (fun l => b (ix4 n i k l)) (fun l => c (ix4 n i k l)) (fun l => d (ix4 n i k l)) l := by
  have E : ∀ (y : S8x256x4x64.Idx → EReal) (l l' : Fin 64), l.val = l'.val → y (ix4 n i k l) = y (ix4 n i k l') := fun y l l' e => congrArg (fun l => y (ix4 n i k l)) (Fin.ext e)
  unfold pair
  pointwise
  (repeat' split) <;> first | rfl | omega | exact E _ _ _ (by dsimp only; omega)

theorem rows_k (a : S8x4096x1024.Idx → EReal) (b : S8x256x1024.Idx → EReal) (n : Fin 8) (i : Fin 4352) (j : Fin 1024) :
    concatenate S8x4352x1024 1 [⟨S8x4096x1024, a⟩, ⟨S8x256x1024, b⟩] concatenates_S8x4096x1024_S8x256x1024_S8x4352x1024_d1 (ix3 n i j)
      = if h : i.val < 4096 then a (ix3 n ⟨i.val, h⟩ j) else b (ix3 n ⟨i.val - 4096, by omega⟩ j) := by
  pointwise
theorem rows_v (a : S8x4096x512.Idx → EReal) (b : S8x256x512.Idx → EReal) (n : Fin 8) (i : Fin 4352) (j : Fin 512) :
    concatenate S8x4352x512 1 [⟨S8x4096x512, a⟩, ⟨S8x256x512, b⟩] concatenates_S8x4096x512_S8x256x512_S8x4352x512_d1 (ix3 n i j)
      = if h : i.val < 4096 then a (ix3 n ⟨i.val, h⟩ j) else b (ix3 n ⟨i.val - 4096, by omega⟩ j) := by
  pointwise

/-! ## The first projection -/

theorem v2_at (e : Fin 1024) (y : S1024.Idx) (h : (y 0).val = e.val) : val_main_v2 (F := Ideal) md y = shift md e := by
  rw [val_main_v2_apply, val_main_v1_apply, val_main_v0_apply]
  exact congrArg md (ix2_of _ _ _ rfl (by show (y 0).val % 6144 = e.val; omega))
theorem v3_at (e : Fin 1024) (y : S1024.Idx) (h : (y 0).val = e.val) : val_main_v3 (F := Ideal) md y = scale md e := by
  rw [val_main_v3_apply, val_main_v1_apply, val_main_v0_apply]
  exact congrArg md (ix2_of _ _ _ rfl (by show (1024 + (y 0).val) % 6144 = 1024 + e.val; omega))

theorem v17_at (n : Fin 8) (i : Fin 256) (e : Fin 1024) : val_main_v17 (F := Ideal) x (ix3 n i e) = normed width (fun e => x (ix3 n i e)) e := by
  have s : ∀ y : S8x256.Idx, (y 0).val = n.val → (y 1).val = i.val → val_main_v9 (F := Ideal) x y = ∑ k : Fin 1024, x (ix3 n i k) * x (ix3 n i k) := by
    intro y h0 h1
    rw [val_main_v9_apply, val_main_cst_apply, zero_bits, zero_add]
    refine Finset.sum_congr rfl fun k _ => ?_
    rw [ix3_of (idx_main_v9 y k) n i k h0 h1 rfl, val_main_v8_apply]
    rfl
  rw [val_main_v17_apply, val_main_v16_apply, val_main_v15_apply, val_main_v14_apply, val_main_v12_apply, val_main_v10_apply, s _ rfl rfl, val_main_v11_apply, val_main_cst_0_apply,
    val_main_v13_apply, val_main_cst_1_apply]
  rfl

theorem v25_at (n : Fin 8) (i : Fin 256) (e : Fin 1024) : val_main_v25 (F := Ideal) x md (ix3 n i e) = modulated (fun e => x (ix3 n i e)) (shift md) (scale md) e := by
  rw [val_main_v25_apply, val_main_v22_apply, v17_at, val_main_v21_apply, val_main_v20_apply, val_main_v19_apply, val_main_v18_apply, val_main_cst_2_apply, one_bits, v3_at md e _ rfl,
    val_main_v24_apply, val_main_v23_apply, v2_at md e _ rfl]
  rfl

theorem v26_at (n : Fin 8) (i : Fin 256) (j : Fin 1952) (y : S8x256x1952.Idx) (h0 : (y 0).val = n.val) (h1 : (y 1).val = i.val) (h2 : (y 2).val = j.val) :
    val_main_v26 (F := Ideal) x md w y = ctxLat x md w n i j := by
  rw [ix3_of y n i j h0 h1 h2, val_main_v26_apply]
  unfold ctxLat latent
  refine Finset.sum_congr rfl fun d _ => congrArg₂ (fun x y : EReal => x * y) ?_ ?_
  · rw [ix3_of (lidx_main_v26 (ix3 n i j) d) n i d rfl rfl rfl, v25_at]
  · rw [ix2_of (ridx_main_v26 (ix3 n i j) d) d j rfl rfl]

/-! ## Keys and values -/

theorem v27_at (n : Fin 8) (i : Fin 256) (e : Fin 128) : val_main_v27 (F := Ideal) x md w (ix3 n i e) = ctxLat x md w n i ⟨256 + e.val, by omega⟩ := by
  rw [val_main_v27_apply]
  exact v26_at x md w n i _ _ rfl rfl rfl

theorem v37_at (n : Fin 8) (i : Fin 256) (e : Fin 128) : val_main_v37 (F := Ideal) x md w (ix3 n i e) = normed width128 (fun e : Fin 128 => ctxLat x md w n i ⟨256 + e.val, by omega⟩) e := by
  have s : ∀ y : S8x256.Idx, (y 0).val = n.val → (y 1).val = i.val → val_main_v29 (F := Ideal) x md w y = ∑ k : Fin 128, ctxLat x md w n i ⟨256 + k.val, by omega⟩ * ctxLat x md w n i ⟨256 + k.val, by omega⟩ := by
    intro y h0 h1
    rw [val_main_v29_apply, val_main_cst_3_apply, zero_bits, zero_add]
    refine Finset.sum_congr rfl fun k _ => ?_
    rw [ix3_of (idx_main_v29 y k) n i k h0 h1 rfl, val_main_v28_apply, v27_at]
    rfl
  rw [val_main_v37_apply, v27_at, val_main_v36_apply, val_main_v35_apply, val_main_v34_apply, val_main_v32_apply, val_main_v30_apply, s _ rfl rfl, val_main_v31_apply, val_main_cst_4_apply,
    val_main_v33_apply, val_main_cst_5_apply]
  rfl

theorem v40_at (n : Fin 8) (i : Fin 256) (e : Fin 128) : val_main_v40 (F := Ideal) gkv (ix3 n i e) = gkv (ix2 0 e) := by
  rw [val_main_v40_apply, val_main_v39_apply, val_main_v38_apply]
  exact congrArg gkv (ix2_of _ _ _ rfl (by show e.val % 128 = e.val; omega))

theorem v42_at (n : Fin 8) (i : Fin 256) (j : Fin 1024) (y : S8x256x1024.Idx) (h0 : (y 0).val = n.val) (h1 : (y 1).val = i.val) (h2 : (y 2).val = j.val) :
    val_main_v42 (F := Ideal) x md w gkv wkv y = ctxKv x md w gkv wkv n i j := by
  rw [ix3_of y n i j h0 h1 h2, val_main_v42_apply]
  unfold ctxKv keyValue
  refine Finset.sum_congr rfl fun d _ => congrArg₂ (fun x y : EReal => x * y) ?_ ?_
  · rw [ix3_of (lidx_main_v42 (ix3 n i j) d) n i d rfl rfl rfl, val_main_v41_apply, v37_at, v40_at]
    rfl
  · rw [ix2_of (ridx_main_v42 (ix3 n i j) d) d j rfl rfl]

theorem v43_at (n : Fin 8) (i : Fin 256) (k : Fin 4) (l : Fin 256) (y : S8x256x4x256.Idx) (h0 : (y 0).val = n.val) (h1 : (y 1).val = i.val) (h2 : (y 2).val = k.val) (h3 : (y 3).val = l.val) :
    val_main_v43 (F := Ideal) x md w gkv wkv y = ctxKv x md w gkv wkv n i ⟨256 * k.val + l.val, by omega⟩ := by
  rw [val_main_v43_apply]
  refine v42_at x md w gkv wkv n i _ _ ?_ ?_ ?_
  · show ((((y 0).val * 256 + (y 1).val) * 4 + (y 2).val) * 256 + (y 3).val) / 262144 = n.val
    omega
  · show ((((y 0).val * 256 + (y 1).val) * 4 + (y 2).val) * 256 + (y 3).val) / 1024 % 256 = i.val
    omega
  · show ((((y 0).val * 256 + (y 1).val) * 4 + (y 2).val) * 256 + (y 3).val) % 1024 = 256 * k.val + l.val
    omega

/-- The entries to rotate. -/
theorem v45_at (n : Fin 8) (i : Fin 256) (k : Fin 32) (y : S8x256x1x32.Idx) (h0 : (y 0).val = n.val) (h1 : (y 1).val = i.val) (h3 : (y 3).val = k.val) :
    val_main_v45 (F := Ideal) x md w y = ctxLat x md w n i ⟨384 + k.val, by omega⟩ := by
  rw [val_main_v45_apply, val_main_v44_apply]
  exact v26_at x md w n i _ _ h0 h1 (by show 384 + (y 3).val = 384 + k.val; omega)

theorem v51_at (n : Fin 8) (i : Fin 256) (l : Fin 64) : val_main_v51 (F := Ideal) x md w (ix4 n i 0 l)
    = turned (fun k : Fin 32 => ctxLat x md w n i ⟨384 + k.val, by omega⟩) (fun _ => 1) (fun _ => 0) l := by
  unfold val_main_v51
  refine (order _ _ _ _ _ n i l).trans (Eq.trans ?_ (turned_still _ l).symm)
  unfold first second
  by_cases h : l.val < 8
  · rw [dif_pos h, dif_pos (show l.val < 16 by omega), if_pos h, val_main_v46_apply]
    exact v45_at x md w n i ⟨l.val, by omega⟩ _ rfl rfl rfl
  by_cases h1 : l.val < 16
  · rw [dif_neg h, dif_pos h1, dif_pos h1, if_neg h, val_main_v47_apply]
    exact v45_at x md w n i ⟨l.val + 8, by omega⟩ _ rfl rfl (show 16 + (l.val - 8) = l.val + 8 by omega)
  by_cases h2 : l.val < 24
  · rw [dif_neg h, dif_neg h1, dif_pos h2, dif_neg h1, dif_pos (show l.val < 32 by omega), if_pos (show l.val - 16 < 8 by omega), val_main_v48_apply]
    exact v45_at x md w n i ⟨l.val - 16 + 8, by omega⟩ _ rfl rfl (show 8 + (l.val - 16) = l.val - 16 + 8 by omega)
  by_cases h3 : l.val < 32
  · rw [dif_neg h, dif_neg h1, dif_neg h2, dif_pos h3, dif_neg h1, dif_pos h3, if_neg (show ¬ l.val - 16 < 8 by omega), val_main_v49_apply]
    exact v45_at x md w n i ⟨l.val - 16 + 16, by omega⟩ _ rfl rfl (show 24 + (l.val - 24) = l.val - 16 + 16 by omega)
  · rw [dif_neg h, dif_neg h1, dif_neg h2, dif_neg h3, dif_neg h1, dif_neg h3, val_main_v50_apply, val_main_cst_6_apply, zero_bits]

theorem v52_at (n : Fin 8) (i : Fin 256) (k : Fin 4) (l : Fin 64) : val_main_v52 (F := Ideal) x md w (ix4 n i k l)
    = turned (fun k : Fin 32 => ctxLat x md w n i ⟨384 + k.val, by omega⟩) (fun _ => 1) (fun _ => 0) l := by
  rw [val_main_v52_apply, ix4_of (idx_main_v52 (ix4 n i k l)) n i 0 l rfl rfl rfl rfl, v51_at]

theorem v55_at (n : Fin 8) (i : Fin 256) (k : Fin 4) (l : Fin 256) (y : S8x256x4x256.Idx) (h0 : (y 0).val = n.val) (h1 : (y 1).val = i.val) (h2 : (y 2).val = k.val) (h3 : (y 3).val = l.val) :
    val_main_v55 (F := Ideal) x md w gkv wkv y = pair (fun l => val_main_v53 (F := Ideal) x md w gkv wkv (ix4 n i k l))
      (turned (fun l : Fin 32 => ctxLat x md w n i ⟨384 + l.val, by omega⟩) (fun _ => 1) (fun _ => 0))
      (turned (fun l : Fin 32 => ctxLat x md w n i ⟨384 + l.val, by omega⟩) (fun _ => 1) (fun _ => 0))
      (fun l => val_main_v54 (F := Ideal) x md w gkv wkv (ix4 n i k l)) l := by
  rw [ix4_of y n i k l h0 h1 h2 h3]
  unfold val_main_v55
  refine (pairs _ _ _ _ n i k l).trans ?_
  simp only [v52_at]

theorem k_eq (n : Fin 8) (i : Fin 256) (j : Fin 1024) : val_main_v56 (F := Ideal) x md w gkv wkv (ix3 n i j) = kNew x md w gkv wkv n i j := by
  rw [val_main_v56_apply,
    v55_at x md w gkv wkv n i ⟨j.val / 256, by omega⟩ ⟨j.val % 256, by omega⟩ _
      (by show ((n.val * 256 + i.val) * 1024 + j.val) / 262144 = n.val; omega)
      (by show ((n.val * 256 + i.val) * 1024 + j.val) / 1024 % 256 = i.val; omega)
      (by show ((n.val * 256 + i.val) * 1024 + j.val) / 256 % 4 = j.val / 256; omega)
      (by show ((n.val * 256 + i.val) * 1024 + j.val) % 256 = j.val % 256; omega)]
  have p : ∀ l : Fin 64, val_main_v53 (F := Ideal) x md w gkv wkv (ix4 n i ⟨j.val / 256, by omega⟩ l) = ctxKv x md w gkv wkv n i ⟨256 * (j.val / 256) + l.val, by omega⟩ := by
    intro l
    rw [val_main_v53_apply]
    exact v43_at x md w gkv wkv n i ⟨j.val / 256, by omega⟩ ⟨l.val, by omega⟩ _ rfl rfl rfl rfl
  have p' : ∀ l : Fin 64, val_main_v54 (F := Ideal) x md w gkv wkv (ix4 n i ⟨j.val / 256, by omega⟩ l) = ctxKv x md w gkv wkv n i ⟨256 * (j.val / 256) + 128 + l.val, by omega⟩ := by
    intro l
    rw [val_main_v54_apply]
    refine (v43_at x md w gkv wkv n i ⟨j.val / 256, by omega⟩ ⟨128 + l.val, by omega⟩ _ rfl rfl rfl rfl).trans ?_
    exact congrArg (ctxKv x md w gkv wkv n i) (Fin.ext (by show 256 * (j.val / 256) + (128 + l.val) = _; dsimp only; omega))
  simp only [p, p']
  rfl

theorem v_eq (n : Fin 8) (i : Fin 256) (j : Fin 512) : val_main_v59 (F := Ideal) x md w gkv wkv (ix3 n i j) = vNew x md w gkv wkv n i j := by
  rw [val_main_v59_apply, ix4_of (idx_main_v59 (ix3 n i j)) n i ⟨j.val / 64, by omega⟩ ⟨j.val % 64, by omega⟩
      (by show ((n.val * 256 + i.val) * 512 + j.val) / 131072 = n.val; omega)
      (by show ((n.val * 256 + i.val) * 512 + j.val) / 512 % 256 = i.val; omega)
      (by show ((n.val * 256 + i.val) * 512 + j.val) / 64 % 8 = j.val / 64; omega)
      (by show ((n.val * 256 + i.val) * 512 + j.val) % 64 = j.val % 64; omega), val_main_v58_apply, val_main_v57_apply]
  refine v42_at x md w gkv wkv n i _ _ ?_ ?_ ?_
  · show (((n.val * 256 + i.val) * 8 + j.val / 64) * 128 + (64 + j.val % 64)) / 262144 = n.val
    omega
  · show (((n.val * 256 + i.val) * 8 + j.val / 64) * 128 + (64 + j.val % 64)) / 1024 % 256 = i.val
    omega
  · show (((n.val * 256 + i.val) * 8 + j.val / 64) * 128 + (64 + j.val % 64)) % 1024 = 128 * (j.val / 64) + 64 + j.val % 64
    omega

/-! ## The results -/

theorem narrowed (z : EReal) : FloatOps.truncf (F := Ideal) .bf16 bitsLt_bf16_f32 z = z := rfl

theorem k_row (n : Fin 8) (i : Fin 4352) (j : Fin 1024) : val_main_v62 (F := Ideal) x md w gkv wkv ka (ix3 n i j) = kAll x md w gkv wkv ka n i j := by
  unfold val_main_v62
  refine (rows_k _ _ n i j).trans ?_
  unfold kAll
  split
  · rw [val_main_v60_apply]
    exact congrArg ka (ix3_of _ _ _ _ rfl rfl rfl)
  · rw [val_main_v61_apply, narrowed, k_eq]
theorem v_row (n : Fin 8) (i : Fin 4352) (j : Fin 512) : val_main_v65 (F := Ideal) x md w gkv wkv va (ix3 n i j) = vAll x md w gkv wkv va n i j := by
  unfold val_main_v65
  refine (rows_v _ _ n i j).trans ?_
  unfold vAll
  split
  · rw [val_main_v63_apply]
    exact congrArg va (ix3_of _ _ _ _ rfl rfl rfl)
  · rw [val_main_v64_apply, narrowed, v_eq]

theorem result_k : val_main_v62 (F := Ideal) x md w gkv wkv ka = fun y => kAll x md w gkv wkv ka (y 0) (y 1) (y 2) :=
  funext fun (y : S8x4352x1024.Idx) => (congrArg (val_main_v62 (F := Ideal) x md w gkv wkv ka) (ix3_of y (y 0) (y 1) (y 2) rfl rfl rfl)).trans (k_row x md w gkv wkv ka (y 0) (y 1) (y 2))
theorem result_v : val_main_v65 (F := Ideal) x md w gkv wkv va = fun y => vAll x md w gkv wkv va (y 0) (y 1) (y 2) :=
  funext fun (y : S8x4352x512.Idx) => (congrArg (val_main_v65 (F := Ideal) x md w gkv wkv va) (ix3_of y (y 0) (y 1) (y 2) rfl rfl rfl)).trans (v_row x md w gkv wkv va (y 0) (y 1) (y 2))

end Cert.Reference5Ideal.Context

end
-- ==== Proof.Context.Claim.lean ====
/- The claim about the context's keys and values: the kernel and the reference leave the same two arrays, whatever the arguments. -/
module

public import proofs.«01_k».proof.Defs
public import proofs.«01_k».proof.Proof.Context.Arrays
public import proofs.«01_k».proof.Proof.Context.Reference
public import proofs.«01_k».proof.Proof.Gen.Kernel5Ideal.Value
public import proofs.«01_k».proof.Proof.Gen.Reference5Ideal.Run

@[expose] public section

set_option maxRecDepth 16384

noncomputable section

namespace Cert.Kernel5Ideal.Context

open Cert.Kernel5Ideal Cert.Kernel5Ideal.Gen Idealize.ShloMosaic Idealize.ShloMosaic.TcCoe Idealize.SL.Sem Cert.Tokens Cert.Context

variable (m : (ℓ : Loc nD τ sig) → Buf (Elt Ideal) ℓ) (c : Dev nD)

/-! Equal arguments give equal results. -/

theorem kArr_of {x : S8x256x1024.Idx → EReal} {md : S16x6144.Idx → EReal} {w : S1024x1952.Idx → EReal} {gkv : S1x128.Idx → EReal} {wkv : S128x1024.Idx → EReal} {ka : S8x4352x1024.Idx → EReal}
    (h0 : x = argX m c) (h1 : md = argMod m c) (h2 : w = argW m c) (h3 : gkv = argGkv m c) (h4 : wkv = argWkv m c) (h5 : ka = argK m c) :
    (fun y : S8x4352x1024.Idx => kAll x md w gkv wkv ka (y 0) (y 1) (y 2)) = kArr m c := by
  subst h0 h1 h2 h3 h4 h5
  rfl
theorem vArr_of {x : S8x256x1024.Idx → EReal} {md : S16x6144.Idx → EReal} {w : S1024x1952.Idx → EReal} {gkv : S1x128.Idx → EReal} {wkv : S128x1024.Idx → EReal} {va : S8x4352x512.Idx → EReal}
    (h0 : x = argX m c) (h1 : md = argMod m c) (h2 : w = argW m c) (h3 : gkv = argGkv m c) (h4 : wkv = argWkv m c) (h5 : va = argV m c) :
    (fun y : S8x4352x512.Idx => vAll x md w gkv wkv va (y 0) (y 1) (y 2)) = vArr m c := by
  subst h0 h1 h2 h3 h4 h5
  rfl

end Cert.Kernel5Ideal.Context

namespace Cert.Context

open Idealize.ShloMosaic Idealize.ShloMosaic.TcCoe Idealize.SL.Sem

theorem algebraic : @Cert.algebraic_Kernel5Ideal_Reference5Ideal Cert.Kernel5Ideal.Gen.facts Cert.Reference5Ideal.Gen.facts := by
  intro m g m' g' _ hargs
  refine ⟨fun c => Cert.Kernel5Ideal.Context.kArr m c, fun c => Cert.Kernel5Ideal.Context.vArr m c, ?_, ?_⟩
  · refine (θ_run _ _ _).mono (fun r h c => ?_) (Cert.Kernel5Ideal.Value.run_blocks m g)
    obtain ⟨h0, h1, hr⟩ := h c
    exact ⟨h0.trans (Cert.Kernel5Ideal.Context.arr_k m c), h1.trans (Cert.Kernel5Ideal.Context.arr_v m c), hr⟩
  · refine (θ_run _ _ _).mono (fun r h c => ?_) (Cert.Reference5Ideal.Value.run m' g')
    obtain ⟨h0, h1, hr⟩ := h c
    obtain ⟨e0, e1, e2, e3, e4, e5, e6⟩ := hargs c
    refine ⟨h0.trans ((Cert.Reference5Ideal.Read.val_main_v62_eq m' c).trans ?_), h1.trans ((Cert.Reference5Ideal.Read.val_main_v65_eq m' c).trans ?_), hr⟩
    · exact (Cert.Reference5Ideal.Context.result_k _ _ _ _ _ _).trans (Cert.Kernel5Ideal.Context.kArr_of m c e0 e1 e2 e3 e4 e5)
    · exact (Cert.Reference5Ideal.Context.result_v _ _ _ _ _ _).trans (Cert.Kernel5Ideal.Context.vArr_of m c e0 e1 e2 e3 e4 e6)

end Cert.Context

end
-- ==== Proof.lean ====
/- The claims: every program runs to its end with its arguments unchanged and every semaphore counter at zero; the ideal programs are the printed ones (nothing was rewritten); and each
   kernel computes what its reference computes, over the extended reals. The kernels' frames come with the generated modules. A reference owns no semaphore, so its frame is its run. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame.Runs
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.ReferenceIdeal.Read
public import proofs.«01_k».proof.Proof.Attention.Claim
public import proofs.«01_k».proof.Proof.Mlp.Claim
public import proofs.«01_k».proof.Proof.Adaln.Claim
public import proofs.«01_k».proof.Proof.Tokens.BitsFrame
public import proofs.«01_k».proof.Proof.Tokens.Frame
public import proofs.«01_k».proof.Proof.Tokens.Claim
public import proofs.«01_k».proof.Proof.Context.Claim
public import Idealize.ShloMosaic.Lib.Quiescent
public import Idealize.ShloMosaic.Adequacy
public import Idealize.ShloMosaic.Init

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

theorem frame_reference2 : @Cert.quiescent_Reference2Ideal Cert.Reference2Ideal.Gen.facts := fun m g _ =>
  (θ_run _ _ _).mono (fun r h => ⟨fun c => (h c).2, sem_eq_zero_of_no_sems (by decide) r.2⟩) (Cert.Reference2Ideal.Value.run m g)

theorem frame_reference3 : @Cert.quiescent_Reference3Ideal Cert.Reference3Ideal.Gen.facts := fun m g _ =>
  (θ_run _ _ _).mono (fun r h => ⟨fun c => (h c).2, sem_eq_zero_of_no_sems (by decide) r.2⟩) (Cert.Reference3Ideal.Value.run m g)

theorem frame_reference4 : @Cert.quiescent_Reference4Ideal Cert.Reference4Ideal.Gen.facts := fun m g _ =>
  (θ_run _ _ _).mono (fun r h => ⟨fun c => (h c).2.2.2.2.2.2, sem_eq_zero_of_no_sems (by decide) r.2⟩) (Cert.Reference4Ideal.Value.run m g)

theorem frame_reference5 : @Cert.quiescent_Reference5Ideal Cert.Reference5Ideal.Gen.facts := fun m g _ =>
  (θ_run _ _ _).mono (fun r h => ⟨fun c => (h c).2.2, sem_eq_zero_of_no_sems (by decide) r.2⟩) (Cert.Reference5Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Attention.preFacts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    trivial, Cert.Attention.algebraic, trivial, Cert.Mlp.algebraic, trivial, Cert.Adaln.algebraic, trivial, Cert.Tokens.algebraic, trivial, Cert.Context.algebraic⟩

end Cert.Proof

end
